-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelSguIn (m : (ℓ : Loc Cert.KernelSguIn.nD Cert.KernelSguIn.τ Cert.KernelSguIn.sig) → Buf (Elt Bits) ℓ) : Prop :=
  True

def Pre_KernelSguInIdeal (m : (ℓ : Loc Cert.KernelSguInIdeal.nD Cert.KernelSguInIdeal.τ Cert.KernelSguInIdeal.sig) → Buf (Elt Ideal) ℓ) : Prop :=
  True

def Pre_ReferenceSguInIdeal (m : (ℓ : Loc Cert.ReferenceSguInIdeal.nD Cert.ReferenceSguInIdeal.τ Cert.ReferenceSguInIdeal.sig) → Buf (Elt Ideal) ℓ) : Prop :=
  True

def Pre_KernelSguOut (m : (ℓ : Loc Cert.KernelSguOut.nD Cert.KernelSguOut.τ Cert.KernelSguOut.sig) → Buf (Elt Bits) ℓ) : Prop :=
  True

def Pre_KernelSguOutIdeal (m : (ℓ : Loc Cert.KernelSguOutIdeal.nD Cert.KernelSguOutIdeal.τ Cert.KernelSguOutIdeal.sig) → Buf (Elt Ideal) ℓ) : Prop :=
  True

def Pre_ReferenceSguOutIdeal (m : (ℓ : Loc Cert.ReferenceSguOutIdeal.nD Cert.ReferenceSguOutIdeal.τ Cert.ReferenceSguOutIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelConvOut (m : (ℓ : Loc Cert.KernelConvOut.nD Cert.KernelConvOut.τ Cert.KernelConvOut.sig) → Buf (Elt Bits) ℓ) : Prop :=
  True

def Pre_KernelConvOutIdeal (m : (ℓ : Loc Cert.KernelConvOutIdeal.nD Cert.KernelConvOutIdeal.τ Cert.KernelConvOutIdeal.sig) → Buf (Elt Ideal) ℓ) : Prop :=
  True

def Pre_ReferenceConvOutIdeal (m : (ℓ : Loc Cert.ReferenceConvOutIdeal.nD Cert.ReferenceConvOutIdeal.τ Cert.ReferenceConvOutIdeal.sig) → Buf (Elt Ideal) ℓ) : Prop :=
  True

def Pre_KernelAttnOut (m : (ℓ : Loc Cert.KernelAttnOut.nD Cert.KernelAttnOut.τ Cert.KernelAttnOut.sig) → Buf (Elt Bits) ℓ) : Prop :=
  True

def Pre_KernelAttnOutIdeal (m : (ℓ : Loc Cert.KernelAttnOutIdeal.nD Cert.KernelAttnOutIdeal.τ Cert.KernelAttnOutIdeal.sig) → Buf (Elt Ideal) ℓ) : Prop :=
  True

def Pre_ReferenceAttnOutIdeal (m : (ℓ : Loc Cert.ReferenceAttnOutIdeal.nD Cert.ReferenceAttnOutIdeal.τ Cert.ReferenceAttnOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelSguMix (m : (ℓ : Loc Cert.KernelSguMix.nD Cert.KernelSguMix.τ Cert.KernelSguMix.sig) → Buf (Elt Bits) ℓ) : Prop :=
  True

def Pre_KernelSguMixIdeal (m : (ℓ : Loc Cert.KernelSguMixIdeal.nD Cert.KernelSguMixIdeal.τ Cert.KernelSguMixIdeal.sig) → Buf (Elt Ideal) ℓ) : Prop :=
  True

def Pre_ReferenceSguMixIdeal (m : (ℓ : Loc Cert.ReferenceSguMixIdeal.nD Cert.ReferenceSguMixIdeal.τ Cert.ReferenceSguMixIdeal.sig) → Buf (Elt Ideal) ℓ) : Prop :=
  True

def Pre_KernelSguMixSample (m : (ℓ : Loc Cert.KernelSguMixSample.nD Cert.KernelSguMixSample.τ Cert.KernelSguMixSample.sig) → Buf (Elt Bits) ℓ) : Prop :=
  True

def Pre_KernelSguMixSampleIdeal (m : (ℓ : Loc Cert.KernelSguMixSampleIdeal.nD Cert.KernelSguMixSampleIdeal.τ Cert.KernelSguMixSampleIdeal.sig) → Buf (Elt Ideal) ℓ) : Prop :=
  True

def Pre_ReferenceSguMixSampleIdeal (m : (ℓ : Loc Cert.ReferenceSguMixSampleIdeal.nD Cert.ReferenceSguMixSampleIdeal.τ Cert.ReferenceSguMixSampleIdeal.sig) → Buf (Elt Ideal) ℓ) : Prop :=
  True

def Pre_KernelNormSample (m : (ℓ : Loc Cert.KernelNormSample.nD Cert.KernelNormSample.τ Cert.KernelNormSample.sig) → Buf (Elt Bits) ℓ) : Prop :=
  True

def Pre_KernelNormSampleIdeal (m : (ℓ : Loc Cert.KernelNormSampleIdeal.nD Cert.KernelNormSampleIdeal.τ Cert.KernelNormSampleIdeal.sig) → Buf (Elt Ideal) ℓ) : Prop :=
  True

def Pre_ReferenceNormSampleIdeal (m : (ℓ : Loc Cert.ReferenceNormSampleIdeal.nD Cert.ReferenceNormSampleIdeal.τ Cert.ReferenceNormSampleIdeal.sig) → Buf (Elt Ideal) ℓ) : Prop :=
  True

def Pre_KernelGluSample (m : (ℓ : Loc Cert.KernelGluSample.nD Cert.KernelGluSample.τ Cert.KernelGluSample.sig) → Buf (Elt Bits) ℓ) : Prop :=
  True

def Pre_KernelGluSampleIdeal (m : (ℓ : Loc Cert.KernelGluSampleIdeal.nD Cert.KernelGluSampleIdeal.τ Cert.KernelGluSampleIdeal.sig) → Buf (Elt Ideal) ℓ) : Prop :=
  True

def Pre_ReferenceGluSampleIdeal (m : (ℓ : Loc Cert.ReferenceGluSampleIdeal.nD Cert.ReferenceGluSampleIdeal.τ Cert.ReferenceGluSampleIdeal.sig) → Buf (Elt Ideal) ℓ) : Prop :=
  True

def Pre_KernelQkvSample (m : (ℓ : Loc Cert.KernelQkvSample.nD Cert.KernelQkvSample.τ Cert.KernelQkvSample.sig) → Buf (Elt Bits) ℓ) : Prop :=
  True

def Pre_KernelQkvSampleIdeal (m : (ℓ : Loc Cert.KernelQkvSampleIdeal.nD Cert.KernelQkvSampleIdeal.τ Cert.KernelQkvSampleIdeal.sig) → Buf (Elt Ideal) ℓ) : Prop :=
  True

def Pre_ReferenceQkvSampleIdeal (m : (ℓ : Loc Cert.ReferenceQkvSampleIdeal.nD Cert.ReferenceQkvSampleIdeal.τ Cert.ReferenceQkvSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelSguIn [hKernelSguIn : Cert.KernelSguIn.Facts] : Prop :=
  ∀ (m : (ℓ : Loc Cert.KernelSguIn.nD Cert.KernelSguIn.τ Cert.KernelSguIn.sig) → Buf (Elt Bits) ℓ) (g : Dev Cert.KernelSguIn.nD → PrngReg), Pre_KernelSguIn m →
    θ_run (Cert.KernelSguIn.defs (F := Bits)) (onTc (τ := Cert.KernelSguIn.τ) (Cert.KernelSguIn.main (F := Bits))) ⟨m, fun _ => 0, g⟩ (fun r => (∀ c : Dev Cert.KernelSguIn.nD,
      r.2.mem ((c.tc : Thread Cert.KernelSguIn.nD Cert.KernelSguIn.τ).loc Cert.KernelSguIn.main_arg0) = m ((c.tc : Thread Cert.KernelSguIn.nD Cert.KernelSguIn.τ).loc Cert.KernelSguIn.main_arg0)
      ∧ r.2.mem ((c.tc : Thread Cert.KernelSguIn.nD Cert.KernelSguIn.τ).loc Cert.KernelSguIn.main_arg1) = m ((c.tc : Thread Cert.KernelSguIn.nD Cert.KernelSguIn.τ).loc Cert.KernelSguIn.main_arg1)
      ∧ r.2.mem ((c.tc : Thread Cert.KernelSguIn.nD Cert.KernelSguIn.τ).loc Cert.KernelSguIn.main_arg2) = m ((c.tc : Thread Cert.KernelSguIn.nD Cert.KernelSguIn.τ).loc Cert.KernelSguIn.main_arg2))
      ∧ r.2.sem = fun _ => 0)

def quiescent_KernelSguInIdeal [hKernelSguInIdeal : Cert.KernelSguInIdeal.Facts] : Prop :=
  ∀ (m : (ℓ : Loc Cert.KernelSguInIdeal.nD Cert.KernelSguInIdeal.τ Cert.KernelSguInIdeal.sig) → Buf (Elt Ideal) ℓ) (g : Dev Cert.KernelSguInIdeal.nD → PrngReg), Pre_KernelSguInIdeal m →
    θ_run (Cert.KernelSguInIdeal.defs (F := Ideal)) (onTc (τ := Cert.KernelSguInIdeal.τ) (Cert.KernelSguInIdeal.main (F := Ideal))) ⟨m, fun _ => 0, g⟩ (fun r => (∀ c : Dev Cert.KernelSguInIdeal.nD,
      r.2.mem ((c.tc : Thread Cert.KernelSguInIdeal.nD Cert.KernelSguInIdeal.τ).loc Cert.KernelSguInIdeal.main_arg0) = m ((c.tc : Thread Cert.KernelSguInIdeal.nD Cert.KernelSguInIdeal.τ).loc Cert.KernelSguInIdeal.main_arg0)
      ∧ r.2.mem ((c.tc : Thread Cert.KernelSguInIdeal.nD Cert.KernelSguInIdeal.τ).loc Cert.KernelSguInIdeal.main_arg1) = m ((c.tc : Thread Cert.KernelSguInIdeal.nD Cert.KernelSguInIdeal.τ).loc Cert.KernelSguInIdeal.main_arg1)
      ∧ r.2.mem ((c.tc : Thread Cert.KernelSguInIdeal.nD Cert.KernelSguInIdeal.τ).loc Cert.KernelSguInIdeal.main_arg2) = m ((c.tc : Thread Cert.KernelSguInIdeal.nD Cert.KernelSguInIdeal.τ).loc Cert.KernelSguInIdeal.main_arg2))
      ∧ r.2.sem = fun _ => 0)

def quiescent_ReferenceSguInIdeal [hReferenceSguInIdeal : Cert.ReferenceSguInIdeal.Facts] : Prop :=
  ∀ (m : (ℓ : Loc Cert.ReferenceSguInIdeal.nD Cert.ReferenceSguInIdeal.τ Cert.ReferenceSguInIdeal.sig) → Buf (Elt Ideal) ℓ) (g : Dev Cert.ReferenceSguInIdeal.nD → PrngReg), Pre_ReferenceSguInIdeal m →
    θ_run (Cert.ReferenceSguInIdeal.defs (F := Ideal)) (onTc (τ := Cert.ReferenceSguInIdeal.τ) (Cert.ReferenceSguInIdeal.main (F := Ideal))) ⟨m, fun _ => 0, g⟩ (fun r => (∀ c : Dev Cert.ReferenceSguInIdeal.nD,
      r.2.mem ((c.tc : Thread Cert.ReferenceSguInIdeal.nD Cert.ReferenceSguInIdeal.τ).loc Cert.ReferenceSguInIdeal.main_arg0) = m ((c.tc : Thread Cert.ReferenceSguInIdeal.nD Cert.ReferenceSguInIdeal.τ).loc Cert.ReferenceSguInIdeal.main_arg0)
      ∧ r.2.mem ((c.tc : Thread Cert.ReferenceSguInIdeal.nD Cert.ReferenceSguInIdeal.τ).loc Cert.ReferenceSguInIdeal.main_arg1) = m ((c.tc : Thread Cert.ReferenceSguInIdeal.nD Cert.ReferenceSguInIdeal.τ).loc Cert.ReferenceSguInIdeal.main_arg1)
      ∧ r.2.mem ((c.tc : Thread Cert.ReferenceSguInIdeal.nD Cert.ReferenceSguInIdeal.τ).loc Cert.ReferenceSguInIdeal.main_arg2) = m ((c.tc : Thread Cert.ReferenceSguInIdeal.nD Cert.ReferenceSguInIdeal.τ).loc Cert.ReferenceSguInIdeal.main_arg2))
      ∧ r.2.sem = fun _ => 0)

def quiescent_KernelSguOut [hKernelSguOut : Cert.KernelSguOut.Facts] : Prop :=
  ∀ (m : (ℓ : Loc Cert.KernelSguOut.nD Cert.KernelSguOut.τ Cert.KernelSguOut.sig) → Buf (Elt Bits) ℓ) (g : Dev Cert.KernelSguOut.nD → PrngReg), Pre_KernelSguOut m →
    θ_run (Cert.KernelSguOut.defs (F := Bits)) (onTc (τ := Cert.KernelSguOut.τ) (Cert.KernelSguOut.main (F := Bits))) ⟨m, fun _ => 0, g⟩ (fun r => (∀ c : Dev Cert.KernelSguOut.nD,
      r.2.mem ((c.tc : Thread Cert.KernelSguOut.nD Cert.KernelSguOut.τ).loc Cert.KernelSguOut.main_arg0) = m ((c.tc : Thread Cert.KernelSguOut.nD Cert.KernelSguOut.τ).loc Cert.KernelSguOut.main_arg0)
      ∧ r.2.mem ((c.tc : Thread Cert.KernelSguOut.nD Cert.KernelSguOut.τ).loc Cert.KernelSguOut.main_arg1) = m ((c.tc : Thread Cert.KernelSguOut.nD Cert.KernelSguOut.τ).loc Cert.KernelSguOut.main_arg1)
      ∧ r.2.mem ((c.tc : Thread Cert.KernelSguOut.nD Cert.KernelSguOut.τ).loc Cert.KernelSguOut.main_arg2) = m ((c.tc : Thread Cert.KernelSguOut.nD Cert.KernelSguOut.τ).loc Cert.KernelSguOut.main_arg2)
      ∧ r.2.mem ((c.tc : Thread Cert.KernelSguOut.nD Cert.KernelSguOut.τ).loc Cert.KernelSguOut.main_arg3) = m ((c.tc : Thread Cert.KernelSguOut.nD Cert.KernelSguOut.τ).loc Cert.KernelSguOut.main_arg3))
      ∧ r.2.sem = fun _ => 0)

def quiescent_KernelSguOutIdeal [hKernelSguOutIdeal : Cert.KernelSguOutIdeal.Facts] : Prop :=
  ∀ (m : (ℓ : Loc Cert.KernelSguOutIdeal.nD Cert.KernelSguOutIdeal.τ Cert.KernelSguOutIdeal.sig) → Buf (Elt Ideal) ℓ) (g : Dev Cert.KernelSguOutIdeal.nD → PrngReg), Pre_KernelSguOutIdeal m →
    θ_run (Cert.KernelSguOutIdeal.defs (F := Ideal)) (onTc (τ := Cert.KernelSguOutIdeal.τ) (Cert.KernelSguOutIdeal.main (F := Ideal))) ⟨m, fun _ => 0, g⟩ (fun r => (∀ c : Dev Cert.KernelSguOutIdeal.nD,
      r.2.mem ((c.tc : Thread Cert.KernelSguOutIdeal.nD Cert.KernelSguOutIdeal.τ).loc Cert.KernelSguOutIdeal.main_arg0) = m ((c.tc : Thread Cert.KernelSguOutIdeal.nD Cert.KernelSguOutIdeal.τ).loc Cert.KernelSguOutIdeal.main_arg0)
      ∧ r.2.mem ((c.tc : Thread Cert.KernelSguOutIdeal.nD Cert.KernelSguOutIdeal.τ).loc Cert.KernelSguOutIdeal.main_arg1) = m ((c.tc : Thread Cert.KernelSguOutIdeal.nD Cert.KernelSguOutIdeal.τ).loc Cert.KernelSguOutIdeal.main_arg1)
      ∧ r.2.mem ((c.tc : Thread Cert.KernelSguOutIdeal.nD Cert.KernelSguOutIdeal.τ).loc Cert.KernelSguOutIdeal.main_arg2) = m ((c.tc : Thread Cert.KernelSguOutIdeal.nD Cert.KernelSguOutIdeal.τ).loc Cert.KernelSguOutIdeal.main_arg2)
      ∧ r.2.mem ((c.tc : Thread Cert.KernelSguOutIdeal.nD Cert.KernelSguOutIdeal.τ).loc Cert.KernelSguOutIdeal.main_arg3) = m ((c.tc : Thread Cert.KernelSguOutIdeal.nD Cert.KernelSguOutIdeal.τ).loc Cert.KernelSguOutIdeal.main_arg3))
      ∧ r.2.sem = fun _ => 0)

def quiescent_ReferenceSguOutIdeal [hReferenceSguOutIdeal : Cert.ReferenceSguOutIdeal.Facts] : Prop :=
  ∀ (m : (ℓ : Loc Cert.ReferenceSguOutIdeal.nD Cert.ReferenceSguOutIdeal.τ Cert.ReferenceSguOutIdeal.sig) → Buf (Elt Ideal) ℓ) (g : Dev Cert.ReferenceSguOutIdeal.nD → PrngReg), Pre_ReferenceSguOutIdeal m →
    θ_run (Cert.ReferenceSguOutIdeal.defs (F := Ideal)) (onTc (τ := Cert.ReferenceSguOutIdeal.τ) (Cert.ReferenceSguOutIdeal.main (F := Ideal))) ⟨m, fun _ => 0, g⟩ (fun r => (∀ c : Dev Cert.ReferenceSguOutIdeal.nD,
      r.2.mem ((c.tc : Thread Cert.ReferenceSguOutIdeal.nD Cert.ReferenceSguOutIdeal.τ).loc Cert.ReferenceSguOutIdeal.main_arg0) = m ((c.tc : Thread Cert.ReferenceSguOutIdeal.nD Cert.ReferenceSguOutIdeal.τ).loc Cert.ReferenceSguOutIdeal.main_arg0)
      ∧ r.2.mem ((c.tc : Thread Cert.ReferenceSguOutIdeal.nD Cert.ReferenceSguOutIdeal.τ).loc Cert.ReferenceSguOutIdeal.main_arg1) = m ((c.tc : Thread Cert.ReferenceSguOutIdeal.nD Cert.ReferenceSguOutIdeal.τ).loc Cert.ReferenceSguOutIdeal.main_arg1)
      ∧ r.2.mem ((c.tc : Thread Cert.ReferenceSguOutIdeal.nD Cert.ReferenceSguOutIdeal.τ).loc Cert.ReferenceSguOutIdeal.main_arg2) = m ((c.tc : Thread Cert.ReferenceSguOutIdeal.nD Cert.ReferenceSguOutIdeal.τ).loc Cert.ReferenceSguOutIdeal.main_arg2)
      ∧ r.2.mem ((c.tc : Thread Cert.ReferenceSguOutIdeal.nD Cert.ReferenceSguOutIdeal.τ).loc Cert.ReferenceSguOutIdeal.main_arg3) = m ((c.tc : Thread Cert.ReferenceSguOutIdeal.nD Cert.ReferenceSguOutIdeal.τ).loc Cert.ReferenceSguOutIdeal.main_arg3))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2))
      ∧ r.2.sem = fun _ => 0)

def quiescent_KernelConvOut [hKernelConvOut : Cert.KernelConvOut.Facts] : Prop :=
  ∀ (m : (ℓ : Loc Cert.KernelConvOut.nD Cert.KernelConvOut.τ Cert.KernelConvOut.sig) → Buf (Elt Bits) ℓ) (g : Dev Cert.KernelConvOut.nD → PrngReg), Pre_KernelConvOut m →
    θ_run (Cert.KernelConvOut.defs (F := Bits)) (onTc (τ := Cert.KernelConvOut.τ) (Cert.KernelConvOut.main (F := Bits))) ⟨m, fun _ => 0, g⟩ (fun r => (∀ c : Dev Cert.KernelConvOut.nD,
      r.2.mem ((c.tc : Thread Cert.KernelConvOut.nD Cert.KernelConvOut.τ).loc Cert.KernelConvOut.main_arg0) = m ((c.tc : Thread Cert.KernelConvOut.nD Cert.KernelConvOut.τ).loc Cert.KernelConvOut.main_arg0)
      ∧ r.2.mem ((c.tc : Thread Cert.KernelConvOut.nD Cert.KernelConvOut.τ).loc Cert.KernelConvOut.main_arg1) = m ((c.tc : Thread Cert.KernelConvOut.nD Cert.KernelConvOut.τ).loc Cert.KernelConvOut.main_arg1)
      ∧ r.2.mem ((c.tc : Thread Cert.KernelConvOut.nD Cert.KernelConvOut.τ).loc Cert.KernelConvOut.main_arg2) = m ((c.tc : Thread Cert.KernelConvOut.nD Cert.KernelConvOut.τ).loc Cert.KernelConvOut.main_arg2)
      ∧ r.2.mem ((c.tc : Thread Cert.KernelConvOut.nD Cert.KernelConvOut.τ).loc Cert.KernelConvOut.main_arg3) = m ((c.tc : Thread Cert.KernelConvOut.nD Cert.KernelConvOut.τ).loc Cert.KernelConvOut.main_arg3)
      ∧ r.2.mem ((c.tc : Thread Cert.KernelConvOut.nD Cert.KernelConvOut.τ).loc Cert.KernelConvOut.main_arg4) = m ((c.tc : Thread Cert.KernelConvOut.nD Cert.KernelConvOut.τ).loc Cert.KernelConvOut.main_arg4))
      ∧ r.2.sem = fun _ => 0)

def quiescent_KernelConvOutIdeal [hKernelConvOutIdeal : Cert.KernelConvOutIdeal.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg), Pre_KernelConvOutIdeal m →
    θ_run (Cert.KernelConvOutIdeal.defs (F := Ideal)) (onTc (τ := Cert.KernelConvOutIdeal.τ) (Cert.KernelConvOutIdeal.main (F := Ideal))) ⟨m, fun _ => 0, g⟩ (fun r => (∀ c : Dev Cert.KernelConvOutIdeal.nD,
      r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
      ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
      ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
      ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
      ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4))
      ∧ r.2.sem = fun _ => 0)

def quiescent_ReferenceConvOutIdeal [hReferenceConvOutIdeal : Cert.ReferenceConvOutIdeal.Facts] : Prop :=
  ∀ (m : (ℓ : Loc Cert.ReferenceConvOutIdeal.nD Cert.ReferenceConvOutIdeal.τ Cert.ReferenceConvOutIdeal.sig) → Buf (Elt Ideal) ℓ) (g : Dev Cert.ReferenceConvOutIdeal.nD → PrngReg), Pre_ReferenceConvOutIdeal m →
    θ_run (Cert.ReferenceConvOutIdeal.defs (F := Ideal)) (onTc (τ := Cert.ReferenceConvOutIdeal.τ) (Cert.ReferenceConvOutIdeal.main (F := Ideal))) ⟨m, fun _ => 0, g⟩ (fun r => (∀ c : Dev Cert.ReferenceConvOutIdeal.nD,
      r.2.mem ((c.tc : Thread Cert.ReferenceConvOutIdeal.nD Cert.ReferenceConvOutIdeal.τ).loc Cert.ReferenceConvOutIdeal.main_arg0) = m ((c.tc : Thread Cert.ReferenceConvOutIdeal.nD Cert.ReferenceConvOutIdeal.τ).loc Cert.ReferenceConvOutIdeal.main_arg0)
      ∧ r.2.mem ((c.tc : Thread Cert.ReferenceConvOutIdeal.nD Cert.ReferenceConvOutIdeal.τ).loc Cert.ReferenceConvOutIdeal.main_arg1) = m ((c.tc : Thread Cert.ReferenceConvOutIdeal.nD Cert.ReferenceConvOutIdeal.τ).loc Cert.ReferenceConvOutIdeal.main_arg1)
      ∧ r.2.mem ((c.tc : Thread Cert.ReferenceConvOutIdeal.nD Cert.ReferenceConvOutIdeal.τ).loc Cert.ReferenceConvOutIdeal.main_arg2) = m ((c.tc : Thread Cert.ReferenceConvOutIdeal.nD Cert.ReferenceConvOutIdeal.τ).loc Cert.ReferenceConvOutIdeal.main_arg2)
      ∧ r.2.mem ((c.tc : Thread Cert.ReferenceConvOutIdeal.nD Cert.ReferenceConvOutIdeal.τ).loc Cert.ReferenceConvOutIdeal.main_arg3) = m ((c.tc : Thread Cert.ReferenceConvOutIdeal.nD Cert.ReferenceConvOutIdeal.τ).loc Cert.ReferenceConvOutIdeal.main_arg3)
      ∧ r.2.mem ((c.tc : Thread Cert.ReferenceConvOutIdeal.nD Cert.ReferenceConvOutIdeal.τ).loc Cert.ReferenceConvOutIdeal.main_arg4) = m ((c.tc : Thread Cert.ReferenceConvOutIdeal.nD Cert.ReferenceConvOutIdeal.τ).loc Cert.ReferenceConvOutIdeal.main_arg4))
      ∧ r.2.sem = fun _ => 0)

def quiescent_KernelAttnOut [hKernelAttnOut : Cert.KernelAttnOut.Facts] : Prop :=
  ∀ (m : (ℓ : Loc Cert.KernelAttnOut.nD Cert.KernelAttnOut.τ Cert.KernelAttnOut.sig) → Buf (Elt Bits) ℓ) (g : Dev Cert.KernelAttnOut.nD → PrngReg), Pre_KernelAttnOut m →
    θ_run (Cert.KernelAttnOut.defs (F := Bits)) (onTc (τ := Cert.KernelAttnOut.τ) (Cert.KernelAttnOut.main (F := Bits))) ⟨m, fun _ => 0, g⟩ (fun r => (∀ c : Dev Cert.KernelAttnOut.nD,
      r.2.mem ((c.tc : Thread Cert.KernelAttnOut.nD Cert.KernelAttnOut.τ).loc Cert.KernelAttnOut.main_arg0) = m ((c.tc : Thread Cert.KernelAttnOut.nD Cert.KernelAttnOut.τ).loc Cert.KernelAttnOut.main_arg0)
      ∧ r.2.mem ((c.tc : Thread Cert.KernelAttnOut.nD Cert.KernelAttnOut.τ).loc Cert.KernelAttnOut.main_arg1) = m ((c.tc : Thread Cert.KernelAttnOut.nD Cert.KernelAttnOut.τ).loc Cert.KernelAttnOut.main_arg1)
      ∧ r.2.mem ((c.tc : Thread Cert.KernelAttnOut.nD Cert.KernelAttnOut.τ).loc Cert.KernelAttnOut.main_arg2) = m ((c.tc : Thread Cert.KernelAttnOut.nD Cert.KernelAttnOut.τ).loc Cert.KernelAttnOut.main_arg2)
      ∧ r.2.mem ((c.tc : Thread Cert.KernelAttnOut.nD Cert.KernelAttnOut.τ).loc Cert.KernelAttnOut.main_arg3) = m ((c.tc : Thread Cert.KernelAttnOut.nD Cert.KernelAttnOut.τ).loc Cert.KernelAttnOut.main_arg3))
      ∧ r.2.sem = fun _ => 0)

def quiescent_KernelAttnOutIdeal [hKernelAttnOutIdeal : Cert.KernelAttnOutIdeal.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg), Pre_KernelAttnOutIdeal m →
    θ_run (Cert.KernelAttnOutIdeal.defs (F := Ideal)) (onTc (τ := Cert.KernelAttnOutIdeal.τ) (Cert.KernelAttnOutIdeal.main (F := Ideal))) ⟨m, fun _ => 0, g⟩ (fun r => (∀ c : Dev Cert.KernelAttnOutIdeal.nD,
      r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
      ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
      ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
      ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ r.2.sem = fun _ => 0)

def quiescent_ReferenceAttnOutIdeal [hReferenceAttnOutIdeal : Cert.ReferenceAttnOutIdeal.Facts] : Prop :=
  ∀ (m : (ℓ : Loc Cert.ReferenceAttnOutIdeal.nD Cert.ReferenceAttnOutIdeal.τ Cert.ReferenceAttnOutIdeal.sig) → Buf (Elt Ideal) ℓ) (g : Dev Cert.ReferenceAttnOutIdeal.nD → PrngReg), Pre_ReferenceAttnOutIdeal m →
    θ_run (Cert.ReferenceAttnOutIdeal.defs (F := Ideal)) (onTc (τ := Cert.ReferenceAttnOutIdeal.τ) (Cert.ReferenceAttnOutIdeal.main (F := Ideal))) ⟨m, fun _ => 0, g⟩ (fun r => (∀ c : Dev Cert.ReferenceAttnOutIdeal.nD,
      r.2.mem ((c.tc : Thread Cert.ReferenceAttnOutIdeal.nD Cert.ReferenceAttnOutIdeal.τ).loc Cert.ReferenceAttnOutIdeal.main_arg0) = m ((c.tc : Thread Cert.ReferenceAttnOutIdeal.nD Cert.ReferenceAttnOutIdeal.τ).loc Cert.ReferenceAttnOutIdeal.main_arg0)
      ∧ r.2.mem ((c.tc : Thread Cert.ReferenceAttnOutIdeal.nD Cert.ReferenceAttnOutIdeal.τ).loc Cert.ReferenceAttnOutIdeal.main_arg1) = m ((c.tc : Thread Cert.ReferenceAttnOutIdeal.nD Cert.ReferenceAttnOutIdeal.τ).loc Cert.ReferenceAttnOutIdeal.main_arg1)
      ∧ r.2.mem ((c.tc : Thread Cert.ReferenceAttnOutIdeal.nD Cert.ReferenceAttnOutIdeal.τ).loc Cert.ReferenceAttnOutIdeal.main_arg2) = m ((c.tc : Thread Cert.ReferenceAttnOutIdeal.nD Cert.ReferenceAttnOutIdeal.τ).loc Cert.ReferenceAttnOutIdeal.main_arg2)
      ∧ r.2.mem ((c.tc : Thread Cert.ReferenceAttnOutIdeal.nD Cert.ReferenceAttnOutIdeal.τ).loc Cert.ReferenceAttnOutIdeal.main_arg3) = m ((c.tc : Thread Cert.ReferenceAttnOutIdeal.nD Cert.ReferenceAttnOutIdeal.τ).loc Cert.ReferenceAttnOutIdeal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelSguMix [hKernelSguMix : Cert.KernelSguMix.Facts] : Prop :=
  ∀ (m : (ℓ : Loc Cert.KernelSguMix.nD Cert.KernelSguMix.τ Cert.KernelSguMix.sig) → Buf (Elt Bits) ℓ) (g : Dev Cert.KernelSguMix.nD → PrngReg), Pre_KernelSguMix m →
    θ_run (Cert.KernelSguMix.defs (F := Bits)) (onTc (τ := Cert.KernelSguMix.τ) (Cert.KernelSguMix.main (F := Bits))) ⟨m, fun _ => 0, g⟩ (fun r => (∀ c : Dev Cert.KernelSguMix.nD,
      r.2.mem ((c.tc : Thread Cert.KernelSguMix.nD Cert.KernelSguMix.τ).loc Cert.KernelSguMix.main_arg0) = m ((c.tc : Thread Cert.KernelSguMix.nD Cert.KernelSguMix.τ).loc Cert.KernelSguMix.main_arg0)
      ∧ r.2.mem ((c.tc : Thread Cert.KernelSguMix.nD Cert.KernelSguMix.τ).loc Cert.KernelSguMix.main_arg1) = m ((c.tc : Thread Cert.KernelSguMix.nD Cert.KernelSguMix.τ).loc Cert.KernelSguMix.main_arg1)
      ∧ r.2.mem ((c.tc : Thread Cert.KernelSguMix.nD Cert.KernelSguMix.τ).loc Cert.KernelSguMix.main_arg2) = m ((c.tc : Thread Cert.KernelSguMix.nD Cert.KernelSguMix.τ).loc Cert.KernelSguMix.main_arg2)
      ∧ r.2.mem ((c.tc : Thread Cert.KernelSguMix.nD Cert.KernelSguMix.τ).loc Cert.KernelSguMix.main_arg3) = m ((c.tc : Thread Cert.KernelSguMix.nD Cert.KernelSguMix.τ).loc Cert.KernelSguMix.main_arg3)
      ∧ r.2.mem ((c.tc : Thread Cert.KernelSguMix.nD Cert.KernelSguMix.τ).loc Cert.KernelSguMix.main_arg4) = m ((c.tc : Thread Cert.KernelSguMix.nD Cert.KernelSguMix.τ).loc Cert.KernelSguMix.main_arg4)
      ∧ r.2.mem ((c.tc : Thread Cert.KernelSguMix.nD Cert.KernelSguMix.τ).loc Cert.KernelSguMix.main_arg5) = m ((c.tc : Thread Cert.KernelSguMix.nD Cert.KernelSguMix.τ).loc Cert.KernelSguMix.main_arg5))
      ∧ r.2.sem = fun _ => 0)

def quiescent_KernelSguMixIdeal [hKernelSguMixIdeal : Cert.KernelSguMixIdeal.Facts] : Prop :=
  ∀ (m : (ℓ : Loc Cert.KernelSguMixIdeal.nD Cert.KernelSguMixIdeal.τ Cert.KernelSguMixIdeal.sig) → Buf (Elt Ideal) ℓ) (g : Dev Cert.KernelSguMixIdeal.nD → PrngReg), Pre_KernelSguMixIdeal m →
    θ_run (Cert.KernelSguMixIdeal.defs (F := Ideal)) (onTc (τ := Cert.KernelSguMixIdeal.τ) (Cert.KernelSguMixIdeal.main (F := Ideal))) ⟨m, fun _ => 0, g⟩ (fun r => (∀ c : Dev Cert.KernelSguMixIdeal.nD,
      r.2.mem ((c.tc : Thread Cert.KernelSguMixIdeal.nD Cert.KernelSguMixIdeal.τ).loc Cert.KernelSguMixIdeal.main_arg0) = m ((c.tc : Thread Cert.KernelSguMixIdeal.nD Cert.KernelSguMixIdeal.τ).loc Cert.KernelSguMixIdeal.main_arg0)
      ∧ r.2.mem ((c.tc : Thread Cert.KernelSguMixIdeal.nD Cert.KernelSguMixIdeal.τ).loc Cert.KernelSguMixIdeal.main_arg1) = m ((c.tc : Thread Cert.KernelSguMixIdeal.nD Cert.KernelSguMixIdeal.τ).loc Cert.KernelSguMixIdeal.main_arg1)
      ∧ r.2.mem ((c.tc : Thread Cert.KernelSguMixIdeal.nD Cert.KernelSguMixIdeal.τ).loc Cert.KernelSguMixIdeal.main_arg2) = m ((c.tc : Thread Cert.KernelSguMixIdeal.nD Cert.KernelSguMixIdeal.τ).loc Cert.KernelSguMixIdeal.main_arg2)
      ∧ r.2.mem ((c.tc : Thread Cert.KernelSguMixIdeal.nD Cert.KernelSguMixIdeal.τ).loc Cert.KernelSguMixIdeal.main_arg3) = m ((c.tc : Thread Cert.KernelSguMixIdeal.nD Cert.KernelSguMixIdeal.τ).loc Cert.KernelSguMixIdeal.main_arg3)
      ∧ r.2.mem ((c.tc : Thread Cert.KernelSguMixIdeal.nD Cert.KernelSguMixIdeal.τ).loc Cert.KernelSguMixIdeal.main_arg4) = m ((c.tc : Thread Cert.KernelSguMixIdeal.nD Cert.KernelSguMixIdeal.τ).loc Cert.KernelSguMixIdeal.main_arg4)
      ∧ r.2.mem ((c.tc : Thread Cert.KernelSguMixIdeal.nD Cert.KernelSguMixIdeal.τ).loc Cert.KernelSguMixIdeal.main_arg5) = m ((c.tc : Thread Cert.KernelSguMixIdeal.nD Cert.KernelSguMixIdeal.τ).loc Cert.KernelSguMixIdeal.main_arg5))
      ∧ r.2.sem = fun _ => 0)

def quiescent_ReferenceSguMixIdeal [hReferenceSguMixIdeal : Cert.ReferenceSguMixIdeal.Facts] : Prop :=
  ∀ (m : (ℓ : Loc Cert.ReferenceSguMixIdeal.nD Cert.ReferenceSguMixIdeal.τ Cert.ReferenceSguMixIdeal.sig) → Buf (Elt Ideal) ℓ) (g : Dev Cert.ReferenceSguMixIdeal.nD → PrngReg), Pre_ReferenceSguMixIdeal m →
    θ_run (Cert.ReferenceSguMixIdeal.defs (F := Ideal)) (onTc (τ := Cert.ReferenceSguMixIdeal.τ) (Cert.ReferenceSguMixIdeal.main (F := Ideal))) ⟨m, fun _ => 0, g⟩ (fun r => (∀ c : Dev Cert.ReferenceSguMixIdeal.nD,
      r.2.mem ((c.tc : Thread Cert.ReferenceSguMixIdeal.nD Cert.ReferenceSguMixIdeal.τ).loc Cert.ReferenceSguMixIdeal.main_arg0) = m ((c.tc : Thread Cert.ReferenceSguMixIdeal.nD Cert.ReferenceSguMixIdeal.τ).loc Cert.ReferenceSguMixIdeal.main_arg0)
      ∧ r.2.mem ((c.tc : Thread Cert.ReferenceSguMixIdeal.nD Cert.ReferenceSguMixIdeal.τ).loc Cert.ReferenceSguMixIdeal.main_arg1) = m ((c.tc : Thread Cert.ReferenceSguMixIdeal.nD Cert.ReferenceSguMixIdeal.τ).loc Cert.ReferenceSguMixIdeal.main_arg1)
      ∧ r.2.mem ((c.tc : Thread Cert.ReferenceSguMixIdeal.nD Cert.ReferenceSguMixIdeal.τ).loc Cert.ReferenceSguMixIdeal.main_arg2) = m ((c.tc : Thread Cert.ReferenceSguMixIdeal.nD Cert.ReferenceSguMixIdeal.τ).loc Cert.ReferenceSguMixIdeal.main_arg2)
      ∧ r.2.mem ((c.tc : Thread Cert.ReferenceSguMixIdeal.nD Cert.ReferenceSguMixIdeal.τ).loc Cert.ReferenceSguMixIdeal.main_arg3) = m ((c.tc : Thread Cert.ReferenceSguMixIdeal.nD Cert.ReferenceSguMixIdeal.τ).loc Cert.ReferenceSguMixIdeal.main_arg3)
      ∧ r.2.mem ((c.tc : Thread Cert.ReferenceSguMixIdeal.nD Cert.ReferenceSguMixIdeal.τ).loc Cert.ReferenceSguMixIdeal.main_arg4) = m ((c.tc : Thread Cert.ReferenceSguMixIdeal.nD Cert.ReferenceSguMixIdeal.τ).loc Cert.ReferenceSguMixIdeal.main_arg4)
      ∧ r.2.mem ((c.tc : Thread Cert.ReferenceSguMixIdeal.nD Cert.ReferenceSguMixIdeal.τ).loc Cert.ReferenceSguMixIdeal.main_arg5) = m ((c.tc : Thread Cert.ReferenceSguMixIdeal.nD Cert.ReferenceSguMixIdeal.τ).loc Cert.ReferenceSguMixIdeal.main_arg5))
      ∧ r.2.sem = fun _ => 0)

def quiescent_KernelSguMixSample [hKernelSguMixSample : Cert.KernelSguMixSample.Facts] : Prop :=
  ∀ (m : (ℓ : Loc Cert.KernelSguMixSample.nD Cert.KernelSguMixSample.τ Cert.KernelSguMixSample.sig) → Buf (Elt Bits) ℓ) (g : Dev Cert.KernelSguMixSample.nD → PrngReg), Pre_KernelSguMixSample m →
    θ_run (Cert.KernelSguMixSample.defs (F := Bits)) (onTc (τ := Cert.KernelSguMixSample.τ) (Cert.KernelSguMixSample.main (F := Bits))) ⟨m, fun _ => 0, g⟩ (fun r => (∀ c : Dev Cert.KernelSguMixSample.nD,
      r.2.mem ((c.tc : Thread Cert.KernelSguMixSample.nD Cert.KernelSguMixSample.τ).loc Cert.KernelSguMixSample.main_arg0) = m ((c.tc : Thread Cert.KernelSguMixSample.nD Cert.KernelSguMixSample.τ).loc Cert.KernelSguMixSample.main_arg0)
      ∧ r.2.mem ((c.tc : Thread Cert.KernelSguMixSample.nD Cert.KernelSguMixSample.τ).loc Cert.KernelSguMixSample.main_arg1) = m ((c.tc : Thread Cert.KernelSguMixSample.nD Cert.KernelSguMixSample.τ).loc Cert.KernelSguMixSample.main_arg1)
      ∧ r.2.mem ((c.tc : Thread Cert.KernelSguMixSample.nD Cert.KernelSguMixSample.τ).loc Cert.KernelSguMixSample.main_arg2) = m ((c.tc : Thread Cert.KernelSguMixSample.nD Cert.KernelSguMixSample.τ).loc Cert.KernelSguMixSample.main_arg2)
      ∧ r.2.mem ((c.tc : Thread Cert.KernelSguMixSample.nD Cert.KernelSguMixSample.τ).loc Cert.KernelSguMixSample.main_arg3) = m ((c.tc : Thread Cert.KernelSguMixSample.nD Cert.KernelSguMixSample.τ).loc Cert.KernelSguMixSample.main_arg3)
      ∧ r.2.mem ((c.tc : Thread Cert.KernelSguMixSample.nD Cert.KernelSguMixSample.τ).loc Cert.KernelSguMixSample.main_arg4) = m ((c.tc : Thread Cert.KernelSguMixSample.nD Cert.KernelSguMixSample.τ).loc Cert.KernelSguMixSample.main_arg4)
      ∧ r.2.mem ((c.tc : Thread Cert.KernelSguMixSample.nD Cert.KernelSguMixSample.τ).loc Cert.KernelSguMixSample.main_arg5) = m ((c.tc : Thread Cert.KernelSguMixSample.nD Cert.KernelSguMixSample.τ).loc Cert.KernelSguMixSample.main_arg5))
      ∧ r.2.sem = fun _ => 0)

def quiescent_KernelSguMixSampleIdeal [hKernelSguMixSampleIdeal : Cert.KernelSguMixSampleIdeal.Facts] : Prop :=
  ∀ (m : (ℓ : Loc Cert.KernelSguMixSampleIdeal.nD Cert.KernelSguMixSampleIdeal.τ Cert.KernelSguMixSampleIdeal.sig) → Buf (Elt Ideal) ℓ) (g : Dev Cert.KernelSguMixSampleIdeal.nD → PrngReg), Pre_KernelSguMixSampleIdeal m →
    θ_run (Cert.KernelSguMixSampleIdeal.defs (F := Ideal)) (onTc (τ := Cert.KernelSguMixSampleIdeal.τ) (Cert.KernelSguMixSampleIdeal.main (F := Ideal))) ⟨m, fun _ => 0, g⟩ (fun r => (∀ c : Dev Cert.KernelSguMixSampleIdeal.nD,
      r.2.mem ((c.tc : Thread Cert.KernelSguMixSampleIdeal.nD Cert.KernelSguMixSampleIdeal.τ).loc Cert.KernelSguMixSampleIdeal.main_arg0) = m ((c.tc : Thread Cert.KernelSguMixSampleIdeal.nD Cert.KernelSguMixSampleIdeal.τ).loc Cert.KernelSguMixSampleIdeal.main_arg0)
      ∧ r.2.mem ((c.tc : Thread Cert.KernelSguMixSampleIdeal.nD Cert.KernelSguMixSampleIdeal.τ).loc Cert.KernelSguMixSampleIdeal.main_arg1) = m ((c.tc : Thread Cert.KernelSguMixSampleIdeal.nD Cert.KernelSguMixSampleIdeal.τ).loc Cert.KernelSguMixSampleIdeal.main_arg1)
      ∧ r.2.mem ((c.tc : Thread Cert.KernelSguMixSampleIdeal.nD Cert.KernelSguMixSampleIdeal.τ).loc Cert.KernelSguMixSampleIdeal.main_arg2) = m ((c.tc : Thread Cert.KernelSguMixSampleIdeal.nD Cert.KernelSguMixSampleIdeal.τ).loc Cert.KernelSguMixSampleIdeal.main_arg2)
      ∧ r.2.mem ((c.tc : Thread Cert.KernelSguMixSampleIdeal.nD Cert.KernelSguMixSampleIdeal.τ).loc Cert.KernelSguMixSampleIdeal.main_arg3) = m ((c.tc : Thread Cert.KernelSguMixSampleIdeal.nD Cert.KernelSguMixSampleIdeal.τ).loc Cert.KernelSguMixSampleIdeal.main_arg3)
      ∧ r.2.mem ((c.tc : Thread Cert.KernelSguMixSampleIdeal.nD Cert.KernelSguMixSampleIdeal.τ).loc Cert.KernelSguMixSampleIdeal.main_arg4) = m ((c.tc : Thread Cert.KernelSguMixSampleIdeal.nD Cert.KernelSguMixSampleIdeal.τ).loc Cert.KernelSguMixSampleIdeal.main_arg4)
      ∧ r.2.mem ((c.tc : Thread Cert.KernelSguMixSampleIdeal.nD Cert.KernelSguMixSampleIdeal.τ).loc Cert.KernelSguMixSampleIdeal.main_arg5) = m ((c.tc : Thread Cert.KernelSguMixSampleIdeal.nD Cert.KernelSguMixSampleIdeal.τ).loc Cert.KernelSguMixSampleIdeal.main_arg5))
      ∧ r.2.sem = fun _ => 0)

def quiescent_ReferenceSguMixSampleIdeal [hReferenceSguMixSampleIdeal : Cert.ReferenceSguMixSampleIdeal.Facts] : Prop :=
  ∀ (m : (ℓ : Loc Cert.ReferenceSguMixSampleIdeal.nD Cert.ReferenceSguMixSampleIdeal.τ Cert.ReferenceSguMixSampleIdeal.sig) → Buf (Elt Ideal) ℓ) (g : Dev Cert.ReferenceSguMixSampleIdeal.nD → PrngReg), Pre_ReferenceSguMixSampleIdeal m →
    θ_run (Cert.ReferenceSguMixSampleIdeal.defs (F := Ideal)) (onTc (τ := Cert.ReferenceSguMixSampleIdeal.τ) (Cert.ReferenceSguMixSampleIdeal.main (F := Ideal))) ⟨m, fun _ => 0, g⟩ (fun r => (∀ c : Dev Cert.ReferenceSguMixSampleIdeal.nD,
      r.2.mem ((c.tc : Thread Cert.ReferenceSguMixSampleIdeal.nD Cert.ReferenceSguMixSampleIdeal.τ).loc Cert.ReferenceSguMixSampleIdeal.main_arg0) = m ((c.tc : Thread Cert.ReferenceSguMixSampleIdeal.nD Cert.ReferenceSguMixSampleIdeal.τ).loc Cert.ReferenceSguMixSampleIdeal.main_arg0)
      ∧ r.2.mem ((c.tc : Thread Cert.ReferenceSguMixSampleIdeal.nD Cert.ReferenceSguMixSampleIdeal.τ).loc Cert.ReferenceSguMixSampleIdeal.main_arg1) = m ((c.tc : Thread Cert.ReferenceSguMixSampleIdeal.nD Cert.ReferenceSguMixSampleIdeal.τ).loc Cert.ReferenceSguMixSampleIdeal.main_arg1)
      ∧ r.2.mem ((c.tc : Thread Cert.ReferenceSguMixSampleIdeal.nD Cert.ReferenceSguMixSampleIdeal.τ).loc Cert.ReferenceSguMixSampleIdeal.main_arg2) = m ((c.tc : Thread Cert.ReferenceSguMixSampleIdeal.nD Cert.ReferenceSguMixSampleIdeal.τ).loc Cert.ReferenceSguMixSampleIdeal.main_arg2)
      ∧ r.2.mem ((c.tc : Thread Cert.ReferenceSguMixSampleIdeal.nD Cert.ReferenceSguMixSampleIdeal.τ).loc Cert.ReferenceSguMixSampleIdeal.main_arg3) = m ((c.tc : Thread Cert.ReferenceSguMixSampleIdeal.nD Cert.ReferenceSguMixSampleIdeal.τ).loc Cert.ReferenceSguMixSampleIdeal.main_arg3)
      ∧ r.2.mem ((c.tc : Thread Cert.ReferenceSguMixSampleIdeal.nD Cert.ReferenceSguMixSampleIdeal.τ).loc Cert.ReferenceSguMixSampleIdeal.main_arg4) = m ((c.tc : Thread Cert.ReferenceSguMixSampleIdeal.nD Cert.ReferenceSguMixSampleIdeal.τ).loc Cert.ReferenceSguMixSampleIdeal.main_arg4)
      ∧ r.2.mem ((c.tc : Thread Cert.ReferenceSguMixSampleIdeal.nD Cert.ReferenceSguMixSampleIdeal.τ).loc Cert.ReferenceSguMixSampleIdeal.main_arg5) = m ((c.tc : Thread Cert.ReferenceSguMixSampleIdeal.nD Cert.ReferenceSguMixSampleIdeal.τ).loc Cert.ReferenceSguMixSampleIdeal.main_arg5))
      ∧ r.2.sem = fun _ => 0)

def quiescent_KernelNormSample [hKernelNormSample : Cert.KernelNormSample.Facts] : Prop :=
  ∀ (m : (ℓ : Loc Cert.KernelNormSample.nD Cert.KernelNormSample.τ Cert.KernelNormSample.sig) → Buf (Elt Bits) ℓ) (g : Dev Cert.KernelNormSample.nD → PrngReg), Pre_KernelNormSample m →
    θ_run (Cert.KernelNormSample.defs (F := Bits)) (onTc (τ := Cert.KernelNormSample.τ) (Cert.KernelNormSample.main (F := Bits))) ⟨m, fun _ => 0, g⟩ (fun r => (∀ c : Dev Cert.KernelNormSample.nD,
      r.2.mem ((c.tc : Thread Cert.KernelNormSample.nD Cert.KernelNormSample.τ).loc Cert.KernelNormSample.main_arg0) = m ((c.tc : Thread Cert.KernelNormSample.nD Cert.KernelNormSample.τ).loc Cert.KernelNormSample.main_arg0)
      ∧ r.2.mem ((c.tc : Thread Cert.KernelNormSample.nD Cert.KernelNormSample.τ).loc Cert.KernelNormSample.main_arg1) = m ((c.tc : Thread Cert.KernelNormSample.nD Cert.KernelNormSample.τ).loc Cert.KernelNormSample.main_arg1)
      ∧ r.2.mem ((c.tc : Thread Cert.KernelNormSample.nD Cert.KernelNormSample.τ).loc Cert.KernelNormSample.main_arg2) = m ((c.tc : Thread Cert.KernelNormSample.nD Cert.KernelNormSample.τ).loc Cert.KernelNormSample.main_arg2)
      ∧ r.2.mem ((c.tc : Thread Cert.KernelNormSample.nD Cert.KernelNormSample.τ).loc Cert.KernelNormSample.main_arg3) = m ((c.tc : Thread Cert.KernelNormSample.nD Cert.KernelNormSample.τ).loc Cert.KernelNormSample.main_arg3))
      ∧ r.2.sem = fun _ => 0)

def quiescent_KernelNormSampleIdeal [hKernelNormSampleIdeal : Cert.KernelNormSampleIdeal.Facts] : Prop :=
  ∀ (m : (ℓ : Loc Cert.KernelNormSampleIdeal.nD Cert.KernelNormSampleIdeal.τ Cert.KernelNormSampleIdeal.sig) → Buf (Elt Ideal) ℓ) (g : Dev Cert.KernelNormSampleIdeal.nD → PrngReg), Pre_KernelNormSampleIdeal m →
    θ_run (Cert.KernelNormSampleIdeal.defs (F := Ideal)) (onTc (τ := Cert.KernelNormSampleIdeal.τ) (Cert.KernelNormSampleIdeal.main (F := Ideal))) ⟨m, fun _ => 0, g⟩ (fun r => (∀ c : Dev Cert.KernelNormSampleIdeal.nD,
      r.2.mem ((c.tc : Thread Cert.KernelNormSampleIdeal.nD Cert.KernelNormSampleIdeal.τ).loc Cert.KernelNormSampleIdeal.main_arg0) = m ((c.tc : Thread Cert.KernelNormSampleIdeal.nD Cert.KernelNormSampleIdeal.τ).loc Cert.KernelNormSampleIdeal.main_arg0)
      ∧ r.2.mem ((c.tc : Thread Cert.KernelNormSampleIdeal.nD Cert.KernelNormSampleIdeal.τ).loc Cert.KernelNormSampleIdeal.main_arg1) = m ((c.tc : Thread Cert.KernelNormSampleIdeal.nD Cert.KernelNormSampleIdeal.τ).loc Cert.KernelNormSampleIdeal.main_arg1)
      ∧ r.2.mem ((c.tc : Thread Cert.KernelNormSampleIdeal.nD Cert.KernelNormSampleIdeal.τ).loc Cert.KernelNormSampleIdeal.main_arg2) = m ((c.tc : Thread Cert.KernelNormSampleIdeal.nD Cert.KernelNormSampleIdeal.τ).loc Cert.KernelNormSampleIdeal.main_arg2)
      ∧ r.2.mem ((c.tc : Thread Cert.KernelNormSampleIdeal.nD Cert.KernelNormSampleIdeal.τ).loc Cert.KernelNormSampleIdeal.main_arg3) = m ((c.tc : Thread Cert.KernelNormSampleIdeal.nD Cert.KernelNormSampleIdeal.τ).loc Cert.KernelNormSampleIdeal.main_arg3))
      ∧ r.2.sem = fun _ => 0)

def quiescent_ReferenceNormSampleIdeal [hReferenceNormSampleIdeal : Cert.ReferenceNormSampleIdeal.Facts] : Prop :=
  ∀ (m : (ℓ : Loc Cert.ReferenceNormSampleIdeal.nD Cert.ReferenceNormSampleIdeal.τ Cert.ReferenceNormSampleIdeal.sig) → Buf (Elt Ideal) ℓ) (g : Dev Cert.ReferenceNormSampleIdeal.nD → PrngReg), Pre_ReferenceNormSampleIdeal m →
    θ_run (Cert.ReferenceNormSampleIdeal.defs (F := Ideal)) (onTc (τ := Cert.ReferenceNormSampleIdeal.τ) (Cert.ReferenceNormSampleIdeal.main (F := Ideal))) ⟨m, fun _ => 0, g⟩ (fun r => (∀ c : Dev Cert.ReferenceNormSampleIdeal.nD,
      r.2.mem ((c.tc : Thread Cert.ReferenceNormSampleIdeal.nD Cert.ReferenceNormSampleIdeal.τ).loc Cert.ReferenceNormSampleIdeal.main_arg0) = m ((c.tc : Thread Cert.ReferenceNormSampleIdeal.nD Cert.ReferenceNormSampleIdeal.τ).loc Cert.ReferenceNormSampleIdeal.main_arg0)
      ∧ r.2.mem ((c.tc : Thread Cert.ReferenceNormSampleIdeal.nD Cert.ReferenceNormSampleIdeal.τ).loc Cert.ReferenceNormSampleIdeal.main_arg1) = m ((c.tc : Thread Cert.ReferenceNormSampleIdeal.nD Cert.ReferenceNormSampleIdeal.τ).loc Cert.ReferenceNormSampleIdeal.main_arg1)
      ∧ r.2.mem ((c.tc : Thread Cert.ReferenceNormSampleIdeal.nD Cert.ReferenceNormSampleIdeal.τ).loc Cert.ReferenceNormSampleIdeal.main_arg2) = m ((c.tc : Thread Cert.ReferenceNormSampleIdeal.nD Cert.ReferenceNormSampleIdeal.τ).loc Cert.ReferenceNormSampleIdeal.main_arg2)
      ∧ r.2.mem ((c.tc : Thread Cert.ReferenceNormSampleIdeal.nD Cert.ReferenceNormSampleIdeal.τ).loc Cert.ReferenceNormSampleIdeal.main_arg3) = m ((c.tc : Thread Cert.ReferenceNormSampleIdeal.nD Cert.ReferenceNormSampleIdeal.τ).loc Cert.ReferenceNormSampleIdeal.main_arg3))
      ∧ r.2.sem = fun _ => 0)

def quiescent_KernelGluSample [hKernelGluSample : Cert.KernelGluSample.Facts] : Prop :=
  ∀ (m : (ℓ : Loc Cert.KernelGluSample.nD Cert.KernelGluSample.τ Cert.KernelGluSample.sig) → Buf (Elt Bits) ℓ) (g : Dev Cert.KernelGluSample.nD → PrngReg), Pre_KernelGluSample m →
    θ_run (Cert.KernelGluSample.defs (F := Bits)) (onTc (τ := Cert.KernelGluSample.τ) (Cert.KernelGluSample.main (F := Bits))) ⟨m, fun _ => 0, g⟩ (fun r => (∀ c : Dev Cert.KernelGluSample.nD,
      r.2.mem ((c.tc : Thread Cert.KernelGluSample.nD Cert.KernelGluSample.τ).loc Cert.KernelGluSample.main_arg0) = m ((c.tc : Thread Cert.KernelGluSample.nD Cert.KernelGluSample.τ).loc Cert.KernelGluSample.main_arg0)
      ∧ r.2.mem ((c.tc : Thread Cert.KernelGluSample.nD Cert.KernelGluSample.τ).loc Cert.KernelGluSample.main_arg1) = m ((c.tc : Thread Cert.KernelGluSample.nD Cert.KernelGluSample.τ).loc Cert.KernelGluSample.main_arg1)
      ∧ r.2.mem ((c.tc : Thread Cert.KernelGluSample.nD Cert.KernelGluSample.τ).loc Cert.KernelGluSample.main_arg2) = m ((c.tc : Thread Cert.KernelGluSample.nD Cert.KernelGluSample.τ).loc Cert.KernelGluSample.main_arg2))
      ∧ r.2.sem = fun _ => 0)

def quiescent_KernelGluSampleIdeal [hKernelGluSampleIdeal : Cert.KernelGluSampleIdeal.Facts] : Prop :=
  ∀ (m : (ℓ : Loc Cert.KernelGluSampleIdeal.nD Cert.KernelGluSampleIdeal.τ Cert.KernelGluSampleIdeal.sig) → Buf (Elt Ideal) ℓ) (g : Dev Cert.KernelGluSampleIdeal.nD → PrngReg), Pre_KernelGluSampleIdeal m →
    θ_run (Cert.KernelGluSampleIdeal.defs (F := Ideal)) (onTc (τ := Cert.KernelGluSampleIdeal.τ) (Cert.KernelGluSampleIdeal.main (F := Ideal))) ⟨m, fun _ => 0, g⟩ (fun r => (∀ c : Dev Cert.KernelGluSampleIdeal.nD,
      r.2.mem ((c.tc : Thread Cert.KernelGluSampleIdeal.nD Cert.KernelGluSampleIdeal.τ).loc Cert.KernelGluSampleIdeal.main_arg0) = m ((c.tc : Thread Cert.KernelGluSampleIdeal.nD Cert.KernelGluSampleIdeal.τ).loc Cert.KernelGluSampleIdeal.main_arg0)
      ∧ r.2.mem ((c.tc : Thread Cert.KernelGluSampleIdeal.nD Cert.KernelGluSampleIdeal.τ).loc Cert.KernelGluSampleIdeal.main_arg1) = m ((c.tc : Thread Cert.KernelGluSampleIdeal.nD Cert.KernelGluSampleIdeal.τ).loc Cert.KernelGluSampleIdeal.main_arg1)
      ∧ r.2.mem ((c.tc : Thread Cert.KernelGluSampleIdeal.nD Cert.KernelGluSampleIdeal.τ).loc Cert.KernelGluSampleIdeal.main_arg2) = m ((c.tc : Thread Cert.KernelGluSampleIdeal.nD Cert.KernelGluSampleIdeal.τ).loc Cert.KernelGluSampleIdeal.main_arg2))
      ∧ r.2.sem = fun _ => 0)

def quiescent_ReferenceGluSampleIdeal [hReferenceGluSampleIdeal : Cert.ReferenceGluSampleIdeal.Facts] : Prop :=
  ∀ (m : (ℓ : Loc Cert.ReferenceGluSampleIdeal.nD Cert.ReferenceGluSampleIdeal.τ Cert.ReferenceGluSampleIdeal.sig) → Buf (Elt Ideal) ℓ) (g : Dev Cert.ReferenceGluSampleIdeal.nD → PrngReg), Pre_ReferenceGluSampleIdeal m →
    θ_run (Cert.ReferenceGluSampleIdeal.defs (F := Ideal)) (onTc (τ := Cert.ReferenceGluSampleIdeal.τ) (Cert.ReferenceGluSampleIdeal.main (F := Ideal))) ⟨m, fun _ => 0, g⟩ (fun r => (∀ c : Dev Cert.ReferenceGluSampleIdeal.nD,
      r.2.mem ((c.tc : Thread Cert.ReferenceGluSampleIdeal.nD Cert.ReferenceGluSampleIdeal.τ).loc Cert.ReferenceGluSampleIdeal.main_arg0) = m ((c.tc : Thread Cert.ReferenceGluSampleIdeal.nD Cert.ReferenceGluSampleIdeal.τ).loc Cert.ReferenceGluSampleIdeal.main_arg0)
      ∧ r.2.mem ((c.tc : Thread Cert.ReferenceGluSampleIdeal.nD Cert.ReferenceGluSampleIdeal.τ).loc Cert.ReferenceGluSampleIdeal.main_arg1) = m ((c.tc : Thread Cert.ReferenceGluSampleIdeal.nD Cert.ReferenceGluSampleIdeal.τ).loc Cert.ReferenceGluSampleIdeal.main_arg1)
      ∧ r.2.mem ((c.tc : Thread Cert.ReferenceGluSampleIdeal.nD Cert.ReferenceGluSampleIdeal.τ).loc Cert.ReferenceGluSampleIdeal.main_arg2) = m ((c.tc : Thread Cert.ReferenceGluSampleIdeal.nD Cert.ReferenceGluSampleIdeal.τ).loc Cert.ReferenceGluSampleIdeal.main_arg2))
      ∧ r.2.sem = fun _ => 0)

def quiescent_KernelQkvSample [hKernelQkvSample : Cert.KernelQkvSample.Facts] : Prop :=
  ∀ (m : (ℓ : Loc Cert.KernelQkvSample.nD Cert.KernelQkvSample.τ Cert.KernelQkvSample.sig) → Buf (Elt Bits) ℓ) (g : Dev Cert.KernelQkvSample.nD → PrngReg), Pre_KernelQkvSample m →
    θ_run (Cert.KernelQkvSample.defs (F := Bits)) (onTc (τ := Cert.KernelQkvSample.τ) (Cert.KernelQkvSample.main (F := Bits))) ⟨m, fun _ => 0, g⟩ (fun r => (∀ c : Dev Cert.KernelQkvSample.nD,
      r.2.mem ((c.tc : Thread Cert.KernelQkvSample.nD Cert.KernelQkvSample.τ).loc Cert.KernelQkvSample.main_arg0) = m ((c.tc : Thread Cert.KernelQkvSample.nD Cert.KernelQkvSample.τ).loc Cert.KernelQkvSample.main_arg0)
      ∧ r.2.mem ((c.tc : Thread Cert.KernelQkvSample.nD Cert.KernelQkvSample.τ).loc Cert.KernelQkvSample.main_arg1) = m ((c.tc : Thread Cert.KernelQkvSample.nD Cert.KernelQkvSample.τ).loc Cert.KernelQkvSample.main_arg1)
      ∧ r.2.mem ((c.tc : Thread Cert.KernelQkvSample.nD Cert.KernelQkvSample.τ).loc Cert.KernelQkvSample.main_arg2) = m ((c.tc : Thread Cert.KernelQkvSample.nD Cert.KernelQkvSample.τ).loc Cert.KernelQkvSample.main_arg2))
      ∧ r.2.sem = fun _ => 0)

def quiescent_KernelQkvSampleIdeal [hKernelQkvSampleIdeal : Cert.KernelQkvSampleIdeal.Facts] : Prop :=
  ∀ (m : (ℓ : Loc Cert.KernelQkvSampleIdeal.nD Cert.KernelQkvSampleIdeal.τ Cert.KernelQkvSampleIdeal.sig) → Buf (Elt Ideal) ℓ) (g : Dev Cert.KernelQkvSampleIdeal.nD → PrngReg), Pre_KernelQkvSampleIdeal m →
    θ_run (Cert.KernelQkvSampleIdeal.defs (F := Ideal)) (onTc (τ := Cert.KernelQkvSampleIdeal.τ) (Cert.KernelQkvSampleIdeal.main (F := Ideal))) ⟨m, fun _ => 0, g⟩ (fun r => (∀ c : Dev Cert.KernelQkvSampleIdeal.nD,
      r.2.mem ((c.tc : Thread Cert.KernelQkvSampleIdeal.nD Cert.KernelQkvSampleIdeal.τ).loc Cert.KernelQkvSampleIdeal.main_arg0) = m ((c.tc : Thread Cert.KernelQkvSampleIdeal.nD Cert.KernelQkvSampleIdeal.τ).loc Cert.KernelQkvSampleIdeal.main_arg0)
      ∧ r.2.mem ((c.tc : Thread Cert.KernelQkvSampleIdeal.nD Cert.KernelQkvSampleIdeal.τ).loc Cert.KernelQkvSampleIdeal.main_arg1) = m ((c.tc : Thread Cert.KernelQkvSampleIdeal.nD Cert.KernelQkvSampleIdeal.τ).loc Cert.KernelQkvSampleIdeal.main_arg1)
      ∧ r.2.mem ((c.tc : Thread Cert.KernelQkvSampleIdeal.nD Cert.KernelQkvSampleIdeal.τ).loc Cert.KernelQkvSampleIdeal.main_arg2) = m ((c.tc : Thread Cert.KernelQkvSampleIdeal.nD Cert.KernelQkvSampleIdeal.τ).loc Cert.KernelQkvSampleIdeal.main_arg2))
      ∧ r.2.sem = fun _ => 0)

def quiescent_ReferenceQkvSampleIdeal [hReferenceQkvSampleIdeal : Cert.ReferenceQkvSampleIdeal.Facts] : Prop :=
  ∀ (m : (ℓ : Loc Cert.ReferenceQkvSampleIdeal.nD Cert.ReferenceQkvSampleIdeal.τ Cert.ReferenceQkvSampleIdeal.sig) → Buf (Elt Ideal) ℓ) (g : Dev Cert.ReferenceQkvSampleIdeal.nD → PrngReg), Pre_ReferenceQkvSampleIdeal m →
    θ_run (Cert.ReferenceQkvSampleIdeal.defs (F := Ideal)) (onTc (τ := Cert.ReferenceQkvSampleIdeal.τ) (Cert.ReferenceQkvSampleIdeal.main (F := Ideal))) ⟨m, fun _ => 0, g⟩ (fun r => (∀ c : Dev Cert.ReferenceQkvSampleIdeal.nD,
      r.2.mem ((c.tc : Thread Cert.ReferenceQkvSampleIdeal.nD Cert.ReferenceQkvSampleIdeal.τ).loc Cert.ReferenceQkvSampleIdeal.main_arg0) = m ((c.tc : Thread Cert.ReferenceQkvSampleIdeal.nD Cert.ReferenceQkvSampleIdeal.τ).loc Cert.ReferenceQkvSampleIdeal.main_arg0)
      ∧ r.2.mem ((c.tc : Thread Cert.ReferenceQkvSampleIdeal.nD Cert.ReferenceQkvSampleIdeal.τ).loc Cert.ReferenceQkvSampleIdeal.main_arg1) = m ((c.tc : Thread Cert.ReferenceQkvSampleIdeal.nD Cert.ReferenceQkvSampleIdeal.τ).loc Cert.ReferenceQkvSampleIdeal.main_arg1)
      ∧ r.2.mem ((c.tc : Thread Cert.ReferenceQkvSampleIdeal.nD Cert.ReferenceQkvSampleIdeal.τ).loc Cert.ReferenceQkvSampleIdeal.main_arg2) = m ((c.tc : Thread Cert.ReferenceQkvSampleIdeal.nD Cert.ReferenceQkvSampleIdeal.τ).loc Cert.ReferenceQkvSampleIdeal.main_arg2))
      ∧ r.2.sem = fun _ => 0)

def preserves_Kernel_KernelIdeal : Prop :=
  IdealRules.named_const.Statement Cert.KernelIdeal.κ "slope1" .f32 0x3F5744FD#32 (((1 * (Real.sqrt (Real.sqrt 2)))⁻¹ : ℝ) : EReal)
  ∧ IdealRules.named_const.Statement Cert.KernelIdeal.κ "mask" .f32 0x7149F2CA#32 ⊤
  ∧ IdealRules.named_const.Statement Cert.KernelIdeal.κ "slope2" .f32 0x3F3504F3#32 (((1 * (Real.sqrt 2))⁻¹ : ℝ) : EReal)
  ∧ IdealRules.named_const.Statement Cert.KernelIdeal.κ "slope3" .f32 0x3F1837F0#32 (((1 * ((Real.sqrt 2) * (Real.sqrt (Real.sqrt 2))))⁻¹ : ℝ) : EReal)
  ∧ IdealRules.named_const.Statement Cert.KernelIdeal.κ "slope5" .f32 0x3ED744FD#32 (((2 * (Real.sqrt (Real.sqrt 2)))⁻¹ : ℝ) : EReal)
  ∧ IdealRules.named_const.Statement Cert.KernelIdeal.κ "slope6" .f32 0x3EB504F3#32 (((2 * (Real.sqrt 2))⁻¹ : ℝ) : EReal)
  ∧ IdealRules.named_const.Statement Cert.KernelIdeal.κ "slope7" .f32 0x3E9837F0#32 (((2 * ((Real.sqrt 2) * (Real.sqrt (Real.sqrt 2))))⁻¹ : ℝ) : EReal)
  ∧ IdealRules.named_const.Statement Cert.KernelIdeal.κ "slope9" .f32 0x3E5744FD#32 (((4 * (Real.sqrt (Real.sqrt 2)))⁻¹ : ℝ) : EReal)
  ∧ IdealRules.named_const.Statement Cert.KernelIdeal.κ "slope10" .f32 0x3E3504F3#32 (((4 * (Real.sqrt 2))⁻¹ : ℝ) : EReal)
  ∧ IdealRules.named_const.Statement Cert.KernelIdeal.κ "slope11" .f32 0x3E1837F0#32 (((4 * ((Real.sqrt 2) * (Real.sqrt (Real.sqrt 2))))⁻¹ : ℝ) : EReal)
  ∧ IdealRules.named_const.Statement Cert.KernelIdeal.κ "slope13" .f32 0x3DD744FD#32 (((8 * (Real.sqrt (Real.sqrt 2)))⁻¹ : ℝ) : EReal)
  ∧ IdealRules.named_const.Statement Cert.KernelIdeal.κ "slope14" .f32 0x3DB504F3#32 (((8 * (Real.sqrt 2))⁻¹ : ℝ) : EReal)
  ∧ IdealRules.named_const.Statement Cert.KernelIdeal.κ "slope15" .f32 0x3D9837F0#32 (((8 * ((Real.sqrt 2) * (Real.sqrt (Real.sqrt 2))))⁻¹ : ℝ) : EReal)
  ∧ IdealRules.named_const.Statement Cert.KernelIdeal.κ "slope17" .f32 0x3D5744FD#32 (((16 * (Real.sqrt (Real.sqrt 2)))⁻¹ : ℝ) : EReal)
  ∧ IdealRules.named_const.Statement Cert.KernelIdeal.κ "slope18" .f32 0x3D3504F3#32 (((16 * (Real.sqrt 2))⁻¹ : ℝ) : EReal)
  ∧ IdealRules.named_const.Statement Cert.KernelIdeal.κ "slope19" .f32 0x3D1837F0#32 (((16 * ((Real.sqrt 2) * (Real.sqrt (Real.sqrt 2))))⁻¹ : ℝ) : EReal)
  ∧ IdealRules.named_const.Statement Cert.KernelIdeal.κ "slope21" .f32 0x3CD744FD#32 (((32 * (Real.sqrt (Real.sqrt 2)))⁻¹ : ℝ) : EReal)
  ∧ IdealRules.named_const.Statement Cert.KernelIdeal.κ "slope22" .f32 0x3CB504F3#32 (((32 * (Real.sqrt 2))⁻¹ : ℝ) : EReal)
  ∧ IdealRules.named_const.Statement Cert.KernelIdeal.κ "slope23" .f32 0x3C9837F0#32 (((32 * ((Real.sqrt 2) * (Real.sqrt (Real.sqrt 2))))⁻¹ : ℝ) : EReal)
  ∧ IdealRules.named_const.Statement Cert.KernelIdeal.κ "slope25" .f32 0x3C5744FD#32 (((64 * (Real.sqrt (Real.sqrt 2)))⁻¹ : ℝ) : EReal)
  ∧ IdealRules.named_const.Statement Cert.KernelIdeal.κ "slope26" .f32 0x3C3504F3#32 (((64 * (Real.sqrt 2))⁻¹ : ℝ) : EReal)
  ∧ IdealRules.named_const.Statement Cert.KernelIdeal.κ "slope27" .f32 0x3C1837F0#32 (((64 * ((Real.sqrt 2) * (Real.sqrt (Real.sqrt 2))))⁻¹ : ℝ) : EReal)
  ∧ IdealRules.named_const.Statement Cert.KernelIdeal.κ "slope29" .f32 0x3BD744FD#32 (((128 * (Real.sqrt (Real.sqrt 2)))⁻¹ : ℝ) : EReal)
  ∧ IdealRules.named_const.Statement Cert.KernelIdeal.κ "slope30" .f32 0x3BB504F3#32 (((128 * (Real.sqrt 2))⁻¹ : ℝ) : EReal)
  ∧ IdealRules.named_const.Statement Cert.KernelIdeal.κ "slope31" .f32 0x3B9837F0#32 (((128 * ((Real.sqrt 2) * (Real.sqrt (Real.sqrt 2))))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelSguIn_KernelSguInIdeal : Prop :=
  True

def algebraic_KernelSguInIdeal_ReferenceSguInIdeal [hKernelSguInIdeal : Cert.KernelSguInIdeal.Facts] [hReferenceSguInIdeal : Cert.ReferenceSguInIdeal.Facts] : Prop :=
  ∀ (m : (ℓ : Loc Cert.KernelSguInIdeal.nD Cert.KernelSguInIdeal.τ Cert.KernelSguInIdeal.sig) → Buf (Elt Ideal) ℓ) (g : Dev Cert.KernelSguInIdeal.nD → PrngReg)
    (m' : (ℓ : Loc Cert.ReferenceSguInIdeal.nD Cert.ReferenceSguInIdeal.τ Cert.ReferenceSguInIdeal.sig) → Buf (Elt Ideal) ℓ) (g' : Dev Cert.ReferenceSguInIdeal.nD → PrngReg), Pre_KernelSguInIdeal m →
    (∀ c : Dev Cert.KernelSguInIdeal.nD,
      m' ((c.tc : Thread Cert.ReferenceSguInIdeal.nD Cert.ReferenceSguInIdeal.τ).loc Cert.ReferenceSguInIdeal.main_arg0) = m ((c.tc : Thread Cert.KernelSguInIdeal.nD Cert.KernelSguInIdeal.τ).loc Cert.KernelSguInIdeal.main_arg0)
      ∧ m' ((c.tc : Thread Cert.ReferenceSguInIdeal.nD Cert.ReferenceSguInIdeal.τ).loc Cert.ReferenceSguInIdeal.main_arg1) = m ((c.tc : Thread Cert.KernelSguInIdeal.nD Cert.KernelSguInIdeal.τ).loc Cert.KernelSguInIdeal.main_arg1)
      ∧ m' ((c.tc : Thread Cert.ReferenceSguInIdeal.nD Cert.ReferenceSguInIdeal.τ).loc Cert.ReferenceSguInIdeal.main_arg2) = m ((c.tc : Thread Cert.KernelSguInIdeal.nD Cert.KernelSguInIdeal.τ).loc Cert.KernelSguInIdeal.main_arg2)) →
    ∃ (v0 : (c : Dev Cert.KernelSguInIdeal.nD) → Buf (Elt Ideal) ((c.tc : Thread Cert.KernelSguInIdeal.nD Cert.KernelSguInIdeal.τ).loc Cert.KernelSguInIdeal.main_v4_0)) (v1 : (c : Dev Cert.KernelSguInIdeal.nD) → Buf (Elt Ideal) ((c.tc : Thread Cert.KernelSguInIdeal.nD Cert.KernelSguInIdeal.τ).loc Cert.KernelSguInIdeal.main_v4_1)),
      θ_run (Cert.KernelSguInIdeal.defs (F := Ideal)) (onTc (τ := Cert.KernelSguInIdeal.τ) (Cert.KernelSguInIdeal.main (F := Ideal))) ⟨m, fun _ => 0, g⟩ (fun r => ∀ c : Dev Cert.KernelSguInIdeal.nD,
          r.2.mem ((c.tc : Thread Cert.KernelSguInIdeal.nD Cert.KernelSguInIdeal.τ).loc Cert.KernelSguInIdeal.main_v4_0) = v0 c
          ∧ r.2.mem ((c.tc : Thread Cert.KernelSguInIdeal.nD Cert.KernelSguInIdeal.τ).loc Cert.KernelSguInIdeal.main_v4_1) = v1 c
          ∧ r.2.mem ((c.tc : Thread Cert.KernelSguInIdeal.nD Cert.KernelSguInIdeal.τ).loc Cert.KernelSguInIdeal.main_arg0) = m ((c.tc : Thread Cert.KernelSguInIdeal.nD Cert.KernelSguInIdeal.τ).loc Cert.KernelSguInIdeal.main_arg0)
          ∧ r.2.mem ((c.tc : Thread Cert.KernelSguInIdeal.nD Cert.KernelSguInIdeal.τ).loc Cert.KernelSguInIdeal.main_arg1) = m ((c.tc : Thread Cert.KernelSguInIdeal.nD Cert.KernelSguInIdeal.τ).loc Cert.KernelSguInIdeal.main_arg1)
          ∧ r.2.mem ((c.tc : Thread Cert.KernelSguInIdeal.nD Cert.KernelSguInIdeal.τ).loc Cert.KernelSguInIdeal.main_arg2) = m ((c.tc : Thread Cert.KernelSguInIdeal.nD Cert.KernelSguInIdeal.τ).loc Cert.KernelSguInIdeal.main_arg2))
      ∧ θ_run (Cert.ReferenceSguInIdeal.defs (F := Ideal)) (onTc (τ := Cert.ReferenceSguInIdeal.τ) (Cert.ReferenceSguInIdeal.main (F := Ideal))) ⟨m', fun _ => 0, g'⟩ (fun r => ∀ c : Dev Cert.ReferenceSguInIdeal.nD,
          r.2.mem ((c.tc : Thread Cert.ReferenceSguInIdeal.nD Cert.ReferenceSguInIdeal.τ).loc Cert.ReferenceSguInIdeal.main_v23) = v0 c
          ∧ r.2.mem ((c.tc : Thread Cert.ReferenceSguInIdeal.nD Cert.ReferenceSguInIdeal.τ).loc Cert.ReferenceSguInIdeal.main_v24) = v1 c
          ∧ r.2.mem ((c.tc : Thread Cert.ReferenceSguInIdeal.nD Cert.ReferenceSguInIdeal.τ).loc Cert.ReferenceSguInIdeal.main_arg0) = m' ((c.tc : Thread Cert.ReferenceSguInIdeal.nD Cert.ReferenceSguInIdeal.τ).loc Cert.ReferenceSguInIdeal.main_arg0)
          ∧ r.2.mem ((c.tc : Thread Cert.ReferenceSguInIdeal.nD Cert.ReferenceSguInIdeal.τ).loc Cert.ReferenceSguInIdeal.main_arg1) = m' ((c.tc : Thread Cert.ReferenceSguInIdeal.nD Cert.ReferenceSguInIdeal.τ).loc Cert.ReferenceSguInIdeal.main_arg1)
          ∧ r.2.mem ((c.tc : Thread Cert.ReferenceSguInIdeal.nD Cert.ReferenceSguInIdeal.τ).loc Cert.ReferenceSguInIdeal.main_arg2) = m' ((c.tc : Thread Cert.ReferenceSguInIdeal.nD Cert.ReferenceSguInIdeal.τ).loc Cert.ReferenceSguInIdeal.main_arg2))

def preserves_KernelSguOut_KernelSguOutIdeal : Prop :=
  True

def algebraic_KernelSguOutIdeal_ReferenceSguOutIdeal [hKernelSguOutIdeal : Cert.KernelSguOutIdeal.Facts] [hReferenceSguOutIdeal : Cert.ReferenceSguOutIdeal.Facts] : Prop :=
  ∀ (m : (ℓ : Loc Cert.KernelSguOutIdeal.nD Cert.KernelSguOutIdeal.τ Cert.KernelSguOutIdeal.sig) → Buf (Elt Ideal) ℓ) (g : Dev Cert.KernelSguOutIdeal.nD → PrngReg)
    (m' : (ℓ : Loc Cert.ReferenceSguOutIdeal.nD Cert.ReferenceSguOutIdeal.τ Cert.ReferenceSguOutIdeal.sig) → Buf (Elt Ideal) ℓ) (g' : Dev Cert.ReferenceSguOutIdeal.nD → PrngReg), Pre_KernelSguOutIdeal m →
    (∀ c : Dev Cert.KernelSguOutIdeal.nD,
      m' ((c.tc : Thread Cert.ReferenceSguOutIdeal.nD Cert.ReferenceSguOutIdeal.τ).loc Cert.ReferenceSguOutIdeal.main_arg0) = m ((c.tc : Thread Cert.KernelSguOutIdeal.nD Cert.KernelSguOutIdeal.τ).loc Cert.KernelSguOutIdeal.main_arg0)
      ∧ m' ((c.tc : Thread Cert.ReferenceSguOutIdeal.nD Cert.ReferenceSguOutIdeal.τ).loc Cert.ReferenceSguOutIdeal.main_arg1) = m ((c.tc : Thread Cert.KernelSguOutIdeal.nD Cert.KernelSguOutIdeal.τ).loc Cert.KernelSguOutIdeal.main_arg1)
      ∧ m' ((c.tc : Thread Cert.ReferenceSguOutIdeal.nD Cert.ReferenceSguOutIdeal.τ).loc Cert.ReferenceSguOutIdeal.main_arg2) = m ((c.tc : Thread Cert.KernelSguOutIdeal.nD Cert.KernelSguOutIdeal.τ).loc Cert.KernelSguOutIdeal.main_arg2)
      ∧ m' ((c.tc : Thread Cert.ReferenceSguOutIdeal.nD Cert.ReferenceSguOutIdeal.τ).loc Cert.ReferenceSguOutIdeal.main_arg3) = m ((c.tc : Thread Cert.KernelSguOutIdeal.nD Cert.KernelSguOutIdeal.τ).loc Cert.KernelSguOutIdeal.main_arg3)) →
    ∃ (v0 : (c : Dev Cert.KernelSguOutIdeal.nD) → Buf (Elt Ideal) ((c.tc : Thread Cert.KernelSguOutIdeal.nD Cert.KernelSguOutIdeal.τ).loc Cert.KernelSguOutIdeal.main_v1)),
      θ_run (Cert.KernelSguOutIdeal.defs (F := Ideal)) (onTc (τ := Cert.KernelSguOutIdeal.τ) (Cert.KernelSguOutIdeal.main (F := Ideal))) ⟨m, fun _ => 0, g⟩ (fun r => ∀ c : Dev Cert.KernelSguOutIdeal.nD,
          r.2.mem ((c.tc : Thread Cert.KernelSguOutIdeal.nD Cert.KernelSguOutIdeal.τ).loc Cert.KernelSguOutIdeal.main_v1) = v0 c
          ∧ r.2.mem ((c.tc : Thread Cert.KernelSguOutIdeal.nD Cert.KernelSguOutIdeal.τ).loc Cert.KernelSguOutIdeal.main_arg0) = m ((c.tc : Thread Cert.KernelSguOutIdeal.nD Cert.KernelSguOutIdeal.τ).loc Cert.KernelSguOutIdeal.main_arg0)
          ∧ r.2.mem ((c.tc : Thread Cert.KernelSguOutIdeal.nD Cert.KernelSguOutIdeal.τ).loc Cert.KernelSguOutIdeal.main_arg1) = m ((c.tc : Thread Cert.KernelSguOutIdeal.nD Cert.KernelSguOutIdeal.τ).loc Cert.KernelSguOutIdeal.main_arg1)
          ∧ r.2.mem ((c.tc : Thread Cert.KernelSguOutIdeal.nD Cert.KernelSguOutIdeal.τ).loc Cert.KernelSguOutIdeal.main_arg2) = m ((c.tc : Thread Cert.KernelSguOutIdeal.nD Cert.KernelSguOutIdeal.τ).loc Cert.KernelSguOutIdeal.main_arg2)
          ∧ r.2.mem ((c.tc : Thread Cert.KernelSguOutIdeal.nD Cert.KernelSguOutIdeal.τ).loc Cert.KernelSguOutIdeal.main_arg3) = m ((c.tc : Thread Cert.KernelSguOutIdeal.nD Cert.KernelSguOutIdeal.τ).loc Cert.KernelSguOutIdeal.main_arg3))
      ∧ θ_run (Cert.ReferenceSguOutIdeal.defs (F := Ideal)) (onTc (τ := Cert.ReferenceSguOutIdeal.τ) (Cert.ReferenceSguOutIdeal.main (F := Ideal))) ⟨m', fun _ => 0, g'⟩ (fun r => ∀ c : Dev Cert.ReferenceSguOutIdeal.nD,
          r.2.mem ((c.tc : Thread Cert.ReferenceSguOutIdeal.nD Cert.ReferenceSguOutIdeal.τ).loc Cert.ReferenceSguOutIdeal.main_v9) = v0 c
          ∧ r.2.mem ((c.tc : Thread Cert.ReferenceSguOutIdeal.nD Cert.ReferenceSguOutIdeal.τ).loc Cert.ReferenceSguOutIdeal.main_arg0) = m' ((c.tc : Thread Cert.ReferenceSguOutIdeal.nD Cert.ReferenceSguOutIdeal.τ).loc Cert.ReferenceSguOutIdeal.main_arg0)
          ∧ r.2.mem ((c.tc : Thread Cert.ReferenceSguOutIdeal.nD Cert.ReferenceSguOutIdeal.τ).loc Cert.ReferenceSguOutIdeal.main_arg1) = m' ((c.tc : Thread Cert.ReferenceSguOutIdeal.nD Cert.ReferenceSguOutIdeal.τ).loc Cert.ReferenceSguOutIdeal.main_arg1)
          ∧ r.2.mem ((c.tc : Thread Cert.ReferenceSguOutIdeal.nD Cert.ReferenceSguOutIdeal.τ).loc Cert.ReferenceSguOutIdeal.main_arg2) = m' ((c.tc : Thread Cert.ReferenceSguOutIdeal.nD Cert.ReferenceSguOutIdeal.τ).loc Cert.ReferenceSguOutIdeal.main_arg2)
          ∧ r.2.mem ((c.tc : Thread Cert.ReferenceSguOutIdeal.nD Cert.ReferenceSguOutIdeal.τ).loc Cert.ReferenceSguOutIdeal.main_arg3) = m' ((c.tc : Thread Cert.ReferenceSguOutIdeal.nD Cert.ReferenceSguOutIdeal.τ).loc Cert.ReferenceSguOutIdeal.main_arg3))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)) →
    ∃ (v0 : (c : Dev Cert.KernelGluIdeal.nD) → Buf (Elt Ideal) ((c.tc : Thread Cert.KernelGluIdeal.nD Cert.KernelGluIdeal.τ).loc Cert.KernelGluIdeal.main_v3)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v3) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v15) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)) →
    ∃ (v0 : (c : Dev Cert.KernelQkvIdeal.nD) → Buf (Elt Ideal) ((c.tc : Thread Cert.KernelQkvIdeal.nD Cert.KernelQkvIdeal.τ).loc Cert.KernelQkvIdeal.main_v3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v3) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v6) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2))

def preserves_KernelConvOut_KernelConvOutIdeal : Prop :=
  True

def algebraic_KernelConvOutIdeal_ReferenceConvOutIdeal [hKernelConvOutIdeal : Cert.KernelConvOutIdeal.Facts] [hReferenceConvOutIdeal : Cert.ReferenceConvOutIdeal.Facts] : Prop :=
  ∀ (m : (ℓ : Loc Cert.KernelConvOutIdeal.nD Cert.KernelConvOutIdeal.τ Cert.KernelConvOutIdeal.sig) → Buf (Elt Ideal) ℓ) (g : Dev Cert.KernelConvOutIdeal.nD → PrngReg)
    (m' : (ℓ : Loc Cert.ReferenceConvOutIdeal.nD Cert.ReferenceConvOutIdeal.τ Cert.ReferenceConvOutIdeal.sig) → Buf (Elt Ideal) ℓ) (g' : Dev Cert.ReferenceConvOutIdeal.nD → PrngReg), Pre_KernelConvOutIdeal m →
    (∀ c : Dev Cert.KernelConvOutIdeal.nD,
      m' ((c.tc : Thread Cert.ReferenceConvOutIdeal.nD Cert.ReferenceConvOutIdeal.τ).loc Cert.ReferenceConvOutIdeal.main_arg0) = m ((c.tc : Thread Cert.KernelConvOutIdeal.nD Cert.KernelConvOutIdeal.τ).loc Cert.KernelConvOutIdeal.main_arg0)
      ∧ m' ((c.tc : Thread Cert.ReferenceConvOutIdeal.nD Cert.ReferenceConvOutIdeal.τ).loc Cert.ReferenceConvOutIdeal.main_arg1) = m ((c.tc : Thread Cert.KernelConvOutIdeal.nD Cert.KernelConvOutIdeal.τ).loc Cert.KernelConvOutIdeal.main_arg1)
      ∧ m' ((c.tc : Thread Cert.ReferenceConvOutIdeal.nD Cert.ReferenceConvOutIdeal.τ).loc Cert.ReferenceConvOutIdeal.main_arg2) = m ((c.tc : Thread Cert.KernelConvOutIdeal.nD Cert.KernelConvOutIdeal.τ).loc Cert.KernelConvOutIdeal.main_arg2)
      ∧ m' ((c.tc : Thread Cert.ReferenceConvOutIdeal.nD Cert.ReferenceConvOutIdeal.τ).loc Cert.ReferenceConvOutIdeal.main_arg3) = m ((c.tc : Thread Cert.KernelConvOutIdeal.nD Cert.KernelConvOutIdeal.τ).loc Cert.KernelConvOutIdeal.main_arg3)
      ∧ m' ((c.tc : Thread Cert.ReferenceConvOutIdeal.nD Cert.ReferenceConvOutIdeal.τ).loc Cert.ReferenceConvOutIdeal.main_arg4) = m ((c.tc : Thread Cert.KernelConvOutIdeal.nD Cert.KernelConvOutIdeal.τ).loc Cert.KernelConvOutIdeal.main_arg4)) →
    ∃ (v0 : (c : Dev Cert.KernelConvOutIdeal.nD) → Buf (Elt Ideal) ((c.tc : Thread Cert.KernelConvOutIdeal.nD Cert.KernelConvOutIdeal.τ).loc Cert.KernelConvOutIdeal.main_v3)),
      θ_run (Cert.KernelConvOutIdeal.defs (F := Ideal)) (onTc (τ := Cert.KernelConvOutIdeal.τ) (Cert.KernelConvOutIdeal.main (F := Ideal))) ⟨m, fun _ => 0, g⟩ (fun r => ∀ c : Dev Cert.KernelConvOutIdeal.nD,
          r.2.mem ((c.tc : Thread Cert.KernelConvOutIdeal.nD Cert.KernelConvOutIdeal.τ).loc Cert.KernelConvOutIdeal.main_v3) = v0 c
          ∧ r.2.mem ((c.tc : Thread Cert.KernelConvOutIdeal.nD Cert.KernelConvOutIdeal.τ).loc Cert.KernelConvOutIdeal.main_arg0) = m ((c.tc : Thread Cert.KernelConvOutIdeal.nD Cert.KernelConvOutIdeal.τ).loc Cert.KernelConvOutIdeal.main_arg0)
          ∧ r.2.mem ((c.tc : Thread Cert.KernelConvOutIdeal.nD Cert.KernelConvOutIdeal.τ).loc Cert.KernelConvOutIdeal.main_arg1) = m ((c.tc : Thread Cert.KernelConvOutIdeal.nD Cert.KernelConvOutIdeal.τ).loc Cert.KernelConvOutIdeal.main_arg1)
          ∧ r.2.mem ((c.tc : Thread Cert.KernelConvOutIdeal.nD Cert.KernelConvOutIdeal.τ).loc Cert.KernelConvOutIdeal.main_arg2) = m ((c.tc : Thread Cert.KernelConvOutIdeal.nD Cert.KernelConvOutIdeal.τ).loc Cert.KernelConvOutIdeal.main_arg2)
          ∧ r.2.mem ((c.tc : Thread Cert.KernelConvOutIdeal.nD Cert.KernelConvOutIdeal.τ).loc Cert.KernelConvOutIdeal.main_arg3) = m ((c.tc : Thread Cert.KernelConvOutIdeal.nD Cert.KernelConvOutIdeal.τ).loc Cert.KernelConvOutIdeal.main_arg3)
          ∧ r.2.mem ((c.tc : Thread Cert.KernelConvOutIdeal.nD Cert.KernelConvOutIdeal.τ).loc Cert.KernelConvOutIdeal.main_arg4) = m ((c.tc : Thread Cert.KernelConvOutIdeal.nD Cert.KernelConvOutIdeal.τ).loc Cert.KernelConvOutIdeal.main_arg4))
      ∧ θ_run (Cert.ReferenceConvOutIdeal.defs (F := Ideal)) (onTc (τ := Cert.ReferenceConvOutIdeal.τ) (Cert.ReferenceConvOutIdeal.main (F := Ideal))) ⟨m', fun _ => 0, g'⟩ (fun r => ∀ c : Dev Cert.ReferenceConvOutIdeal.nD,
          r.2.mem ((c.tc : Thread Cert.ReferenceConvOutIdeal.nD Cert.ReferenceConvOutIdeal.τ).loc Cert.ReferenceConvOutIdeal.main_v12) = v0 c
          ∧ r.2.mem ((c.tc : Thread Cert.ReferenceConvOutIdeal.nD Cert.ReferenceConvOutIdeal.τ).loc Cert.ReferenceConvOutIdeal.main_arg0) = m' ((c.tc : Thread Cert.ReferenceConvOutIdeal.nD Cert.ReferenceConvOutIdeal.τ).loc Cert.ReferenceConvOutIdeal.main_arg0)
          ∧ r.2.mem ((c.tc : Thread Cert.ReferenceConvOutIdeal.nD Cert.ReferenceConvOutIdeal.τ).loc Cert.ReferenceConvOutIdeal.main_arg1) = m' ((c.tc : Thread Cert.ReferenceConvOutIdeal.nD Cert.ReferenceConvOutIdeal.τ).loc Cert.ReferenceConvOutIdeal.main_arg1)
          ∧ r.2.mem ((c.tc : Thread Cert.ReferenceConvOutIdeal.nD Cert.ReferenceConvOutIdeal.τ).loc Cert.ReferenceConvOutIdeal.main_arg2) = m' ((c.tc : Thread Cert.ReferenceConvOutIdeal.nD Cert.ReferenceConvOutIdeal.τ).loc Cert.ReferenceConvOutIdeal.main_arg2)
          ∧ r.2.mem ((c.tc : Thread Cert.ReferenceConvOutIdeal.nD Cert.ReferenceConvOutIdeal.τ).loc Cert.ReferenceConvOutIdeal.main_arg3) = m' ((c.tc : Thread Cert.ReferenceConvOutIdeal.nD Cert.ReferenceConvOutIdeal.τ).loc Cert.ReferenceConvOutIdeal.main_arg3)
          ∧ r.2.mem ((c.tc : Thread Cert.ReferenceConvOutIdeal.nD Cert.ReferenceConvOutIdeal.τ).loc Cert.ReferenceConvOutIdeal.main_arg4) = m' ((c.tc : Thread Cert.ReferenceConvOutIdeal.nD Cert.ReferenceConvOutIdeal.τ).loc Cert.ReferenceConvOutIdeal.main_arg4))

def preserves_KernelAttnOut_KernelAttnOutIdeal : Prop :=
  True

def algebraic_KernelAttnOutIdeal_ReferenceAttnOutIdeal [hKernelAttnOutIdeal : Cert.KernelAttnOutIdeal.Facts] [hReferenceAttnOutIdeal : Cert.ReferenceAttnOutIdeal.Facts] : Prop :=
  ∀ (m : (ℓ : Loc Cert.KernelAttnOutIdeal.nD Cert.KernelAttnOutIdeal.τ Cert.KernelAttnOutIdeal.sig) → Buf (Elt Ideal) ℓ) (g : Dev Cert.KernelAttnOutIdeal.nD → PrngReg)
    (m' : (ℓ : Loc Cert.ReferenceAttnOutIdeal.nD Cert.ReferenceAttnOutIdeal.τ Cert.ReferenceAttnOutIdeal.sig) → Buf (Elt Ideal) ℓ) (g' : Dev Cert.ReferenceAttnOutIdeal.nD → PrngReg), Pre_KernelAttnOutIdeal m →
    (∀ c : Dev Cert.KernelAttnOutIdeal.nD,
      m' ((c.tc : Thread Cert.ReferenceAttnOutIdeal.nD Cert.ReferenceAttnOutIdeal.τ).loc Cert.ReferenceAttnOutIdeal.main_arg0) = m ((c.tc : Thread Cert.KernelAttnOutIdeal.nD Cert.KernelAttnOutIdeal.τ).loc Cert.KernelAttnOutIdeal.main_arg0)
      ∧ m' ((c.tc : Thread Cert.ReferenceAttnOutIdeal.nD Cert.ReferenceAttnOutIdeal.τ).loc Cert.ReferenceAttnOutIdeal.main_arg1) = m ((c.tc : Thread Cert.KernelAttnOutIdeal.nD Cert.KernelAttnOutIdeal.τ).loc Cert.KernelAttnOutIdeal.main_arg1)
      ∧ m' ((c.tc : Thread Cert.ReferenceAttnOutIdeal.nD Cert.ReferenceAttnOutIdeal.τ).loc Cert.ReferenceAttnOutIdeal.main_arg2) = m ((c.tc : Thread Cert.KernelAttnOutIdeal.nD Cert.KernelAttnOutIdeal.τ).loc Cert.KernelAttnOutIdeal.main_arg2)
      ∧ m' ((c.tc : Thread Cert.ReferenceAttnOutIdeal.nD Cert.ReferenceAttnOutIdeal.τ).loc Cert.ReferenceAttnOutIdeal.main_arg3) = m ((c.tc : Thread Cert.KernelAttnOutIdeal.nD Cert.KernelAttnOutIdeal.τ).loc Cert.KernelAttnOutIdeal.main_arg3)) →
    ∃ (v0 : (c : Dev Cert.KernelAttnOutIdeal.nD) → Buf (Elt Ideal) ((c.tc : Thread Cert.KernelAttnOutIdeal.nD Cert.KernelAttnOutIdeal.τ).loc Cert.KernelAttnOutIdeal.main_v1)),
      θ_run (Cert.KernelAttnOutIdeal.defs (F := Ideal)) (onTc (τ := Cert.KernelAttnOutIdeal.τ) (Cert.KernelAttnOutIdeal.main (F := Ideal))) ⟨m, fun _ => 0, g⟩ (fun r => ∀ c : Dev Cert.KernelAttnOutIdeal.nD,
          r.2.mem ((c.tc : Thread Cert.KernelAttnOutIdeal.nD Cert.KernelAttnOutIdeal.τ).loc Cert.KernelAttnOutIdeal.main_v1) = v0 c
          ∧ r.2.mem ((c.tc : Thread Cert.KernelAttnOutIdeal.nD Cert.KernelAttnOutIdeal.τ).loc Cert.KernelAttnOutIdeal.main_arg0) = m ((c.tc : Thread Cert.KernelAttnOutIdeal.nD Cert.KernelAttnOutIdeal.τ).loc Cert.KernelAttnOutIdeal.main_arg0)
          ∧ r.2.mem ((c.tc : Thread Cert.KernelAttnOutIdeal.nD Cert.KernelAttnOutIdeal.τ).loc Cert.KernelAttnOutIdeal.main_arg1) = m ((c.tc : Thread Cert.KernelAttnOutIdeal.nD Cert.KernelAttnOutIdeal.τ).loc Cert.KernelAttnOutIdeal.main_arg1)
          ∧ r.2.mem ((c.tc : Thread Cert.KernelAttnOutIdeal.nD Cert.KernelAttnOutIdeal.τ).loc Cert.KernelAttnOutIdeal.main_arg2) = m ((c.tc : Thread Cert.KernelAttnOutIdeal.nD Cert.KernelAttnOutIdeal.τ).loc Cert.KernelAttnOutIdeal.main_arg2)
          ∧ r.2.mem ((c.tc : Thread Cert.KernelAttnOutIdeal.nD Cert.KernelAttnOutIdeal.τ).loc Cert.KernelAttnOutIdeal.main_arg3) = m ((c.tc : Thread Cert.KernelAttnOutIdeal.nD Cert.KernelAttnOutIdeal.τ).loc Cert.KernelAttnOutIdeal.main_arg3))
      ∧ θ_run (Cert.ReferenceAttnOutIdeal.defs (F := Ideal)) (onTc (τ := Cert.ReferenceAttnOutIdeal.τ) (Cert.ReferenceAttnOutIdeal.main (F := Ideal))) ⟨m', fun _ => 0, g'⟩ (fun r => ∀ c : Dev Cert.ReferenceAttnOutIdeal.nD,
          r.2.mem ((c.tc : Thread Cert.ReferenceAttnOutIdeal.nD Cert.ReferenceAttnOutIdeal.τ).loc Cert.ReferenceAttnOutIdeal.main_v8) = v0 c
          ∧ r.2.mem ((c.tc : Thread Cert.ReferenceAttnOutIdeal.nD Cert.ReferenceAttnOutIdeal.τ).loc Cert.ReferenceAttnOutIdeal.main_arg0) = m' ((c.tc : Thread Cert.ReferenceAttnOutIdeal.nD Cert.ReferenceAttnOutIdeal.τ).loc Cert.ReferenceAttnOutIdeal.main_arg0)
          ∧ r.2.mem ((c.tc : Thread Cert.ReferenceAttnOutIdeal.nD Cert.ReferenceAttnOutIdeal.τ).loc Cert.ReferenceAttnOutIdeal.main_arg1) = m' ((c.tc : Thread Cert.ReferenceAttnOutIdeal.nD Cert.ReferenceAttnOutIdeal.τ).loc Cert.ReferenceAttnOutIdeal.main_arg1)
          ∧ r.2.mem ((c.tc : Thread Cert.ReferenceAttnOutIdeal.nD Cert.ReferenceAttnOutIdeal.τ).loc Cert.ReferenceAttnOutIdeal.main_arg2) = m' ((c.tc : Thread Cert.ReferenceAttnOutIdeal.nD Cert.ReferenceAttnOutIdeal.τ).loc Cert.ReferenceAttnOutIdeal.main_arg2)
          ∧ r.2.mem ((c.tc : Thread Cert.ReferenceAttnOutIdeal.nD Cert.ReferenceAttnOutIdeal.τ).loc Cert.ReferenceAttnOutIdeal.main_arg3) = m' ((c.tc : Thread Cert.ReferenceAttnOutIdeal.nD Cert.ReferenceAttnOutIdeal.τ).loc Cert.ReferenceAttnOutIdeal.main_arg3))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v19) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelSguMix_KernelSguMixIdeal : Prop :=
  True

def algebraic_KernelSguMixIdeal_ReferenceSguMixIdeal [hKernelSguMixIdeal : Cert.KernelSguMixIdeal.Facts] [hReferenceSguMixIdeal : Cert.ReferenceSguMixIdeal.Facts] : Prop :=
  ∀ (m : (ℓ : Loc Cert.KernelSguMixIdeal.nD Cert.KernelSguMixIdeal.τ Cert.KernelSguMixIdeal.sig) → Buf (Elt Ideal) ℓ) (g : Dev Cert.KernelSguMixIdeal.nD → PrngReg)
    (m' : (ℓ : Loc Cert.ReferenceSguMixIdeal.nD Cert.ReferenceSguMixIdeal.τ Cert.ReferenceSguMixIdeal.sig) → Buf (Elt Ideal) ℓ) (g' : Dev Cert.ReferenceSguMixIdeal.nD → PrngReg), Pre_KernelSguMixIdeal m →
    (∀ c : Dev Cert.KernelSguMixIdeal.nD,
      m' ((c.tc : Thread Cert.ReferenceSguMixIdeal.nD Cert.ReferenceSguMixIdeal.τ).loc Cert.ReferenceSguMixIdeal.main_arg0) = m ((c.tc : Thread Cert.KernelSguMixIdeal.nD Cert.KernelSguMixIdeal.τ).loc Cert.KernelSguMixIdeal.main_arg0)
      ∧ m' ((c.tc : Thread Cert.ReferenceSguMixIdeal.nD Cert.ReferenceSguMixIdeal.τ).loc Cert.ReferenceSguMixIdeal.main_arg1) = m ((c.tc : Thread Cert.KernelSguMixIdeal.nD Cert.KernelSguMixIdeal.τ).loc Cert.KernelSguMixIdeal.main_arg1)
      ∧ m' ((c.tc : Thread Cert.ReferenceSguMixIdeal.nD Cert.ReferenceSguMixIdeal.τ).loc Cert.ReferenceSguMixIdeal.main_arg2) = m ((c.tc : Thread Cert.KernelSguMixIdeal.nD Cert.KernelSguMixIdeal.τ).loc Cert.KernelSguMixIdeal.main_arg2)
      ∧ m' ((c.tc : Thread Cert.ReferenceSguMixIdeal.nD Cert.ReferenceSguMixIdeal.τ).loc Cert.ReferenceSguMixIdeal.main_arg3) = m ((c.tc : Thread Cert.KernelSguMixIdeal.nD Cert.KernelSguMixIdeal.τ).loc Cert.KernelSguMixIdeal.main_arg3)
      ∧ m' ((c.tc : Thread Cert.ReferenceSguMixIdeal.nD Cert.ReferenceSguMixIdeal.τ).loc Cert.ReferenceSguMixIdeal.main_arg4) = m ((c.tc : Thread Cert.KernelSguMixIdeal.nD Cert.KernelSguMixIdeal.τ).loc Cert.KernelSguMixIdeal.main_arg4)
      ∧ m' ((c.tc : Thread Cert.ReferenceSguMixIdeal.nD Cert.ReferenceSguMixIdeal.τ).loc Cert.ReferenceSguMixIdeal.main_arg5) = m ((c.tc : Thread Cert.KernelSguMixIdeal.nD Cert.KernelSguMixIdeal.τ).loc Cert.KernelSguMixIdeal.main_arg5)) →
    ∃ (v0 : (c : Dev Cert.KernelSguMixIdeal.nD) → Buf (Elt Ideal) ((c.tc : Thread Cert.KernelSguMixIdeal.nD Cert.KernelSguMixIdeal.τ).loc Cert.KernelSguMixIdeal.main_v12)),
      θ_run (Cert.KernelSguMixIdeal.defs (F := Ideal)) (onTc (τ := Cert.KernelSguMixIdeal.τ) (Cert.KernelSguMixIdeal.main (F := Ideal))) ⟨m, fun _ => 0, g⟩ (fun r => ∀ c : Dev Cert.KernelSguMixIdeal.nD,
          r.2.mem ((c.tc : Thread Cert.KernelSguMixIdeal.nD Cert.KernelSguMixIdeal.τ).loc Cert.KernelSguMixIdeal.main_v12) = v0 c
          ∧ r.2.mem ((c.tc : Thread Cert.KernelSguMixIdeal.nD Cert.KernelSguMixIdeal.τ).loc Cert.KernelSguMixIdeal.main_arg0) = m ((c.tc : Thread Cert.KernelSguMixIdeal.nD Cert.KernelSguMixIdeal.τ).loc Cert.KernelSguMixIdeal.main_arg0)
          ∧ r.2.mem ((c.tc : Thread Cert.KernelSguMixIdeal.nD Cert.KernelSguMixIdeal.τ).loc Cert.KernelSguMixIdeal.main_arg1) = m ((c.tc : Thread Cert.KernelSguMixIdeal.nD Cert.KernelSguMixIdeal.τ).loc Cert.KernelSguMixIdeal.main_arg1)
          ∧ r.2.mem ((c.tc : Thread Cert.KernelSguMixIdeal.nD Cert.KernelSguMixIdeal.τ).loc Cert.KernelSguMixIdeal.main_arg2) = m ((c.tc : Thread Cert.KernelSguMixIdeal.nD Cert.KernelSguMixIdeal.τ).loc Cert.KernelSguMixIdeal.main_arg2)
          ∧ r.2.mem ((c.tc : Thread Cert.KernelSguMixIdeal.nD Cert.KernelSguMixIdeal.τ).loc Cert.KernelSguMixIdeal.main_arg3) = m ((c.tc : Thread Cert.KernelSguMixIdeal.nD Cert.KernelSguMixIdeal.τ).loc Cert.KernelSguMixIdeal.main_arg3)
          ∧ r.2.mem ((c.tc : Thread Cert.KernelSguMixIdeal.nD Cert.KernelSguMixIdeal.τ).loc Cert.KernelSguMixIdeal.main_arg4) = m ((c.tc : Thread Cert.KernelSguMixIdeal.nD Cert.KernelSguMixIdeal.τ).loc Cert.KernelSguMixIdeal.main_arg4)
          ∧ r.2.mem ((c.tc : Thread Cert.KernelSguMixIdeal.nD Cert.KernelSguMixIdeal.τ).loc Cert.KernelSguMixIdeal.main_arg5) = m ((c.tc : Thread Cert.KernelSguMixIdeal.nD Cert.KernelSguMixIdeal.τ).loc Cert.KernelSguMixIdeal.main_arg5))
      ∧ θ_run (Cert.ReferenceSguMixIdeal.defs (F := Ideal)) (onTc (τ := Cert.ReferenceSguMixIdeal.τ) (Cert.ReferenceSguMixIdeal.main (F := Ideal))) ⟨m', fun _ => 0, g'⟩ (fun r => ∀ c : Dev Cert.ReferenceSguMixIdeal.nD,
          r.2.mem ((c.tc : Thread Cert.ReferenceSguMixIdeal.nD Cert.ReferenceSguMixIdeal.τ).loc Cert.ReferenceSguMixIdeal.main_v46) = v0 c
          ∧ r.2.mem ((c.tc : Thread Cert.ReferenceSguMixIdeal.nD Cert.ReferenceSguMixIdeal.τ).loc Cert.ReferenceSguMixIdeal.main_arg0) = m' ((c.tc : Thread Cert.ReferenceSguMixIdeal.nD Cert.ReferenceSguMixIdeal.τ).loc Cert.ReferenceSguMixIdeal.main_arg0)
          ∧ r.2.mem ((c.tc : Thread Cert.ReferenceSguMixIdeal.nD Cert.ReferenceSguMixIdeal.τ).loc Cert.ReferenceSguMixIdeal.main_arg1) = m' ((c.tc : Thread Cert.ReferenceSguMixIdeal.nD Cert.ReferenceSguMixIdeal.τ).loc Cert.ReferenceSguMixIdeal.main_arg1)
          ∧ r.2.mem ((c.tc : Thread Cert.ReferenceSguMixIdeal.nD Cert.ReferenceSguMixIdeal.τ).loc Cert.ReferenceSguMixIdeal.main_arg2) = m' ((c.tc : Thread Cert.ReferenceSguMixIdeal.nD Cert.ReferenceSguMixIdeal.τ).loc Cert.ReferenceSguMixIdeal.main_arg2)
          ∧ r.2.mem ((c.tc : Thread Cert.ReferenceSguMixIdeal.nD Cert.ReferenceSguMixIdeal.τ).loc Cert.ReferenceSguMixIdeal.main_arg3) = m' ((c.tc : Thread Cert.ReferenceSguMixIdeal.nD Cert.ReferenceSguMixIdeal.τ).loc Cert.ReferenceSguMixIdeal.main_arg3)
          ∧ r.2.mem ((c.tc : Thread Cert.ReferenceSguMixIdeal.nD Cert.ReferenceSguMixIdeal.τ).loc Cert.ReferenceSguMixIdeal.main_arg4) = m' ((c.tc : Thread Cert.ReferenceSguMixIdeal.nD Cert.ReferenceSguMixIdeal.τ).loc Cert.ReferenceSguMixIdeal.main_arg4)
          ∧ r.2.mem ((c.tc : Thread Cert.ReferenceSguMixIdeal.nD Cert.ReferenceSguMixIdeal.τ).loc Cert.ReferenceSguMixIdeal.main_arg5) = m' ((c.tc : Thread Cert.ReferenceSguMixIdeal.nD Cert.ReferenceSguMixIdeal.τ).loc Cert.ReferenceSguMixIdeal.main_arg5))

def preserves_KernelSguMixSample_KernelSguMixSampleIdeal : Prop :=
  True

def algebraic_KernelSguMixSampleIdeal_ReferenceSguMixSampleIdeal [hKernelSguMixSampleIdeal : Cert.KernelSguMixSampleIdeal.Facts] [hReferenceSguMixSampleIdeal : Cert.ReferenceSguMixSampleIdeal.Facts] : Prop :=
  ∀ (m : (ℓ : Loc Cert.KernelSguMixSampleIdeal.nD Cert.KernelSguMixSampleIdeal.τ Cert.KernelSguMixSampleIdeal.sig) → Buf (Elt Ideal) ℓ) (g : Dev Cert.KernelSguMixSampleIdeal.nD → PrngReg)
    (m' : (ℓ : Loc Cert.ReferenceSguMixSampleIdeal.nD Cert.ReferenceSguMixSampleIdeal.τ Cert.ReferenceSguMixSampleIdeal.sig) → Buf (Elt Ideal) ℓ) (g' : Dev Cert.ReferenceSguMixSampleIdeal.nD → PrngReg), Pre_KernelSguMixSampleIdeal m →
    (∀ c : Dev Cert.KernelSguMixSampleIdeal.nD,
      m' ((c.tc : Thread Cert.ReferenceSguMixSampleIdeal.nD Cert.ReferenceSguMixSampleIdeal.τ).loc Cert.ReferenceSguMixSampleIdeal.main_arg0) = m ((c.tc : Thread Cert.KernelSguMixSampleIdeal.nD Cert.KernelSguMixSampleIdeal.τ).loc Cert.KernelSguMixSampleIdeal.main_arg0)
      ∧ m' ((c.tc : Thread Cert.ReferenceSguMixSampleIdeal.nD Cert.ReferenceSguMixSampleIdeal.τ).loc Cert.ReferenceSguMixSampleIdeal.main_arg1) = m ((c.tc : Thread Cert.KernelSguMixSampleIdeal.nD Cert.KernelSguMixSampleIdeal.τ).loc Cert.KernelSguMixSampleIdeal.main_arg1)
      ∧ m' ((c.tc : Thread Cert.ReferenceSguMixSampleIdeal.nD Cert.ReferenceSguMixSampleIdeal.τ).loc Cert.ReferenceSguMixSampleIdeal.main_arg2) = m ((c.tc : Thread Cert.KernelSguMixSampleIdeal.nD Cert.KernelSguMixSampleIdeal.τ).loc Cert.KernelSguMixSampleIdeal.main_arg2)
      ∧ m' ((c.tc : Thread Cert.ReferenceSguMixSampleIdeal.nD Cert.ReferenceSguMixSampleIdeal.τ).loc Cert.ReferenceSguMixSampleIdeal.main_arg3) = m ((c.tc : Thread Cert.KernelSguMixSampleIdeal.nD Cert.KernelSguMixSampleIdeal.τ).loc Cert.KernelSguMixSampleIdeal.main_arg3)
      ∧ m' ((c.tc : Thread Cert.ReferenceSguMixSampleIdeal.nD Cert.ReferenceSguMixSampleIdeal.τ).loc Cert.ReferenceSguMixSampleIdeal.main_arg4) = m ((c.tc : Thread Cert.KernelSguMixSampleIdeal.nD Cert.KernelSguMixSampleIdeal.τ).loc Cert.KernelSguMixSampleIdeal.main_arg4)
      ∧ m' ((c.tc : Thread Cert.ReferenceSguMixSampleIdeal.nD Cert.ReferenceSguMixSampleIdeal.τ).loc Cert.ReferenceSguMixSampleIdeal.main_arg5) = m ((c.tc : Thread Cert.KernelSguMixSampleIdeal.nD Cert.KernelSguMixSampleIdeal.τ).loc Cert.KernelSguMixSampleIdeal.main_arg5)) →
    ∃ (v0 : (c : Dev Cert.KernelSguMixSampleIdeal.nD) → Buf (Elt Ideal) ((c.tc : Thread Cert.KernelSguMixSampleIdeal.nD Cert.KernelSguMixSampleIdeal.τ).loc Cert.KernelSguMixSampleIdeal.main_v29_0)) (v1 : (c : Dev Cert.KernelSguMixSampleIdeal.nD) → Buf (Elt Ideal) ((c.tc : Thread Cert.KernelSguMixSampleIdeal.nD Cert.KernelSguMixSampleIdeal.τ).loc Cert.KernelSguMixSampleIdeal.main_v29_1)),
      θ_run (Cert.KernelSguMixSampleIdeal.defs (F := Ideal)) (onTc (τ := Cert.KernelSguMixSampleIdeal.τ) (Cert.KernelSguMixSampleIdeal.main (F := Ideal))) ⟨m, fun _ => 0, g⟩ (fun r => ∀ c : Dev Cert.KernelSguMixSampleIdeal.nD,
          r.2.mem ((c.tc : Thread Cert.KernelSguMixSampleIdeal.nD Cert.KernelSguMixSampleIdeal.τ).loc Cert.KernelSguMixSampleIdeal.main_v29_0) = v0 c
          ∧ r.2.mem ((c.tc : Thread Cert.KernelSguMixSampleIdeal.nD Cert.KernelSguMixSampleIdeal.τ).loc Cert.KernelSguMixSampleIdeal.main_v29_1) = v1 c
          ∧ r.2.mem ((c.tc : Thread Cert.KernelSguMixSampleIdeal.nD Cert.KernelSguMixSampleIdeal.τ).loc Cert.KernelSguMixSampleIdeal.main_arg0) = m ((c.tc : Thread Cert.KernelSguMixSampleIdeal.nD Cert.KernelSguMixSampleIdeal.τ).loc Cert.KernelSguMixSampleIdeal.main_arg0)
          ∧ r.2.mem ((c.tc : Thread Cert.KernelSguMixSampleIdeal.nD Cert.KernelSguMixSampleIdeal.τ).loc Cert.KernelSguMixSampleIdeal.main_arg1) = m ((c.tc : Thread Cert.KernelSguMixSampleIdeal.nD Cert.KernelSguMixSampleIdeal.τ).loc Cert.KernelSguMixSampleIdeal.main_arg1)
          ∧ r.2.mem ((c.tc : Thread Cert.KernelSguMixSampleIdeal.nD Cert.KernelSguMixSampleIdeal.τ).loc Cert.KernelSguMixSampleIdeal.main_arg2) = m ((c.tc : Thread Cert.KernelSguMixSampleIdeal.nD Cert.KernelSguMixSampleIdeal.τ).loc Cert.KernelSguMixSampleIdeal.main_arg2)
          ∧ r.2.mem ((c.tc : Thread Cert.KernelSguMixSampleIdeal.nD Cert.KernelSguMixSampleIdeal.τ).loc Cert.KernelSguMixSampleIdeal.main_arg3) = m ((c.tc : Thread Cert.KernelSguMixSampleIdeal.nD Cert.KernelSguMixSampleIdeal.τ).loc Cert.KernelSguMixSampleIdeal.main_arg3)
          ∧ r.2.mem ((c.tc : Thread Cert.KernelSguMixSampleIdeal.nD Cert.KernelSguMixSampleIdeal.τ).loc Cert.KernelSguMixSampleIdeal.main_arg4) = m ((c.tc : Thread Cert.KernelSguMixSampleIdeal.nD Cert.KernelSguMixSampleIdeal.τ).loc Cert.KernelSguMixSampleIdeal.main_arg4)
          ∧ r.2.mem ((c.tc : Thread Cert.KernelSguMixSampleIdeal.nD Cert.KernelSguMixSampleIdeal.τ).loc Cert.KernelSguMixSampleIdeal.main_arg5) = m ((c.tc : Thread Cert.KernelSguMixSampleIdeal.nD Cert.KernelSguMixSampleIdeal.τ).loc Cert.KernelSguMixSampleIdeal.main_arg5))
      ∧ θ_run (Cert.ReferenceSguMixSampleIdeal.defs (F := Ideal)) (onTc (τ := Cert.ReferenceSguMixSampleIdeal.τ) (Cert.ReferenceSguMixSampleIdeal.main (F := Ideal))) ⟨m', fun _ => 0, g'⟩ (fun r => ∀ c : Dev Cert.ReferenceSguMixSampleIdeal.nD,
          r.2.mem ((c.tc : Thread Cert.ReferenceSguMixSampleIdeal.nD Cert.ReferenceSguMixSampleIdeal.τ).loc Cert.ReferenceSguMixSampleIdeal.main_v48) = v0 c
          ∧ r.2.mem ((c.tc : Thread Cert.ReferenceSguMixSampleIdeal.nD Cert.ReferenceSguMixSampleIdeal.τ).loc Cert.ReferenceSguMixSampleIdeal.main_v23) = v1 c
          ∧ r.2.mem ((c.tc : Thread Cert.ReferenceSguMixSampleIdeal.nD Cert.ReferenceSguMixSampleIdeal.τ).loc Cert.ReferenceSguMixSampleIdeal.main_arg0) = m' ((c.tc : Thread Cert.ReferenceSguMixSampleIdeal.nD Cert.ReferenceSguMixSampleIdeal.τ).loc Cert.ReferenceSguMixSampleIdeal.main_arg0)
          ∧ r.2.mem ((c.tc : Thread Cert.ReferenceSguMixSampleIdeal.nD Cert.ReferenceSguMixSampleIdeal.τ).loc Cert.ReferenceSguMixSampleIdeal.main_arg1) = m' ((c.tc : Thread Cert.ReferenceSguMixSampleIdeal.nD Cert.ReferenceSguMixSampleIdeal.τ).loc Cert.ReferenceSguMixSampleIdeal.main_arg1)
          ∧ r.2.mem ((c.tc : Thread Cert.ReferenceSguMixSampleIdeal.nD Cert.ReferenceSguMixSampleIdeal.τ).loc Cert.ReferenceSguMixSampleIdeal.main_arg2) = m' ((c.tc : Thread Cert.ReferenceSguMixSampleIdeal.nD Cert.ReferenceSguMixSampleIdeal.τ).loc Cert.ReferenceSguMixSampleIdeal.main_arg2)
          ∧ r.2.mem ((c.tc : Thread Cert.ReferenceSguMixSampleIdeal.nD Cert.ReferenceSguMixSampleIdeal.τ).loc Cert.ReferenceSguMixSampleIdeal.main_arg3) = m' ((c.tc : Thread Cert.ReferenceSguMixSampleIdeal.nD Cert.ReferenceSguMixSampleIdeal.τ).loc Cert.ReferenceSguMixSampleIdeal.main_arg3)
          ∧ r.2.mem ((c.tc : Thread Cert.ReferenceSguMixSampleIdeal.nD Cert.ReferenceSguMixSampleIdeal.τ).loc Cert.ReferenceSguMixSampleIdeal.main_arg4) = m' ((c.tc : Thread Cert.ReferenceSguMixSampleIdeal.nD Cert.ReferenceSguMixSampleIdeal.τ).loc Cert.ReferenceSguMixSampleIdeal.main_arg4)
          ∧ r.2.mem ((c.tc : Thread Cert.ReferenceSguMixSampleIdeal.nD Cert.ReferenceSguMixSampleIdeal.τ).loc Cert.ReferenceSguMixSampleIdeal.main_arg5) = m' ((c.tc : Thread Cert.ReferenceSguMixSampleIdeal.nD Cert.ReferenceSguMixSampleIdeal.τ).loc Cert.ReferenceSguMixSampleIdeal.main_arg5))

def preserves_KernelNormSample_KernelNormSampleIdeal : Prop :=
  True

def algebraic_KernelNormSampleIdeal_ReferenceNormSampleIdeal [hKernelNormSampleIdeal : Cert.KernelNormSampleIdeal.Facts] [hReferenceNormSampleIdeal : Cert.ReferenceNormSampleIdeal.Facts] : Prop :=
  ∀ (m : (ℓ : Loc Cert.KernelNormSampleIdeal.nD Cert.KernelNormSampleIdeal.τ Cert.KernelNormSampleIdeal.sig) → Buf (Elt Ideal) ℓ) (g : Dev Cert.KernelNormSampleIdeal.nD → PrngReg)
    (m' : (ℓ : Loc Cert.ReferenceNormSampleIdeal.nD Cert.ReferenceNormSampleIdeal.τ Cert.ReferenceNormSampleIdeal.sig) → Buf (Elt Ideal) ℓ) (g' : Dev Cert.ReferenceNormSampleIdeal.nD → PrngReg), Pre_KernelNormSampleIdeal m →
    (∀ c : Dev Cert.KernelNormSampleIdeal.nD,
      m' ((c.tc : Thread Cert.ReferenceNormSampleIdeal.nD Cert.ReferenceNormSampleIdeal.τ).loc Cert.ReferenceNormSampleIdeal.main_arg0) = m ((c.tc : Thread Cert.KernelNormSampleIdeal.nD Cert.KernelNormSampleIdeal.τ).loc Cert.KernelNormSampleIdeal.main_arg0)
      ∧ m' ((c.tc : Thread Cert.ReferenceNormSampleIdeal.nD Cert.ReferenceNormSampleIdeal.τ).loc Cert.ReferenceNormSampleIdeal.main_arg1) = m ((c.tc : Thread Cert.KernelNormSampleIdeal.nD Cert.KernelNormSampleIdeal.τ).loc Cert.KernelNormSampleIdeal.main_arg1)
      ∧ m' ((c.tc : Thread Cert.ReferenceNormSampleIdeal.nD Cert.ReferenceNormSampleIdeal.τ).loc Cert.ReferenceNormSampleIdeal.main_arg2) = m ((c.tc : Thread Cert.KernelNormSampleIdeal.nD Cert.KernelNormSampleIdeal.τ).loc Cert.KernelNormSampleIdeal.main_arg2)
      ∧ m' ((c.tc : Thread Cert.ReferenceNormSampleIdeal.nD Cert.ReferenceNormSampleIdeal.τ).loc Cert.ReferenceNormSampleIdeal.main_arg3) = m ((c.tc : Thread Cert.KernelNormSampleIdeal.nD Cert.KernelNormSampleIdeal.τ).loc Cert.KernelNormSampleIdeal.main_arg3)) →
    ∃ (v0 : (c : Dev Cert.KernelNormSampleIdeal.nD) → Buf (Elt Ideal) ((c.tc : Thread Cert.KernelNormSampleIdeal.nD Cert.KernelNormSampleIdeal.τ).loc Cert.KernelNormSampleIdeal.main_v5)),
      θ_run (Cert.KernelNormSampleIdeal.defs (F := Ideal)) (onTc (τ := Cert.KernelNormSampleIdeal.τ) (Cert.KernelNormSampleIdeal.main (F := Ideal))) ⟨m, fun _ => 0, g⟩ (fun r => ∀ c : Dev Cert.KernelNormSampleIdeal.nD,
          r.2.mem ((c.tc : Thread Cert.KernelNormSampleIdeal.nD Cert.KernelNormSampleIdeal.τ).loc Cert.KernelNormSampleIdeal.main_v5) = v0 c
          ∧ r.2.mem ((c.tc : Thread Cert.KernelNormSampleIdeal.nD Cert.KernelNormSampleIdeal.τ).loc Cert.KernelNormSampleIdeal.main_arg0) = m ((c.tc : Thread Cert.KernelNormSampleIdeal.nD Cert.KernelNormSampleIdeal.τ).loc Cert.KernelNormSampleIdeal.main_arg0)
          ∧ r.2.mem ((c.tc : Thread Cert.KernelNormSampleIdeal.nD Cert.KernelNormSampleIdeal.τ).loc Cert.KernelNormSampleIdeal.main_arg1) = m ((c.tc : Thread Cert.KernelNormSampleIdeal.nD Cert.KernelNormSampleIdeal.τ).loc Cert.KernelNormSampleIdeal.main_arg1)
          ∧ r.2.mem ((c.tc : Thread Cert.KernelNormSampleIdeal.nD Cert.KernelNormSampleIdeal.τ).loc Cert.KernelNormSampleIdeal.main_arg2) = m ((c.tc : Thread Cert.KernelNormSampleIdeal.nD Cert.KernelNormSampleIdeal.τ).loc Cert.KernelNormSampleIdeal.main_arg2)
          ∧ r.2.mem ((c.tc : Thread Cert.KernelNormSampleIdeal.nD Cert.KernelNormSampleIdeal.τ).loc Cert.KernelNormSampleIdeal.main_arg3) = m ((c.tc : Thread Cert.KernelNormSampleIdeal.nD Cert.KernelNormSampleIdeal.τ).loc Cert.KernelNormSampleIdeal.main_arg3))
      ∧ θ_run (Cert.ReferenceNormSampleIdeal.defs (F := Ideal)) (onTc (τ := Cert.ReferenceNormSampleIdeal.τ) (Cert.ReferenceNormSampleIdeal.main (F := Ideal))) ⟨m', fun _ => 0, g'⟩ (fun r => ∀ c : Dev Cert.ReferenceNormSampleIdeal.nD,
          r.2.mem ((c.tc : Thread Cert.ReferenceNormSampleIdeal.nD Cert.ReferenceNormSampleIdeal.τ).loc Cert.ReferenceNormSampleIdeal.main_v19) = v0 c
          ∧ r.2.mem ((c.tc : Thread Cert.ReferenceNormSampleIdeal.nD Cert.ReferenceNormSampleIdeal.τ).loc Cert.ReferenceNormSampleIdeal.main_arg0) = m' ((c.tc : Thread Cert.ReferenceNormSampleIdeal.nD Cert.ReferenceNormSampleIdeal.τ).loc Cert.ReferenceNormSampleIdeal.main_arg0)
          ∧ r.2.mem ((c.tc : Thread Cert.ReferenceNormSampleIdeal.nD Cert.ReferenceNormSampleIdeal.τ).loc Cert.ReferenceNormSampleIdeal.main_arg1) = m' ((c.tc : Thread Cert.ReferenceNormSampleIdeal.nD Cert.ReferenceNormSampleIdeal.τ).loc Cert.ReferenceNormSampleIdeal.main_arg1)
          ∧ r.2.mem ((c.tc : Thread Cert.ReferenceNormSampleIdeal.nD Cert.ReferenceNormSampleIdeal.τ).loc Cert.ReferenceNormSampleIdeal.main_arg2) = m' ((c.tc : Thread Cert.ReferenceNormSampleIdeal.nD Cert.ReferenceNormSampleIdeal.τ).loc Cert.ReferenceNormSampleIdeal.main_arg2)
          ∧ r.2.mem ((c.tc : Thread Cert.ReferenceNormSampleIdeal.nD Cert.ReferenceNormSampleIdeal.τ).loc Cert.ReferenceNormSampleIdeal.main_arg3) = m' ((c.tc : Thread Cert.ReferenceNormSampleIdeal.nD Cert.ReferenceNormSampleIdeal.τ).loc Cert.ReferenceNormSampleIdeal.main_arg3))

def preserves_KernelGluSample_KernelGluSampleIdeal : Prop :=
  True

def algebraic_KernelGluSampleIdeal_ReferenceGluSampleIdeal [hKernelGluSampleIdeal : Cert.KernelGluSampleIdeal.Facts] [hReferenceGluSampleIdeal : Cert.ReferenceGluSampleIdeal.Facts] : Prop :=
  ∀ (m : (ℓ : Loc Cert.KernelGluSampleIdeal.nD Cert.KernelGluSampleIdeal.τ Cert.KernelGluSampleIdeal.sig) → Buf (Elt Ideal) ℓ) (g : Dev Cert.KernelGluSampleIdeal.nD → PrngReg)
    (m' : (ℓ : Loc Cert.ReferenceGluSampleIdeal.nD Cert.ReferenceGluSampleIdeal.τ Cert.ReferenceGluSampleIdeal.sig) → Buf (Elt Ideal) ℓ) (g' : Dev Cert.ReferenceGluSampleIdeal.nD → PrngReg), Pre_KernelGluSampleIdeal m →
    (∀ c : Dev Cert.KernelGluSampleIdeal.nD,
      m' ((c.tc : Thread Cert.ReferenceGluSampleIdeal.nD Cert.ReferenceGluSampleIdeal.τ).loc Cert.ReferenceGluSampleIdeal.main_arg0) = m ((c.tc : Thread Cert.KernelGluSampleIdeal.nD Cert.KernelGluSampleIdeal.τ).loc Cert.KernelGluSampleIdeal.main_arg0)
      ∧ m' ((c.tc : Thread Cert.ReferenceGluSampleIdeal.nD Cert.ReferenceGluSampleIdeal.τ).loc Cert.ReferenceGluSampleIdeal.main_arg1) = m ((c.tc : Thread Cert.KernelGluSampleIdeal.nD Cert.KernelGluSampleIdeal.τ).loc Cert.KernelGluSampleIdeal.main_arg1)
      ∧ m' ((c.tc : Thread Cert.ReferenceGluSampleIdeal.nD Cert.ReferenceGluSampleIdeal.τ).loc Cert.ReferenceGluSampleIdeal.main_arg2) = m ((c.tc : Thread Cert.KernelGluSampleIdeal.nD Cert.KernelGluSampleIdeal.τ).loc Cert.KernelGluSampleIdeal.main_arg2)) →
    ∃ (v0 : (c : Dev Cert.KernelGluSampleIdeal.nD) → Buf (Elt Ideal) ((c.tc : Thread Cert.KernelGluSampleIdeal.nD Cert.KernelGluSampleIdeal.τ).loc Cert.KernelGluSampleIdeal.main_v3)),
      θ_run (Cert.KernelGluSampleIdeal.defs (F := Ideal)) (onTc (τ := Cert.KernelGluSampleIdeal.τ) (Cert.KernelGluSampleIdeal.main (F := Ideal))) ⟨m, fun _ => 0, g⟩ (fun r => ∀ c : Dev Cert.KernelGluSampleIdeal.nD,
          r.2.mem ((c.tc : Thread Cert.KernelGluSampleIdeal.nD Cert.KernelGluSampleIdeal.τ).loc Cert.KernelGluSampleIdeal.main_v3) = v0 c
          ∧ r.2.mem ((c.tc : Thread Cert.KernelGluSampleIdeal.nD Cert.KernelGluSampleIdeal.τ).loc Cert.KernelGluSampleIdeal.main_arg0) = m ((c.tc : Thread Cert.KernelGluSampleIdeal.nD Cert.KernelGluSampleIdeal.τ).loc Cert.KernelGluSampleIdeal.main_arg0)
          ∧ r.2.mem ((c.tc : Thread Cert.KernelGluSampleIdeal.nD Cert.KernelGluSampleIdeal.τ).loc Cert.KernelGluSampleIdeal.main_arg1) = m ((c.tc : Thread Cert.KernelGluSampleIdeal.nD Cert.KernelGluSampleIdeal.τ).loc Cert.KernelGluSampleIdeal.main_arg1)
          ∧ r.2.mem ((c.tc : Thread Cert.KernelGluSampleIdeal.nD Cert.KernelGluSampleIdeal.τ).loc Cert.KernelGluSampleIdeal.main_arg2) = m ((c.tc : Thread Cert.KernelGluSampleIdeal.nD Cert.KernelGluSampleIdeal.τ).loc Cert.KernelGluSampleIdeal.main_arg2))
      ∧ θ_run (Cert.ReferenceGluSampleIdeal.defs (F := Ideal)) (onTc (τ := Cert.ReferenceGluSampleIdeal.τ) (Cert.ReferenceGluSampleIdeal.main (F := Ideal))) ⟨m', fun _ => 0, g'⟩ (fun r => ∀ c : Dev Cert.ReferenceGluSampleIdeal.nD,
          r.2.mem ((c.tc : Thread Cert.ReferenceGluSampleIdeal.nD Cert.ReferenceGluSampleIdeal.τ).loc Cert.ReferenceGluSampleIdeal.main_v15) = v0 c
          ∧ r.2.mem ((c.tc : Thread Cert.ReferenceGluSampleIdeal.nD Cert.ReferenceGluSampleIdeal.τ).loc Cert.ReferenceGluSampleIdeal.main_arg0) = m' ((c.tc : Thread Cert.ReferenceGluSampleIdeal.nD Cert.ReferenceGluSampleIdeal.τ).loc Cert.ReferenceGluSampleIdeal.main_arg0)
          ∧ r.2.mem ((c.tc : Thread Cert.ReferenceGluSampleIdeal.nD Cert.ReferenceGluSampleIdeal.τ).loc Cert.ReferenceGluSampleIdeal.main_arg1) = m' ((c.tc : Thread Cert.ReferenceGluSampleIdeal.nD Cert.ReferenceGluSampleIdeal.τ).loc Cert.ReferenceGluSampleIdeal.main_arg1)
          ∧ r.2.mem ((c.tc : Thread Cert.ReferenceGluSampleIdeal.nD Cert.ReferenceGluSampleIdeal.τ).loc Cert.ReferenceGluSampleIdeal.main_arg2) = m' ((c.tc : Thread Cert.ReferenceGluSampleIdeal.nD Cert.ReferenceGluSampleIdeal.τ).loc Cert.ReferenceGluSampleIdeal.main_arg2))

def preserves_KernelQkvSample_KernelQkvSampleIdeal : Prop :=
  True

def algebraic_KernelQkvSampleIdeal_ReferenceQkvSampleIdeal [hKernelQkvSampleIdeal : Cert.KernelQkvSampleIdeal.Facts] [hReferenceQkvSampleIdeal : Cert.ReferenceQkvSampleIdeal.Facts] : Prop :=
  ∀ (m : (ℓ : Loc Cert.KernelQkvSampleIdeal.nD Cert.KernelQkvSampleIdeal.τ Cert.KernelQkvSampleIdeal.sig) → Buf (Elt Ideal) ℓ) (g : Dev Cert.KernelQkvSampleIdeal.nD → PrngReg)
    (m' : (ℓ : Loc Cert.ReferenceQkvSampleIdeal.nD Cert.ReferenceQkvSampleIdeal.τ Cert.ReferenceQkvSampleIdeal.sig) → Buf (Elt Ideal) ℓ) (g' : Dev Cert.ReferenceQkvSampleIdeal.nD → PrngReg), Pre_KernelQkvSampleIdeal m →
    (∀ c : Dev Cert.KernelQkvSampleIdeal.nD,
      m' ((c.tc : Thread Cert.ReferenceQkvSampleIdeal.nD Cert.ReferenceQkvSampleIdeal.τ).loc Cert.ReferenceQkvSampleIdeal.main_arg0) = m ((c.tc : Thread Cert.KernelQkvSampleIdeal.nD Cert.KernelQkvSampleIdeal.τ).loc Cert.KernelQkvSampleIdeal.main_arg0)
      ∧ m' ((c.tc : Thread Cert.ReferenceQkvSampleIdeal.nD Cert.ReferenceQkvSampleIdeal.τ).loc Cert.ReferenceQkvSampleIdeal.main_arg1) = m ((c.tc : Thread Cert.KernelQkvSampleIdeal.nD Cert.KernelQkvSampleIdeal.τ).loc Cert.KernelQkvSampleIdeal.main_arg1)
      ∧ m' ((c.tc : Thread Cert.ReferenceQkvSampleIdeal.nD Cert.ReferenceQkvSampleIdeal.τ).loc Cert.ReferenceQkvSampleIdeal.main_arg2) = m ((c.tc : Thread Cert.KernelQkvSampleIdeal.nD Cert.KernelQkvSampleIdeal.τ).loc Cert.KernelQkvSampleIdeal.main_arg2)) →
    ∃ (v0 : (c : Dev Cert.KernelQkvSampleIdeal.nD) → Buf (Elt Ideal) ((c.tc : Thread Cert.KernelQkvSampleIdeal.nD Cert.KernelQkvSampleIdeal.τ).loc Cert.KernelQkvSampleIdeal.main_v3)),
      θ_run (Cert.KernelQkvSampleIdeal.defs (F := Ideal)) (onTc (τ := Cert.KernelQkvSampleIdeal.τ) (Cert.KernelQkvSampleIdeal.main (F := Ideal))) ⟨m, fun _ => 0, g⟩ (fun r => ∀ c : Dev Cert.KernelQkvSampleIdeal.nD,
          r.2.mem ((c.tc : Thread Cert.KernelQkvSampleIdeal.nD Cert.KernelQkvSampleIdeal.τ).loc Cert.KernelQkvSampleIdeal.main_v3) = v0 c
          ∧ r.2.mem ((c.tc : Thread Cert.KernelQkvSampleIdeal.nD Cert.KernelQkvSampleIdeal.τ).loc Cert.KernelQkvSampleIdeal.main_arg0) = m ((c.tc : Thread Cert.KernelQkvSampleIdeal.nD Cert.KernelQkvSampleIdeal.τ).loc Cert.KernelQkvSampleIdeal.main_arg0)
          ∧ r.2.mem ((c.tc : Thread Cert.KernelQkvSampleIdeal.nD Cert.KernelQkvSampleIdeal.τ).loc Cert.KernelQkvSampleIdeal.main_arg1) = m ((c.tc : Thread Cert.KernelQkvSampleIdeal.nD Cert.KernelQkvSampleIdeal.τ).loc Cert.KernelQkvSampleIdeal.main_arg1)
          ∧ r.2.mem ((c.tc : Thread Cert.KernelQkvSampleIdeal.nD Cert.KernelQkvSampleIdeal.τ).loc Cert.KernelQkvSampleIdeal.main_arg2) = m ((c.tc : Thread Cert.KernelQkvSampleIdeal.nD Cert.KernelQkvSampleIdeal.τ).loc Cert.KernelQkvSampleIdeal.main_arg2))
      ∧ θ_run (Cert.ReferenceQkvSampleIdeal.defs (F := Ideal)) (onTc (τ := Cert.ReferenceQkvSampleIdeal.τ) (Cert.ReferenceQkvSampleIdeal.main (F := Ideal))) ⟨m', fun _ => 0, g'⟩ (fun r => ∀ c : Dev Cert.ReferenceQkvSampleIdeal.nD,
          r.2.mem ((c.tc : Thread Cert.ReferenceQkvSampleIdeal.nD Cert.ReferenceQkvSampleIdeal.τ).loc Cert.ReferenceQkvSampleIdeal.main_v6) = v0 c
          ∧ r.2.mem ((c.tc : Thread Cert.ReferenceQkvSampleIdeal.nD Cert.ReferenceQkvSampleIdeal.τ).loc Cert.ReferenceQkvSampleIdeal.main_arg0) = m' ((c.tc : Thread Cert.ReferenceQkvSampleIdeal.nD Cert.ReferenceQkvSampleIdeal.τ).loc Cert.ReferenceQkvSampleIdeal.main_arg0)
          ∧ r.2.mem ((c.tc : Thread Cert.ReferenceQkvSampleIdeal.nD Cert.ReferenceQkvSampleIdeal.τ).loc Cert.ReferenceQkvSampleIdeal.main_arg1) = m' ((c.tc : Thread Cert.ReferenceQkvSampleIdeal.nD Cert.ReferenceQkvSampleIdeal.τ).loc Cert.ReferenceQkvSampleIdeal.main_arg1)
          ∧ r.2.mem ((c.tc : Thread Cert.ReferenceQkvSampleIdeal.nD Cert.ReferenceQkvSampleIdeal.τ).loc Cert.ReferenceQkvSampleIdeal.main_arg2) = m' ((c.tc : Thread Cert.ReferenceQkvSampleIdeal.nD Cert.ReferenceQkvSampleIdeal.τ).loc Cert.ReferenceQkvSampleIdeal.main_arg2))

def Claim : Prop :=
  ∃ (hKernel : Cert.Kernel.Facts) (hKernelIdeal : Cert.KernelIdeal.Facts) (hReferenceIdeal : Cert.ReferenceIdeal.Facts) (hKernelSguIn : Cert.KernelSguIn.Facts) (hKernelSguInIdeal : Cert.KernelSguInIdeal.Facts) (hReferenceSguInIdeal : Cert.ReferenceSguInIdeal.Facts) (hKernelSguOut : Cert.KernelSguOut.Facts) (hKernelSguOutIdeal : Cert.KernelSguOutIdeal.Facts) (hReferenceSguOutIdeal : Cert.ReferenceSguOutIdeal.Facts) (hKernelGlu : Cert.KernelGlu.Facts) (hKernelGluIdeal : Cert.KernelGluIdeal.Facts) (hReferenceGluIdeal : Cert.ReferenceGluIdeal.Facts) (hKernelQkv : Cert.KernelQkv.Facts) (hKernelQkvIdeal : Cert.KernelQkvIdeal.Facts) (hReferenceQkvIdeal : Cert.ReferenceQkvIdeal.Facts) (hKernelConvOut : Cert.KernelConvOut.Facts) (hKernelConvOutIdeal : Cert.KernelConvOutIdeal.Facts) (hReferenceConvOutIdeal : Cert.ReferenceConvOutIdeal.Facts) (hKernelAttnOut : Cert.KernelAttnOut.Facts) (hKernelAttnOutIdeal : Cert.KernelAttnOutIdeal.Facts) (hReferenceAttnOutIdeal : Cert.ReferenceAttnOutIdeal.Facts) (hKernelNorm : Cert.KernelNorm.Facts) (hKernelNormIdeal : Cert.KernelNormIdeal.Facts) (hReferenceNormIdeal : Cert.ReferenceNormIdeal.Facts) (hKernelSguMix : Cert.KernelSguMix.Facts) (hKernelSguMixIdeal : Cert.KernelSguMixIdeal.Facts) (hReferenceSguMixIdeal : Cert.ReferenceSguMixIdeal.Facts) (hKernelSguMixSample : Cert.KernelSguMixSample.Facts) (hKernelSguMixSampleIdeal : Cert.KernelSguMixSampleIdeal.Facts) (hReferenceSguMixSampleIdeal : Cert.ReferenceSguMixSampleIdeal.Facts) (hKernelNormSample : Cert.KernelNormSample.Facts) (hKernelNormSampleIdeal : Cert.KernelNormSampleIdeal.Facts) (hReferenceNormSampleIdeal : Cert.ReferenceNormSampleIdeal.Facts) (hKernelGluSample : Cert.KernelGluSample.Facts) (hKernelGluSampleIdeal : Cert.KernelGluSampleIdeal.Facts) (hReferenceGluSampleIdeal : Cert.ReferenceGluSampleIdeal.Facts) (hKernelQkvSample : Cert.KernelQkvSample.Facts) (hKernelQkvSampleIdeal : Cert.KernelQkvSampleIdeal.Facts) (hReferenceQkvSampleIdeal : Cert.ReferenceQkvSampleIdeal.Facts),
    quiescent_Kernel (hKernel := hKernel)
    ∧ quiescent_KernelIdeal (hKernelIdeal := hKernelIdeal)
    ∧ quiescent_ReferenceIdeal (hReferenceIdeal := hReferenceIdeal)
    ∧ quiescent_KernelSguIn (hKernelSguIn := hKernelSguIn)
    ∧ quiescent_KernelSguInIdeal (hKernelSguInIdeal := hKernelSguInIdeal)
    ∧ quiescent_ReferenceSguInIdeal (hReferenceSguInIdeal := hReferenceSguInIdeal)
    ∧ quiescent_KernelSguOut (hKernelSguOut := hKernelSguOut)
    ∧ quiescent_KernelSguOutIdeal (hKernelSguOutIdeal := hKernelSguOutIdeal)
    ∧ quiescent_ReferenceSguOutIdeal (hReferenceSguOutIdeal := hReferenceSguOutIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelConvOut (hKernelConvOut := hKernelConvOut)
    ∧ quiescent_KernelConvOutIdeal (hKernelConvOutIdeal := hKernelConvOutIdeal)
    ∧ quiescent_ReferenceConvOutIdeal (hReferenceConvOutIdeal := hReferenceConvOutIdeal)
    ∧ quiescent_KernelAttnOut (hKernelAttnOut := hKernelAttnOut)
    ∧ quiescent_KernelAttnOutIdeal (hKernelAttnOutIdeal := hKernelAttnOutIdeal)
    ∧ quiescent_ReferenceAttnOutIdeal (hReferenceAttnOutIdeal := hReferenceAttnOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelSguMix (hKernelSguMix := hKernelSguMix)
    ∧ quiescent_KernelSguMixIdeal (hKernelSguMixIdeal := hKernelSguMixIdeal)
    ∧ quiescent_ReferenceSguMixIdeal (hReferenceSguMixIdeal := hReferenceSguMixIdeal)
    ∧ quiescent_KernelSguMixSample (hKernelSguMixSample := hKernelSguMixSample)
    ∧ quiescent_KernelSguMixSampleIdeal (hKernelSguMixSampleIdeal := hKernelSguMixSampleIdeal)
    ∧ quiescent_ReferenceSguMixSampleIdeal (hReferenceSguMixSampleIdeal := hReferenceSguMixSampleIdeal)
    ∧ quiescent_KernelNormSample (hKernelNormSample := hKernelNormSample)
    ∧ quiescent_KernelNormSampleIdeal (hKernelNormSampleIdeal := hKernelNormSampleIdeal)
    ∧ quiescent_ReferenceNormSampleIdeal (hReferenceNormSampleIdeal := hReferenceNormSampleIdeal)
    ∧ quiescent_KernelGluSample (hKernelGluSample := hKernelGluSample)
    ∧ quiescent_KernelGluSampleIdeal (hKernelGluSampleIdeal := hKernelGluSampleIdeal)
    ∧ quiescent_ReferenceGluSampleIdeal (hReferenceGluSampleIdeal := hReferenceGluSampleIdeal)
    ∧ quiescent_KernelQkvSample (hKernelQkvSample := hKernelQkvSample)
    ∧ quiescent_KernelQkvSampleIdeal (hKernelQkvSampleIdeal := hKernelQkvSampleIdeal)
    ∧ quiescent_ReferenceQkvSampleIdeal (hReferenceQkvSampleIdeal := hReferenceQkvSampleIdeal)
    ∧ preserves_Kernel_KernelIdeal
    ∧ algebraic_KernelIdeal_ReferenceIdeal (hKernelIdeal := hKernelIdeal) (hReferenceIdeal := hReferenceIdeal)
    ∧ preserves_KernelSguIn_KernelSguInIdeal
    ∧ algebraic_KernelSguInIdeal_ReferenceSguInIdeal (hKernelSguInIdeal := hKernelSguInIdeal) (hReferenceSguInIdeal := hReferenceSguInIdeal)
    ∧ preserves_KernelSguOut_KernelSguOutIdeal
    ∧ algebraic_KernelSguOutIdeal_ReferenceSguOutIdeal (hKernelSguOutIdeal := hKernelSguOutIdeal) (hReferenceSguOutIdeal := hReferenceSguOutIdeal)
    ∧ preserves_KernelGlu_KernelGluIdeal
    ∧ algebraic_KernelGluIdeal_ReferenceGluIdeal (hKernelGluIdeal := hKernelGluIdeal) (hReferenceGluIdeal := hReferenceGluIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelConvOut_KernelConvOutIdeal
    ∧ algebraic_KernelConvOutIdeal_ReferenceConvOutIdeal (hKernelConvOutIdeal := hKernelConvOutIdeal) (hReferenceConvOutIdeal := hReferenceConvOutIdeal)
    ∧ preserves_KernelAttnOut_KernelAttnOutIdeal
    ∧ algebraic_KernelAttnOutIdeal_ReferenceAttnOutIdeal (hKernelAttnOutIdeal := hKernelAttnOutIdeal) (hReferenceAttnOutIdeal := hReferenceAttnOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelSguMix_KernelSguMixIdeal
    ∧ algebraic_KernelSguMixIdeal_ReferenceSguMixIdeal (hKernelSguMixIdeal := hKernelSguMixIdeal) (hReferenceSguMixIdeal := hReferenceSguMixIdeal)
    ∧ preserves_KernelSguMixSample_KernelSguMixSampleIdeal
    ∧ algebraic_KernelSguMixSampleIdeal_ReferenceSguMixSampleIdeal (hKernelSguMixSampleIdeal := hKernelSguMixSampleIdeal) (hReferenceSguMixSampleIdeal := hReferenceSguMixSampleIdeal)
    ∧ preserves_KernelNormSample_KernelNormSampleIdeal
    ∧ algebraic_KernelNormSampleIdeal_ReferenceNormSampleIdeal (hKernelNormSampleIdeal := hKernelNormSampleIdeal) (hReferenceNormSampleIdeal := hReferenceNormSampleIdeal)
    ∧ preserves_KernelGluSample_KernelGluSampleIdeal
    ∧ algebraic_KernelGluSampleIdeal_ReferenceGluSampleIdeal (hKernelGluSampleIdeal := hKernelGluSampleIdeal) (hReferenceGluSampleIdeal := hReferenceGluSampleIdeal)
    ∧ preserves_KernelQkvSample_KernelQkvSampleIdeal
    ∧ algebraic_KernelQkvSampleIdeal_ReferenceQkvSampleIdeal (hKernelQkvSampleIdeal := hKernelQkvSampleIdeal) (hReferenceQkvSampleIdeal := hReferenceQkvSampleIdeal)
-- ==== Kernel.lean ====
abbrev S16384x2560 : Shape := ⟨2, ![16384, 2560]⟩
abbrev S32 : Shape := ⟨1, ![32]⟩
abbrev S16384x2048 : Shape := ⟨2, ![16384, 2048]⟩
abbrev S128x2048 : Shape := ⟨2, ![128, 2048]⟩
abbrev S64x256 : Shape := ⟨2, ![64, 256]⟩
abbrev S256x256 : Shape := ⟨2, ![256, 256]⟩
abbrev S64x192 : Shape := ⟨2, ![64, 192]⟩
abbrev S64x64 : Shape := ⟨2, ![64, 64]⟩
abbrev S512x64 : Shape := ⟨2, ![512, 64]⟩
abbrev S192x64 : Shape := ⟨2, ![192, 64]⟩
abbrev S512x192 : Shape := ⟨2, ![512, 192]⟩
abbrev S1 : Shape := ⟨1, ![1]⟩
abbrev S64x1 : Shape := ⟨2, ![64, 1]⟩
abbrev S512x1 : Shape := ⟨2, ![512, 1]⟩
abbrev S512 : Shape := ⟨1, ![512]⟩

abbrev nBuf : Space → Nat
  | .hbm => 3
  | .vmem => 22
  | .smem => 1
  | _ => 0

abbrev bufTy : (tb : Table) → Fin (tcTables nBuf tb) → BufTy
  | .hbm, ⟨0, _⟩ => ⟨S16384x2560, .f32⟩
  | .hbm, ⟨1, _⟩ => ⟨S32, .f32⟩
  | .hbm, ⟨2, _⟩ => ⟨S16384x2048, .bf16⟩
  | .local _ .vmem, ⟨0, _⟩ => ⟨S128x2048, .f32⟩
  | .local _ .vmem, ⟨1, _⟩ => ⟨S128x2048, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S128x2048, .bf16⟩
  | .local _ .vmem, ⟨19, _⟩ => ⟨S128x2048, .bf16⟩
  | .local _ .vmem, ⟨20, _⟩ => ⟨S256x256, .bf16⟩
  | .local _ .vmem, ⟨21, _⟩ => ⟨S256x256, .bf16⟩
  | .local _ .smem, ⟨0, _⟩ => ⟨S32, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c0_i32 : BitVec 32 := 0#32
  let v3 : BitVec 32 := Scalar.addi v2 c0_i32
  let c0_i32_1 : BitVec 32 := 0#32
  let v4 : BitVec 32 := Scalar.maxsi v3 c0_i32_1
  let v5 : BitVec 32 := Scalar.addi v0 v4
  let c8_i32 : BitVec 32 := 8#32
  let c0_i32_2 : BitVec 32 := 0#32
  ![v5.toNat, c8_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c8_i32 : BitVec 32 := 8#32
  let c0_i32_1 : BitVec 32 := 0#32
  ![v5.toNat, c8_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c2_i32_1 : BitVec 32 := 2#32
  let v3 : BitVec 32 := Scalar.addi v2 c2_i32_1
  let c0_i32 : BitVec 32 := 0#32
  let v4 : BitVec 32 := Scalar.maxsi v3 c0_i32
  let v5 : BitVec 32 := Scalar.addi v0 v4
  let c8_i32 : BitVec 32 := 8#32
  let c0_i32_2 : BitVec 32 := 0#32
  ![v5.toNat, c8_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c8_i32 : BitVec 32 := 8#32
  let c0_i32_1 : BitVec 32 := 0#32
  ![v5.toNat, c8_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c0_i32 : BitVec 32 := 0#32
  let v3 : BitVec 32 := Scalar.addi v2 c0_i32
  let c0_i32_1 : BitVec 32 := 0#32
  let v4 : BitVec 32 := Scalar.maxsi v3 c0_i32_1
  let v5 : BitVec 32 := Scalar.addi v0 v4
  let c9_i32 : BitVec 32 := 9#32
  let c0_i32_2 : BitVec 32 := 0#32
  ![v5.toNat, c9_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c9_i32 : BitVec 32 := 9#32
  let c0_i32_1 : BitVec 32 := 0#32
  ![v5.toNat, c9_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c2_i32_1 : BitVec 32 := 2#32
  let v3 : BitVec 32 := Scalar.addi v2 c2_i32_1
  let c0_i32 : BitVec 32 := 0#32
  let v4 : BitVec 32 := Scalar.maxsi v3 c0_i32
  let v5 : BitVec 32 := Scalar.addi v0 v4
  let c9_i32 : BitVec 32 := 9#32
  let c0_i32_2 : BitVec 32 := 0#32
  ![v5.toNat, c9_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli arg1 c2_i32
  let c2_i32_0 : BitVec 32 := 2#32
  let v2 : BitVec 32 := Scalar.subi v1 c2_i32_0
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c9_i32 : BitVec 32 := 9#32
  let c0_i32_1 : BitVec 32 := 0#32
  ![v5.toNat, c9_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊤
  | "slope1" => some (((1 * (Real.sqrt (Real.sqrt 2)))⁻¹ : ℝ) : EReal)
  | "slope10" => some (((4 * (Real.sqrt 2))⁻¹ : ℝ) : EReal)
  | "slope11" => some (((4 * ((Real.sqrt 2) * (Real.sqrt (Real.sqrt 2))))⁻¹ : ℝ) : EReal)
  | "slope13" => some (((8 * (Real.sqrt (Real.sqrt 2)))⁻¹ : ℝ) : EReal)
  | "slope14" => some (((8 * (Real.sqrt 2))⁻¹ : ℝ) : EReal)
  | "slope15" => some (((8 * ((Real.sqrt 2) * (Real.sqrt (Real.sqrt 2))))⁻¹ : ℝ) : EReal)
  | "slope17" => some (((16 * (Real.sqrt (Real.sqrt 2)))⁻¹ : ℝ) : EReal)
  | "slope18" => some (((16 * (Real.sqrt 2))⁻¹ : ℝ) : EReal)
  | "slope19" => some (((16 * ((Real.sqrt 2) * (Real.sqrt (Real.sqrt 2))))⁻¹ : ℝ) : EReal)
  | "slope2" => some (((1 * (Real.sqrt 2))⁻¹ : ℝ) : EReal)
  | "slope21" => some (((32 * (Real.sqrt (Real.sqrt 2)))⁻¹ : ℝ) : EReal)
  | "slope22" => some (((32 * (Real.sqrt 2))⁻¹ : ℝ) : EReal)
  | "slope23" => some (((32 * ((Real.sqrt 2) * (Real.sqrt (Real.sqrt 2))))⁻¹ : ℝ) : EReal)
  | "slope25" => some (((64 * (Real.sqrt (Real.sqrt 2)))⁻¹ : ℝ) : EReal)
  | "slope26" => some (((64 * (Real.sqrt 2))⁻¹ : ℝ) : EReal)
  | "slope27" => some (((64 * ((Real.sqrt 2) * (Real.sqrt (Real.sqrt 2))))⁻¹ : ℝ) : EReal)
  | "slope29" => some (((128 * (Real.sqrt (Real.sqrt 2)))⁻¹ : ℝ) : EReal)
  | "slope3" => some (((1 * ((Real.sqrt 2) * (Real.sqrt (Real.sqrt 2))))⁻¹ : ℝ) : EReal)
  | "slope30" => some (((128 * (Real.sqrt 2))⁻¹ : ℝ) : EReal)
  | "slope31" => some (((128 * ((Real.sqrt 2) * (Real.sqrt (Real.sqrt 2))))⁻¹ : ℝ) : EReal)
  | "slope5" => some (((2 * (Real.sqrt (Real.sqrt 2)))⁻¹ : ℝ) : EReal)
  | "slope6" => some (((2 * (Real.sqrt 2))⁻¹ : ℝ) : EReal)
  | "slope7" => some (((2 * ((Real.sqrt 2) * (Real.sqrt (Real.sqrt 2))))⁻¹ : ℝ) : EReal)
  | "slope9" => some (((4 * (Real.sqrt (Real.sqrt 2)))⁻¹ : ℝ) : EReal)
  | _ => none
-- ==== ReferenceIdeal.lean ====
abbrev S16384x2560 : Shape := ⟨2, ![16384, 2560]⟩
abbrev S32 : Shape := ⟨1, ![32]⟩
abbrev S4x4096x2560 : Shape := ⟨3, ![4, 4096, 2560]⟩
abbrev S4x4096x2048 : Shape := ⟨3, ![4, 4096, 2048]⟩
abbrev S4x4096x4x8x64 : Shape := ⟨5, ![4, 4096, 4, 8, 64]⟩
abbrev S4x4096x256 : Shape := ⟨3, ![4, 4096, 256]⟩
abbrev S4x4096x4x64 : Shape := ⟨4, ![4, 4096, 4, 64]⟩
abbrev S4x64x64x4x8x64 : Shape := ⟨6, ![4, 64, 64, 4, 8, 64]⟩
abbrev S_ : Shape := ⟨0, ![]⟩
abbrev S4x4224x4x64 : Shape := ⟨4, ![4, 4224, 4, 64]⟩
abbrev S4x66x64x4x64 : Shape := ⟨5, ![4, 66, 64, 4, 64]⟩
abbrev S4x64x64x4x64 : Shape := ⟨5, ![4, 64, 64, 4, 64]⟩
abbrev S4x64x192x4x64 : Shape := ⟨5, ![4, 64, 192, 4, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S1x64x192 : Shape := ⟨3, ![1, 64, 192]⟩
abbrev S4x64x4x192x64x8 : Shape := ⟨6, ![4, 64, 4, 192, 64, 8]⟩
abbrev S4x64x4x8x64x192 : Shape := ⟨6, ![4, 64, 4, 8, 64, 192]⟩
abbrev S4x8 : Shape := ⟨2, ![4, 8]⟩
abbrev S4x8x1x1 : Shape := ⟨4, ![4, 8, 1, 1]⟩
abbrev S1x1x64x192 : Shape := ⟨4, ![1, 1, 64, 192]⟩
abbrev S4x8x64x192 : Shape := ⟨4, ![4, 8, 64, 192]⟩
abbrev S1x1x4x8x64x192 : Shape := ⟨6, ![1, 1, 4, 8, 64, 192]⟩
abbrev S1x64x1x1x1x192 : Shape := ⟨6, ![1, 64, 1, 1, 1, 192]⟩
abbrev S4x64x4x8x64 : Shape := ⟨5, ![4, 64, 4, 8, 64]⟩
abbrev S4x64x4x8x64x1 : Shape := ⟨6, ![4, 64, 4, 8, 64, 1]⟩
abbrev S1x1x4x8x1x1 : Shape := ⟨6, ![1, 1, 4, 8, 1, 1]⟩
abbrev S4x64x4x64x8x64 : Shape := ⟨6, ![4, 64, 4, 64, 8, 64]⟩
abbrev S16384x2048 : Shape := ⟨2, ![16384, 2048]⟩

abbrev nBuf : Space → Nat
  | .hbm => 113
  | .vmem => 0
  | .smem => 0
  | _ => 0

abbrev bufTy : (tb : Table) → Fin (tcTables nBuf tb) → BufTy
  | .hbm, ⟨0, _⟩ => ⟨S16384x2560, .f32⟩
  | .hbm, ⟨1, _⟩ => ⟨S32, .f32⟩
  | .hbm, ⟨2, _⟩ => ⟨S4x4096x2560, .f32⟩
  | .hbm, ⟨3, _⟩ => ⟨S4x4096x2048, .f32⟩
  | .hbm, ⟨4, _⟩ => ⟨S4x4096x4x8x64, .f32⟩
  | .hbm, ⟨5, _⟩ => ⟨S4x4096x256, .f32⟩
  | .hbm, ⟨6, _⟩ => ⟨S4x4096x4x64, .f32⟩
  | .hbm, ⟨7, _⟩ => ⟨S4x4096x256, .f32⟩
  | .hbm, ⟨8, _⟩ => ⟨S4x4096x4x64, .f32⟩
  | .hbm, ⟨9, _⟩ => ⟨S4x64x64x4x8x64, .f32⟩
  | .hbm, ⟨10, _⟩ => ⟨S_, .i32⟩
  | .hbm, ⟨11, _⟩ => ⟨S_, .f32⟩
  | .hbm, ⟨12, _⟩ => ⟨S4x4224x4x64, .f32⟩
  | .hbm, ⟨13, _⟩ => ⟨S4x66x64x4x64, .f32⟩
  | .hbm, ⟨14, _⟩ => ⟨S_, .i32⟩
  | .hbm, ⟨15, _⟩ => ⟨S_, .f32⟩
  | .hbm, ⟨16, _⟩ => ⟨S4x4224x4x64, .f32⟩
  | .hbm, ⟨17, _⟩ => ⟨S4x66x64x4x64, .f32⟩
  | .hbm, ⟨18, _⟩ => ⟨S4x64x64x4x64, .f32⟩
  | .hbm, ⟨19, _⟩ => ⟨S4x64x64x4x64, .f32⟩
  | .hbm, ⟨20, _⟩ => ⟨S4x64x64x4x64, .f32⟩
  | .hbm, ⟨21, _⟩ => ⟨S4x64x192x4x64, .f32⟩
  | .hbm, ⟨22, _⟩ => ⟨S4x64x64x4x64, .f32⟩
  | .hbm, ⟨23, _⟩ => ⟨S4x64x64x4x64, .f32⟩
  | .hbm, ⟨24, _⟩ => ⟨S4x64x64x4x64, .f32⟩
  | .hbm, ⟨25, _⟩ => ⟨S4x64x192x4x64, .f32⟩
  | .hbm, ⟨26, _⟩ => ⟨S64, .i32⟩
  | .hbm, ⟨27, _⟩ => ⟨S64x1, .i32⟩
  | .hbm, ⟨28, _⟩ => ⟨S_, .i32⟩
  | .hbm, ⟨29, _⟩ => ⟨S64x1, .i32⟩
  | .hbm, ⟨30, _⟩ => ⟨S64x1, .i32⟩
  | .hbm, ⟨31, _⟩ => ⟨S_, .i32⟩
  | .hbm, ⟨32, _⟩ => ⟨S64x1, .i32⟩
  | .hbm, ⟨33, _⟩ => ⟨S64x1, .i32⟩
  | .hbm, ⟨34, _⟩ => ⟨S192, .i32⟩
  | .hbm, ⟨35, _⟩ => ⟨S1x192, .i32⟩
  | .hbm, ⟨36, _⟩ => ⟨S64x192, .i32⟩
  | .hbm, ⟨37, _⟩ => ⟨S64x192, .i32⟩
  | .hbm, ⟨38, _⟩ => ⟨S64x192, .i32⟩
  | .hbm, ⟨39, _⟩ => ⟨S_, .i32⟩
  | .hbm, ⟨40, _⟩ => ⟨S64x192, .i32⟩
  | .hbm, ⟨41, _⟩ => ⟨S64x192, .i1⟩
  | .hbm, ⟨42, _⟩ => ⟨S1x64x192, .i1⟩
  | .hbm, ⟨43, _⟩ => ⟨S4x64x4x192x64x8, .f32⟩
  | .hbm, ⟨44, _⟩ => ⟨S4x64x4x8x64x192, .f32⟩
  | .hbm, ⟨45, _⟩ => ⟨S_, .f32⟩
  | .hbm, ⟨46, _⟩ => ⟨S4x64x4x8x64x192, .f32⟩
  | .hbm, ⟨47, _⟩ => ⟨S4x64x4x8x64x192, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S4x8, .f32⟩
  | .hbm, ⟨59, _⟩ => ⟨S_, .f32⟩
  | .hbm, ⟨60, _⟩ => ⟨S4x8, .f32⟩
  | .hbm, ⟨61, _⟩ => ⟨S4x8, .f32⟩
  | .hbm, ⟨62, _⟩ => ⟨S64, .i32⟩
  | .hbm, ⟨63, _⟩ => ⟨S64x1, .i32⟩
  | .hbm, ⟨64, _⟩ => ⟨S_, .i32⟩
  | .hbm, ⟨65, _⟩ => ⟨S64x1, .i32⟩
  | .hbm, ⟨66, _⟩ => ⟨S64x1, .i32⟩
  | .hbm, ⟨67, _⟩ => ⟨S192, .i32⟩
  | .hbm, ⟨68, _⟩ => ⟨S1x192, .i32⟩
  | .hbm, ⟨69, _⟩ => ⟨S64x192, .i32⟩
  | .hbm, ⟨70, _⟩ => ⟨S64x192, .i32⟩
  | .hbm, ⟨71, _⟩ => ⟨S64x192, .i32⟩
  | .hbm, ⟨72, _⟩ => ⟨S64x192, .i32⟩
  | .hbm, ⟨73, _⟩ => ⟨S64x192, .f32⟩
  | .hbm, ⟨74, _⟩ => ⟨S4x8x1x1, .f32⟩
  | .hbm, ⟨75, _⟩ => ⟨S1x1x64x192, .f32⟩
  | .hbm, ⟨76, _⟩ => ⟨S4x8x64x192, .f32⟩
  | .hbm, ⟨77, _⟩ => ⟨S4x8x64x192, .f32⟩
  | .hbm, ⟨78, _⟩ => ⟨S4x8x64x192, .f32⟩
  | .hbm, ⟨79, _⟩ => ⟨S1x1x4x8x64x192, .f32⟩
  | .hbm, ⟨80, _⟩ => ⟨S4x64x4x8x64x192, .f32⟩
  | .hbm, ⟨81, _⟩ => ⟨S4x64x4x8x64x192, .f32⟩
  | .hbm, ⟨82, _⟩ => ⟨S1x64x1x1x1x192, .i1⟩
  | .hbm, ⟨83, _⟩ => ⟨S_, .f32⟩
  | .hbm, ⟨84, _⟩ => ⟨S_, .f32⟩
  | .hbm, ⟨85, _⟩ => ⟨S4x64x4x8x64x192, .i1⟩
  | .hbm, ⟨86, _⟩ => ⟨S4x64x4x8x64x192, .f32⟩
  | .hbm, ⟨87, _⟩ => ⟨S4x64x4x8x64x192, .f32⟩
  | .hbm, ⟨88, _⟩ => ⟨S4x8, .f32⟩
  | .hbm, ⟨89, _⟩ => ⟨S4x8x1x1, .f32⟩
  | .hbm, ⟨90, _⟩ => ⟨S_, .f32⟩
  | .hbm, ⟨91, _⟩ => ⟨S4x64x4x8x64, .f32⟩
  | .hbm, ⟨92, _⟩ => ⟨S4x64x4x8x64x1, .f32⟩
  | .hbm, ⟨93, _⟩ => ⟨S1x1x4x8x1x1, .f32⟩
  | .hbm, ⟨94, _⟩ => ⟨S4x64x4x8x64x1, .f32⟩
  | .hbm, ⟨95, _⟩ => ⟨S4x64x4x8x64x1, .f32⟩
  | .hbm, ⟨96, _⟩ => ⟨S4x64x4x8x64x192, .f32⟩
  | .hbm, ⟨97, _⟩ => ⟨S4x64x4x8x64x192, .f32⟩
  | .hbm, ⟨98, _⟩ => ⟨S4x64x4x8x64x192, .f32⟩
  | .hbm, ⟨99, _⟩ => ⟨S_, .f32⟩
  | .hbm, ⟨100, _⟩ => ⟨S4x64x4x8x64, .f32⟩
  | .hbm, ⟨101, _⟩ => ⟨S4x64x4x8x64x1, .f32⟩
  | .hbm, ⟨102, _⟩ => ⟨S1x1x4x8x1x1, .f32⟩
  | .hbm, ⟨103, _⟩ => ⟨S4x64x4x8x64x1, .f32⟩
  | .hbm, ⟨104, _⟩ => ⟨S4x64x4x8x64x1, .f32⟩
  | .hbm, ⟨105, _⟩ => ⟨S4x64x4x8x64x1, .f32⟩
  | .hbm, ⟨106, _⟩ => ⟨S4x64x4x8x64x1, .f32⟩
  | .hbm, ⟨107, _⟩ => ⟨S4x64x4x8x64x192, .f32⟩
  | .hbm, ⟨108, _⟩ => ⟨S4x64x4x8x64x192, .f32⟩
  | .hbm, ⟨109, _⟩ => ⟨S4x64x4x64x8x64, .f32⟩
  | .hbm, ⟨110, _⟩ => ⟨S4x64x64x4x8x64, .f32⟩
  | .hbm, ⟨111, _⟩ => ⟨S16384x2048, .f32⟩
  | .hbm, ⟨112, _⟩ => ⟨S16384x2048, .bf16⟩
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩

abbrev nD : Nat := 1
abbrev τ : Topo := Topo.v7x

variable {F : FTy → Type} [FloatOps F]
-- ==== KernelSguIn.lean ====
abbrev S16384x2048 : Shape := ⟨2, ![16384, 2048]⟩
abbrev S2x2048x12288 : Shape := ⟨3, ![2, 2048, 12288]⟩
abbrev S2x12288 : Shape := ⟨2, ![2, 12288]⟩
abbrev S1x12288 : Shape := ⟨2, ![1, 12288]⟩
abbrev S12288 : Shape := ⟨1, ![12288]⟩
abbrev S16384x6144 : Shape := ⟨2, ![16384, 6144]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S2x12288, .f32⟩
  | .hbm, ⟨3, _⟩ => ⟨S2x2048x12288, .bf16⟩
  | .hbm, ⟨4, _⟩ => ⟨S1x12288, .f32⟩
  | .hbm, ⟨5, _⟩ => ⟨S12288, .f32⟩
  | .hbm, ⟨6, _⟩ => ⟨S1x12288, .f32⟩
  | .hbm, ⟨7, _⟩ => ⟨S16384x6144, .bf16⟩
  | .hbm, ⟨8, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceSguInIdeal.lean ====
abbrev S16384x2048 : Shape := ⟨2, ![16384, 2048]⟩
abbrev S2x2048x12288 : Shape := ⟨3, ![2, 2048, 12288]⟩
abbrev S2x12288 : Shape := ⟨2, ![2, 12288]⟩
abbrev S1x2048x12288 : Shape := ⟨3, ![1, 2048, 12288]⟩
abbrev S2048x12288 : Shape := ⟨2, ![2048, 12288]⟩
abbrev S16384x12288 : Shape := ⟨2, ![16384, 12288]⟩
abbrev S1x12288 : Shape := ⟨2, ![1, 12288]⟩
abbrev S12288 : Shape := ⟨1, ![12288]⟩
abbrev S_ : Shape := ⟨0, ![]⟩
abbrev S16384x6144 : Shape := ⟨2, ![16384, 6144]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S2x12288, .f32⟩
  | .hbm, ⟨3, _⟩ => ⟨S16384x2048, .f32⟩
  | .hbm, ⟨4, _⟩ => ⟨S1x2048x12288, .f32⟩
  | .hbm, ⟨5, _⟩ => ⟨S2048x12288, .f32⟩
  | .hbm, ⟨6, _⟩ => ⟨S16384x12288, .f32⟩
  | .hbm, ⟨7, _⟩ => ⟨S1x12288, .f32⟩
  | .hbm, ⟨8, _⟩ => ⟨S12288, .f32⟩
  | .hbm, ⟨9, _⟩ => ⟨S1x12288, .f32⟩
  | .hbm, ⟨10, _⟩ => ⟨S16384x12288, .f32⟩
  | .hbm, ⟨11, _⟩ => ⟨S16384x12288, .f32⟩
  | .hbm, ⟨12, _⟩ => ⟨S16384x12288, .f32⟩
  | .hbm, ⟨13, _⟩ => ⟨S16384x12288, .f32⟩
  | .hbm, ⟨14, _⟩ => ⟨S_, .f32⟩
  | .hbm, ⟨15, _⟩ => ⟨S16384x12288, .f32⟩
  | .hbm, ⟨16, _⟩ => ⟨S16384x12288, .f32⟩
  | .hbm, ⟨17, _⟩ => ⟨S16384x12288, .f32⟩
  | .hbm, ⟨18, _⟩ => ⟨S_, .f32⟩
  | .hbm, ⟨19, _⟩ => ⟨S16384x12288, .f32⟩
  | .hbm, ⟨20, _⟩ => ⟨S16384x12288, .f32⟩
  | .hbm, ⟨21, _⟩ => ⟨S16384x12288, .f32⟩
  | .hbm, ⟨22, _⟩ => ⟨S_, .f32⟩
  | .hbm, ⟨23, _⟩ => ⟨S16384x12288, .f32⟩
  | .hbm, ⟨24, _⟩ => ⟨S16384x12288, .f32⟩
  | .hbm, ⟨25, _⟩ => ⟨S_, .f32⟩
  | .hbm, ⟨26, _⟩ => ⟨S16384x12288, .f32⟩
  | .hbm, ⟨27, _⟩ => ⟨S16384x12288, .f32⟩
  | .hbm, ⟨28, _⟩ => ⟨S16384x12288, .f32⟩
  | .hbm, ⟨29, _⟩ => ⟨S16384x6144, .f32⟩
  | .hbm, ⟨30, _⟩ => ⟨S16384x6144, .bf16⟩
  | .hbm, ⟨31, _⟩ => ⟨S16384x6144, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== KernelSguOut.lean ====
abbrev S16384x6144 : Shape := ⟨2, ![16384, 6144]⟩
abbrev S2x6144x2048 : Shape := ⟨3, ![2, 6144, 2048]⟩
abbrev S16384x2048 : Shape := ⟨2, ![16384, 2048]⟩
abbrev S4x1x2048 : Shape := ⟨3, ![4, 1, 2048]⟩
abbrev S512x6144 : Shape := ⟨2, ![512, 6144]⟩
abbrev S1x6144x512 : Shape := ⟨3, ![1, 6144, 512]⟩
abbrev S512x512 : Shape := ⟨2, ![512, 512]⟩
abbrev S1x1x512 : Shape := ⟨3, ![1, 1, 512]⟩
abbrev S6144x512 : Shape := ⟨2, ![6144, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x6144, .bf16⟩
  | .hbm, ⟨1, _⟩ => ⟨S2x6144x2048, .f32⟩
  | .hbm, ⟨2, _⟩ => ⟨S16384x2048, .f32⟩
  | .hbm, ⟨3, _⟩ => ⟨S4x1x2048, .f32⟩
  | .hbm, ⟨4, _⟩ => ⟨S2x6144x2048, .bf16⟩
  | .hbm, ⟨5, _⟩ => ⟨S16384x2048, .f32⟩
  | .local _ .vmem, ⟨0, _⟩ => ⟨S512x6144, .bf16⟩
  | .local _ .vmem, ⟨1, _⟩ => ⟨S512x6144, .bf16⟩
  | .local _ .vmem, ⟨2, _⟩ => ⟨S1x6144x512, .bf16⟩
  | .local _ .vmem, ⟨3, _⟩ => ⟨S1x6144x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSguOutIdeal.lean ====
abbrev S16384x6144 : Shape := ⟨2, ![16384, 6144]⟩
abbrev S2x6144x2048 : Shape := ⟨3, ![2, 6144, 2048]⟩
abbrev S16384x2048 : Shape := ⟨2, ![16384, 2048]⟩
abbrev S4x1x2048 : Shape := ⟨3, ![4, 1, 2048]⟩
abbrev S1x6144x2048 : Shape := ⟨3, ![1, 6144, 2048]⟩
abbrev S6144x2048 : Shape := ⟨2, ![6144, 2048]⟩
abbrev S4x4096x2048 : Shape := ⟨3, ![4, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S2x6144x2048, .f32⟩
  | .hbm, ⟨2, _⟩ => ⟨S16384x2048, .f32⟩
  | .hbm, ⟨3, _⟩ => ⟨S4x1x2048, .f32⟩
  | .hbm, ⟨4, _⟩ => ⟨S16384x6144, .f32⟩
  | .hbm, ⟨5, _⟩ => ⟨S1x6144x2048, .f32⟩
  | .hbm, ⟨6, _⟩ => ⟨S6144x2048, .f32⟩
  | .hbm, ⟨7, _⟩ => ⟨S16384x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S16384x2048, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelGlu.lean ====
abbrev S16384x2048 : Shape := ⟨2, ![16384, 2048]⟩
abbrev S1x2048x4096 : Shape := ⟨3, ![1, 2048, 4096]⟩
abbrev S1x4096 : Shape := ⟨2, ![1, 4096]⟩
abbrev S4096 : Shape := ⟨1, ![4096]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S1x2048x4096, .f32⟩
  | .hbm, ⟨2, _⟩ => ⟨S1x4096, .f32⟩
  | .hbm, ⟨3, _⟩ => ⟨S1x2048x4096, .bf16⟩
  | .hbm, ⟨4, _⟩ => ⟨S4096, .f32⟩
  | .hbm, ⟨5, _⟩ => ⟨S1x4096, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelGluIdeal.lean ====
abbrev S16384x2048 : Shape := ⟨2, ![16384, 2048]⟩
abbrev S1x2048x4096 : Shape := ⟨3, ![1, 2048, 4096]⟩
abbrev S1x4096 : Shape := ⟨2, ![1, 4096]⟩
abbrev S4096 : Shape := ⟨1, ![4096]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S1x2048x4096, .f32⟩
  | .hbm, ⟨2, _⟩ => ⟨S1x4096, .f32⟩
  | .hbm, ⟨3, _⟩ => ⟨S1x2048x4096, .bf16⟩
  | .hbm, ⟨4, _⟩ => ⟨S4096, .f32⟩
  | .hbm, ⟨5, _⟩ => ⟨S1x4096, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGluIdeal.lean ====
abbrev S16384x2048 : Shape := ⟨2, ![16384, 2048]⟩
abbrev S1x2048x4096 : Shape := ⟨3, ![1, 2048, 4096]⟩
abbrev S1x4096 : Shape := ⟨2, ![1, 4096]⟩
abbrev S2048x4096 : Shape := ⟨2, ![2048, 4096]⟩
abbrev S16384x4096 : Shape := ⟨2, ![16384, 4096]⟩
abbrev S4096 : Shape := ⟨1, ![4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x4096, .f32⟩
  | .hbm, ⟨2, _⟩ => ⟨S1x4096, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelQkv.lean ====
abbrev S16384x2048 : Shape := ⟨2, ![16384, 2048]⟩
abbrev S1x2048x2560 : Shape := ⟨3, ![1, 2048, 2560]⟩
abbrev S1x2560 : Shape := ⟨2, ![1, 2560]⟩
abbrev S2560 : Shape := ⟨1, ![2560]⟩
abbrev S16384x2560 : Shape := ⟨2, ![16384, 2560]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2560, .f32⟩
  | .hbm, ⟨2, _⟩ => ⟨S1x2560, .f32⟩
  | .hbm, ⟨3, _⟩ => ⟨S1x2048x2560, .bf16⟩
  | .hbm, ⟨4, _⟩ => ⟨S2560, .f32⟩
  | .hbm, ⟨5, _⟩ => ⟨S1x2560, .f32⟩
  | .hbm, ⟨6, _⟩ => ⟨S16384x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelQkvIdeal.lean ====
abbrev S16384x2048 : Shape := ⟨2, ![16384, 2048]⟩
abbrev S1x2048x2560 : Shape := ⟨3, ![1, 2048, 2560]⟩
abbrev S1x2560 : Shape := ⟨2, ![1, 2560]⟩
abbrev S2560 : Shape := ⟨1, ![2560]⟩
abbrev S16384x2560 : Shape := ⟨2, ![16384, 2560]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x2560, .f32⟩
  | .hbm, ⟨2, _⟩ => ⟨S1x2560, .f32⟩
  | .hbm, ⟨3, _⟩ => ⟨S1x2048x2560, .bf16⟩
  | .hbm, ⟨4, _⟩ => ⟨S2560, .f32⟩
  | .hbm, ⟨5, _⟩ => ⟨S1x2560, .f32⟩
  | .hbm, ⟨6, _⟩ => ⟨S16384x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQkvIdeal.lean ====
abbrev S16384x2048 : Shape := ⟨2, ![16384, 2048]⟩
abbrev S1x2048x2560 : Shape := ⟨3, ![1, 2048, 2560]⟩
abbrev S1x2560 : Shape := ⟨2, ![1, 2560]⟩
abbrev S2048x2560 : Shape := ⟨2, ![2048, 2560]⟩
abbrev S16384x2560 : Shape := ⟨2, ![16384, 2560]⟩
abbrev S2560 : Shape := ⟨1, ![2560]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2560, .f32⟩
  | .hbm, ⟨2, _⟩ => ⟨S1x2560, .f32⟩
  | .hbm, ⟨3, _⟩ => ⟨S16384x2048, .f32⟩
  | .hbm, ⟨4, _⟩ => ⟨S2048x2560, .f32⟩
  | .hbm, ⟨5, _⟩ => ⟨S16384x2560, .f32⟩
  | .hbm, ⟨6, _⟩ => ⟨S2560, .f32⟩
  | .hbm, ⟨7, _⟩ => ⟨S1x2560, .f32⟩
  | .hbm, ⟨8, _⟩ => ⟨S16384x2560, .f32⟩
  | .hbm, ⟨9, _⟩ => ⟨S16384x2560, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelConvOut.lean ====
abbrev S16384x2048 : Shape := ⟨2, ![16384, 2048]⟩
abbrev S1x2048x2048 : Shape := ⟨3, ![1, 2048, 2048]⟩
abbrev S1x2048 : Shape := ⟨2, ![1, 2048]⟩
abbrev S4x1x2048 : Shape := ⟨3, ![4, 1, 2048]⟩
abbrev S2048 : Shape := ⟨1, ![2048]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S1x1x512 : Shape := ⟨3, ![1, 1, 512]⟩
abbrev S2048x512 : Shape := ⟨2, ![2048, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S1x2048, .f32⟩
  | .hbm, ⟨3, _⟩ => ⟨S16384x2048, .f32⟩
  | .hbm, ⟨4, _⟩ => ⟨S4x1x2048, .f32⟩
  | .hbm, ⟨5, _⟩ => ⟨S1x2048x2048, .bf16⟩
  | .hbm, ⟨6, _⟩ => ⟨S2048, .f32⟩
  | .hbm, ⟨7, _⟩ => ⟨S1x2048, .f32⟩
  | .hbm, ⟨8, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvOutIdeal.lean ====
abbrev S16384x2048 : Shape := ⟨2, ![16384, 2048]⟩
abbrev S1x2048x2048 : Shape := ⟨3, ![1, 2048, 2048]⟩
abbrev S1x2048 : Shape := ⟨2, ![1, 2048]⟩
abbrev S4x1x2048 : Shape := ⟨3, ![4, 1, 2048]⟩
abbrev S2048x2048 : Shape := ⟨2, ![2048, 2048]⟩
abbrev S2048 : Shape := ⟨1, ![2048]⟩
abbrev S4x4096x2048 : Shape := ⟨3, ![4, 4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S1x2048, .f32⟩
  | .hbm, ⟨3, _⟩ => ⟨S16384x2048, .f32⟩
  | .hbm, ⟨4, _⟩ => ⟨S4x1x2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelAttnOut.lean ====
abbrev S16384x2048 : Shape := ⟨2, ![16384, 2048]⟩
abbrev S1x2048x2048 : Shape := ⟨3, ![1, 2048, 2048]⟩
abbrev S4x1x2048 : Shape := ⟨3, ![4, 1, 2048]⟩
abbrev S1024x2048 : Shape := ⟨2, ![1024, 2048]⟩
abbrev S1x2048x512 : Shape := ⟨3, ![1, 2048, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S4x1x2048, .f32⟩
  | .hbm, ⟨4, _⟩ => ⟨S1x2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceAttnOutIdeal.lean ====
abbrev S16384x2048 : Shape := ⟨2, ![16384, 2048]⟩
abbrev S1x2048x2048 : Shape := ⟨3, ![1, 2048, 2048]⟩
abbrev S4x1x2048 : Shape := ⟨3, ![4, 1, 2048]⟩
abbrev S2048x2048 : Shape := ⟨2, ![2048, 2048]⟩
abbrev S4x4096x2048 : Shape := ⟨3, ![4, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S4x1x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelNorm.lean ====
abbrev S16384x2048 : Shape := ⟨2, ![16384, 2048]⟩
abbrev S2048x16384 : Shape := ⟨2, ![2048, 16384]⟩
abbrev S4x1x2048 : Shape := ⟨3, ![4, 1, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S4x1x2048, .f32⟩
  | .hbm, ⟨3, _⟩ => ⟨S2048, .f32⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S16384x2048 : Shape := ⟨2, ![16384, 2048]⟩
abbrev S2048x16384 : Shape := ⟨2, ![2048, 16384]⟩
abbrev S4x1x2048 : Shape := ⟨3, ![4, 1, 2048]⟩
abbrev S2048 : Shape := ⟨1, ![2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S4x1x2048, .f32⟩
  | .hbm, ⟨3, _⟩ => ⟨S2048, .f32⟩
  | .hbm, ⟨4, _⟩ => ⟨S4x4096x2048, .f32⟩
  | .hbm, ⟨5, _⟩ => ⟨S16384x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelSguMix.lean ====
abbrev S16384x6144 : Shape := ⟨2, ![16384, 6144]⟩
abbrev S6144 : Shape := ⟨1, ![6144]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S128x8 : Shape := ⟨2, ![128, 8]⟩
abbrev S1x6144 : Shape := ⟨2, ![1, 6144]⟩
abbrev S128x6144 : Shape := ⟨2, ![128, 6144]⟩
abbrev S1x128x128 : Shape := ⟨3, ![1, 128, 128]⟩
abbrev S128x768 : Shape := ⟨2, ![128, 768]⟩

abbrev nBuf : Space → Nat
  | .hbm => 53
  | .vmem => 11
  | .smem => 0
  | _ => 0

abbrev bufTy : (tb : Table) → Fin (tcTables nBuf tb) → BufTy
  | .hbm, ⟨0, _⟩ => ⟨S16384x6144, .f32⟩
  | .hbm, ⟨1, _⟩ => ⟨S16384x6144, .bf16⟩
  | .hbm, ⟨2, _⟩ => ⟨S6144, .f32⟩
  | .hbm, ⟨3, _⟩ => ⟨S6144, .f32⟩
  | .hbm, ⟨4, _⟩ => ⟨S8x128x128, .f32⟩
  | .hbm, ⟨5, _⟩ => ⟨S8x128, .f32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S_, .i32⟩
  | .hbm, ⟨10, _⟩ => ⟨S1x128, .i32⟩
  | .hbm, ⟨11, _⟩ => ⟨S1x128, .i32⟩
  | .hbm, ⟨12, _⟩ => ⟨S1x128, .i32⟩
  | .hbm, ⟨13, _⟩ => ⟨S_, .i32⟩
  | .hbm, ⟨14, _⟩ => ⟨S1x128, .i32⟩
  | .hbm, ⟨15, _⟩ => ⟨S1x128, .i1⟩
  | .hbm, ⟨16, _⟩ => ⟨S1x128, .i32⟩
  | .hbm, ⟨17, _⟩ => ⟨S1x128, .i32⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S1x128, .i1⟩
  | .hbm, ⟨22, _⟩ => ⟨S_, .i32⟩
  | .hbm, ⟨23, _⟩ => ⟨S1x128, .i32⟩
  | .hbm, ⟨24, _⟩ => ⟨S1x128, .i32⟩
  | .hbm, ⟨25, _⟩ => ⟨S1x128, .i32⟩
  | .hbm, ⟨26, _⟩ => ⟨S128x1, .i32⟩
  | .hbm, ⟨27, _⟩ => ⟨S_, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i1⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i1⟩
  | .hbm, ⟨40, _⟩ => ⟨S128x1, .i1⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x1, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S128x128, .f32⟩
  | .hbm, ⟨49, _⟩ => ⟨S128x8, .f32⟩
  | .hbm, ⟨50, _⟩ => ⟨S1x6144, .f32⟩
  | .hbm, ⟨51, _⟩ => ⟨S1x6144, .f32⟩
  | .hbm, ⟨52, _⟩ => ⟨S16384x6144, .bf16⟩
  | .local _ .vmem, ⟨0, _⟩ => ⟨S128x6144, .f32⟩
  | .local _ .vmem, ⟨1, _⟩ => ⟨S128x6144, .f32⟩
  | .local _ .vmem, ⟨2, _⟩ => ⟨S128x6144, .bf16⟩
  | .local _ .vmem, ⟨3, _⟩ => ⟨S128x6144, .bf16⟩
  | .local _ .vmem, ⟨4, _⟩ => ⟨S1x6144, .f32⟩
  | .local _ .vmem, ⟨5, _⟩ => ⟨S1x6144, .f32⟩
  | .local _ .vmem, ⟨6, _⟩ => ⟨S8x128x128, .f32⟩
  | .local _ .vmem, ⟨7, _⟩ => ⟨S128x128, .f32⟩
  | .local _ .vmem, ⟨8, _⟩ => ⟨S128x8, .f32⟩
  | .local _ .vmem, ⟨9, _⟩ => ⟨S128x6144, .bf16⟩
  | .local _ .vmem, ⟨10, _⟩ => ⟨S128x6144, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceSguMixIdeal.lean ====
abbrev S16384x6144 : Shape := ⟨2, ![16384, 6144]⟩
abbrev S6144 : Shape := ⟨1, ![6144]⟩
abbrev S8x128x128 : Shape := ⟨3, ![8, 128, 128]⟩
abbrev S8x128 : Shape := ⟨2, ![8, 128]⟩
abbrev S_ : Shape := ⟨0, ![]⟩
abbrev S16384 : Shape := ⟨1, ![16384]⟩
abbrev S16384x1 : Shape := ⟨2, ![16384, 1]⟩
abbrev S1x6144 : Shape := ⟨2, ![1, 6144]⟩
abbrev S128x128x8x768 : Shape := ⟨4, ![128, 128, 8, 768]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x768x128 : Shape := ⟨4, ![8, 128, 768, 128]⟩
abbrev S128x8 : Shape := ⟨2, ![128, 8]⟩
abbrev S1x128x8x1 : Shape := ⟨4, ![1, 128, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S16384x6144, .bf16⟩
  | .hbm, ⟨2, _⟩ => ⟨S6144, .f32⟩
  | .hbm, ⟨3, _⟩ => ⟨S6144, .f32⟩
  | .hbm, ⟨4, _⟩ => ⟨S8x128x128, .f32⟩
  | .hbm, ⟨5, _⟩ => ⟨S8x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x6144, .f32⟩
  | .hbm, ⟨13, _⟩ => ⟨S16384x6144, .f32⟩
  | .hbm, ⟨14, _⟩ => ⟨S16384x6144, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x6144, .f32⟩
  | .hbm, ⟨22, _⟩ => ⟨S16384x6144, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x6144, .f32⟩
  | .hbm, ⟨28, _⟩ => ⟨S16384x6144, .f32⟩
  | .hbm, ⟨29, _⟩ => ⟨S1x6144, .f32⟩
  | .hbm, ⟨30, _⟩ => ⟨S16384x6144, .f32⟩
  | .hbm, ⟨31, _⟩ => ⟨S16384x6144, .f32⟩
  | .hbm, ⟨32, _⟩ => ⟨S1x6144, .f32⟩
  | .hbm, ⟨33, _⟩ => ⟨S16384x6144, .f32⟩
  | .hbm, ⟨34, _⟩ => ⟨S16384x6144, .f32⟩
  | .hbm, ⟨35, _⟩ => ⟨S128x128x8x768, .f32⟩
  | .hbm, ⟨36, _⟩ => ⟨S128, .i32⟩
  | .hbm, ⟨37, _⟩ => ⟨S1x128, .i32⟩
  | .hbm, ⟨38, _⟩ => ⟨S_, .i32⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S1x128, .i32⟩
  | .hbm, ⟨47, _⟩ => ⟨S1x128, .i32⟩
  | .hbm, ⟨48, _⟩ => ⟨S_, .i32⟩
  | .hbm, ⟨49, _⟩ => ⟨S1x128, .i32⟩
  | .hbm, ⟨50, _⟩ => ⟨S1x128, .i1⟩
  | .hbm, ⟨51, _⟩ => ⟨S1x128, .i1⟩
  | .hbm, ⟨52, _⟩ => ⟨S_, .i32⟩
  | .hbm, ⟨53, _⟩ => ⟨S1x128, .i32⟩
  | .hbm, ⟨54, _⟩ => ⟨S1x128, .i32⟩
  | .hbm, ⟨55, _⟩ => ⟨S1x128, .i32⟩
  | .hbm, ⟨56, _⟩ => ⟨S128x1, .i32⟩
  | .hbm, ⟨57, _⟩ => ⟨S_, .i32⟩
  | .hbm, ⟨58, _⟩ => ⟨S_, .i32⟩
  | .hbm, ⟨59, _⟩ => ⟨S128x1, .i32⟩
  | .hbm, ⟨60, _⟩ => ⟨S128x1, .i32⟩
  | .hbm, ⟨61, _⟩ => ⟨S128x1, .i32⟩
  | .hbm, ⟨62, _⟩ => ⟨S_, .i32⟩
  | .hbm, ⟨63, _⟩ => ⟨S128x1, .i32⟩
  | .hbm, ⟨64, _⟩ => ⟨S128x1, .i1⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i1⟩
  | .hbm, ⟨70, _⟩ => ⟨S128x1, .i1⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x1, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S128x128, .f32⟩
  | .hbm, ⟨79, _⟩ => ⟨S1x128x128, .f32⟩
  | .hbm, ⟨80, _⟩ => ⟨S8x128x128, .f32⟩
  | .hbm, ⟨81, _⟩ => ⟨S8x128x128, .f32⟩
  | .hbm, ⟨82, _⟩ => ⟨S8x128x768x128, .f32⟩
  | .hbm, ⟨83, _⟩ => ⟨S128x128x8x768, .f32⟩
  | .hbm, ⟨84, _⟩ => ⟨S128x8, .f32⟩
  | .hbm, ⟨85, _⟩ => ⟨S1x128x8x1, .f32⟩
  | .hbm, ⟨86, _⟩ => ⟨S128x128x8x768, .f32⟩
  | .hbm, ⟨87, _⟩ => ⟨S128x128x8x768, .f32⟩
  | .hbm, ⟨88, _⟩ => ⟨S16384x6144, .f32⟩
  | .hbm, ⟨89, _⟩ => ⟨S16384x6144, .f32⟩
  | .hbm, ⟨90, _⟩ => ⟨S16384x6144, .f32⟩
  | .hbm, ⟨91, _⟩ => ⟨S16384x6144, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩

abbrev nD : Nat := 1
abbrev τ : Topo := Topo.v7x

variable {F : FTy → Type} [FloatOps F]
-- ==== KernelSguMixSample.lean ====
abbrev S128x6144 : Shape := ⟨2, ![128, 6144]⟩
abbrev S6144 : Shape := ⟨1, ![6144]⟩
abbrev S8x128x128 : Shape := ⟨3, ![8, 128, 128]⟩
abbrev S8x128 : Shape := ⟨2, ![8, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S8x16x16 : Shape := ⟨3, ![8, 16, 16]⟩
abbrev S1x8x1x16x1x16 : Shape := ⟨6, ![1, 8, 1, 16, 1, 16]⟩
abbrev S1x8x8x16x8x16 : Shape := ⟨6, ![1, 8, 8, 16, 8, 16]⟩
abbrev S8x16 : Shape := ⟨2, ![8, 16]⟩
abbrev S1x8x1x16 : Shape := ⟨4, ![1, 8, 1, 16]⟩
abbrev S1x8x8x16 : Shape := ⟨4, ![1, 8, 8, 16]⟩
abbrev S128x8 : Shape := ⟨2, ![128, 8]⟩
abbrev S1x6144 : Shape := ⟨2, ![1, 6144]⟩
abbrev S1x128x128 : Shape := ⟨3, ![1, 128, 128]⟩
abbrev S128x768 : Shape := ⟨2, ![128, 768]⟩

abbrev nBuf : Space → Nat
  | .hbm => 130
  | .vmem => 9
  | .smem => 0
  | _ => 0

abbrev hbmTy0_0 (i : Nat) : BufTy := match i % 128 with
  | 0 => ⟨S128x6144, .f32⟩
  | 1 => ⟨S128x6144, .bf16⟩
  | 2 => ⟨S6144, .f32⟩
  | 3 => ⟨S6144, .f32⟩
  | 4 => ⟨S8x128x128, .f32⟩
  | 5 => ⟨S8x128, .f32⟩
  | 6 => ⟨S128, .i32⟩
  | 7 => ⟨S_, .i32⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i1⟩
  | 15 => ⟨S128, .i32⟩
  | 16 => ⟨S128, .i32⟩
  | 17 => ⟨S_, .i32⟩
  | 18 => ⟨S128, .i32⟩
  | 19 => ⟨S128, .i1⟩
  | 20 => ⟨S128, .i1⟩
  | 21 => ⟨S_, .i32⟩
  | 22 => ⟨S128, .i32⟩
  | 23 => ⟨S128, .i32⟩
  | 24 => ⟨S128, .i32⟩
  | 25 => ⟨S1x128, .i32⟩
  | 26 => ⟨S128x1, .i32⟩
  | 27 => ⟨S128x128, .i32⟩
  | 28 => ⟨S128x128, .i32⟩
  | 29 => ⟨S128x128, .i1⟩
  | 30 => ⟨S1x128, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S1x128, .i32⟩
  | 38 => ⟨S1x128, .i32⟩
  | 39 => ⟨S_, .i32⟩
  | 40 => ⟨S1x128, .i32⟩
  | 41 => ⟨S1x128, .i1⟩
  | 42 => ⟨S_, .i32⟩
  | 43 => ⟨S1x128, .i32⟩
  | 44 => ⟨S1x128, .i1⟩
  | 45 => ⟨S_, .i32⟩
  | 46 => ⟨S_, .i1⟩
  | 47 => ⟨S1x128, .i1⟩
  | 48 => ⟨S1x128, .i1⟩
  | 49 => ⟨S1x128, .i1⟩
  | 50 => ⟨S1x128, .i32⟩
  | 51 => ⟨S1x128, .i32⟩
  | 52 => ⟨S1x128, .i32⟩
  | 53 => ⟨S_, .i32⟩
  | 54 => ⟨S_, .i32⟩
  | 55 => ⟨S1x128, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S1x128, .i32⟩
  | 62 => ⟨S1x128, .i32⟩
  | 63 => ⟨S_, .i32⟩
  | 64 => ⟨S1x128, .i32⟩
  | 65 => ⟨S1x128, .i1⟩
  | 66 => ⟨S1x128, .i1⟩
  | 67 => ⟨S_, .i32⟩
  | 68 => ⟨S1x128, .i32⟩
  | 69 => ⟨S1x128, .i32⟩
  | 70 => ⟨S1x128, .i32⟩
  | 71 => ⟨S128x1, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S_, .i32⟩
  | 95 => ⟨S_, .i32⟩
  | 96 => ⟨S128x1, .i32⟩
  | 97 => ⟨S128x1, .i32⟩
  | 98 => ⟨S128x1, .i32⟩
  | 99 => ⟨S_, .i32⟩
  | 100 => ⟨S128x1, .i32⟩
  | 101 => ⟨S128x1, .i1⟩
  | 102 => ⟨S128x1, .i32⟩
  | 103 => ⟨S128x1, .i32⟩
  | 104 => ⟨S_, .i32⟩
  | 105 => ⟨S128x1, .i32⟩
  | 106 => ⟨S128x1, .i1⟩
  | 107 => ⟨S128x1, .i1⟩
  | 108 => ⟨S_, .i32⟩
  | 109 => ⟨S128x1, .i32⟩
  | 110 => ⟨S128x1, .i32⟩
  | 111 => ⟨S128x1, .i32⟩
  | 112 => ⟨S128x128, .i32⟩
  | 113 => ⟨S128x128, .i32⟩
  | 114 => ⟨S128x128, .i1⟩
  | 115 => ⟨S128x128, .i1⟩
  | 116 => ⟨S128x128, .f32⟩
  | 117 => ⟨S8x16x16, .f32⟩
  | 118 => ⟨S1x8x1x16x1x16, .f32⟩
  | 119 => ⟨S1x8x8x16x8x16, .f32⟩
  | 120 => ⟨S8x128x128, .f32⟩
  | 121 => ⟨S8x16, .f32⟩
  | 122 => ⟨S1x8x1x16, .f32⟩
  | 123 => ⟨S1x8x8x16, .f32⟩
  | 124 => ⟨S8x128, .f32⟩
  | 125 => ⟨S128x8, .f32⟩
  | 126 => ⟨S1x6144, .f32⟩
  | 127 => ⟨S1x6144, .f32⟩
  | _ => ⟨S128x6144, .f32⟩

abbrev hbmTy0_1 (i : Nat) : BufTy := match i % 128 with
  | 0 => ⟨S128x6144, .bf16⟩
  | 1 => ⟨S128x6144, .f32⟩
  | _ => ⟨S128x6144, .f32⟩

abbrev hbmTy (i : Nat) : BufTy := match i / 128 with
  | 0 => hbmTy0_0 i
  | 1 => hbmTy0_1 i
  | _ => ⟨S128x6144, .f32⟩

abbrev bufTy : (tb : Table) → Fin (tcTables nBuf tb) → BufTy
  | .hbm, ⟨i, _⟩ => hbmTy i
  | .local _ .vmem, ⟨0, _⟩ => ⟨S128x6144, .f32⟩
  | .local _ .vmem, ⟨1, _⟩ => ⟨S128x6144, .bf16⟩
  | .local _ .vmem, ⟨2, _⟩ => ⟨S1x6144, .f32⟩
  | .local _ .vmem, ⟨3, _⟩ => ⟨S1x6144, .f32⟩
  | .local _ .vmem, ⟨4, _⟩ => ⟨S8x128x128, .f32⟩
  | .local _ .vmem, ⟨5, _⟩ => ⟨S128x128, .f32⟩
  | .local _ .vmem, ⟨6, _⟩ => ⟨S128x8, .f32⟩
  | .local _ .vmem, ⟨7, _⟩ => ⟨S128x6144, .bf16⟩
  | .local _ .vmem, ⟨8, _⟩ => ⟨S128x6144, .f32⟩
  | _, _ => ⟨S128x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v8 : Ref sig .tc := ⟨.hbm, 52, rfl⟩
abbrev main_c_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v9 : Ref sig .tc := ⟨.hbm, 70, rfl⟩
abbrev main_v10 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v11 : Ref sig .tc := ⟨.hbm, 93, rfl⟩
abbrev main_c_3 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_c : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_0 : Ref sig .tc := ⟨.hbm, 108, rfl⟩
abbrev main_call4_v12 : Ref sig .tc := ⟨.hbm, 109, rfl⟩
abbrev main_call4_v13 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29_0 : Ref sig .tc := ⟨.hbm, 128, rfl⟩
abbrev main_v29_1 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceSguMixSampleIdeal.lean ====
abbrev S128x6144 : Shape := ⟨2, ![128, 6144]⟩
abbrev S6144 : Shape := ⟨1, ![6144]⟩
abbrev S8x128x128 : Shape := ⟨3, ![8, 128, 128]⟩
abbrev S8x128 : Shape := ⟨2, ![8, 128]⟩
abbrev S_ : Shape := ⟨0, ![]⟩
abbrev S128 : Shape := ⟨1, ![128]⟩
abbrev S128x1 : Shape := ⟨2, ![128, 1]⟩
abbrev S1x6144 : Shape := ⟨2, ![1, 6144]⟩
abbrev S8x16x8x768 : Shape := ⟨4, ![8, 16, 8, 768]⟩
abbrev S1x128 : Shape := ⟨2, ![1, 128]⟩
abbrev S128x128 : Shape := ⟨2, ![128, 128]⟩
abbrev S1x128x128 : Shape := ⟨3, ![1, 128, 128]⟩
abbrev S8x16x16 : Shape := ⟨3, ![8, 16, 16]⟩
abbrev S8x8x768x16 : Shape := ⟨4, ![8, 8, 768, 16]⟩
abbrev S8x16 : Shape := ⟨2, ![8, 16]⟩
abbrev S16x8 : Shape := ⟨2, ![16, 8]⟩
abbrev S1x16x8x1 : Shape := ⟨4, ![1, 16, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S128x6144, .f32⟩
  | .hbm, ⟨1, _⟩ => ⟨S128x6144, .bf16⟩
  | .hbm, ⟨2, _⟩ => ⟨S6144, .f32⟩
  | .hbm, ⟨3, _⟩ => ⟨S6144, .f32⟩
  | .hbm, ⟨4, _⟩ => ⟨S8x128x128, .f32⟩
  | .hbm, ⟨5, _⟩ => ⟨S8x128, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x6144, .f32⟩
  | .hbm, ⟨13, _⟩ => ⟨S128x6144, .f32⟩
  | .hbm, ⟨14, _⟩ => ⟨S128x6144, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x6144, .f32⟩
  | .hbm, ⟨22, _⟩ => ⟨S128x6144, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S128x6144, .f32⟩
  | .hbm, ⟨28, _⟩ => ⟨S128x6144, .f32⟩
  | .hbm, ⟨29, _⟩ => ⟨S1x6144, .f32⟩
  | .hbm, ⟨30, _⟩ => ⟨S128x6144, .f32⟩
  | .hbm, ⟨31, _⟩ => ⟨S128x6144, .f32⟩
  | .hbm, ⟨32, _⟩ => ⟨S1x6144, .f32⟩
  | .hbm, ⟨33, _⟩ => ⟨S128x6144, .f32⟩
  | .hbm, ⟨34, _⟩ => ⟨S128x6144, .f32⟩
  | .hbm, ⟨35, _⟩ => ⟨S8x16x8x768, .f32⟩
  | .hbm, ⟨36, _⟩ => ⟨S128, .i32⟩
  | .hbm, ⟨37, _⟩ => ⟨S1x128, .i32⟩
  | .hbm, ⟨38, _⟩ => ⟨S_, .i32⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S1x128, .i32⟩
  | .hbm, ⟨47, _⟩ => ⟨S1x128, .i32⟩
  | .hbm, ⟨48, _⟩ => ⟨S_, .i32⟩
  | .hbm, ⟨49, _⟩ => ⟨S1x128, .i32⟩
  | .hbm, ⟨50, _⟩ => ⟨S1x128, .i1⟩
  | .hbm, ⟨51, _⟩ => ⟨S1x128, .i1⟩
  | .hbm, ⟨52, _⟩ => ⟨S_, .i32⟩
  | .hbm, ⟨53, _⟩ => ⟨S1x128, .i32⟩
  | .hbm, ⟨54, _⟩ => ⟨S1x128, .i32⟩
  | .hbm, ⟨55, _⟩ => ⟨S1x128, .i32⟩
  | .hbm, ⟨56, _⟩ => ⟨S128x1, .i32⟩
  | .hbm, ⟨57, _⟩ => ⟨S_, .i32⟩
  | .hbm, ⟨58, _⟩ => ⟨S_, .i32⟩
  | .hbm, ⟨59, _⟩ => ⟨S128x1, .i32⟩
  | .hbm, ⟨60, _⟩ => ⟨S128x1, .i32⟩
  | .hbm, ⟨61, _⟩ => ⟨S128x1, .i32⟩
  | .hbm, ⟨62, _⟩ => ⟨S_, .i32⟩
  | .hbm, ⟨63, _⟩ => ⟨S128x1, .i32⟩
  | .hbm, ⟨64, _⟩ => ⟨S128x1, .i1⟩
  | .hbm, ⟨65, _⟩ => ⟨S128x1, .i32⟩
  | .hbm, ⟨66, _⟩ => ⟨S128x1, .i32⟩
  | .hbm, ⟨67, _⟩ => ⟨S_, .i32⟩
  | .hbm, ⟨68, _⟩ => ⟨S128x1, .i32⟩
  | .hbm, ⟨69, _⟩ => ⟨S128x1, .i1⟩
  | .hbm, ⟨70, _⟩ => ⟨S128x1, .i1⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x1, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S128x128, .f32⟩
  | .hbm, ⟨79, _⟩ => ⟨S1x128x128, .f32⟩
  | .hbm, ⟨80, _⟩ => ⟨S8x128x128, .f32⟩
  | .hbm, ⟨81, _⟩ => ⟨S8x128x128, .f32⟩
  | .hbm, ⟨82, _⟩ => ⟨S8x16x16, .f32⟩
  | .hbm, ⟨83, _⟩ => ⟨S8x8x768x16, .f32⟩
  | .hbm, ⟨84, _⟩ => ⟨S8x16x8x768, .f32⟩
  | .hbm, ⟨85, _⟩ => ⟨S8x16, .f32⟩
  | .hbm, ⟨86, _⟩ => ⟨S16x8, .f32⟩
  | .hbm, ⟨87, _⟩ => ⟨S1x16x8x1, .f32⟩
  | .hbm, ⟨88, _⟩ => ⟨S8x16x8x768, .f32⟩
  | .hbm, ⟨89, _⟩ => ⟨S8x16x8x768, .f32⟩
  | .hbm, ⟨90, _⟩ => ⟨S128x6144, .f32⟩
  | .hbm, ⟨91, _⟩ => ⟨S128x6144, .f32⟩
  | .hbm, ⟨92, _⟩ => ⟨S128x6144, .f32⟩
  | .hbm, ⟨93, _⟩ => ⟨S128x6144, .bf16⟩
  | _, _ => ⟨S128x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩

abbrev nD : Nat := 1
abbrev τ : Topo := Topo.v7x

variable {F : FTy → Type} [FloatOps F]
-- ==== KernelNormSample.lean ====
abbrev S128x2048 : Shape := ⟨2, ![128, 2048]⟩
abbrev S2048x128 : Shape := ⟨2, ![2048, 128]⟩
abbrev S8x1x2048 : Shape := ⟨3, ![8, 1, 2048]⟩
abbrev S2048 : Shape := ⟨1, ![2048]⟩
abbrev S8x2048 : Shape := ⟨2, ![8, 2048]⟩
abbrev S8x16x2048 : Shape := ⟨3, ![8, 16, 2048]⟩
abbrev S1x128x2048 : Shape := ⟨3, ![1, 128, 2048]⟩
abbrev S1x2048 : Shape := ⟨2, ![1, 2048]⟩
abbrev S128 : Shape := ⟨1, ![128]⟩
abbrev S128x1 : Shape := ⟨2, ![128, 1]⟩

abbrev nBuf : Space → Nat
  | .hbm => 10
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S8x1x2048, .f32⟩
  | .hbm, ⟨3, _⟩ => ⟨S2048, .f32⟩
  | .hbm, ⟨4, _⟩ => ⟨S8x2048, .f32⟩
  | .hbm, ⟨5, _⟩ => ⟨S8x16x2048, .f32⟩
  | .hbm, ⟨6, _⟩ => ⟨S128x2048, .f32⟩
  | .hbm, ⟨7, _⟩ => ⟨S1x128x2048, .f32⟩
  | .hbm, ⟨8, _⟩ => ⟨S1x2048, .f32⟩
  | .hbm, ⟨9, _⟩ => ⟨S128x2048, .f32⟩
  | .local _ .vmem, ⟨0, _⟩ => ⟨S128x2048, .f32⟩
  | .local _ .vmem, ⟨1, _⟩ => ⟨S2048x128, .f32⟩
  | .local _ .vmem, ⟨2, _⟩ => ⟨S1x128x2048, .f32⟩
  | .local _ .vmem, ⟨3, _⟩ => ⟨S1x2048, .f32⟩
  | .local _ .vmem, ⟨4, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ReferenceNormSampleIdeal.lean ====
abbrev S128x2048 : Shape := ⟨2, ![128, 2048]⟩
abbrev S2048x128 : Shape := ⟨2, ![2048, 128]⟩
abbrev S8x1x2048 : Shape := ⟨3, ![8, 1, 2048]⟩
abbrev S2048 : Shape := ⟨1, ![2048]⟩
abbrev S8x16x2048 : Shape := ⟨3, ![8, 16, 2048]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S8x1x2048, .f32⟩
  | .hbm, ⟨3, _⟩ => ⟨S2048, .f32⟩
  | .hbm, ⟨4, _⟩ => ⟨S8x16x2048, .f32⟩
  | .hbm, ⟨5, _⟩ => ⟨S128x2048, .f32⟩
  | .hbm, ⟨6, _⟩ => ⟨S8x16x2048, .f32⟩
  | .hbm, ⟨7, _⟩ => ⟨S8x16x2048, .f32⟩
  | .hbm, ⟨8, _⟩ => ⟨S8x16x2048, .f32⟩
  | .hbm, ⟨9, _⟩ => ⟨S8x16x2048, .f32⟩
  | .hbm, ⟨10, _⟩ => ⟨S8x16x2048, .f32⟩
  | .hbm, ⟨11, _⟩ => ⟨S_, .f32⟩
  | .hbm, ⟨12, _⟩ => ⟨S8x16, .f32⟩
  | .hbm, ⟨13, _⟩ => ⟨S8x16x1, .f32⟩
  | .hbm, ⟨14, _⟩ => ⟨S_, .f32⟩
  | .hbm, ⟨15, _⟩ => ⟨S8x16x1, .f32⟩
  | .hbm, ⟨16, _⟩ => ⟨S8x16x1, .f32⟩
  | .hbm, ⟨17, _⟩ => ⟨S_, .f32⟩
  | .hbm, ⟨18, _⟩ => ⟨S8x16x1, .f32⟩
  | .hbm, ⟨19, _⟩ => ⟨S8x16x1, .f32⟩
  | .hbm, ⟨20, _⟩ => ⟨S8x16x1, .f32⟩
  | .hbm, ⟨21, _⟩ => ⟨S8x16x2048, .f32⟩
  | .hbm, ⟨22, _⟩ => ⟨S8x16x2048, .f32⟩
  | .hbm, ⟨23, _⟩ => ⟨S1x1x2048, .f32⟩
  | .hbm, ⟨24, _⟩ => ⟨S8x16x2048, .f32⟩
  | .hbm, ⟨25, _⟩ => ⟨S8x16x2048, .f32⟩
  | .hbm, ⟨26, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelGluSample.lean ====
abbrev S128x2048 : Shape := ⟨2, ![128, 2048]⟩
abbrev S1x2048x4096 : Shape := ⟨3, ![1, 2048, 4096]⟩
abbrev S1x4096 : Shape := ⟨2, ![1, 4096]⟩
abbrev S4096 : Shape := ⟨1, ![4096]⟩
abbrev S1x2048x512 : Shape := ⟨3, ![1, 2048, 512]⟩
abbrev S1x512 : Shape := ⟨2, ![1, 512]⟩
abbrev S128x512 : Shape := ⟨2, ![128, 512]⟩
abbrev S2048x512 : Shape := ⟨2, ![2048, 512]⟩

abbrev nBuf : Space → Nat
  | .hbm => 7
  | .vmem => 11
  | .smem => 0
  | _ => 0

abbrev bufTy : (tb : Table) → Fin (tcTables nBuf tb) → BufTy
  | .hbm, ⟨0, _⟩ => ⟨S128x2048, .bf16⟩
  | .hbm, ⟨1, _⟩ => ⟨S1x2048x4096, .f32⟩
  | .hbm, ⟨2, _⟩ => ⟨S1x4096, .f32⟩
  | .hbm, ⟨3, _⟩ => ⟨S1x2048x4096, .bf16⟩
  | .hbm, ⟨4, _⟩ => ⟨S4096, .f32⟩
  | .hbm, ⟨5, _⟩ => ⟨S1x4096, .f32⟩
  | .hbm, ⟨6, _⟩ => ⟨S128x2048, .f32⟩
  | .local _ .vmem, ⟨0, _⟩ => ⟨S128x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S128x512, .f32⟩
  | .local _ .vmem, ⟨10, _⟩ => ⟨S128x512, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGluSampleIdeal.lean ====
abbrev S128x2048 : Shape := ⟨2, ![128, 2048]⟩
abbrev S1x2048x4096 : Shape := ⟨3, ![1, 2048, 4096]⟩
abbrev S1x4096 : Shape := ⟨2, ![1, 4096]⟩
abbrev S2048x4096 : Shape := ⟨2, ![2048, 4096]⟩
abbrev S128x4096 : Shape := ⟨2, ![128, 4096]⟩
abbrev S4096 : Shape := ⟨1, ![4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S1x2048x4096, .f32⟩
  | .hbm, ⟨2, _⟩ => ⟨S1x4096, .f32⟩
  | .hbm, ⟨3, _⟩ => ⟨S128x2048, .f32⟩
  | .hbm, ⟨4, _⟩ => ⟨S2048x4096, .f32⟩
  | .hbm, ⟨5, _⟩ => ⟨S128x4096, .f32⟩
  | .hbm, ⟨6, _⟩ => ⟨S4096, .f32⟩
  | .hbm, ⟨7, _⟩ => ⟨S1x4096, .f32⟩
  | .hbm, ⟨8, _⟩ => ⟨S128x4096, .f32⟩
  | .hbm, ⟨9, _⟩ => ⟨S128x4096, .f32⟩
  | .hbm, ⟨10, _⟩ => ⟨S128x2048, .f32⟩
  | .hbm, ⟨11, _⟩ => ⟨S128x2048, .f32⟩
  | .hbm, ⟨12, _⟩ => ⟨S128x2048, .f32⟩
  | .hbm, ⟨13, _⟩ => ⟨S128x2048, .f32⟩
  | .hbm, ⟨14, _⟩ => ⟨S_, .f32⟩
  | .hbm, ⟨15, _⟩ => ⟨S128x2048, .f32⟩
  | .hbm, ⟨16, _⟩ => ⟨S128x2048, .f32⟩
  | .hbm, ⟨17, _⟩ => ⟨S_, .f32⟩
  | .hbm, ⟨18, _⟩ => ⟨S128x2048, .f32⟩
  | .hbm, ⟨19, _⟩ => ⟨S128x2048, .f32⟩
  | .hbm, ⟨20, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelQkvSample.lean ====
abbrev S128x2048 : Shape := ⟨2, ![128, 2048]⟩
abbrev S1x2048x2560 : Shape := ⟨3, ![1, 2048, 2560]⟩
abbrev S1x2560 : Shape := ⟨2, ![1, 2560]⟩
abbrev S2560 : Shape := ⟨1, ![2560]⟩
abbrev S128x2560 : Shape := ⟨2, ![128, 2560]⟩
abbrev S1x2048x512 : Shape := ⟨3, ![1, 2048, 512]⟩
abbrev S1x512 : Shape := ⟨2, ![1, 512]⟩
abbrev S128x512 : Shape := ⟨2, ![128, 512]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S1x2048x2560, .f32⟩
  | .hbm, ⟨2, _⟩ => ⟨S1x2560, .f32⟩
  | .hbm, ⟨3, _⟩ => ⟨S1x2048x2560, .bf16⟩
  | .hbm, ⟨4, _⟩ => ⟨S2560, .f32⟩
  | .hbm, ⟨5, _⟩ => ⟨S1x2560, .f32⟩
  | .hbm, ⟨6, _⟩ => ⟨S128x2560, .f32⟩
  | .local _ .vmem, ⟨0, _⟩ => ⟨S128x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x512, .f32⟩
  | .local _ .vmem, ⟨4, _⟩ => ⟨S1x512, .f32⟩
  | .local _ .vmem, ⟨5, _⟩ => ⟨S128x512, .f32⟩
  | .local _ .vmem, ⟨6, _⟩ => ⟨S128x512, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQkvSampleIdeal.lean ====
abbrev S128x2048 : Shape := ⟨2, ![128, 2048]⟩
abbrev S1x2048x2560 : Shape := ⟨3, ![1, 2048, 2560]⟩
abbrev S1x2560 : Shape := ⟨2, ![1, 2560]⟩
abbrev S2048x2560 : Shape := ⟨2, ![2048, 2560]⟩
abbrev S128x2560 : Shape := ⟨2, ![128, 2560]⟩
abbrev S2560 : Shape := ⟨1, ![2560]⟩

abbrev nBuf : Space → Nat
  | .hbm => 10
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S1x2048x2560, .f32⟩
  | .hbm, ⟨2, _⟩ => ⟨S1x2560, .f32⟩
  | .hbm, ⟨3, _⟩ => ⟨S128x2048, .f32⟩
  | .hbm, ⟨4, _⟩ => ⟨S2048x2560, .f32⟩
  | .hbm, ⟨5, _⟩ => ⟨S128x2560, .f32⟩
  | .hbm, ⟨6, _⟩ => ⟨S2560, .f32⟩
  | .hbm, ⟨7, _⟩ => ⟨S1x2560, .f32⟩
  | .hbm, ⟨8, _⟩ => ⟨S128x2560, .f32⟩
  | .hbm, ⟨9, _⟩ => ⟨S128x2560, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Lin.lean ====
/- The linear layers' entries: one entry of a row of activations against a layer's weights. -/
module

public import Idealize.ShloMosaic.Lib.Pointwise

@[expose] public section

noncomputable section

namespace Cert.Lin

open Idealize.ShloMosaic

/-- Row `i` of the activations against column `j` of the first layer's weights. -/
def proj {N K B M : ℕ} (h : Vec Ideal ⟨2, ![N, K]⟩ .bf16) (w : Vec Ideal ⟨3, ![B + 1, K, M]⟩ .f32) (i : Fin N) (j : Fin M) : EReal :=
  ∑ k : Fin K, h (ix2 i k) * w (ix3 0 k j)

/-- The same with the column's bias added. -/
def biased {N K B M : ℕ} (h : Vec Ideal ⟨2, ![N, K]⟩ .bf16) (w : Vec Ideal ⟨3, ![B + 1, K, M]⟩ .f32) (b : Vec Ideal ⟨2, ![B + 1, M]⟩ .f32)
    (i : Fin N) (j : Fin M) : EReal :=
  proj h w i j + b (ix2 0 j)

/-- The sequence that a row belongs to. -/
def seqOf (i : Fin 16384) : Fin 4 := ⟨i.val / 4096, by omega⟩

/-- The residual plus its sequence's gate times a value. -/
def residual (x : Vec Ideal ⟨2, ![16384, 2048]⟩ .f32) (g : Vec Ideal ⟨3, ![4, 1, 2048]⟩ .f32) (i : Fin 16384) (j : Fin 2048) (z : EReal) : EReal :=
  x (ix2 i j) + g (ix3 (seqOf i) 0 j) * z

/-- The tanh form of gelu, at one value. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- The gated linear unit, at a value and its gate. -/
def glu (x y : EReal) : EReal := x * Ideal.div 1 (1 + Ideal.exp (-y))

/-- A whole block's offsets. -/
theorem zero2 : (![0, 0] : Fin 2 → Nat) = fun _ => 0 := funext fun a => by fin_cases a <;> rfl

theorem zero3 : (![0, 0, 0] : Fin 3 → Nat) = fun _ => 0 := funext fun a => by fin_cases a <;> rfl

end Cert.Lin

end
-- ==== Proof.SguIn.lean ====
/- The gating unit's input projection: what the kernel's two output arrays and the reference's two results hold at an
   index, gelu of the projection with its bias. -/
module

public import proofs.«01_k».proof.Proof.Gen.KernelSguInIdeal.Value
public import proofs.«01_k».proof.Proof.Gen.ReferenceSguInIdeal.Run
public import proofs.«01_k».proof.Proof.Lin

@[expose] public section

set_option maxRecDepth 16384

noncomputable section

namespace Cert.KernelSguInIdeal.Proj

open Cert.KernelSguInIdeal Cert.KernelSguInIdeal.Gen Idealize.ShloMosaic Idealize.ShloMosaic.TcCoe Idealize.SL.Sem
open Idealize.ShloMosaic.Pipeline (Dat)

/-- The projection's 6144 columns from column `o` on, as one array. -/
def arr (o : ℕ) (ho : o + 6144 ≤ 12288) (h : Vec Ideal S16384x2048 .bf16) (w : Vec Ideal S2x2048x12288 .f32) (b : Vec Ideal S2x12288 .f32)
    (y : S16384x6144.Idx) : EReal :=
  Cert.Lin.gelu (Cert.Lin.biased (B := 1) h w b (y 0) ⟨o + (y 1).val, by have : (y 1).val < 6144 := (y 1).isLt; omega⟩)

/-- One entry of a block before gelu. -/
def blockEntry (x0 : Vec Ideal S1024x2048 .bf16) (x1 : Vec Ideal S1x2048x512 .bf16) (x2 : Vec Ideal S1x512 .f32) (a : Fin 1024) (d : Fin 512) : EReal :=
  (∑ k : Fin 2048, x0 (ix2 a k) * x1 (ix3 0 k d)) + x2 (ix2 0 d)

theorem pay2_apply (x0 : Vec Ideal S1024x2048 .bf16) (x1 : Vec Ideal S1x2048x512 .bf16) (x2 : Vec Ideal S1x512 .f32) (a : Fin 1024) (d : Fin 512) :
    k0_pay2 x0 x1 x2 (ix2 a d) = blockEntry x0 x1 x2 a d := by
  pointwise [k0_pay2]
  rfl

theorem second_apply (x0 : Vec Ideal S1024x2048 .bf16) (x1 : Vec Ideal S1x2048x512 .bf16) (x2 : Vec Ideal S1x512 .f32) (a : Fin 1024) (d : Fin 512) :
    k0_pay1 (k0_pay2 x0 x1 x2) (k0_pay4 x0 x1 x2) (Scalar.ofBits .f32 0x3F4C422A#32) (ix2 a d) = Cert.Lin.gelu (blockEntry x0 x1 x2 a d) := by
  pointwise [k0_pay1, k0_pay4]
  rw [pay2_apply]
  unfold Cert.Lin.gelu
  rw [mul_assoc (blockEntry x0 x1 x2 a d)]

theorem first_eq (x0 : Vec Ideal S1024x2048 .bf16) (x1 : Vec Ideal S1x2048x512 .bf16) (x2 : Vec Ideal S1x512 .f32) :
    k0_pay3 x0 x1 x2 = truncf .bf16 (k0_pay1 (k0_pay2 x0 x1 x2) (k0_pay4 x0 x1 x2) (Scalar.ofBits .f32 0x3F4C422A#32)) bitsLt_bf16_f32 := rfl

theorem first_apply (x0 : Vec Ideal S1024x2048 .bf16) (x1 : Vec Ideal S1x2048x512 .bf16) (x2 : Vec Ideal S1x512 .f32) (a : Fin 1024) (d : Fin 512) :
    k0_pay3 x0 x1 x2 (ix2 a d) = Cert.Lin.gelu (blockEntry x0 x1 x2 a d) := by
  rw [first_eq]
  exact second_apply x0 x1 x2 a d

theorem out5_eq (x0 : Vec Ideal S1024x2048 .bf16) (x1 x2 : Vec Ideal S1x2048x512 .bf16) (x3 x4 : Vec Ideal S1x512 .f32) :
    out0_5 x0 x1 x2 x3 x4 = k0_pay3 x0 x1 x3 := by
  unfold out0_5
  rw [View.canon_unit_zero Cert.Lin.zero2, View.ld_unit_zero Cert.Lin.zero2, View.ld_unit_zero Cert.Lin.zero3, View.ld_unit_zero Cert.Lin.zero2]

theorem out6_eq (x0 : Vec Ideal S1024x2048 .bf16) (x1 x2 : Vec Ideal S1x2048x512 .bf16) (x3 x4 : Vec Ideal S1x512 .f32) :
    out0_6 x0 x1 x2 x3 x4 = k0_pay1 (k0_pay2 x0 x2 x4) (k0_pay4 x0 x2 x4) (Scalar.ofBits .f32 0x3F4C422A#32) := by
  unfold out0_6
  rw [View.canon_unit_zero Cert.Lin.zero2, View.ld_unit_zero Cert.Lin.zero2, View.ld_unit_zero Cert.Lin.zero3, View.ld_unit_zero Cert.Lin.zero2]

variable (m : (ℓ : Loc nD τ sig) → Buf (Elt Ideal) ℓ)

abbrev hOf (c : Dev nD) : Vec Ideal S16384x2048 .bf16 := m ((c : Thread nD τ).loc main_arg0)
abbrev wOf (c : Dev nD) : Vec Ideal S2x2048x12288 .f32 := m ((c : Thread nD τ).loc main_arg1)
abbrev bOf (c : Dev nD) : Vec Ideal S2x12288 .f32 := m ((c : Thread nD τ).loc main_arg2)

theorem V_w (c : Dev nD) : V m c main_v0 = (wOf m c : Vec Ideal S2x2048x12288 .bf16) := by
  show StableHlo.after hostOps0 _ _ = _
  after_results <;> rfl

theorem V_b (c : Dev nD) (j : Fin 12288) : (V m c main_v3 : Vec Ideal S1x12288 .f32) (ix2 0 j) = bOf m c (ix2 0 j) := by
  have e : V m c main_v3 = (shapeCast S1x12288 (shapeCast S12288 (extractStridedSlice S1x12288 ![0, 0] (bOf m c) slices_S2x12288_S1x12288_0_0)
      shapeCasts_S1x12288_S12288) shapeCasts_S12288_S1x12288 : Vec Ideal S1x12288 .f32) := by
    show StableHlo.after hostOps0 _ _ = _
    after_results <;> rfl
  rw [e]
  pointwise

theorem N_eq : cfg0.N = 192 := by decide

theorem index : ∀ t : Fin grid0.N, (win0_0.index t 0 = t.val / 12 ∧ win0_0.index t 1 = 0)
    ∧ ((win0_1.index t 0 = 0 ∧ win0_1.index t 1 = 0 ∧ win0_1.index t 2 = t.val % 12)
      ∧ (win0_2.index t 0 = 0 ∧ win0_2.index t 1 = 0 ∧ win0_2.index t 2 = t.val % 12 + 12))
    ∧ ((win0_3.index t 0 = 0 ∧ win0_3.index t 1 = t.val % 12) ∧ (win0_4.index t 0 = 0 ∧ win0_4.index t 1 = t.val % 12 + 12)) := by decide +kernel

theorem index_out : ∀ t : Fin grid0.N, (win0_5.index t 0 = t.val / 12 ∧ win0_5.index t 1 = t.val % 12)
    ∧ (win0_6.index t 0 = t.val / 12 ∧ win0_6.index t 1 = t.val % 12) := by decide +kernel

theorem xsize : ∀ t : Fin grid0.N, (win0_5.xsize (grid0.coords t) 0 = 1024 ∧ win0_5.xsize (grid0.coords t) 1 = 512)
    ∧ (win0_6.xsize (grid0.coords t) 0 = 1024 ∧ win0_6.xsize (grid0.coords t) 1 = 512) := by decide +kernel

/-- The row of the arrays that row `a` of point `t`'s blocks is. -/
def row (t : Fin cfg0.N) (a : Fin 1024) : Fin 16384 := ⟨t.val / 12 * 1024 + a.val, by have := lt_of_lt_of_eq t.isLt N_eq; omega⟩
/-- The column of the results that column `d` of point `t`'s blocks is. -/
def col (t : Fin cfg0.N) (d : Fin 512) : Fin 6144 := ⟨t.val % 12 * 512 + d.val, by omega⟩

theorem h_apply (c : Dev nD) (t : Fin cfg0.N) (a : Fin 1024) (k : Fin 2048) :
    (iblk m c 0 t : Vec Ideal S1024x2048 .bf16) (ix2 a k) = hOf m c (ix2 (row t a) k) := by
  show (V m c main_arg0) _ = _
  rw [V_main_arg0]
  refine congrArg (hOf m c) (funext fun x => Fin.ext ?_)
  match x with
  | ⟨0, _⟩ => show win0_0.index t 0 * 1024 + 1 * a.val = t.val / 12 * 1024 + a.val; rw [(index t).1.1]; omega
  | ⟨1, _⟩ => show win0_0.index t 1 * 2048 + 1 * k.val = k.val; rw [(index t).1.2]; omega

theorem w1_apply (c : Dev nD) (t : Fin cfg0.N) (k : Fin 2048) (d : Fin 512) :
    (iblk m c 1 t : Vec Ideal S1x2048x512 .bf16) (ix3 0 k d) = wOf m c (ix3 0 k ⟨0 + (col t d).val, by omega⟩) := by
  show (V m c main_v0) _ = _
  rw [V_w]
  refine congrArg (wOf m c) (funext fun x => Fin.ext ?_)
  match x with
  | ⟨0, _⟩ => show win0_1.index t 0 * 1 + 1 * 0 = 0; rw [(index t).2.1.1.1]
  | ⟨1, _⟩ => show win0_1.index t 1 * 2048 + 1 * k.val = k.val; rw [(index t).2.1.1.2.1]; omega
  | ⟨2, _⟩ => show win0_1.index t 2 * 512 + 1 * d.val = 0 + (t.val % 12 * 512 + d.val); rw [(index t).2.1.1.2.2]; omega

theorem w2_apply (c : Dev nD) (t : Fin cfg0.N) (k : Fin 2048) (d : Fin 512) :
    (iblk m c 2 t : Vec Ideal S1x2048x512 .bf16) (ix3 0 k d) = wOf m c (ix3 0 k ⟨6144 + (col t d).val, by omega⟩) := by
  show (V m c main_v0) _ = _
  rw [V_w]
  refine congrArg (wOf m c) (funext fun x => Fin.ext ?_)
  match x with
  | ⟨0, _⟩ => show win0_2.index t 0 * 1 + 1 * 0 = 0; rw [(index t).2.1.2.1]
  | ⟨1, _⟩ => show win0_2.index t 1 * 2048 + 1 * k.val = k.val; rw [(index t).2.1.2.2.1]; omega
  | ⟨2, _⟩ => show win0_2.index t 2 * 512 + 1 * d.val = 6144 + (t.val % 12 * 512 + d.val); rw [(index t).2.1.2.2.2]; omega

theorem b3_apply (c : Dev nD) (t : Fin cfg0.N) (d : Fin 512) :
    (iblk m c 3 t : Vec Ideal S1x512 .f32) (ix2 0 d) = bOf m c (ix2 0 ⟨0 + (col t d).val, by omega⟩) := by
  refine Eq.trans ?_ (V_b m c _)
  refine congrArg (V m c main_v3) (funext fun x => Fin.ext ?_)
  match x with
  | ⟨0, _⟩ => show win0_3.index t 0 * 1 + 1 * 0 = 0; rw [(index t).2.2.1.1]
  | ⟨1, _⟩ => show win0_3.index t 1 * 512 + 1 * d.val = 0 + (t.val % 12 * 512 + d.val); rw [(index t).2.2.1.2]; omega

theorem b4_apply (c : Dev nD) (t : Fin cfg0.N) (d : Fin 512) :
    (iblk m c 4 t : Vec Ideal S1x512 .f32) (ix2 0 d) = bOf m c (ix2 0 ⟨6144 + (col t d).val, by omega⟩) := by
  refine Eq.trans ?_ (V_b m c _)
  refine congrArg (V m c main_v3) (funext fun x => Fin.ext ?_)
  match x with
  | ⟨0, _⟩ => show win0_4.index t 0 * 1 + 1 * 0 = 0; rw [(index t).2.2.2.1]
  | ⟨1, _⟩ => show win0_4.index t 1 * 512 + 1 * d.val = 6144 + (t.val % 12 * 512 + d.val); rw [(index t).2.2.2.2]; omega

/-- What point `t` writes back to the first output is its block of the gelu of the first columns. -/
theorem flushed5 (c : Dev nD) (t : Fin cfg0.N) :
    (dats m 0 c).flushed 5 t = ((cfg0.win 5).blk t).view.read (Elt Ideal) (arr 0 (by omega) (hOf m c) (wOf m c) (bOf m c)) := by
  rw [Value.flushed5]
  funext (y : S1024x512.Idx)
  show out0_5 (iblk m c 0 t) (iblk m c 1 t) (iblk m c 2 t) (iblk m c 3 t) (iblk m c 4 t) y = _
  obtain ⟨a, d, rfl⟩ : ∃ (a : Fin 1024) (d : Fin 512), y = ix2 a d := ⟨y 0, y 1, eq_ix2 y⟩
  rw [out5_eq, first_apply]
  unfold blockEntry
  rw [b3_apply]
  simp only [h_apply, w1_apply]
  refine congrArg (arr 0 (by omega) (hOf m c) (wOf m c) (bOf m c)) (a₁ := ix2 (row t a) (col t d)) (funext fun x => Fin.ext ?_)
  match x with
  | ⟨0, _⟩ => show t.val / 12 * 1024 + a.val = win0_5.index t 0 * 1024 + 1 * a.val; rw [(index_out t).1.1]; omega
  | ⟨1, _⟩ => show t.val % 12 * 512 + d.val = win0_5.index t 1 * 512 + 1 * d.val; rw [(index_out t).1.2]; omega

/-- What point `t` writes back to the second output is its block of the gelu of the last columns. -/
theorem flushed6 (c : Dev nD) (t : Fin cfg0.N) :
    (dats m 0 c).flushed 6 t = ((cfg0.win 6).blk t).view.read (Elt Ideal) (arr 6144 (by omega) (hOf m c) (wOf m c) (bOf m c)) := by
  rw [Value.flushed6]
  funext (y : S1024x512.Idx)
  show out0_6 (iblk m c 0 t) (iblk m c 1 t) (iblk m c 2 t) (iblk m c 3 t) (iblk m c 4 t) y = _
  obtain ⟨a, d, rfl⟩ : ∃ (a : Fin 1024) (d : Fin 512), y = ix2 a d := ⟨y 0, y 1, eq_ix2 y⟩
  rw [out6_eq, second_apply]
  unfold blockEntry
  rw [b4_apply]
  simp only [h_apply, w2_apply]
  refine congrArg (arr 6144 (by omega) (hOf m c) (wOf m c) (bOf m c)) (a₁ := ix2 (row t a) (col t d)) (funext fun x => Fin.ext ?_)
  match x with
  | ⟨0, _⟩ => show t.val / 12 * 1024 + a.val = win0_6.index t 0 * 1024 + 1 * a.val; rw [(index_out t).2.1]; omega
  | ⟨1, _⟩ => show t.val % 12 * 512 + d.val = win0_6.index t 1 * 512 + 1 * d.val; rw [(index_out t).2.2]; omega

/-- The point whose blocks hold an index of the results. -/
theorem point_lt (y : S16384x6144.Idx) : (y 0).val / 1024 * 12 + (y 1).val / 512 < cfg0.N := by
  have h0 : (y 0).val < 16384 := (y 0).isLt
  have h1 : (y 1).val < 6144 := (y 1).isLt
  rw [N_eq]; omega

theorem covered5 (y : S16384x6144.Idx) : ∃ t : Fin cfg0.N, (cfg0.win 5).flush t = true ∧ y ∈ ((cfg0.win 5).blk t).view.set := by
  have h1 : (y 1).val < 6144 := (y 1).isLt
  refine ⟨⟨_, point_lt y⟩, (by decide +kernel : ∀ t : Fin grid0.N, win0_5.flush t = true) _, ?_⟩
  show y ∈ ((View.whole main_v4_0).slice (win0_5.rect ⟨_, point_lt y⟩)).set
  rw [View.set_slice_whole, Rect.mem_set_unit]
  have e := (index_out ⟨_, point_lt y⟩).1
  have x := (xsize ⟨_, point_lt y⟩).1
  intro a
  match a with
  | ⟨0, _⟩ =>
    show win0_5.index ⟨_, point_lt y⟩ 0 * 1024 ≤ (y 0).val ∧ (y 0).val < win0_5.index ⟨_, point_lt y⟩ 0 * 1024 + win0_5.xsize (grid0.coords ⟨_, point_lt y⟩) 0
    rw [e.1, x.1]; dsimp only; omega
  | ⟨1, _⟩ =>
    show win0_5.index ⟨_, point_lt y⟩ 1 * 512 ≤ (y 1).val ∧ (y 1).val < win0_5.index ⟨_, point_lt y⟩ 1 * 512 + win0_5.xsize (grid0.coords ⟨_, point_lt y⟩) 1
    rw [e.2, x.2]; dsimp only; omega

theorem covered6 (y : S16384x6144.Idx) : ∃ t : Fin cfg0.N, (cfg0.win 6).flush t = true ∧ y ∈ ((cfg0.win 6).blk t).view.set := by
  have h1 : (y 1).val < 6144 := (y 1).isLt
  refine ⟨⟨_, point_lt y⟩, (by decide +kernel : ∀ t : Fin grid0.N, win0_6.flush t = true) _, ?_⟩
  show y ∈ ((View.whole main_v4_1).slice (win0_6.rect ⟨_, point_lt y⟩)).set
  rw [View.set_slice_whole, Rect.mem_set_unit]
  have e := (index_out ⟨_, point_lt y⟩).2
  have x := (xsize ⟨_, point_lt y⟩).2
  intro a
  match a with
  | ⟨0, _⟩ =>
    show win0_6.index ⟨_, point_lt y⟩ 0 * 1024 ≤ (y 0).val ∧ (y 0).val < win0_6.index ⟨_, point_lt y⟩ 0 * 1024 + win0_6.xsize (grid0.coords ⟨_, point_lt y⟩) 0
    rw [e.1, x.1]; dsimp only; omega
  | ⟨1, _⟩ =>
    show win0_6.index ⟨_, point_lt y⟩ 1 * 512 ≤ (y 1).val ∧ (y 1).val < win0_6.index ⟨_, point_lt y⟩ 1 * 512 + win0_6.xsize (grid0.coords ⟨_, point_lt y⟩) 1
    rw [e.2, x.2]; dsimp only; omega

theorem array5_eq (c : Dev nD) : (dats m 0 c).arrAt 5 cfg0.N = arr 0 (by omega) (hOf m c) (wOf m c) (bOf m c) :=
  (dats m 0 c).arrAt_eq_of_cover 5 _ (fun t _ => flushed5 m c t) covered5

theorem array6_eq (c : Dev nD) : (dats m 0 c).arrAt 6 cfg0.N = arr 6144 (by omega) (hOf m c) (wOf m c) (bOf m c) :=
  (dats m 0 c).arrAt_eq_of_cover 6 _ (fun t _ => flushed6 m c t) covered6

end Cert.KernelSguInIdeal.Proj

/-! ## The reference -/

namespace Cert.ReferenceSguInIdeal.Proj

open Cert.ReferenceSguInIdeal Cert.ReferenceSguInIdeal.Gen Idealize.ShloMosaic

/-- The projection with its bias. -/
def linear (h : FVec Ideal S16384x2048 .bf16) (w : FVec Ideal S2x2048x12288 .f32) (b : FVec Ideal S2x12288 .f32) : FVec Ideal S16384x12288 .f32 :=
  addf (Host.dotGeneral dot_S16384x2048_S2048x12288_S16384x12288_1_0_0_1_n_n none (extf .f32 h bitsLt_bf16_f32)
      (shapeCast _ (extractStridedSlice S1x2048x12288 ![0, 0, 0] w slices_S2x2048x12288_S1x2048x12288_0_0_0) shapeCasts_S1x2048x12288_S2048x12288))
    (broadcastInDim S16384x12288 ![0, 1] bcast_S1x12288_S16384x12288_0_1 (broadcastInDim S1x12288 ![1] bcast_S12288_S1x12288_1
      (shapeCast _ (extractStridedSlice S1x12288 ![0, 0] b slices_S2x12288_S1x12288_0_0) shapeCasts_S1x12288_S12288)))

/-- The gelu of an array. -/
def gelus (z : FVec Ideal S16384x12288 .f32) : FVec Ideal S16384x12288 .f32 :=
  mulf z (mulf (broadcastInDim S16384x12288 ![] bcast_S_S16384x12288 (constant S_ .f32 0x3F000000#32))
    (addf (broadcastInDim S16384x12288 ![] bcast_S_S16384x12288 (constant S_ .f32 0x3F800000#32))
      (Host.tanh (mulf (broadcastInDim S16384x12288 ![] bcast_S_S16384x12288 (constant S_ .f32 0x3F4C422A#32))
        (addf z (mulf (broadcastInDim S16384x12288 ![] bcast_S_S16384x12288 (constant S_ .f32 0x3D372713#32)) (mulf (mulf z z) z)))))))

/-- The reference's first result. -/
def first (z : FVec Ideal S16384x12288 .f32) : FVec Ideal S16384x6144 .bf16 :=
  truncf .bf16 (extractStridedSlice S16384x6144 ![0, 0] (gelus z) slices_S16384x12288_S16384x6144_0_0) bitsLt_bf16_f32

/-- The reference's second result. -/
def second (z : FVec Ideal S16384x12288 .f32) : FVec Ideal S16384x6144 .f32 :=
  extractStridedSlice S16384x6144 ![0, 6144] (gelus z) slices_S16384x12288_S16384x6144_0_6144

theorem linear_apply (h : FVec Ideal S16384x2048 .bf16) (w : FVec Ideal S2x2048x12288 .f32) (b : FVec Ideal S2x12288 .f32) (i : Fin 16384) (j : Fin 12288) :
    linear h w b (ix2 i j) = Cert.Lin.biased (B := 1) h w b i j := by
  pointwise [linear]
  rfl

theorem gelus_apply (z : FVec Ideal S16384x12288 .f32) (i : Fin 16384) (j : Fin 12288) : gelus z (ix2 i j) = Cert.Lin.gelu (z (ix2 i j)) := by
  pointwise [gelus]
  rfl

theorem first_eq (h : FVec Ideal S16384x2048 .bf16) (w : FVec Ideal S2x2048x12288 .f32) (b : FVec Ideal S2x12288 .f32) :
    first (linear h w b) = Cert.KernelSguInIdeal.Proj.arr 0 (by omega) h w b := by
  funext y
  obtain ⟨i, j, rfl⟩ : ∃ (i : Fin 16384) (j : Fin 6144), y = ix2 i j := ⟨y 0, y 1, eq_ix2 y⟩
  pointwise [first]
  rw [gelus_apply, linear_apply]
  exact congrArg (fun x => Cert.Lin.gelu (Cert.Lin.biased (B := 1) h w b i x)) (Fin.ext (Nat.zero_add j.val).symm)

theorem second_eq (h : FVec Ideal S16384x2048 .bf16) (w : FVec Ideal S2x2048x12288 .f32) (b : FVec Ideal S2x12288 .f32) :
    second (linear h w b) = Cert.KernelSguInIdeal.Proj.arr 6144 (by omega) h w b := by
  funext y
  obtain ⟨i, j, rfl⟩ : ∃ (i : Fin 16384) (j : Fin 6144), y = ix2 i j := ⟨y 0, y 1, eq_ix2 y⟩
  pointwise [second]
  rw [gelus_apply, linear_apply]
  rfl

end Cert.ReferenceSguInIdeal.Proj

end
-- ==== Proof.SguOut.lean ====
/- The gating unit's output projection with its gated residual: what the kernel's output array and the reference's
   result hold at an index. -/
module

public import proofs.«01_k».proof.Proof.Gen.KernelSguOutIdeal.Value
public import proofs.«01_k».proof.Proof.Gen.ReferenceSguOutIdeal.Run
public import proofs.«01_k».proof.Proof.Lin

@[expose] public section

set_option maxRecDepth 16384

noncomputable section

namespace Cert.KernelSguOutIdeal.Proj

open Cert.KernelSguOutIdeal Cert.KernelSguOutIdeal.Gen Idealize.ShloMosaic Idealize.ShloMosaic.TcCoe Idealize.SL.Sem
open Idealize.ShloMosaic.Pipeline (Dat)

/-- The residual plus the gated projection, as one array. -/
def arr (h : Vec Ideal S16384x6144 .bf16) (w : Vec Ideal S2x6144x2048 .f32) (x : Vec Ideal S16384x2048 .f32) (g : Vec Ideal S4x1x2048 .f32)
    (y : S16384x2048.Idx) : EReal :=
  Cert.Lin.residual x g (y 0) (y 1) (Cert.Lin.proj (B := 1) h w (y 0) (y 1))

theorem pay_apply (x0 : Vec Ideal S512x6144 .bf16) (x1 : Vec Ideal S1x6144x512 .bf16) (x2 : Vec Ideal S512x512 .f32) (x3 : Vec Ideal S1x1x512 .f32)
    (a : Fin 512) (d : Fin 512) :
    k0_pay1 x0 x1 x2 x3 (ix2 a d) = x2 (ix2 a d) + x3 (ix3 0 0 d) * ∑ k : Fin 6144, x0 (ix2 a k) * x1 (ix3 0 k d) := by
  pointwise [k0_pay1]

theorem out_eq (x0 : Vec Ideal S512x6144 .bf16) (x1 : Vec Ideal S1x6144x512 .bf16) (x2 : Vec Ideal S512x512 .f32) (x3 : Vec Ideal S1x1x512 .f32) :
    out0_4 x0 x1 x2 x3 = k0_pay1 x0 x1 x2 x3 := by
  unfold out0_4
  rw [View.canon_unit_zero Cert.Lin.zero2, View.ld_unit_zero Cert.Lin.zero2, View.ld_unit_zero Cert.Lin.zero3, View.ld_unit_zero Cert.Lin.zero2,
    View.ld_unit_zero Cert.Lin.zero3]

variable (m : (ℓ : Loc nD τ sig) → Buf (Elt Ideal) ℓ)

abbrev hOf (c : Dev nD) : Vec Ideal S16384x6144 .bf16 := m ((c : Thread nD τ).loc main_arg0)
abbrev wOf (c : Dev nD) : Vec Ideal S2x6144x2048 .f32 := m ((c : Thread nD τ).loc main_arg1)
abbrev xOf (c : Dev nD) : Vec Ideal S16384x2048 .f32 := m ((c : Thread nD τ).loc main_arg2)
abbrev gOf (c : Dev nD) : Vec Ideal S4x1x2048 .f32 := m ((c : Thread nD τ).loc main_arg3)

theorem V_w (c : Dev nD) : V m c main_v0 = (wOf m c : Vec Ideal S2x6144x2048 .bf16) := by
  show StableHlo.after hostOps0 _ _ = _
  after_results <;> rfl

theorem N_eq : cfg0.N = 128 := by decide

theorem index : ∀ t : Fin grid0.N, (win0_0.index t 0 = t.val / 4 ∧ win0_0.index t 1 = 0)
    ∧ (win0_1.index t 0 = 0 ∧ win0_1.index t 1 = 0 ∧ win0_1.index t 2 = t.val % 4)
    ∧ (win0_2.index t 0 = t.val / 4 ∧ win0_2.index t 1 = t.val % 4)
    ∧ (win0_3.index t 0 = t.val / 4 * 512 / 4096 ∧ win0_3.index t 1 = 0 ∧ win0_3.index t 2 = t.val % 4)
    ∧ (win0_4.index t 0 = t.val / 4 ∧ win0_4.index t 1 = t.val % 4) := by decide +kernel

theorem xsize : ∀ t : Fin grid0.N, win0_4.xsize (grid0.coords t) 0 = 512 ∧ win0_4.xsize (grid0.coords t) 1 = 512 := by decide +kernel

/-- The row of the arrays that row `a` of point `t`'s blocks is. -/
def row (t : Fin cfg0.N) (a : Fin 512) : Fin 16384 := ⟨t.val / 4 * 512 + a.val, by have := lt_of_lt_of_eq t.isLt N_eq; omega⟩
/-- The column of the arrays that column `d` of point `t`'s blocks is. -/
def col (t : Fin cfg0.N) (d : Fin 512) : Fin 2048 := ⟨t.val % 4 * 512 + d.val, by omega⟩

theorem h_apply (c : Dev nD) (t : Fin cfg0.N) (a : Fin 512) (k : Fin 6144) :
    (iblk m c 0 t : Vec Ideal S512x6144 .bf16) (ix2 a k) = hOf m c (ix2 (row t a) k) := by
  show (V m c main_arg0) _ = _
  rw [V_main_arg0]
  refine congrArg (hOf m c) (funext fun x => Fin.ext ?_)
  match x with
  | ⟨0, _⟩ => show win0_0.index t 0 * 512 + 1 * a.val = t.val / 4 * 512 + a.val; rw [(index t).1.1]; omega
  | ⟨1, _⟩ => show win0_0.index t 1 * 6144 + 1 * k.val = k.val; rw [(index t).1.2]; omega

theorem w_apply (c : Dev nD) (t : Fin cfg0.N) (k : Fin 6144) (d : Fin 512) :
    (iblk m c 1 t : Vec Ideal S1x6144x512 .bf16) (ix3 0 k d) = wOf m c (ix3 0 k (col t d)) := by
  show (V m c main_v0) _ = _
  rw [V_w]
  refine congrArg (wOf m c) (funext fun x => Fin.ext ?_)
  match x with
  | ⟨0, _⟩ => show win0_1.index t 0 * 1 + 1 * 0 = 0; rw [(index t).2.1.1]
  | ⟨1, _⟩ => show win0_1.index t 1 * 6144 + 1 * k.val = k.val; rw [(index t).2.1.2.1]; omega
  | ⟨2, _⟩ => show win0_1.index t 2 * 512 + 1 * d.val = t.val % 4 * 512 + d.val; rw [(index t).2.1.2.2]; omega

theorem x_apply (c : Dev nD) (t : Fin cfg0.N) (a : Fin 512) (d : Fin 512) :
    (iblk m c 2 t : Vec Ideal S512x512 .f32) (ix2 a d) = xOf m c (ix2 (row t a) (col t d)) := by
  show (V m c main_arg2) _ = _
  rw [V_main_arg2]
  refine congrArg (xOf m c) (funext fun x => Fin.ext ?_)
  match x with
  | ⟨0, _⟩ => show win0_2.index t 0 * 512 + 1 * a.val = t.val / 4 * 512 + a.val; rw [(index t).2.2.1.1]; omega
  | ⟨1, _⟩ => show win0_2.index t 1 * 512 + 1 * d.val = t.val % 4 * 512 + d.val; rw [(index t).2.2.1.2]; omega

theorem g_apply (c : Dev nD) (t : Fin cfg0.N) (a d : Fin 512) :
    (iblk m c 3 t : Vec Ideal S1x1x512 .f32) (ix3 0 0 d) = gOf m c (ix3 (Cert.Lin.seqOf (row t a)) 0 (col t d)) := by
  show (V m c main_arg3) _ = _
  rw [V_main_arg3]
  refine congrArg (gOf m c) (funext fun x => Fin.ext ?_)
  match x with
  | ⟨0, _⟩ => show win0_3.index t 0 * 1 + 1 * 0 = (t.val / 4 * 512 + a.val) / 4096; rw [(index t).2.2.2.1.1]; omega
  | ⟨1, _⟩ => show win0_3.index t 1 * 1 + 1 * 0 = 0; rw [(index t).2.2.2.1.2.1]
  | ⟨2, _⟩ => show win0_3.index t 2 * 512 + 1 * d.val = t.val % 4 * 512 + d.val; rw [(index t).2.2.2.1.2.2]; omega

/-- What point `t` writes back is its block of the result. -/
theorem flushed (c : Dev nD) (t : Fin cfg0.N) :
    (dats m 0 c).flushed 4 t = ((cfg0.win 4).blk t).view.read (Elt Ideal) (arr (hOf m c) (wOf m c) (xOf m c) (gOf m c)) := by
  rw [Value.flushed4]
  funext (y : S512x512.Idx)
  show out0_4 (iblk m c 0 t) (iblk m c 1 t) (iblk m c 2 t) (iblk m c 3 t) y = _
  obtain ⟨a, d, rfl⟩ : ∃ (a : Fin 512) (d : Fin 512), y = ix2 a d := ⟨y 0, y 1, eq_ix2 y⟩
  rw [out_eq, pay_apply, x_apply, g_apply m c t a d]
  simp only [h_apply, w_apply]
  refine congrArg (arr (hOf m c) (wOf m c) (xOf m c) (gOf m c)) (a₁ := ix2 (row t a) (col t d)) (funext fun x => Fin.ext ?_)
  match x with
  | ⟨0, _⟩ => show t.val / 4 * 512 + a.val = win0_4.index t 0 * 512 + 1 * a.val; rw [(index t).2.2.2.2.1]; omega
  | ⟨1, _⟩ => show t.val % 4 * 512 + d.val = win0_4.index t 1 * 512 + 1 * d.val; rw [(index t).2.2.2.2.2]; omega

/-- Every index of the result lies in the block of some point. -/
theorem covered (y : S16384x2048.Idx) : ∃ t : Fin cfg0.N, (cfg0.win 4).flush t = true ∧ y ∈ ((cfg0.win 4).blk t).view.set := by
  have h0 : (y 0).val < 16384 := (y 0).isLt
  have h1 : (y 1).val < 2048 := (y 1).isLt
  have ht : (y 0).val / 512 * 4 + (y 1).val / 512 < cfg0.N := by rw [N_eq]; omega
  refine ⟨⟨_, ht⟩, (by decide +kernel : ∀ t : Fin grid0.N, win0_4.flush t = true) _, ?_⟩
  show y ∈ ((View.whole main_v1).slice (win0_4.rect ⟨_, ht⟩)).set
  rw [View.set_slice_whole, Rect.mem_set_unit]
  have e := (index ⟨_, ht⟩).2.2.2.2
  have x := xsize ⟨_, ht⟩
  intro a
  match a with
  | ⟨0, _⟩ =>
    show win0_4.index ⟨_, ht⟩ 0 * 512 ≤ (y 0).val ∧ (y 0).val < win0_4.index ⟨_, ht⟩ 0 * 512 + win0_4.xsize (grid0.coords ⟨_, ht⟩) 0
    rw [e.1, x.1]; dsimp only; omega
  | ⟨1, _⟩ =>
    show win0_4.index ⟨_, ht⟩ 1 * 512 ≤ (y 1).val ∧ (y 1).val < win0_4.index ⟨_, ht⟩ 1 * 512 + win0_4.xsize (grid0.coords ⟨_, ht⟩) 1
    rw [e.2, x.2]; dsimp only; omega

theorem array_eq (c : Dev nD) : (dats m 0 c).arrAt 4 cfg0.N = arr (hOf m c) (wOf m c) (xOf m c) (gOf m c) :=
  (dats m 0 c).arrAt_eq_of_cover 4 _ (fun t _ => flushed m c t) covered

end Cert.KernelSguOutIdeal.Proj

/-! ## The reference -/

namespace Cert.ReferenceSguOutIdeal.Proj

open Cert.ReferenceSguOutIdeal Cert.ReferenceSguOutIdeal.Gen Idealize.ShloMosaic

/-- The projection. -/
def linear (h : FVec Ideal S16384x6144 .bf16) (w : FVec Ideal S2x6144x2048 .f32) : FVec Ideal S16384x2048 .f32 :=
  Host.dotGeneral dot_S16384x6144_S6144x2048_S16384x2048_1_0_0_1_n_n none (extf .f32 h bitsLt_bf16_f32)
    (shapeCast _ (extractStridedSlice S1x6144x2048 ![0, 0, 0] w slices_S2x6144x2048_S1x6144x2048_0_0_0) shapeCasts_S1x6144x2048_S6144x2048)

/-- The residual plus the gated array. -/
def gated (z x : FVec Ideal S16384x2048 .f32) (g : FVec Ideal S4x1x2048 .f32) : FVec Ideal S16384x2048 .f32 :=
  shapeCast _ (addf (shapeCast _ x shapeCasts_S16384x2048_S4x4096x2048)
    (mulf (broadcastInDim S4x4096x2048 ![0, 1, 2] bcast_S4x1x2048_S4x4096x2048_0_1_2 g) (shapeCast _ z shapeCasts_S16384x2048_S4x4096x2048)))
    shapeCasts_S4x4096x2048_S16384x2048

theorem linear_apply (h : FVec Ideal S16384x6144 .bf16) (w : FVec Ideal S2x6144x2048 .f32) (i : Fin 16384) (j : Fin 2048) :
    linear h w (ix2 i j) = Cert.Lin.proj (B := 1) h w i j := by
  pointwise [linear]
  rfl

theorem gated_apply (z x : FVec Ideal S16384x2048 .f32) (g : FVec Ideal S4x1x2048 .f32) (i : Fin 16384) (j : Fin 2048) :
    gated z x g (ix2 i j) = Cert.Lin.residual x g i j (z (ix2 i j)) := by
  pointwise [gated]
  rfl

theorem result_eq (h : FVec Ideal S16384x6144 .bf16) (w : FVec Ideal S2x6144x2048 .f32) (x : FVec Ideal S16384x2048 .f32) (g : FVec Ideal S4x1x2048 .f32) :
    gated (linear h w) x g = Cert.KernelSguOutIdeal.Proj.arr h w x g := by
  funext y
  obtain ⟨i, j, rfl⟩ : ∃ (i : Fin 16384) (j : Fin 2048), y = ix2 i j := ⟨y 0, y 1, eq_ix2 y⟩
  rw [gated_apply, linear_apply]
  rfl

end Cert.ReferenceSguOutIdeal.Proj

end
-- ==== Proof.Glu.lean ====
/- The convolution module's input projection: what the kernel's output array and the reference's result hold at an index,
   the gated linear unit of the projection with its bias. -/
module

public import proofs.«01_k».proof.Proof.Gen.KernelGluIdeal.Value
public import proofs.«01_k».proof.Proof.Gen.ReferenceGluIdeal.Run
public import proofs.«01_k».proof.Proof.Lin

@[expose] public section

set_option maxRecDepth 16384

noncomputable section

namespace Cert.KernelGluIdeal.Proj

open Cert.KernelGluIdeal Cert.KernelGluIdeal.Gen Idealize.ShloMosaic Idealize.ShloMosaic.TcCoe Idealize.SL.Sem
open Idealize.ShloMosaic.Pipeline (Dat)

/-- The gated linear unit of the projection with its bias, as one array. -/
def arr (h : Vec Ideal S16384x2048 .bf16) (w : Vec Ideal S1x2048x4096 .f32) (b : Vec Ideal S1x4096 .f32) (y : S16384x2048.Idx) : EReal :=
  Cert.Lin.glu (Cert.Lin.biased (B := 0) h w b (y 0) ⟨0 + (y 1).val, by have : (y 1).val < 2048 := (y 1).isLt; omega⟩)
    (Cert.Lin.biased (B := 0) h w b (y 0) ⟨2048 + (y 1).val, by have : (y 1).val < 2048 := (y 1).isLt; omega⟩)

/-- One entry of a block before gelu. -/
def blockEntry (x0 : Vec Ideal S1024x2048 .bf16) (x1 : Vec Ideal S1x2048x512 .bf16) (x2 : Vec Ideal S1x512 .f32) (a : Fin 1024) (d : Fin 512) : EReal :=
  (∑ k : Fin 2048, x0 (ix2 a k) * x1 (ix3 0 k d)) + x2 (ix2 0 d)

theorem pay_apply (x0 : Vec Ideal S1024x2048 .bf16) (x1 x2 : Vec Ideal S1x2048x512 .bf16) (x3 x4 : Vec Ideal S1x512 .f32) (a : Fin 1024) (d : Fin 512) :
    k0_pay1 x0 x1 x3 x2 x4 (ix2 a d) = Cert.Lin.glu (blockEntry x0 x1 x3 a d) (blockEntry x0 x2 x4 a d) := by
  pointwise [k0_pay1]
  rfl

theorem out_eq (x0 : Vec Ideal S1024x2048 .bf16) (x1 x2 : Vec Ideal S1x2048x512 .bf16) (x3 x4 : Vec Ideal S1x512 .f32) :
    out0_5 x0 x1 x2 x3 x4 = k0_pay1 x0 x1 x3 x2 x4 := by
  unfold out0_5
  rw [View.canon_unit_zero Cert.Lin.zero2, View.ld_unit_zero Cert.Lin.zero2, View.ld_unit_zero Cert.Lin.zero3, View.ld_unit_zero Cert.Lin.zero2,
    View.ld_unit_zero Cert.Lin.zero3, View.ld_unit_zero Cert.Lin.zero2]

variable (m : (ℓ : Loc nD τ sig) → Buf (Elt Ideal) ℓ)

abbrev hOf (c : Dev nD) : Vec Ideal S16384x2048 .bf16 := m ((c : Thread nD τ).loc main_arg0)
abbrev wOf (c : Dev nD) : Vec Ideal S1x2048x4096 .f32 := m ((c : Thread nD τ).loc main_arg1)
abbrev bOf (c : Dev nD) : Vec Ideal S1x4096 .f32 := m ((c : Thread nD τ).loc main_arg2)

theorem V_w (c : Dev nD) : V m c main_v0 = (wOf m c : Vec Ideal S1x2048x4096 .bf16) := by
  show StableHlo.after hostOps0 _ _ = _
  after_results <;> rfl

theorem V_b (c : Dev nD) (j : Fin 4096) : (V m c main_v2 : Vec Ideal S1x4096 .f32) (ix2 0 j) = bOf m c (ix2 0 j) := by
  have e : V m c main_v2 = (shapeCast S1x4096 (shapeCast S4096 (bOf m c) shapeCasts_S1x4096_S4096) shapeCasts_S4096_S1x4096 : Vec Ideal S1x4096 .f32) := by
    show StableHlo.after hostOps0 _ _ = _
    after_results <;> rfl
  rw [e]
  pointwise

theorem N_eq : cfg0.N = 64 := by decide

theorem index : ∀ t : Fin grid0.N, (win0_0.index t 0 = t.val / 4 ∧ win0_0.index t 1 = 0)
    ∧ ((win0_1.index t 0 = 0 ∧ win0_1.index t 1 = 0 ∧ win0_1.index t 2 = t.val % 4)
      ∧ (win0_2.index t 0 = 0 ∧ win0_2.index t 1 = 0 ∧ win0_2.index t 2 = t.val % 4 + 4))
    ∧ ((win0_3.index t 0 = 0 ∧ win0_3.index t 1 = t.val % 4) ∧ (win0_4.index t 0 = 0 ∧ win0_4.index t 1 = t.val % 4 + 4)) := by decide +kernel

theorem index_out : ∀ t : Fin grid0.N, (win0_5.index t 0 = t.val / 4 ∧ win0_5.index t 1 = t.val % 4) := by decide +kernel

theorem xsize : ∀ t : Fin grid0.N, (win0_5.xsize (grid0.coords t) 0 = 1024 ∧ win0_5.xsize (grid0.coords t) 1 = 512)
   := by decide +kernel

/-- The row of the arrays that row `a` of point `t`'s blocks is. -/
def row (t : Fin cfg0.N) (a : Fin 1024) : Fin 16384 := ⟨t.val / 4 * 1024 + a.val, by have := lt_of_lt_of_eq t.isLt N_eq; omega⟩
/-- The column of the results that column `d` of point `t`'s blocks is. -/
def col (t : Fin cfg0.N) (d : Fin 512) : Fin 2048 := ⟨t.val % 4 * 512 + d.val, by omega⟩

theorem h_apply (c : Dev nD) (t : Fin cfg0.N) (a : Fin 1024) (k : Fin 2048) :
    (iblk m c 0 t : Vec Ideal S1024x2048 .bf16) (ix2 a k) = hOf m c (ix2 (row t a) k) := by
  show (V m c main_arg0) _ = _
  rw [V_main_arg0]
  refine congrArg (hOf m c) (funext fun x => Fin.ext ?_)
  match x with
  | ⟨0, _⟩ => show win0_0.index t 0 * 1024 + 1 * a.val = t.val / 4 * 1024 + a.val; rw [(index t).1.1]; omega
  | ⟨1, _⟩ => show win0_0.index t 1 * 2048 + 1 * k.val = k.val; rw [(index t).1.2]; omega

theorem w1_apply (c : Dev nD) (t : Fin cfg0.N) (k : Fin 2048) (d : Fin 512) :
    (iblk m c 1 t : Vec Ideal S1x2048x512 .bf16) (ix3 0 k d) = wOf m c (ix3 0 k ⟨0 + (col t d).val, by omega⟩) := by
  show (V m c main_v0) _ = _
  rw [V_w]
  refine congrArg (wOf m c) (funext fun x => Fin.ext ?_)
  match x with
  | ⟨0, _⟩ => show win0_1.index t 0 * 1 + 1 * 0 = 0; rw [(index t).2.1.1.1]
  | ⟨1, _⟩ => show win0_1.index t 1 * 2048 + 1 * k.val = k.val; rw [(index t).2.1.1.2.1]; omega
  | ⟨2, _⟩ => show win0_1.index t 2 * 512 + 1 * d.val = 0 + (t.val % 4 * 512 + d.val); rw [(index t).2.1.1.2.2]; omega

theorem w2_apply (c : Dev nD) (t : Fin cfg0.N) (k : Fin 2048) (d : Fin 512) :
    (iblk m c 2 t : Vec Ideal S1x2048x512 .bf16) (ix3 0 k d) = wOf m c (ix3 0 k ⟨2048 + (col t d).val, by omega⟩) := by
  show (V m c main_v0) _ = _
  rw [V_w]
  refine congrArg (wOf m c) (funext fun x => Fin.ext ?_)
  match x with
  | ⟨0, _⟩ => show win0_2.index t 0 * 1 + 1 * 0 = 0; rw [(index t).2.1.2.1]
  | ⟨1, _⟩ => show win0_2.index t 1 * 2048 + 1 * k.val = k.val; rw [(index t).2.1.2.2.1]; omega
  | ⟨2, _⟩ => show win0_2.index t 2 * 512 + 1 * d.val = 2048 + (t.val % 4 * 512 + d.val); rw [(index t).2.1.2.2.2]; omega

theorem b3_apply (c : Dev nD) (t : Fin cfg0.N) (d : Fin 512) :
    (iblk m c 3 t : Vec Ideal S1x512 .f32) (ix2 0 d) = bOf m c (ix2 0 ⟨0 + (col t d).val, by omega⟩) := by
  refine Eq.trans ?_ (V_b m c _)
  refine congrArg (V m c main_v2) (funext fun x => Fin.ext ?_)
  match x with
  | ⟨0, _⟩ => show win0_3.index t 0 * 1 + 1 * 0 = 0; rw [(index t).2.2.1.1]
  | ⟨1, _⟩ => show win0_3.index t 1 * 512 + 1 * d.val = 0 + (t.val % 4 * 512 + d.val); rw [(index t).2.2.1.2]; omega

theorem b4_apply (c : Dev nD) (t : Fin cfg0.N) (d : Fin 512) :
    (iblk m c 4 t : Vec Ideal S1x512 .f32) (ix2 0 d) = bOf m c (ix2 0 ⟨2048 + (col t d).val, by omega⟩) := by
  refine Eq.trans ?_ (V_b m c _)
  refine congrArg (V m c main_v2) (funext fun x => Fin.ext ?_)
  match x with
  | ⟨0, _⟩ => show win0_4.index t 0 * 1 + 1 * 0 = 0; rw [(index t).2.2.2.1]
  | ⟨1, _⟩ => show win0_4.index t 1 * 512 + 1 * d.val = 2048 + (t.val % 4 * 512 + d.val); rw [(index t).2.2.2.2]; omega

/-- What point `t` writes back is its block of the result. -/
theorem flushed (c : Dev nD) (t : Fin cfg0.N) :
    (dats m 0 c).flushed 5 t = ((cfg0.win 5).blk t).view.read (Elt Ideal) (arr (hOf m c) (wOf m c) (bOf m c)) := by
  rw [Value.flushed5]
  funext (y : S1024x512.Idx)
  show out0_5 (iblk m c 0 t) (iblk m c 1 t) (iblk m c 2 t) (iblk m c 3 t) (iblk m c 4 t) y = _
  obtain ⟨a, d, rfl⟩ : ∃ (a : Fin 1024) (d : Fin 512), y = ix2 a d := ⟨y 0, y 1, eq_ix2 y⟩
  rw [out_eq, pay_apply]
  unfold blockEntry
  rw [b3_apply, b4_apply]
  simp only [h_apply, w1_apply, w2_apply]
  refine congrArg (arr (hOf m c) (wOf m c) (bOf m c)) (a₁ := ix2 (row t a) (col t d)) (funext fun x => Fin.ext ?_)
  match x with
  | ⟨0, _⟩ => show t.val / 4 * 1024 + a.val = win0_5.index t 0 * 1024 + 1 * a.val; rw [(index_out t).1]; omega
  | ⟨1, _⟩ => show t.val % 4 * 512 + d.val = win0_5.index t 1 * 512 + 1 * d.val; rw [(index_out t).2]; omega

/-- The point whose blocks hold an index of the results. -/
theorem point_lt (y : S16384x2048.Idx) : (y 0).val / 1024 * 4 + (y 1).val / 512 < cfg0.N := by
  have h0 : (y 0).val < 16384 := (y 0).isLt
  have h1 : (y 1).val < 2048 := (y 1).isLt
  rw [N_eq]; omega

theorem covered (y : S16384x2048.Idx) : ∃ t : Fin cfg0.N, (cfg0.win 5).flush t = true ∧ y ∈ ((cfg0.win 5).blk t).view.set := by
  have h1 : (y 1).val < 2048 := (y 1).isLt
  refine ⟨⟨_, point_lt y⟩, (by decide +kernel : ∀ t : Fin grid0.N, win0_5.flush t = true) _, ?_⟩
  show y ∈ ((View.whole main_v3).slice (win0_5.rect ⟨_, point_lt y⟩)).set
  rw [View.set_slice_whole, Rect.mem_set_unit]
  have e := (index_out ⟨_, point_lt y⟩)
  have x := (xsize ⟨_, point_lt y⟩)
  intro a
  match a with
  | ⟨0, _⟩ =>
    show win0_5.index ⟨_, point_lt y⟩ 0 * 1024 ≤ (y 0).val ∧ (y 0).val < win0_5.index ⟨_, point_lt y⟩ 0 * 1024 + win0_5.xsize (grid0.coords ⟨_, point_lt y⟩) 0
    rw [e.1, x.1]; dsimp only; omega
  | ⟨1, _⟩ =>
    show win0_5.index ⟨_, point_lt y⟩ 1 * 512 ≤ (y 1).val ∧ (y 1).val < win0_5.index ⟨_, point_lt y⟩ 1 * 512 + win0_5.xsize (grid0.coords ⟨_, point_lt y⟩) 1
    rw [e.2, x.2]; dsimp only; omega

theorem array_eq (c : Dev nD) : (dats m 0 c).arrAt 5 cfg0.N = arr (hOf m c) (wOf m c) (bOf m c) :=
  (dats m 0 c).arrAt_eq_of_cover 5 _ (fun t _ => flushed m c t) covered

end Cert.KernelGluIdeal.Proj

/-! ## The reference -/

namespace Cert.ReferenceGluIdeal.Proj

open Cert.ReferenceGluIdeal Cert.ReferenceGluIdeal.Gen Idealize.ShloMosaic

/-- The projection with its bias. -/
def linear (h : FVec Ideal S16384x2048 .bf16) (w : FVec Ideal S1x2048x4096 .f32) (b : FVec Ideal S1x4096 .f32) : FVec Ideal S16384x4096 .f32 :=
  addf (Host.dotGeneral dot_S16384x2048_S2048x4096_S16384x4096_1_0_0_1_n_n none (extf .f32 h bitsLt_bf16_f32)
      (shapeCast _ w shapeCasts_S1x2048x4096_S2048x4096))
    (broadcastInDim S16384x4096 ![0, 1] bcast_S1x4096_S16384x4096_0_1 (broadcastInDim S1x4096 ![1] bcast_S4096_S1x4096_1
      (shapeCast _ b shapeCasts_S1x4096_S4096)))

/-- The gated linear unit of an array's two halves. -/
def glus (z : FVec Ideal S16384x4096 .f32) : FVec Ideal S16384x2048 .f32 :=
  mulf (extractStridedSlice S16384x2048 ![0, 0] z slices_S16384x4096_S16384x2048_0_0)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, 2048] z slices_S16384x4096_S16384x2048_0_2048)))))

theorem linear_apply (h : FVec Ideal S16384x2048 .bf16) (w : FVec Ideal S1x2048x4096 .f32) (b : FVec Ideal S1x4096 .f32) (i : Fin 16384) (j : Fin 4096) :
    linear h w b (ix2 i j) = Cert.Lin.biased (B := 0) h w b i j := by
  pointwise [linear]
  rfl

theorem glus_apply (z : FVec Ideal S16384x4096 .f32) (i : Fin 16384) (j : Fin 2048) :
    glus z (ix2 i j) = Cert.Lin.glu (z (ix2 i ⟨j.val, by omega⟩)) (z (ix2 i ⟨2048 + j.val, by omega⟩)) := by
  pointwise [glus]
  rfl

theorem result_eq (h : FVec Ideal S16384x2048 .bf16) (w : FVec Ideal S1x2048x4096 .f32) (b : FVec Ideal S1x4096 .f32) :
    glus (linear h w b) = Cert.KernelGluIdeal.Proj.arr h w b := by
  funext y
  obtain ⟨i, j, rfl⟩ : ∃ (i : Fin 16384) (j : Fin 2048), y = ix2 i j := ⟨y 0, y 1, eq_ix2 y⟩
  rw [glus_apply, linear_apply, linear_apply]
  exact congrArg (fun x => Cert.Lin.glu (Cert.Lin.biased (B := 0) h w b i x) _) (Fin.ext (Nat.zero_add j.val).symm)

end Cert.ReferenceGluIdeal.Proj

end
-- ==== Proof.Qkv.lean ====
/- The attention's projection: what the kernel's output array and the reference's result hold at an index. -/
module

public import proofs.«01_k».proof.Proof.Gen.KernelQkvIdeal.Value
public import proofs.«01_k».proof.Proof.Gen.ReferenceQkvIdeal.Run
public import proofs.«01_k».proof.Proof.Lin

@[expose] public section

set_option maxRecDepth 16384

noncomputable section

namespace Cert.KernelQkvIdeal.Proj

open Cert.KernelQkvIdeal Cert.KernelQkvIdeal.Gen Idealize.ShloMosaic Idealize.ShloMosaic.TcCoe Idealize.SL.Sem
open Idealize.ShloMosaic.Pipeline (Dat)

/-- The projection with its bias, as one array. -/
def arr (h : Vec Ideal S16384x2048 .bf16) (w : Vec Ideal S1x2048x2560 .f32) (b : Vec Ideal S1x2560 .f32) (y : S16384x2560.Idx) : EReal :=
  Cert.Lin.biased (B := 0) h w b (y 0) (y 1)

theorem pay_apply (x0 : Vec Ideal S1024x2048 .bf16) (x1 : Vec Ideal S1x2048x512 .bf16) (x2 : Vec Ideal S1x512 .f32) (a : Fin 1024) (d : Fin 512) :
    k0_pay1 x0 x1 x2 (ix2 a d) = (∑ k : Fin 2048, x0 (ix2 a k) * x1 (ix3 0 k d)) + x2 (ix2 0 d) := by
  pointwise [k0_pay1]

theorem out_eq (x0 : Vec Ideal S1024x2048 .bf16) (x1 : Vec Ideal S1x2048x512 .bf16) (x2 : Vec Ideal S1x512 .f32) :
    out0_3 x0 x1 x2 = k0_pay1 x0 x1 x2 := by
  unfold out0_3
  rw [View.canon_unit_zero Cert.Lin.zero2, View.ld_unit_zero Cert.Lin.zero2, View.ld_unit_zero Cert.Lin.zero3, View.ld_unit_zero Cert.Lin.zero2]

variable (m : (ℓ : Loc nD τ sig) → Buf (Elt Ideal) ℓ)

abbrev hOf (c : Dev nD) : Vec Ideal S16384x2048 .bf16 := m ((c : Thread nD τ).loc main_arg0)
abbrev wOf (c : Dev nD) : Vec Ideal S1x2048x2560 .f32 := m ((c : Thread nD τ).loc main_arg1)
abbrev bOf (c : Dev nD) : Vec Ideal S1x2560 .f32 := m ((c : Thread nD τ).loc main_arg2)

theorem V_w (c : Dev nD) : V m c main_v0 = (wOf m c : Vec Ideal S1x2048x2560 .bf16) := by
  show StableHlo.after hostOps0 _ _ = _
  after_results <;> rfl

theorem V_b (c : Dev nD) (j : Fin 2560) : (V m c main_v2 : Vec Ideal S1x2560 .f32) (ix2 0 j) = bOf m c (ix2 0 j) := by
  have e : V m c main_v2 = (shapeCast S1x2560 (shapeCast S2560 (bOf m c) shapeCasts_S1x2560_S2560) shapeCasts_S2560_S1x2560 : Vec Ideal S1x2560 .f32) := by
    show StableHlo.after hostOps0 _ _ = _
    after_results <;> rfl
  rw [e]
  pointwise

theorem N_eq : cfg0.N = 80 := by decide

theorem index : ∀ t : Fin grid0.N, (win0_0.index t 0 = t.val / 5 ∧ win0_0.index t 1 = 0)
    ∧ (win0_1.index t 0 = 0 ∧ win0_1.index t 1 = 0 ∧ win0_1.index t 2 = t.val % 5)
    ∧ (win0_2.index t 0 = 0 ∧ win0_2.index t 1 = t.val % 5)
    ∧ (win0_3.index t 0 = t.val / 5 ∧ win0_3.index t 1 = t.val % 5) := by decide +kernel

theorem xsize : ∀ t : Fin grid0.N, win0_3.xsize (grid0.coords t) 0 = 1024 ∧ win0_3.xsize (grid0.coords t) 1 = 512 := by decide +kernel

/-- The row of the arrays that row `a` of point `t`'s blocks is. -/
def row (t : Fin cfg0.N) (a : Fin 1024) : Fin 16384 := ⟨t.val / 5 * 1024 + a.val, by have := lt_of_lt_of_eq t.isLt N_eq; omega⟩
/-- The column of the arrays that column `d` of point `t`'s blocks is. -/
def col (t : Fin cfg0.N) (d : Fin 512) : Fin 2560 := ⟨t.val % 5 * 512 + d.val, by omega⟩

theorem h_apply (c : Dev nD) (t : Fin cfg0.N) (a : Fin 1024) (k : Fin 2048) :
    (iblk m c 0 t : Vec Ideal S1024x2048 .bf16) (ix2 a k) = hOf m c (ix2 (row t a) k) := by
  show (V m c main_arg0) _ = _
  rw [V_main_arg0]
  refine congrArg (hOf m c) (funext fun x => Fin.ext ?_)
  match x with
  | ⟨0, _⟩ => show win0_0.index t 0 * 1024 + 1 * a.val = t.val / 5 * 1024 + a.val; rw [(index t).1.1]; omega
  | ⟨1, _⟩ => show win0_0.index t 1 * 2048 + 1 * k.val = k.val; rw [(index t).1.2]; omega

theorem w_apply (c : Dev nD) (t : Fin cfg0.N) (k : Fin 2048) (d : Fin 512) :
    (iblk m c 1 t : Vec Ideal S1x2048x512 .bf16) (ix3 0 k d) = wOf m c (ix3 0 k (col t d)) := by
  show (V m c main_v0) _ = _
  rw [V_w]
  refine congrArg (wOf m c) (funext fun x => Fin.ext ?_)
  match x with
  | ⟨0, _⟩ => show win0_1.index t 0 * 1 + 1 * 0 = 0; rw [(index t).2.1.1]
  | ⟨1, _⟩ => show win0_1.index t 1 * 2048 + 1 * k.val = k.val; rw [(index t).2.1.2.1]; omega
  | ⟨2, _⟩ => show win0_1.index t 2 * 512 + 1 * d.val = t.val % 5 * 512 + d.val; rw [(index t).2.1.2.2]; omega

theorem b_apply (c : Dev nD) (t : Fin cfg0.N) (d : Fin 512) :
    (iblk m c 2 t : Vec Ideal S1x512 .f32) (ix2 0 d) = bOf m c (ix2 0 (col t d)) := by
  refine Eq.trans ?_ (V_b m c (col t d))
  refine congrArg (V m c main_v2) (funext fun x => Fin.ext ?_)
  match x with
  | ⟨0, _⟩ => show win0_2.index t 0 * 1 + 1 * 0 = 0; rw [(index t).2.2.1.1]
  | ⟨1, _⟩ => show win0_2.index t 1 * 512 + 1 * d.val = t.val % 5 * 512 + d.val; rw [(index t).2.2.1.2]; omega

/-- What point `t` writes back is its block of the projection. -/
theorem flushed (c : Dev nD) (t : Fin cfg0.N) :
    (dats m 0 c).flushed 3 t = ((cfg0.win 3).blk t).view.read (Elt Ideal) (arr (hOf m c) (wOf m c) (bOf m c)) := by
  rw [Value.flushed3]
  funext (y : S1024x512.Idx)
  show out0_3 (iblk m c 0 t) (iblk m c 1 t) (iblk m c 2 t) y = _
  obtain ⟨a, d, rfl⟩ : ∃ (a : Fin 1024) (d : Fin 512), y = ix2 a d := ⟨y 0, y 1, eq_ix2 y⟩
  rw [out_eq, pay_apply, b_apply]
  simp only [h_apply, w_apply]
  refine congrArg (arr (hOf m c) (wOf m c) (bOf m c)) (a₁ := ix2 (row t a) (col t d)) (funext fun x => Fin.ext ?_)
  match x with
  | ⟨0, _⟩ => show t.val / 5 * 1024 + a.val = win0_3.index t 0 * 1024 + 1 * a.val; rw [(index t).2.2.2.1]; omega
  | ⟨1, _⟩ => show t.val % 5 * 512 + d.val = win0_3.index t 1 * 512 + 1 * d.val; rw [(index t).2.2.2.2]; omega

/-- Every index of the result lies in the block of some point. -/
theorem covered (y : S16384x2560.Idx) : ∃ t : Fin cfg0.N, (cfg0.win 3).flush t = true ∧ y ∈ ((cfg0.win 3).blk t).view.set := by
  have h0 : (y 0).val < 16384 := (y 0).isLt
  have h1 : (y 1).val < 2560 := (y 1).isLt
  have ht : (y 0).val / 1024 * 5 + (y 1).val / 512 < cfg0.N := by rw [N_eq]; omega
  refine ⟨⟨_, ht⟩, (by decide +kernel : ∀ t : Fin grid0.N, win0_3.flush t = true) _, ?_⟩
  show y ∈ ((View.whole main_v3).slice (win0_3.rect ⟨_, ht⟩)).set
  rw [View.set_slice_whole, Rect.mem_set_unit]
  have e := (index ⟨_, ht⟩).2.2.2
  have x := xsize ⟨_, ht⟩
  intro a
  match a with
  | ⟨0, _⟩ =>
    show win0_3.index ⟨_, ht⟩ 0 * 1024 ≤ (y 0).val ∧ (y 0).val < win0_3.index ⟨_, ht⟩ 0 * 1024 + win0_3.xsize (grid0.coords ⟨_, ht⟩) 0
    rw [e.1, x.1]; dsimp only; omega
  | ⟨1, _⟩ =>
    show win0_3.index ⟨_, ht⟩ 1 * 512 ≤ (y 1).val ∧ (y 1).val < win0_3.index ⟨_, ht⟩ 1 * 512 + win0_3.xsize (grid0.coords ⟨_, ht⟩) 1
    rw [e.2, x.2]; dsimp only; omega

theorem array_eq (c : Dev nD) : (dats m 0 c).arrAt 3 cfg0.N = arr (hOf m c) (wOf m c) (bOf m c) :=
  (dats m 0 c).arrAt_eq_of_cover 3 _ (fun t _ => flushed m c t) covered

/-! ## The reference -/

section Reference

open Cert.ReferenceQkvIdeal Cert.ReferenceQkvIdeal.Gen

/-- The reference's result, as its run leaves it. -/
def result (h : FVec Ideal Cert.ReferenceQkvIdeal.S16384x2048 .bf16) (w : FVec Ideal Cert.ReferenceQkvIdeal.S1x2048x2560 .f32) (b : FVec Ideal Cert.ReferenceQkvIdeal.S1x2560 .f32) :
    FVec Ideal Cert.ReferenceQkvIdeal.S16384x2560 .f32 :=
  addf (Host.dotGeneral Cert.ReferenceQkvIdeal.dot_S16384x2048_S2048x2560_S16384x2560_1_0_0_1_n_n none (extf .f32 h Cert.ReferenceQkvIdeal.Gen.bitsLt_bf16_f32)
      (shapeCast _ w Cert.ReferenceQkvIdeal.Gen.shapeCasts_S1x2048x2560_S2048x2560))
    (broadcastInDim Cert.ReferenceQkvIdeal.S16384x2560 ![0, 1] Cert.ReferenceQkvIdeal.Gen.bcast_S1x2560_S16384x2560_0_1
      (broadcastInDim Cert.ReferenceQkvIdeal.S1x2560 ![1] Cert.ReferenceQkvIdeal.Gen.bcast_S2560_S1x2560_1 (shapeCast _ b Cert.ReferenceQkvIdeal.Gen.shapeCasts_S1x2560_S2560)))

theorem result_eq (h : FVec Ideal Cert.ReferenceQkvIdeal.S16384x2048 .bf16) (w : FVec Ideal Cert.ReferenceQkvIdeal.S1x2048x2560 .f32) (b : FVec Ideal Cert.ReferenceQkvIdeal.S1x2560 .f32) :
    result h w b = arr h w b := by
  funext y
  obtain ⟨i, j, rfl⟩ : ∃ (i : Fin 16384) (j : Fin 2560), y = ix2 i j := ⟨y 0, y 1, eq_ix2 y⟩
  pointwise [result]
  rfl

end Reference

end Cert.KernelQkvIdeal.Proj

end
-- ==== Proof.ConvOut.lean ====
/- The convolution module's output projection with its gated residual: what the kernel's output array and the reference's
   result hold at an index. -/
module

public import proofs.«01_k».proof.Proof.Gen.KernelConvOutIdeal.Value
public import proofs.«01_k».proof.Proof.Gen.ReferenceConvOutIdeal.Run
public import proofs.«01_k».proof.Proof.Lin

@[expose] public section

set_option maxRecDepth 16384

noncomputable section

namespace Cert.KernelConvOutIdeal.Proj

open Cert.KernelConvOutIdeal Cert.KernelConvOutIdeal.Gen Idealize.ShloMosaic Idealize.ShloMosaic.TcCoe Idealize.SL.Sem
open Idealize.ShloMosaic.Pipeline (Dat)

/-- The residual plus the gated projection, as one array. -/
def arr (h : Vec Ideal S16384x2048 .bf16) (w : Vec Ideal S1x2048x2048 .f32) (b : Vec Ideal S1x2048 .f32) (x : Vec Ideal S16384x2048 .f32)
    (g : Vec Ideal S4x1x2048 .f32) (y : S16384x2048.Idx) : EReal :=
  Cert.Lin.residual x g (y 0) (y 1) (Cert.Lin.biased (B := 0) h w b (y 0) (y 1))

theorem pay_apply (x0 : Vec Ideal S1024x2048 .bf16) (x1 : Vec Ideal S1x2048x512 .bf16) (x2 : Vec Ideal S1x512 .f32) (x3 : Vec Ideal S1024x512 .f32) (x4 : Vec Ideal S1x1x512 .f32)
    (a : Fin 1024) (d : Fin 512) :
    k0_pay1 x0 x1 x2 x3 x4 (ix2 a d) = x3 (ix2 a d) + x4 (ix3 0 0 d) * ((∑ k : Fin 2048, x0 (ix2 a k) * x1 (ix3 0 k d)) + x2 (ix2 0 d)) := by
  pointwise [k0_pay1]

theorem out_eq (x0 : Vec Ideal S1024x2048 .bf16) (x1 : Vec Ideal S1x2048x512 .bf16) (x2 : Vec Ideal S1x512 .f32) (x3 : Vec Ideal S1024x512 .f32) (x4 : Vec Ideal S1x1x512 .f32) :
    out0_5 x0 x1 x2 x3 x4 = k0_pay1 x0 x1 x2 x3 x4 := by
  unfold out0_5
  rw [View.canon_unit_zero Cert.Lin.zero2, View.ld_unit_zero Cert.Lin.zero2, View.ld_unit_zero Cert.Lin.zero3, View.ld_unit_zero Cert.Lin.zero2,
    View.ld_unit_zero Cert.Lin.zero2, View.ld_unit_zero Cert.Lin.zero3]

variable (m : (ℓ : Loc nD τ sig) → Buf (Elt Ideal) ℓ)

abbrev hOf (c : Dev nD) : Vec Ideal S16384x2048 .bf16 := m ((c : Thread nD τ).loc main_arg0)
abbrev wOf (c : Dev nD) : Vec Ideal S1x2048x2048 .f32 := m ((c : Thread nD τ).loc main_arg1)
abbrev bOf (c : Dev nD) : Vec Ideal S1x2048 .f32 := m ((c : Thread nD τ).loc main_arg2)
abbrev xOf (c : Dev nD) : Vec Ideal S16384x2048 .f32 := m ((c : Thread nD τ).loc main_arg3)
abbrev gOf (c : Dev nD) : Vec Ideal S4x1x2048 .f32 := m ((c : Thread nD τ).loc main_arg4)

theorem V_w (c : Dev nD) : V m c main_v0 = (wOf m c : Vec Ideal S1x2048x2048 .bf16) := by
  show StableHlo.after hostOps0 _ _ = _
  after_results <;> rfl

theorem V_b (c : Dev nD) (j : Fin 2048) : (V m c main_v2 : Vec Ideal S1x2048 .f32) (ix2 0 j) = bOf m c (ix2 0 j) := by
  have e : V m c main_v2 = (shapeCast S1x2048 (shapeCast S2048 (bOf m c) shapeCasts_S1x2048_S2048) shapeCasts_S2048_S1x2048 : Vec Ideal S1x2048 .f32) := by
    show StableHlo.after hostOps0 _ _ = _
    after_results <;> rfl
  rw [e]
  pointwise

theorem N_eq : cfg0.N = 64 := by decide

theorem index : ∀ t : Fin grid0.N, (win0_0.index t 0 = t.val / 4 ∧ win0_0.index t 1 = 0)
    ∧ (win0_1.index t 0 = 0 ∧ win0_1.index t 1 = 0 ∧ win0_1.index t 2 = t.val % 4)
    ∧ (win0_2.index t 0 = 0 ∧ win0_2.index t 1 = t.val % 4)
    ∧ (win0_3.index t 0 = t.val / 4 ∧ win0_3.index t 1 = t.val % 4)
    ∧ (win0_4.index t 0 = t.val / 4 * 1024 / 4096 ∧ win0_4.index t 1 = 0 ∧ win0_4.index t 2 = t.val % 4)
    ∧ (win0_5.index t 0 = t.val / 4 ∧ win0_5.index t 1 = t.val % 4) := by decide +kernel

theorem xsize : ∀ t : Fin grid0.N, win0_5.xsize (grid0.coords t) 0 = 1024 ∧ win0_5.xsize (grid0.coords t) 1 = 512 := by decide +kernel

/-- The row of the arrays that row `a` of point `t`'s blocks is. -/
def row (t : Fin cfg0.N) (a : Fin 1024) : Fin 16384 := ⟨t.val / 4 * 1024 + a.val, by have := lt_of_lt_of_eq t.isLt N_eq; omega⟩
/-- The column of the arrays that column `d` of point `t`'s blocks is. -/
def col (t : Fin cfg0.N) (d : Fin 512) : Fin 2048 := ⟨t.val % 4 * 512 + d.val, by omega⟩

theorem h_apply (c : Dev nD) (t : Fin cfg0.N) (a : Fin 1024) (k : Fin 2048) :
    (iblk m c 0 t : Vec Ideal S1024x2048 .bf16) (ix2 a k) = hOf m c (ix2 (row t a) k) := by
  show (V m c main_arg0) _ = _
  rw [V_main_arg0]
  refine congrArg (hOf m c) (funext fun x => Fin.ext ?_)
  match x with
  | ⟨0, _⟩ => show win0_0.index t 0 * 1024 + 1 * a.val = t.val / 4 * 1024 + a.val; rw [(index t).1.1]; omega
  | ⟨1, _⟩ => show win0_0.index t 1 * 2048 + 1 * k.val = k.val; rw [(index t).1.2]; omega

theorem w_apply (c : Dev nD) (t : Fin cfg0.N) (k : Fin 2048) (d : Fin 512) :
    (iblk m c 1 t : Vec Ideal S1x2048x512 .bf16) (ix3 0 k d) = wOf m c (ix3 0 k (col t d)) := by
  show (V m c main_v0) _ = _
  rw [V_w]
  refine congrArg (wOf m c) (funext fun x => Fin.ext ?_)
  match x with
  | ⟨0, _⟩ => show win0_1.index t 0 * 1 + 1 * 0 = 0; rw [(index t).2.1.1]
  | ⟨1, _⟩ => show win0_1.index t 1 * 2048 + 1 * k.val = k.val; rw [(index t).2.1.2.1]; omega
  | ⟨2, _⟩ => show win0_1.index t 2 * 512 + 1 * d.val = t.val % 4 * 512 + d.val; rw [(index t).2.1.2.2]; omega

theorem b_apply (c : Dev nD) (t : Fin cfg0.N) (d : Fin 512) :
    (iblk m c 2 t : Vec Ideal S1x512 .f32) (ix2 0 d) = bOf m c (ix2 0 (col t d)) := by
  refine Eq.trans ?_ (V_b m c (col t d))
  refine congrArg (V m c main_v2) (funext fun x => Fin.ext ?_)
  match x with
  | ⟨0, _⟩ => show win0_2.index t 0 * 1 + 1 * 0 = 0; rw [(index t).2.2.1.1]
  | ⟨1, _⟩ => show win0_2.index t 1 * 512 + 1 * d.val = t.val % 4 * 512 + d.val; rw [(index t).2.2.1.2]; omega

theorem x_apply (c : Dev nD) (t : Fin cfg0.N) (a : Fin 1024) (d : Fin 512) :
    (iblk m c 3 t : Vec Ideal S1024x512 .f32) (ix2 a d) = xOf m c (ix2 (row t a) (col t d)) := by
  show (V m c main_arg3) _ = _
  rw [V_main_arg3]
  refine congrArg (xOf m c) (funext fun x => Fin.ext ?_)
  match x with
  | ⟨0, _⟩ => show win0_3.index t 0 * 1024 + 1 * a.val = t.val / 4 * 1024 + a.val; rw [(index t).2.2.2.1.1]; omega
  | ⟨1, _⟩ => show win0_3.index t 1 * 512 + 1 * d.val = t.val % 4 * 512 + d.val; rw [(index t).2.2.2.1.2]; omega

theorem g_apply (c : Dev nD) (t : Fin cfg0.N) (a : Fin 1024) (d : Fin 512) :
    (iblk m c 4 t : Vec Ideal S1x1x512 .f32) (ix3 0 0 d) = gOf m c (ix3 (Cert.Lin.seqOf (row t a)) 0 (col t d)) := by
  show (V m c main_arg4) _ = _
  rw [V_main_arg4]
  refine congrArg (gOf m c) (funext fun x => Fin.ext ?_)
  match x with
  | ⟨0, _⟩ => show win0_4.index t 0 * 1 + 1 * 0 = (t.val / 4 * 1024 + a.val) / 4096; rw [(index t).2.2.2.2.1.1]; omega
  | ⟨1, _⟩ => show win0_4.index t 1 * 1 + 1 * 0 = 0; rw [(index t).2.2.2.2.1.2.1]
  | ⟨2, _⟩ => show win0_4.index t 2 * 512 + 1 * d.val = t.val % 4 * 512 + d.val; rw [(index t).2.2.2.2.1.2.2]; omega

/-- What point `t` writes back is its block of the result. -/
theorem flushed (c : Dev nD) (t : Fin cfg0.N) :
    (dats m 0 c).flushed 5 t = ((cfg0.win 5).blk t).view.read (Elt Ideal) (arr (hOf m c) (wOf m c) (bOf m c) (xOf m c) (gOf m c)) := by
  rw [Value.flushed5]
  funext (y : S1024x512.Idx)
  show out0_5 (iblk m c 0 t) (iblk m c 1 t) (iblk m c 2 t) (iblk m c 3 t) (iblk m c 4 t) y = _
  obtain ⟨a, d, rfl⟩ : ∃ (a : Fin 1024) (d : Fin 512), y = ix2 a d := ⟨y 0, y 1, eq_ix2 y⟩
  rw [out_eq, pay_apply, b_apply, x_apply, g_apply m c t a d]
  simp only [h_apply, w_apply]
  refine congrArg (arr (hOf m c) (wOf m c) (bOf m c) (xOf m c) (gOf m c)) (a₁ := ix2 (row t a) (col t d)) (funext fun x => Fin.ext ?_)
  match x with
  | ⟨0, _⟩ => show t.val / 4 * 1024 + a.val = win0_5.index t 0 * 1024 + 1 * a.val; rw [(index t).2.2.2.2.2.1]; omega
  | ⟨1, _⟩ => show t.val % 4 * 512 + d.val = win0_5.index t 1 * 512 + 1 * d.val; rw [(index t).2.2.2.2.2.2]; omega

/-- Every index of the result lies in the block of some point. -/
theorem covered (y : S16384x2048.Idx) : ∃ t : Fin cfg0.N, (cfg0.win 5).flush t = true ∧ y ∈ ((cfg0.win 5).blk t).view.set := by
  have h0 : (y 0).val < 16384 := (y 0).isLt
  have h1 : (y 1).val < 2048 := (y 1).isLt
  have ht : (y 0).val / 1024 * 4 + (y 1).val / 512 < cfg0.N := by rw [N_eq]; omega
  refine ⟨⟨_, ht⟩, (by decide +kernel : ∀ t : Fin grid0.N, win0_5.flush t = true) _, ?_⟩
  show y ∈ ((View.whole main_v3).slice (win0_5.rect ⟨_, ht⟩)).set
  rw [View.set_slice_whole, Rect.mem_set_unit]
  have e := (index ⟨_, ht⟩).2.2.2.2.2
  have x := xsize ⟨_, ht⟩
  intro a
  match a with
  | ⟨0, _⟩ =>
    show win0_5.index ⟨_, ht⟩ 0 * 1024 ≤ (y 0).val ∧ (y 0).val < win0_5.index ⟨_, ht⟩ 0 * 1024 + win0_5.xsize (grid0.coords ⟨_, ht⟩) 0
    rw [e.1, x.1]; dsimp only; omega
  | ⟨1, _⟩ =>
    show win0_5.index ⟨_, ht⟩ 1 * 512 ≤ (y 1).val ∧ (y 1).val < win0_5.index ⟨_, ht⟩ 1 * 512 + win0_5.xsize (grid0.coords ⟨_, ht⟩) 1
    rw [e.2, x.2]; dsimp only; omega

theorem array_eq (c : Dev nD) : (dats m 0 c).arrAt 5 cfg0.N = arr (hOf m c) (wOf m c) (bOf m c) (xOf m c) (gOf m c) :=
  (dats m 0 c).arrAt_eq_of_cover 5 _ (fun t _ => flushed m c t) covered

end Cert.KernelConvOutIdeal.Proj

/-! ## The reference -/

namespace Cert.ReferenceConvOutIdeal.Proj

open Cert.ReferenceConvOutIdeal Cert.ReferenceConvOutIdeal.Gen Idealize.ShloMosaic

/-- The projection with its bias. -/
def linear (h : FVec Ideal S16384x2048 .bf16) (w : FVec Ideal S1x2048x2048 .f32) (b : FVec Ideal S1x2048 .f32) : FVec Ideal S16384x2048 .f32 :=
  addf (Host.dotGeneral dot_S16384x2048_S2048x2048_S16384x2048_1_0_0_1_n_n none (extf .f32 h bitsLt_bf16_f32)
      (shapeCast _ w shapeCasts_S1x2048x2048_S2048x2048))
    (broadcastInDim S16384x2048 ![0, 1] bcast_S1x2048_S16384x2048_0_1 (broadcastInDim S1x2048 ![1] bcast_S2048_S1x2048_1
      (shapeCast _ b shapeCasts_S1x2048_S2048)))

/-- The residual plus the gated array. -/
def gated (z x : FVec Ideal S16384x2048 .f32) (g : FVec Ideal S4x1x2048 .f32) : FVec Ideal S16384x2048 .f32 :=
  shapeCast _ (addf (shapeCast _ x shapeCasts_S16384x2048_S4x4096x2048)
    (mulf (broadcastInDim S4x4096x2048 ![0, 1, 2] bcast_S4x1x2048_S4x4096x2048_0_1_2 g) (shapeCast _ z shapeCasts_S16384x2048_S4x4096x2048)))
    shapeCasts_S4x4096x2048_S16384x2048

theorem linear_apply (h : FVec Ideal S16384x2048 .bf16) (w : FVec Ideal S1x2048x2048 .f32) (b : FVec Ideal S1x2048 .f32) (i : Fin 16384) (j : Fin 2048) :
    linear h w b (ix2 i j) = Cert.Lin.biased (B := 0) h w b i j := by
  pointwise [linear]
  rfl

theorem gated_apply (z x : FVec Ideal S16384x2048 .f32) (g : FVec Ideal S4x1x2048 .f32) (i : Fin 16384) (j : Fin 2048) :
    gated z x g (ix2 i j) = Cert.Lin.residual x g i j (z (ix2 i j)) := by
  pointwise [gated]
  rfl

theorem result_eq (h : FVec Ideal S16384x2048 .bf16) (w : FVec Ideal S1x2048x2048 .f32) (b : FVec Ideal S1x2048 .f32) (x : FVec Ideal S16384x2048 .f32) (g : FVec Ideal S4x1x2048 .f32) :
    gated (linear h w b) x g = Cert.KernelConvOutIdeal.Proj.arr h w b x g := by
  funext y
  obtain ⟨i, j, rfl⟩ : ∃ (i : Fin 16384) (j : Fin 2048), y = ix2 i j := ⟨y 0, y 1, eq_ix2 y⟩
  rw [gated_apply, linear_apply]
  rfl

end Cert.ReferenceConvOutIdeal.Proj

end
-- ==== Proof.AttnOut.lean ====
/- The attention's output projection with its gated residual: what the kernel's output array and the reference's
   result hold at an index. -/
module

public import proofs.«01_k».proof.Proof.Gen.KernelAttnOutIdeal.Value
public import proofs.«01_k».proof.Proof.Gen.ReferenceAttnOutIdeal.Run
public import proofs.«01_k».proof.Proof.Lin

@[expose] public section

set_option maxRecDepth 16384

noncomputable section

namespace Cert.KernelAttnOutIdeal.Proj

open Cert.KernelAttnOutIdeal Cert.KernelAttnOutIdeal.Gen Idealize.ShloMosaic Idealize.ShloMosaic.TcCoe Idealize.SL.Sem
open Idealize.ShloMosaic.Pipeline (Dat)

/-- The residual plus the gated projection, as one array. -/
def arr (h : Vec Ideal S16384x2048 .bf16) (w : Vec Ideal S1x2048x2048 .f32) (x : Vec Ideal S16384x2048 .f32) (g : Vec Ideal S4x1x2048 .f32)
    (y : S16384x2048.Idx) : EReal :=
  Cert.Lin.residual x g (y 0) (y 1) (Cert.Lin.proj (B := 0) h w (y 0) (y 1))

theorem pay_apply (x0 : Vec Ideal S1024x2048 .bf16) (x1 : Vec Ideal S1x2048x512 .bf16) (x2 : Vec Ideal S1024x512 .f32) (x3 : Vec Ideal S1x1x512 .f32)
    (a : Fin 1024) (d : Fin 512) :
    k0_pay1 x0 x1 x2 x3 (ix2 a d) = x2 (ix2 a d) + x3 (ix3 0 0 d) * ∑ k : Fin 2048, x0 (ix2 a k) * x1 (ix3 0 k d) := by
  pointwise [k0_pay1]

theorem out_eq (x0 : Vec Ideal S1024x2048 .bf16) (x1 : Vec Ideal S1x2048x512 .bf16) (x2 : Vec Ideal S1024x512 .f32) (x3 : Vec Ideal S1x1x512 .f32) :
    out0_4 x0 x1 x2 x3 = k0_pay1 x0 x1 x2 x3 := by
  unfold out0_4
  rw [View.canon_unit_zero Cert.Lin.zero2, View.ld_unit_zero Cert.Lin.zero2, View.ld_unit_zero Cert.Lin.zero3, View.ld_unit_zero Cert.Lin.zero2,
    View.ld_unit_zero Cert.Lin.zero3]

variable (m : (ℓ : Loc nD τ sig) → Buf (Elt Ideal) ℓ)

abbrev hOf (c : Dev nD) : Vec Ideal S16384x2048 .bf16 := m ((c : Thread nD τ).loc main_arg0)
abbrev wOf (c : Dev nD) : Vec Ideal S1x2048x2048 .f32 := m ((c : Thread nD τ).loc main_arg1)
abbrev xOf (c : Dev nD) : Vec Ideal S16384x2048 .f32 := m ((c : Thread nD τ).loc main_arg2)
abbrev gOf (c : Dev nD) : Vec Ideal S4x1x2048 .f32 := m ((c : Thread nD τ).loc main_arg3)

theorem V_w (c : Dev nD) : V m c main_v0 = (wOf m c : Vec Ideal S1x2048x2048 .bf16) := by
  show StableHlo.after hostOps0 _ _ = _
  after_results <;> rfl

theorem N_eq : cfg0.N = 64 := by decide

theorem index : ∀ t : Fin grid0.N, (win0_0.index t 0 = t.val / 4 ∧ win0_0.index t 1 = 0)
    ∧ (win0_1.index t 0 = 0 ∧ win0_1.index t 1 = 0 ∧ win0_1.index t 2 = t.val % 4)
    ∧ (win0_2.index t 0 = t.val / 4 ∧ win0_2.index t 1 = t.val % 4)
    ∧ (win0_3.index t 0 = t.val / 4 * 1024 / 4096 ∧ win0_3.index t 1 = 0 ∧ win0_3.index t 2 = t.val % 4)
    ∧ (win0_4.index t 0 = t.val / 4 ∧ win0_4.index t 1 = t.val % 4) := by decide +kernel

theorem xsize : ∀ t : Fin grid0.N, win0_4.xsize (grid0.coords t) 0 = 1024 ∧ win0_4.xsize (grid0.coords t) 1 = 512 := by decide +kernel

/-- The row of the arrays that row `a` of point `t`'s blocks is. -/
def row (t : Fin cfg0.N) (a : Fin 1024) : Fin 16384 := ⟨t.val / 4 * 1024 + a.val, by have := lt_of_lt_of_eq t.isLt N_eq; omega⟩
/-- The column of the arrays that column `d` of point `t`'s blocks is. -/
def col (t : Fin cfg0.N) (d : Fin 512) : Fin 2048 := ⟨t.val % 4 * 512 + d.val, by omega⟩

theorem h_apply (c : Dev nD) (t : Fin cfg0.N) (a : Fin 1024) (k : Fin 2048) :
    (iblk m c 0 t : Vec Ideal S1024x2048 .bf16) (ix2 a k) = hOf m c (ix2 (row t a) k) := by
  show (V m c main_arg0) _ = _
  rw [V_main_arg0]
  refine congrArg (hOf m c) (funext fun x => Fin.ext ?_)
  match x with
  | ⟨0, _⟩ => show win0_0.index t 0 * 1024 + 1 * a.val = t.val / 4 * 1024 + a.val; rw [(index t).1.1]; omega
  | ⟨1, _⟩ => show win0_0.index t 1 * 2048 + 1 * k.val = k.val; rw [(index t).1.2]; omega

theorem w_apply (c : Dev nD) (t : Fin cfg0.N) (k : Fin 2048) (d : Fin 512) :
    (iblk m c 1 t : Vec Ideal S1x2048x512 .bf16) (ix3 0 k d) = wOf m c (ix3 0 k (col t d)) := by
  show (V m c main_v0) _ = _
  rw [V_w]
  refine congrArg (wOf m c) (funext fun x => Fin.ext ?_)
  match x with
  | ⟨0, _⟩ => show win0_1.index t 0 * 1 + 1 * 0 = 0; rw [(index t).2.1.1]
  | ⟨1, _⟩ => show win0_1.index t 1 * 2048 + 1 * k.val = k.val; rw [(index t).2.1.2.1]; omega
  | ⟨2, _⟩ => show win0_1.index t 2 * 512 + 1 * d.val = t.val % 4 * 512 + d.val; rw [(index t).2.1.2.2]; omega

theorem x_apply (c : Dev nD) (t : Fin cfg0.N) (a : Fin 1024) (d : Fin 512) :
    (iblk m c 2 t : Vec Ideal S1024x512 .f32) (ix2 a d) = xOf m c (ix2 (row t a) (col t d)) := by
  show (V m c main_arg2) _ = _
  rw [V_main_arg2]
  refine congrArg (xOf m c) (funext fun x => Fin.ext ?_)
  match x with
  | ⟨0, _⟩ => show win0_2.index t 0 * 1024 + 1 * a.val = t.val / 4 * 1024 + a.val; rw [(index t).2.2.1.1]; omega
  | ⟨1, _⟩ => show win0_2.index t 1 * 512 + 1 * d.val = t.val % 4 * 512 + d.val; rw [(index t).2.2.1.2]; omega

theorem g_apply (c : Dev nD) (t : Fin cfg0.N) (a : Fin 1024) (d : Fin 512) :
    (iblk m c 3 t : Vec Ideal S1x1x512 .f32) (ix3 0 0 d) = gOf m c (ix3 (Cert.Lin.seqOf (row t a)) 0 (col t d)) := by
  show (V m c main_arg3) _ = _
  rw [V_main_arg3]
  refine congrArg (gOf m c) (funext fun x => Fin.ext ?_)
  match x with
  | ⟨0, _⟩ => show win0_3.index t 0 * 1 + 1 * 0 = (t.val / 4 * 1024 + a.val) / 4096; rw [(index t).2.2.2.1.1]; omega
  | ⟨1, _⟩ => show win0_3.index t 1 * 1 + 1 * 0 = 0; rw [(index t).2.2.2.1.2.1]
  | ⟨2, _⟩ => show win0_3.index t 2 * 512 + 1 * d.val = t.val % 4 * 512 + d.val; rw [(index t).2.2.2.1.2.2]; omega

/-- What point `t` writes back is its block of the result. -/
theorem flushed (c : Dev nD) (t : Fin cfg0.N) :
    (dats m 0 c).flushed 4 t = ((cfg0.win 4).blk t).view.read (Elt Ideal) (arr (hOf m c) (wOf m c) (xOf m c) (gOf m c)) := by
  rw [Value.flushed4]
  funext (y : S1024x512.Idx)
  show out0_4 (iblk m c 0 t) (iblk m c 1 t) (iblk m c 2 t) (iblk m c 3 t) y = _
  obtain ⟨a, d, rfl⟩ : ∃ (a : Fin 1024) (d : Fin 512), y = ix2 a d := ⟨y 0, y 1, eq_ix2 y⟩
  rw [out_eq, pay_apply, x_apply, g_apply m c t a d]
  simp only [h_apply, w_apply]
  refine congrArg (arr (hOf m c) (wOf m c) (xOf m c) (gOf m c)) (a₁ := ix2 (row t a) (col t d)) (funext fun x => Fin.ext ?_)
  match x with
  | ⟨0, _⟩ => show t.val / 4 * 1024 + a.val = win0_4.index t 0 * 1024 + 1 * a.val; rw [(index t).2.2.2.2.1]; omega
  | ⟨1, _⟩ => show t.val % 4 * 512 + d.val = win0_4.index t 1 * 512 + 1 * d.val; rw [(index t).2.2.2.2.2]; omega

/-- Every index of the result lies in the block of some point. -/
theorem covered (y : S16384x2048.Idx) : ∃ t : Fin cfg0.N, (cfg0.win 4).flush t = true ∧ y ∈ ((cfg0.win 4).blk t).view.set := by
  have h0 : (y 0).val < 16384 := (y 0).isLt
  have h1 : (y 1).val < 2048 := (y 1).isLt
  have ht : (y 0).val / 1024 * 4 + (y 1).val / 512 < cfg0.N := by rw [N_eq]; omega
  refine ⟨⟨_, ht⟩, (by decide +kernel : ∀ t : Fin grid0.N, win0_4.flush t = true) _, ?_⟩
  show y ∈ ((View.whole main_v1).slice (win0_4.rect ⟨_, ht⟩)).set
  rw [View.set_slice_whole, Rect.mem_set_unit]
  have e := (index ⟨_, ht⟩).2.2.2.2
  have x := xsize ⟨_, ht⟩
  intro a
  match a with
  | ⟨0, _⟩ =>
    show win0_4.index ⟨_, ht⟩ 0 * 1024 ≤ (y 0).val ∧ (y 0).val < win0_4.index ⟨_, ht⟩ 0 * 1024 + win0_4.xsize (grid0.coords ⟨_, ht⟩) 0
    rw [e.1, x.1]; dsimp only; omega
  | ⟨1, _⟩ =>
    show win0_4.index ⟨_, ht⟩ 1 * 512 ≤ (y 1).val ∧ (y 1).val < win0_4.index ⟨_, ht⟩ 1 * 512 + win0_4.xsize (grid0.coords ⟨_, ht⟩) 1
    rw [e.2, x.2]; dsimp only; omega

theorem array_eq (c : Dev nD) : (dats m 0 c).arrAt 4 cfg0.N = arr (hOf m c) (wOf m c) (xOf m c) (gOf m c) :=
  (dats m 0 c).arrAt_eq_of_cover 4 _ (fun t _ => flushed m c t) covered

end Cert.KernelAttnOutIdeal.Proj

/-! ## The reference -/

namespace Cert.ReferenceAttnOutIdeal.Proj

open Cert.ReferenceAttnOutIdeal Cert.ReferenceAttnOutIdeal.Gen Idealize.ShloMosaic

/-- The projection. -/
def linear (h : FVec Ideal S16384x2048 .bf16) (w : FVec Ideal S1x2048x2048 .f32) : FVec Ideal S16384x2048 .f32 :=
  Host.dotGeneral dot_S16384x2048_S2048x2048_S16384x2048_1_0_0_1_n_n none (extf .f32 h bitsLt_bf16_f32)
    (shapeCast _ w shapeCasts_S1x2048x2048_S2048x2048)

/-- The residual plus the gated array. -/
def gated (z x : FVec Ideal S16384x2048 .f32) (g : FVec Ideal S4x1x2048 .f32) : FVec Ideal S16384x2048 .f32 :=
  shapeCast _ (addf (shapeCast _ x shapeCasts_S16384x2048_S4x4096x2048)
    (mulf (broadcastInDim S4x4096x2048 ![0, 1, 2] bcast_S4x1x2048_S4x4096x2048_0_1_2 g) (shapeCast _ z shapeCasts_S16384x2048_S4x4096x2048)))
    shapeCasts_S4x4096x2048_S16384x2048

theorem linear_apply (h : FVec Ideal S16384x2048 .bf16) (w : FVec Ideal S1x2048x2048 .f32) (i : Fin 16384) (j : Fin 2048) :
    linear h w (ix2 i j) = Cert.Lin.proj (B := 0) h w i j := by
  pointwise [linear]
  rfl

theorem gated_apply (z x : FVec Ideal S16384x2048 .f32) (g : FVec Ideal S4x1x2048 .f32) (i : Fin 16384) (j : Fin 2048) :
    gated z x g (ix2 i j) = Cert.Lin.residual x g i j (z (ix2 i j)) := by
  pointwise [gated]
  rfl

theorem result_eq (h : FVec Ideal S16384x2048 .bf16) (w : FVec Ideal S1x2048x2048 .f32) (x : FVec Ideal S16384x2048 .f32) (g : FVec Ideal S4x1x2048 .f32) :
    gated (linear h w) x g = Cert.KernelAttnOutIdeal.Proj.arr h w x g := by
  funext y
  obtain ⟨i, j, rfl⟩ : ∃ (i : Fin 16384) (j : Fin 2048), y = ix2 i j := ⟨y 0, y 1, eq_ix2 y⟩
  rw [gated_apply, linear_apply]
  rfl

end Cert.ReferenceAttnOutIdeal.Proj

end
-- ==== Proof.Rows.lean ====
/- The norms' entries: one entry of a row, scaled by the root of its mean square, or with its mean taken off first. -/
module

public import Idealize.ShloMosaic.Lib.Pointwise

@[expose] public section

noncomputable section

namespace Cert.Rows

open Idealize.ShloMosaic

/-- The mean of a row, its length given as a word. -/
def mean {n : ℕ} (w : BitVec 32) (f : Fin n → EReal) : EReal := Ideal.div (∑ k, f k) (Ideal.ofBits .f32 w)

/-- The reciprocal root of a row's mean square plus epsilon. -/
def scale {n : ℕ} (w : BitVec 32) (f : Fin n → EReal) : EReal :=
  Ideal.rsqrt (mean w (fun k => f k * f k) + Ideal.ofBits .f32 0x358637BD#32)

/-- A row with its mean taken off. -/
def centred {n : ℕ} (w : BitVec 32) (f : Fin n → EReal) (k : Fin n) : EReal := f k - mean w f

/-- The root mean square norm of a row, at one entry with its gain. -/
def rms {n : ℕ} (w : BitVec 32) (f : Fin n → EReal) (j : Fin n) (g : EReal) : EReal := f j * scale w f * g

/-- The layer norm of a row, at one entry with its gain and bias. -/
def layer {n : ℕ} (w : BitVec 32) (f : Fin n → EReal) (j : Fin n) (g b : EReal) : EReal :=
  centred w f j * scale w (centred w f) * g + b

end Cert.Rows

end
-- ==== Proof.Norm.lean ====
/- The final norm: what the kernel's output array and the reference's result hold at an index, the root mean square norm
   of the residual plus its gated update. -/
module

public import proofs.«01_k».proof.Proof.Gen.KernelNormIdeal.Value
public import proofs.«01_k».proof.Proof.Gen.ReferenceNormIdeal.Run
public import proofs.«01_k».proof.Proof.Lin
public import proofs.«01_k».proof.Proof.Rows

@[expose] public section

set_option maxRecDepth 16384

noncomputable section

namespace Cert.KernelNormIdeal.Norm

open Cert.KernelNormIdeal Cert.KernelNormIdeal.Gen Idealize.ShloMosaic Idealize.ShloMosaic.TcCoe Idealize.SL.Sem
open Idealize.ShloMosaic.Pipeline (Dat)

/-- A row of the residual plus its gated update. -/
def summed (x : Vec Ideal S16384x2048 .f32) (u : Vec Ideal S2048x16384 .f32) (g : Vec Ideal S4x1x2048 .f32) (i : Fin 16384) (k : Fin 2048) : EReal :=
  Cert.Lin.residual x g i k (u (ix2 k i))

/-- The norm of those rows, as one array. -/
def arr (x : Vec Ideal S16384x2048 .f32) (u : Vec Ideal S2048x16384 .f32) (g : Vec Ideal S4x1x2048 .f32) (w : Vec Ideal S2048 .f32)
    (y : S16384x2048.Idx) : EReal :=
  Cert.Rows.rms 0x45000000#32 (summed x u g (y 0)) (y 1) (w (ix1 (y 1)))

theorem pay_apply (x0 : Vec Ideal S512x2048 .f32) (x1 : Vec Ideal S1x1x2048 .f32) (x2 : Vec Ideal S2048x512 .f32) (x3 : Vec Ideal S1x2048 .f32)
    (a : Fin 512) (d : Fin 2048) :
    k0_pay1 x0 x1 x2 x3 (ix2 a d)
      = Cert.Rows.rms 0x45000000#32 (fun k : Fin 2048 => x0 (ix2 a k) + x1 (ix3 0 0 k) * x2 (ix2 k a)) d (x3 (ix2 0 d)) := by
  pointwise [k0_pay1]
  rfl

theorem out_eq (x0 : Vec Ideal S512x2048 .f32) (x1 : Vec Ideal S2048x512 .f32) (x2 : Vec Ideal S1x1x2048 .f32) (x3 : Vec Ideal S1x2048 .f32) :
    out0_4 x0 x1 x2 x3 = k0_pay1 x0 x2 x1 x3 := by
  unfold out0_4
  rw [View.canon_unit_zero Cert.Lin.zero2, View.ld_unit_zero Cert.Lin.zero2, View.ld_unit_zero Cert.Lin.zero3, View.ld_unit_zero Cert.Lin.zero2,
    View.ld_unit_zero Cert.Lin.zero2]

variable (m : (ℓ : Loc nD τ sig) → Buf (Elt Ideal) ℓ)

abbrev xOf (c : Dev nD) : Vec Ideal S16384x2048 .f32 := m ((c : Thread nD τ).loc main_arg0)
abbrev uOf (c : Dev nD) : Vec Ideal S2048x16384 .f32 := m ((c : Thread nD τ).loc main_arg1)
abbrev gOf (c : Dev nD) : Vec Ideal S4x1x2048 .f32 := m ((c : Thread nD τ).loc main_arg2)
abbrev wOf (c : Dev nD) : Vec Ideal S2048 .f32 := m ((c : Thread nD τ).loc main_arg3)

theorem V_w (c : Dev nD) : V m c main_v0 = (shapeCast _ (wOf m c) shapeCasts_S2048_S1x2048 : Vec Ideal S1x2048 .f32) := by
  show StableHlo.after hostOps0 _ _ = _
  after_results <;> rfl

theorem N_eq : cfg0.N = 32 := by decide

theorem index : ∀ t : Fin grid0.N, (win0_0.index t 0 = t.val ∧ win0_0.index t 1 = 0)
    ∧ (win0_1.index t 0 = 0 ∧ win0_1.index t 1 = t.val)
    ∧ (win0_2.index t 0 = t.val * 512 / 4096 ∧ win0_2.index t 1 = 0 ∧ win0_2.index t 2 = 0)
    ∧ (win0_3.index t 0 = 0 ∧ win0_3.index t 1 = 0)
    ∧ (win0_4.index t 0 = t.val ∧ win0_4.index t 1 = 0) := by decide +kernel

theorem xsize : ∀ t : Fin grid0.N, win0_4.xsize (grid0.coords t) 0 = 512 ∧ win0_4.xsize (grid0.coords t) 1 = 2048 := by decide +kernel

/-- The row of the arrays that row `a` of point `t`'s blocks is. -/
def row (t : Fin cfg0.N) (a : Fin 512) : Fin 16384 := ⟨t.val * 512 + a.val, by have := lt_of_lt_of_eq t.isLt N_eq; omega⟩

theorem x_apply (c : Dev nD) (t : Fin cfg0.N) (a : Fin 512) (k : Fin 2048) :
    (iblk m c 0 t : Vec Ideal S512x2048 .f32) (ix2 a k) = xOf m c (ix2 (row t a) k) := by
  show (V m c main_arg0) _ = _
  rw [V_main_arg0]
  refine congrArg (xOf m c) (funext fun x => Fin.ext ?_)
  match x with
  | ⟨0, _⟩ => show win0_0.index t 0 * 512 + 1 * a.val = t.val * 512 + a.val; rw [(index t).1.1]; omega
  | ⟨1, _⟩ => show win0_0.index t 1 * 2048 + 1 * k.val = k.val; rw [(index t).1.2]; omega

theorem u_apply (c : Dev nD) (t : Fin cfg0.N) (a : Fin 512) (k : Fin 2048) :
    (iblk m c 1 t : Vec Ideal S2048x512 .f32) (ix2 k a) = uOf m c (ix2 k (row t a)) := by
  show (V m c main_arg1) _ = _
  rw [V_main_arg1]
  refine congrArg (uOf m c) (funext fun x => Fin.ext ?_)
  match x with
  | ⟨0, _⟩ => show win0_1.index t 0 * 2048 + 1 * k.val = k.val; rw [(index t).2.1.1]; omega
  | ⟨1, _⟩ => show win0_1.index t 1 * 512 + 1 * a.val = t.val * 512 + a.val; rw [(index t).2.1.2]; omega

theorem g_apply (c : Dev nD) (t : Fin cfg0.N) (a : Fin 512) (k : Fin 2048) :
    (iblk m c 2 t : Vec Ideal S1x1x2048 .f32) (ix3 0 0 k) = gOf m c (ix3 (Cert.Lin.seqOf (row t a)) 0 k) := by
  show (V m c main_arg2) _ = _
  rw [V_main_arg2]
  refine congrArg (gOf m c) (funext fun x => Fin.ext ?_)
  match x with
  | ⟨0, _⟩ => show win0_2.index t 0 * 1 + 1 * 0 = (t.val * 512 + a.val) / 4096; rw [(index t).2.2.1.1]; omega
  | ⟨1, _⟩ => show win0_2.index t 1 * 1 + 1 * 0 = 0; rw [(index t).2.2.1.2.1]
  | ⟨2, _⟩ => show win0_2.index t 2 * 2048 + 1 * k.val = k.val; rw [(index t).2.2.1.2.2]; omega

theorem cast_apply (w : Vec Ideal S2048 .f32) (k : Fin 2048) :
    (shapeCast S1x2048 w shapeCasts_S2048_S1x2048 : Vec Ideal S1x2048 .f32) (ix2 0 k) = w (ix1 k) := by
  pointwise []

theorem w_apply (c : Dev nD) (t : Fin cfg0.N) (k : Fin 2048) : (iblk m c 3 t : Vec Ideal S1x2048 .f32) (ix2 0 k) = wOf m c (ix1 k) := by
  refine Eq.trans ?_ (cast_apply (wOf m c) k)
  show (V m c main_v0) _ = _
  rw [V_w]
  refine congrArg (shapeCast S1x2048 (wOf m c) shapeCasts_S2048_S1x2048) (funext fun x => Fin.ext ?_)
  match x with
  | ⟨0, _⟩ => show win0_3.index t 0 * 1 + 1 * 0 = 0; rw [(index t).2.2.2.1.1]
  | ⟨1, _⟩ => show win0_3.index t 1 * 2048 + 1 * k.val = k.val; rw [(index t).2.2.2.1.2]; omega

/-- What point `t` writes back is its block of the result. -/
theorem flushed (c : Dev nD) (t : Fin cfg0.N) :
    (dats m 0 c).flushed 4 t = ((cfg0.win 4).blk t).view.read (Elt Ideal) (arr (xOf m c) (uOf m c) (gOf m c) (wOf m c)) := by
  rw [Value.flushed4]
  funext (y : S512x2048.Idx)
  show out0_4 (iblk m c 0 t) (iblk m c 1 t) (iblk m c 2 t) (iblk m c 3 t) y = _
  obtain ⟨a, d, rfl⟩ : ∃ (a : Fin 512) (d : Fin 2048), y = ix2 a d := ⟨y 0, y 1, eq_ix2 y⟩
  rw [out_eq, pay_apply, w_apply]
  simp only [x_apply, u_apply, g_apply m c t a]
  refine congrArg (arr (xOf m c) (uOf m c) (gOf m c) (wOf m c)) (a₁ := ix2 (row t a) d) (funext fun x => Fin.ext ?_)
  match x with
  | ⟨0, _⟩ => show t.val * 512 + a.val = win0_4.index t 0 * 512 + 1 * a.val; rw [(index t).2.2.2.2.1]; omega
  | ⟨1, _⟩ => show d.val = win0_4.index t 1 * 2048 + 1 * d.val; rw [(index t).2.2.2.2.2]; omega

/-- Every index of the result lies in the block of some point. -/
theorem covered (y : S16384x2048.Idx) : ∃ t : Fin cfg0.N, (cfg0.win 4).flush t = true ∧ y ∈ ((cfg0.win 4).blk t).view.set := by
  have h0 : (y 0).val < 16384 := (y 0).isLt
  have h1 : (y 1).val < 2048 := (y 1).isLt
  have ht : (y 0).val / 512 < cfg0.N := by rw [N_eq]; omega
  refine ⟨⟨_, ht⟩, (by decide +kernel : ∀ t : Fin grid0.N, win0_4.flush t = true) _, ?_⟩
  show y ∈ ((View.whole main_v1).slice (win0_4.rect ⟨_, ht⟩)).set
  rw [View.set_slice_whole, Rect.mem_set_unit]
  have e := (index ⟨_, ht⟩).2.2.2.2
  have x := xsize ⟨_, ht⟩
  intro a
  match a with
  | ⟨0, _⟩ =>
    show win0_4.index ⟨_, ht⟩ 0 * 512 ≤ (y 0).val ∧ (y 0).val < win0_4.index ⟨_, ht⟩ 0 * 512 + win0_4.xsize (grid0.coords ⟨_, ht⟩) 0
    rw [e.1, x.1]; dsimp only; omega
  | ⟨1, _⟩ =>
    show win0_4.index ⟨_, ht⟩ 1 * 2048 ≤ (y 1).val ∧ (y 1).val < win0_4.index ⟨_, ht⟩ 1 * 2048 + win0_4.xsize (grid0.coords ⟨_, ht⟩) 1
    rw [e.2, x.2]; dsimp only; omega

theorem array_eq (c : Dev nD) : (dats m 0 c).arrAt 4 cfg0.N = arr (xOf m c) (uOf m c) (gOf m c) (wOf m c) :=
  (dats m 0 c).arrAt_eq_of_cover 4 _ (fun t _ => flushed m c t) covered

end Cert.KernelNormIdeal.Norm

/-! ## The reference -/

namespace Cert.ReferenceNormIdeal.Norm

open Cert.ReferenceNormIdeal Cert.ReferenceNormIdeal.Gen Idealize.ShloMosaic

/-- The residual plus the gated update, by sequences. -/
def summed (x : FVec Ideal S16384x2048 .f32) (u : FVec Ideal S2048x16384 .f32) (g : FVec Ideal S4x1x2048 .f32) : FVec Ideal S4x4096x2048 .f32 :=
  addf (shapeCast _ x shapeCasts_S16384x2048_S4x4096x2048) (mulf (broadcastInDim S4x4096x2048 ![0, 1, 2] bcast_S4x1x2048_S4x4096x2048_0_1_2 g)
    (shapeCast _ (transpose S16384x2048 [1, 0] u transposes_S2048x16384_S16384x2048_1_0) shapeCasts_S16384x2048_S4x4096x2048))

/-- The rows' sums. -/
def sums (z : FVec Ideal S4x4096x2048 .f32) : FVec Ideal S4x4096 .f32 :=
  Host.reduceAdd z (constant S_ .f32 0x00000000#32) reducesTo_S4x4096x2048_S4x4096_d2 h_S_

/-- The reciprocal roots of the mean squares, from the squares' sums. -/
def scales (q : FVec Ideal S4x4096 .f32) : FVec Ideal S4x4096x1 .f32 :=
  Host.rsqrt (addf (Host.divf (broadcastInDim S4x4096x1 ![0, 1] bcast_S4x4096_S4x4096x1_0_1 q)
    (broadcastInDim S4x4096x1 ![] bcast_S_S4x4096x1 (constant S_ .f32 0x45000000#32)))
    (broadcastInDim S4x4096x1 ![] bcast_S_S4x4096x1 (constant S_ .f32 0x358637BD#32)))

/-- The rows scaled, with their gain. -/
def scaled (z : FVec Ideal S4x4096x2048 .f32) (s : FVec Ideal S4x4096x1 .f32) (w : FVec Ideal S2048 .f32) : FVec Ideal S16384x2048 .f32 :=
  shapeCast _ (mulf (mulf z (broadcastInDim S4x4096x2048 ![0, 1, 2] bcast_S4x4096x1_S4x4096x2048_0_1_2 s))
    (broadcastInDim S4x4096x2048 ![0, 1, 2] bcast_S1x1x2048_S4x4096x2048_0_1_2 (broadcastInDim S1x1x2048 ![2] bcast_S2048_S1x1x2048_2 w)))
    shapeCasts_S4x4096x2048_S16384x2048

/-- The reference's result. -/
def result (x : FVec Ideal S16384x2048 .f32) (u : FVec Ideal S2048x16384 .f32) (g : FVec Ideal S4x1x2048 .f32) (w : FVec Ideal S2048 .f32) :
    FVec Ideal S16384x2048 .f32 :=
  scaled (summed x u g) (scales (sums (mulf (summed x u g) (summed x u g)))) w

/-- A row's place in its sequence. -/
def posOf (i : Fin 16384) : Fin 4096 := ⟨i.val % 4096, by omega⟩

theorem summed_apply (x : FVec Ideal S16384x2048 .f32) (u : FVec Ideal S2048x16384 .f32) (g : FVec Ideal S4x1x2048 .f32) (i : Fin 16384) (k : Fin 2048) :
    summed x u g (ix3 (Cert.Lin.seqOf i) (posOf i) k) = Cert.KernelNormIdeal.Norm.summed x u g i k := by
  pointwise [summed]
  have e : (⟨(Cert.Lin.seqOf i).val * 4096 + (posOf i).val, by have := (Cert.Lin.seqOf i).isLt; have := (posOf i).isLt; omega⟩ : Fin 16384) = i :=
    Fin.ext (by show i.val / 4096 * 4096 + i.val % 4096 = i.val; omega)
  rw [e]
  rfl

theorem fiber (h : S4x4096x2048.ReducesTo [2] S4x4096) (b : Fin 4) (i : Fin 4096) (y : S4x4096x2048.Idx) :
    h.drop y = ix2 b i ↔ ∃ k : Fin 2048, ix3 b i k = y := by
  constructor
  · intro e
    refine ⟨y 2, funext fun a => Fin.ext ?_⟩
    match a with
    | ⟨0, _⟩ => exact (congrArg Fin.val (congrFun e 0)).symm
    | ⟨1, _⟩ => exact (congrArg Fin.val (congrFun e 1)).symm
    | ⟨2, _⟩ => rfl
  · rintro ⟨k, rfl⟩
    funext a
    match a with
    | ⟨0, _⟩ => rfl
    | ⟨1, _⟩ => rfl

theorem sums_apply (z : FVec Ideal S4x4096x2048 .f32) (b : Fin 4) (i : Fin 4096) : sums z (ix2 b i) = ∑ k, z (ix3 b i k) := by
  unfold sums
  rw [ValueIdx.hostReduceAdd_apply]
  unfold Ideal.hostReduceAdd
  rw [Finset.sum_filter_eq_sum_of_fiber _ (fun k : Fin 2048 => ix3 b i k) (fun _ _ e => congrFun e 2) (fiber _ b i)]
  rw [show constant (F := Ideal) S_ .f32 0x00000000#32 (Shape.Idx.first h_S_) = (0 : EReal) from Ideal.ofBits_zero_f32, zero_add]

theorem scales_apply (q : FVec Ideal S4x4096 .f32) (b : Fin 4) (i : Fin 4096) :
    scales q (ix3 b i 0) = Ideal.rsqrt (Ideal.div (q (ix2 b i)) (Ideal.ofBits .f32 0x45000000#32) + Ideal.ofBits .f32 0x358637BD#32) := by
  pointwise [scales]

theorem scaled_apply (z : FVec Ideal S4x4096x2048 .f32) (s : FVec Ideal S4x4096x1 .f32) (w : FVec Ideal S2048 .f32) (i : Fin 16384) (k : Fin 2048) :
    scaled z s w (ix2 i k) = z (ix3 (Cert.Lin.seqOf i) (posOf i) k) * s (ix3 (Cert.Lin.seqOf i) (posOf i) 0) * w (ix1 k) := by
  pointwise [scaled]
  rfl

theorem square_apply (z : FVec Ideal S4x4096x2048 .f32) (y : S4x4096x2048.Idx) : mulf z z y = z y * z y := rfl

theorem result_eq (x : FVec Ideal S16384x2048 .f32) (u : FVec Ideal S2048x16384 .f32) (g : FVec Ideal S4x1x2048 .f32) (w : FVec Ideal S2048 .f32) :
    result x u g w = Cert.KernelNormIdeal.Norm.arr x u g w := by
  funext y
  obtain ⟨i, j, rfl⟩ : ∃ (i : Fin 16384) (j : Fin 2048), y = ix2 i j := ⟨y 0, y 1, eq_ix2 y⟩
  unfold result
  rw [scaled_apply, scales_apply, sums_apply, summed_apply]
  simp only [square_apply, summed_apply]
  rfl

end Cert.ReferenceNormIdeal.Norm

end
-- ==== Proof.HostLayer.lean ====
/- The layer norm as the references write it, for any number of rows: each row less its mean, times the reciprocal root of
   its mean square, with a gain and a bias. -/
module

public import Idealize.ShloMosaic.Lib.Pointwise
public import Idealize.ShloMosaic.Lib.IdealHost
public import proofs.«01_k».proof.Proof.Rows

@[expose] public section

noncomputable section

namespace Cert.HostLayer

open Idealize.ShloMosaic

/-- The rows, a value of each row, the same as a column, a value of each column, the same as a row, one value. -/
abbrev SM (n : ℕ) : Shape := ⟨2, ![n, 6144]⟩
abbrev SV (n : ℕ) : Shape := ⟨1, ![n]⟩
abbrev SC (n : ℕ) : Shape := ⟨2, ![n, 1]⟩
abbrev SW : Shape := ⟨1, ![6144]⟩
abbrev SR : Shape := ⟨2, ![1, 6144]⟩
abbrev S0 : Shape := ⟨0, ![]⟩

/-- What the operations ask of the shapes. -/
structure Facts (n : ℕ) : Prop where
  column : (SV n).BroadcastsInDim (SC n) ![0]
  one : S0.BroadcastsInDim (SC n) ![]
  along : (SC n).BroadcastsInDim (SM n) ![0, 1]
  gain : SW.BroadcastsInDim SR ![1]
  down : SR.BroadcastsInDim (SM n) ![0, 1]
  rows : (SM n).ReducesTo [1] (SV n)
  unit : 0 < S0.numel
  many : n ≠ 1

variable {n : ℕ} (h : Facts n)

/-- The rows' sums. -/
def sums (z : FVec Ideal (SM n) .f32) : FVec Ideal (SV n) .f32 := Host.reduceAdd z (constant S0 .f32 0x00000000#32) h.rows h.unit

/-- The rows' means. -/
def means (z : FVec Ideal (SM n) .f32) : FVec Ideal (SC n) .f32 :=
  Host.divf (broadcastInDim (SC n) ![0] h.column (sums h z)) (broadcastInDim (SC n) ![] h.one (constant S0 .f32 0x45C00000#32))

/-- The rows less their means. -/
def centred (v : FVec Ideal (SM n) .f32) : FVec Ideal (SM n) .f32 := subf v (broadcastInDim (SM n) ![0, 1] h.along (means h v))

/-- The reciprocal roots of the mean squares, from the means of the squares. -/
def scales (q : FVec Ideal (SC n) .f32) : FVec Ideal (SC n) .f32 :=
  Host.rsqrt (addf q (broadcastInDim (SC n) ![] h.one (constant S0 .f32 0x358637BD#32)))

/-- The rows scaled, with their gain and bias. -/
def scaled (z : FVec Ideal (SM n) .f32) (s : FVec Ideal (SC n) .f32) (lg lb : FVec Ideal SW .f32) : FVec Ideal (SM n) .f32 :=
  addf (mulf (mulf z (broadcastInDim (SM n) ![0, 1] h.along s)) (broadcastInDim (SM n) ![0, 1] h.down (broadcastInDim SR ![1] h.gain lg)))
    (broadcastInDim (SM n) ![0, 1] h.down (broadcastInDim SR ![1] h.gain lb))

/-- The layer norm of the rows. -/
def normed (v : FVec Ideal (SM n) .f32) (lg lb : FVec Ideal SW .f32) : FVec Ideal (SM n) .f32 :=
  scaled h (centred h v) (scales h (means h (mulf (centred h v) (centred h v)))) lg lb

theorem fiber (hr : (SM n).ReducesTo [1] (SV n)) (i : Fin n) (y : (SM n).Idx) : hr.drop y = ix1 i ↔ ∃ k : Fin 6144, ix2 i k = y := by
  constructor
  · intro e
    refine ⟨y 1, funext fun a => Fin.ext ?_⟩
    match a with
    | ⟨0, _⟩ => exact (congrArg Fin.val (congrFun e 0)).symm
    | ⟨1, _⟩ => rfl
  · rintro ⟨k, rfl⟩
    funext a
    match a with
    | ⟨0, _⟩ => rfl

theorem sums_apply (z : FVec Ideal (SM n) .f32) (i : Fin n) : sums h z (ix1 i) = ∑ k : Fin 6144, z (ix2 i k) := by
  unfold sums
  rw [ValueIdx.hostReduceAdd_apply]
  unfold Ideal.hostReduceAdd
  rw [Finset.sum_filter_eq_sum_of_fiber _ (fun k : Fin 6144 => ix2 i k) (fun _ _ e => congrFun e 1) (fiber _ i)]
  rw [show constant (F := Ideal) S0 .f32 0x00000000#32 (Shape.Idx.first h.unit) = (0 : EReal) from Ideal.ofBits_zero_f32, zero_add]

theorem column_apply (q : FVec Ideal (SV n) .f32) (i : Fin n) : (broadcastInDim (SC n) ![0] h.column q : FVec Ideal (SC n) .f32) (ix2 i 0) = q (ix1 i) := by
  refine congrArg q (funext fun a => ?_)
  match a with
  | ⟨0, _⟩ => exact dif_neg h.many

theorem along_apply (q : FVec Ideal (SC n) .f32) (i : Fin n) (k : Fin 6144) :
    (broadcastInDim (SM n) ![0, 1] h.along q : FVec Ideal (SM n) .f32) (ix2 i k) = q (ix2 i 0) := by
  refine congrArg q (funext fun a => ?_)
  match a with
  | ⟨0, _⟩ => exact dif_neg h.many
  | ⟨1, _⟩ => exact dif_pos rfl

theorem down_apply (g : FVec Ideal SW .f32) (i : Fin n) (k : Fin 6144) :
    (broadcastInDim (SM n) ![0, 1] h.down (broadcastInDim SR ![1] h.gain g) : FVec Ideal (SM n) .f32) (ix2 i k) = g (ix1 k) := by
  pointwise []

theorem means_apply (z : FVec Ideal (SM n) .f32) (i : Fin n) : means h z (ix2 i 0) = Cert.Rows.mean 0x45C00000#32 (fun k : Fin 6144 => z (ix2 i k)) := by
  show Ideal.div ((broadcastInDim (SC n) ![0] h.column (sums h z) : FVec Ideal (SC n) .f32) (ix2 i 0)) (Ideal.ofBits .f32 0x45C00000#32) = _
  rw [column_apply h, sums_apply h]
  rfl

theorem centred_apply (v : FVec Ideal (SM n) .f32) (i : Fin n) (k : Fin 6144) :
    centred h v (ix2 i k) = Cert.Rows.centred 0x45C00000#32 (fun k : Fin 6144 => v (ix2 i k)) k := by
  show v (ix2 i k) - (broadcastInDim (SM n) ![0, 1] h.along (means h v) : FVec Ideal (SM n) .f32) (ix2 i k) = _
  rw [along_apply h, means_apply h]
  rfl

theorem square_apply (z : FVec Ideal (SM n) .f32) (y : (SM n).Idx) : mulf z z y = z y * z y := rfl

theorem normed_apply (v : FVec Ideal (SM n) .f32) (lg lb : FVec Ideal SW .f32) (i : Fin n) (k : Fin 6144) :
    normed h v lg lb (ix2 i k) = Cert.Rows.layer 0x45C00000#32 (fun k : Fin 6144 => v (ix2 i k)) k (lg (ix1 k)) (lb (ix1 k)) := by
  show centred h v (ix2 i k) * (broadcastInDim (SM n) ![0, 1] h.along (scales h (means h (mulf (centred h v) (centred h v)))) : FVec Ideal (SM n) .f32) (ix2 i k)
      * (broadcastInDim (SM n) ![0, 1] h.down (broadcastInDim SR ![1] h.gain lg) : FVec Ideal (SM n) .f32) (ix2 i k)
    + (broadcastInDim (SM n) ![0, 1] h.down (broadcastInDim SR ![1] h.gain lb) : FVec Ideal (SM n) .f32) (ix2 i k) = _
  rw [along_apply h, down_apply h, down_apply h]
  show _ * Ideal.rsqrt (means h (mulf (centred h v) (centred h v)) (ix2 i 0) + Ideal.ofBits .f32 0x358637BD#32) * _ + _ = _
  rw [means_apply]
  simp only [square_apply, centred_apply]
  rfl

end Cert.HostLayer

end
-- ==== Proof.Mix.lean ====
/- The mixing of the gated spatial unit on one chunk: what the body leaves in its output block, each group's weights
   against the layer norm of the chunk's rows. -/
module

public import proofs.«01_k».proof.Proof.Gen.KernelSguMixIdeal.Value
public import proofs.«01_k».proof.Proof.Lin
public import proofs.«01_k».proof.Proof.Rows

@[expose] public section

set_option maxRecDepth 16384

noncomputable section

namespace Cert.KernelSguMixIdeal.Mix

open Cert.KernelSguMixIdeal Cert.KernelSguMixIdeal.Gen Idealize.ShloMosaic Idealize.SL.Sem

/-- A group's columns of a block. -/
def columns (o : ℕ) (ho : S128x6144.Slices ![0, o] S128x768) (vn : FVec Ideal S128x6144 .f32) : FVec Ideal S128x768 .bf16 :=
  truncf .bf16 (extractStridedSlice S128x768 ![0, o] vn ho) bitsLt_bf16_f32

/-- The masked weights against a group's columns, with the bias of the rows. -/
def weighted (w : Vec Ideal S1x128x128 .f32) (mk : Vec Ideal S128x128 .f32) (b : Vec Ideal S128x1 .f32) (z : FVec Ideal S128x768 .bf16) :
    FVec Ideal S128x768 .f32 :=
  addf (matmul dot_S128x128_S128x768_S128x768_1_0_0_1_n_n none
      (truncf .bf16 (mulf (shapeCast S128x128 w shapeCasts_S1x128x128_S128x128) (shapeCast S128x128 mk shapeCasts_S128x128_S128x128)) bitsLt_bf16_f32)
      z (constant S128x768 .f32 0x00000000#32))
    (broadcastTo S128x768 (shapeCast S128x1 b shapeCasts_S128x1_S128x1) broadcasts_S128x1_S128x768)

/-- A group's columns of the output block. -/
def gated (u : Vec Ideal S128x768 .bf16) (z : FVec Ideal S128x768 .f32) : FVec Ideal S128x768 .bf16 :=
  truncf .bf16 (mulf (extf .f32 u bitsLt_bf16_f32) z) bitsLt_bf16_f32

theorem columns_apply (o : ℕ) (ho : S128x6144.Slices ![0, o] S128x768) (hb : o + 768 ≤ 6144) (vn : FVec Ideal S128x6144 .f32) (s : Fin 128) (d : Fin 768) :
    columns o ho vn (ix2 s d) = vn (ix2 s ⟨o + d.val, by omega⟩) := by
  show vn _ = vn _
  refine congrArg vn (funext fun x => Fin.ext ?_)
  match x with
  | ⟨0, _⟩ => show 0 + s.val = s.val; omega
  | ⟨1, _⟩ => rfl

theorem weighted_apply (w : Vec Ideal S1x128x128 .f32) (mk : Vec Ideal S128x128 .f32) (b : Vec Ideal S128x1 .f32) (z : FVec Ideal S128x768 .bf16)
    (a : Fin 128) (d : Fin 768) :
    weighted w mk b z (ix2 a d) = ∑ s : Fin 128, w (ix3 0 a s) * mk (ix2 a s) * z (ix2 s d) + b (ix2 a 0) := by
  pointwise [weighted]

theorem gated_apply (u : Vec Ideal S128x768 .bf16) (z : FVec Ideal S128x768 .f32) (a : Fin 128) (d : Fin 768) :
    gated u z (ix2 a d) = u (ix2 a d) * z (ix2 a d) := by
  pointwise [gated]

theorem norm_apply (x : Vec Ideal S128x6144 .f32) (g b : Vec Ideal S1x6144 .f32) (a : Fin 128) (d : Fin 6144) :
    k0_pay3 x g b (ix2 a d) = Cert.Rows.layer 0x45C00000#32 (fun k : Fin 6144 => x (ix2 a k)) d (g (ix2 0 d)) (b (ix2 0 d)) := by
  pointwise [k0_pay3]
  rfl

/-- The entry at an index of the output block, from the normed block, the weights, the mask, the biases and the gates. -/
def blockAt (vn : FVec Ideal S128x6144 .f32) (u : Vec Ideal S128x6144 .bf16) (w : Vec Ideal S8x128x128 .f32) (mk : Vec Ideal S128x128 .f32)
    (b : Vec Ideal S128x8 .f32) (a : Fin 128) (j : Fin 6144) : EReal :=
  u (ix2 a j) * (∑ s : Fin 128, w (ix3 ⟨j.val / 768, by omega⟩ a s) * mk (ix2 a s) * vn (ix2 s j) + b (ix2 a ⟨j.val / 768, by omega⟩))

/-- One group's piece of the output block. -/
theorem piece_apply (g o : ℕ) (hg : g < 8) (hgo : o = 768 * g) (ho : S128x6144.Slices ![0, o] S128x768)
    (hw : ∀ a, (![g, 0, 0] : Fin 3 → Nat) a + S1x128x128.size a ≤ S8x128x128.size a)
    (hm : ∀ a, (![0, 0] : Fin 2 → Nat) a + S128x128.size a ≤ S128x128.size a)
    (hb : ∀ a, (![0, g] : Fin 2 → Nat) a + S128x1.size a ≤ S128x8.size a)
    (hu : ∀ a, (![0, o] : Fin 2 → Nat) a + S128x768.size a ≤ S128x6144.size a)
    (vn : FVec Ideal S128x6144 .f32) (u : Vec Ideal S128x6144 .bf16) (w : Vec Ideal S8x128x128 .f32) (mk : Vec Ideal S128x128 .f32)
    (b : Vec Ideal S128x8 .f32) (x : S128x768.Idx) :
    gated (View.ld u (Rect.unit (s := S128x6144) ![0, o] S128x768.size hu))
        (weighted (View.ld w (Rect.unit (s := S8x128x128) ![g, 0, 0] S1x128x128.size hw)) (View.ld mk (Rect.unit (s := S128x128) ![0, 0] S128x128.size hm))
          (View.ld b (Rect.unit (s := S128x8) ![0, g] S128x1.size hb)) (columns o ho vn)) x
      = (fun y : S128x6144.Idx => blockAt vn u w mk b (y 0) (y 1)) ((Rect.unit (s := S128x6144) ![0, o] S128x768.size hu).emb x) := by
  obtain ⟨a, d, rfl⟩ : ∃ (a : Fin 128) (d : Fin 768), x = ix2 a d := ⟨x 0, x 1, eq_ix2 x⟩
  have hd : o + 768 ≤ 6144 := by omega
  have ea : ((Rect.unit (s := S128x6144) ![0, o] S128x768.size hu).emb (ix2 a d)) = ix2 a ⟨o + d.val, by omega⟩ := funext fun z => Fin.ext (by
    match z with
    | ⟨0, _⟩ => show 0 + 1 * a.val = a.val; omega
    | ⟨1, _⟩ => show o + 1 * d.val = o + d.val; omega)
  have ew : ∀ s : Fin 128, ((Rect.unit (s := S8x128x128) ![g, 0, 0] S1x128x128.size hw).emb (ix3 0 a s)) = ix3 ⟨(o + d.val) / 768, by omega⟩ a s :=
    fun s => funext fun z => Fin.ext (by
      match z with
      | ⟨0, _⟩ => show g + 1 * 0 = (o + d.val) / 768; omega
      | ⟨1, _⟩ => show 0 + 1 * a.val = a.val; omega
      | ⟨2, _⟩ => show 0 + 1 * s.val = s.val; omega)
  have em : ∀ s : Fin 128, ((Rect.unit (s := S128x128) ![0, 0] S128x128.size hm).emb (ix2 a s)) = ix2 a s := fun s => funext fun z => Fin.ext (by
    match z with
    | ⟨0, _⟩ => show 0 + 1 * a.val = a.val; omega
    | ⟨1, _⟩ => show 0 + 1 * s.val = s.val; omega)
  have eb : ((Rect.unit (s := S128x8) ![0, g] S128x1.size hb).emb (ix2 a 0)) = ix2 a ⟨(o + d.val) / 768, by omega⟩ := funext fun z => Fin.ext (by
    match z with
    | ⟨0, _⟩ => show 0 + 1 * a.val = a.val; omega
    | ⟨1, _⟩ => show g + 1 * 0 = (o + d.val) / 768; omega)
  rw [gated_apply, weighted_apply]
  simp only [columns_apply o ho hd]
  show u ((Rect.unit (s := S128x6144) ![0, o] S128x768.size hu).emb (ix2 a d)) * (∑ s : Fin 128,
    w ((Rect.unit (s := S8x128x128) ![g, 0, 0] S1x128x128.size hw).emb (ix3 0 a s)) * mk ((Rect.unit (s := S128x128) ![0, 0] S128x128.size hm).emb (ix2 a s))
      * vn (ix2 s ⟨o + d.val, by omega⟩) + b ((Rect.unit (s := S128x8) ![0, g] S128x1.size hb).emb (ix2 a 0))) = _
  rw [ea, eb]
  simp only [ew, em]
  rfl

/-- The output block: its eight groups of columns, the last one first. -/
def mixedBlock (vn : FVec Ideal S128x6144 .f32) (u : Vec Ideal S128x6144 .bf16) (w : Vec Ideal S8x128x128 .f32) (mk : Vec Ideal S128x128 .f32)
    (b : Vec Ideal S128x8 .f32) : Vec Ideal S128x6144 .bf16 :=
  View.canon (Val := Elt Ideal) [
    ⟨r0_26, gated (View.ld u r0_26) (weighted (View.ld w r0_24) (View.ld mk r0_3) (View.ld b r0_25) (columns 5376 slices_S128x6144_o0_5376_S128x768 vn))⟩,
    ⟨r0_23, gated (View.ld u r0_23) (weighted (View.ld w r0_21) (View.ld mk r0_3) (View.ld b r0_22) (columns 4608 slices_S128x6144_o0_4608_S128x768 vn))⟩,
    ⟨r0_20, gated (View.ld u r0_20) (weighted (View.ld w r0_18) (View.ld mk r0_3) (View.ld b r0_19) (columns 3840 slices_S128x6144_o0_3840_S128x768 vn))⟩,
    ⟨r0_17, gated (View.ld u r0_17) (weighted (View.ld w r0_15) (View.ld mk r0_3) (View.ld b r0_16) (columns 3072 slices_S128x6144_o0_3072_S128x768 vn))⟩,
    ⟨r0_14, gated (View.ld u r0_14) (weighted (View.ld w r0_12) (View.ld mk r0_3) (View.ld b r0_13) (columns 2304 slices_S128x6144_o0_2304_S128x768 vn))⟩,
    ⟨r0_11, gated (View.ld u r0_11) (weighted (View.ld w r0_9) (View.ld mk r0_3) (View.ld b r0_10) (columns 1536 slices_S128x6144_o0_1536_S128x768 vn))⟩,
    ⟨r0_8, gated (View.ld u r0_8) (weighted (View.ld w r0_6) (View.ld mk r0_3) (View.ld b r0_7) (columns 768 slices_S128x6144_o0_768_S128x768 vn))⟩,
    ⟨r0_5, gated (View.ld u r0_5) (weighted (View.ld w r0_2) (View.ld mk r0_3) (View.ld b r0_4) (columns 0 slices_S128x6144_o0_0_S128x768 vn))⟩]

theorem mixedBlock_apply (vn : FVec Ideal S128x6144 .f32) (u : Vec Ideal S128x6144 .bf16) (w : Vec Ideal S8x128x128 .f32) (mk : Vec Ideal S128x128 .f32)
    (b : Vec Ideal S128x8 .f32) (a : Fin 128) (j : Fin 6144) : mixedBlock vn u w mk b (ix2 a j) = blockAt vn u w mk b a j := by
  unfold mixedBlock
  refine View.canon_apply_of_pieces (Val := Elt Ideal) (S := S128x6144) (e := .bf16) (fun y : S128x6144.Idx => blockAt vn u w mk b (y 0) (y 1)) _ ?_
    (ix2 a j) (cover0_7 _ _ _ _ _ _ _ _ _)
  intro p hp
  simp only [List.mem_cons, List.not_mem_nil, or_false] at hp
  rcases hp with rfl | rfl | rfl | rfl | rfl | rfl | rfl | rfl
  · exact piece_apply 7 5376 (by omega) rfl slices_S128x6144_o0_5376_S128x768 _ _ _ _ _ _ _ _ _
  · exact piece_apply 6 4608 (by omega) rfl slices_S128x6144_o0_4608_S128x768 _ _ _ _ _ _ _ _ _
  · exact piece_apply 5 3840 (by omega) rfl slices_S128x6144_o0_3840_S128x768 _ _ _ _ _ _ _ _ _
  · exact piece_apply 4 3072 (by omega) rfl slices_S128x6144_o0_3072_S128x768 _ _ _ _ _ _ _ _ _
  · exact piece_apply 3 2304 (by omega) rfl slices_S128x6144_o0_2304_S128x768 _ _ _ _ _ _ _ _ _
  · exact piece_apply 2 1536 (by omega) rfl slices_S128x6144_o0_1536_S128x768 _ _ _ _ _ _ _ _ _
  · exact piece_apply 1 768 (by omega) rfl slices_S128x6144_o0_768_S128x768 _ _ _ _ _ _ _ _ _
  · exact piece_apply 0 0 (by omega) rfl slices_S128x6144_o0_0_S128x768 _ _ _ _ _ _ _ _ _

/-- The layer norm of the loaded rows, as the body takes it of the whole blocks. -/
theorem norm_whole (x : Vec Ideal S128x6144 .f32) (g b : Vec Ideal S1x6144 .f32) : k0_pay3 (View.ld x r0_0) (View.ld g r0_1) (View.ld b r0_1) = k0_pay3 x g b := by
  rw [View.ld_unit_zero Cert.Lin.zero2, View.ld_unit_zero Cert.Lin.zero2, View.ld_unit_zero Cert.Lin.zero2]

theorem out_eq (x0 : Vec Ideal S128x6144 .f32) (x1 : Vec Ideal S128x6144 .bf16) (x2 x3 : Vec Ideal S1x6144 .f32) (x4 : Vec Ideal S8x128x128 .f32)
    (x5 : Vec Ideal S128x128 .f32) (x6 : Vec Ideal S128x8 .f32) : out0_7 x0 x1 x2 x3 x4 x5 x6 = mixedBlock (k0_pay3 x0 x2 x3) x1 x4 x5 x6 := by
  rw [← norm_whole]
  rfl

end Cert.KernelSguMixIdeal.Mix

end
-- ==== Proof.SguMix.lean ====
/- The mixing of the gated spatial unit over the prompt: what the kernel's output array and the reference's result hold at an
   index, chunk by chunk. -/
module

public import proofs.«01_k».proof.Proof.Gen.ReferenceSguMixIdeal.Run
public import proofs.«01_k».proof.Proof.HostLayer
public import proofs.«01_k».proof.Proof.Mix

@[expose] public section

set_option maxRecDepth 16384

noncomputable section

namespace Cert.KernelSguMixIdeal.Mix

open Cert.KernelSguMixIdeal Cert.KernelSguMixIdeal.Gen Idealize.ShloMosaic Idealize.ShloMosaic.TcCoe Idealize.SL.Sem
open Idealize.ShloMosaic.Pipeline (Dat)

/-- Positions along a row divided by the block length, rounding down. -/
def rowBlocks : Vec Ideal S1x128 .i32 :=
  let t : Vec Ideal S1x128 .i32 := broadcastInDim S1x128 ![1] bcast_S128_S1x128_1 (iotaInDim S128 32 0)
  let n : Vec Ideal S_ .i32 := constantI S_ 32 64#32
  let q : Vec Ideal S1x128 .i32 := Host.divsi t (broadcastInDim S1x128 ![] bcast_S_S1x128 n)
  select (andi (cmpi .ne (signi t) (broadcastInDim S1x128 ![] bcast_S_S1x128 (signi n)))
      (cmpi .ne (Host.remsi t (broadcastInDim S1x128 ![] bcast_S_S1x128 n)) (broadcastInDim S1x128 ![] bcast_S_S1x128 (constantI S_ 32 0#32))))
    (subi q (broadcastInDim S1x128 ![] bcast_S_S1x128 (constantI S_ 32 1#32))) q

/-- Positions along a column divided by the block length, rounding down. -/
def colBlocks : Vec Ideal S128x1 .i32 :=
  let t : Vec Ideal S128x1 .i32 := broadcastInDim S128x1 ![0] bcast_S128_S128x1_0 (iotaInDim S128 32 0)
  let n : Vec Ideal S_ .i32 := constantI S_ 32 64#32
  let q : Vec Ideal S128x1 .i32 := Host.divsi t (broadcastInDim S128x1 ![] bcast_S_S128x1 n)
  select (andi (cmpi .ne (signi t) (broadcastInDim S128x1 ![] bcast_S_S128x1 (signi n)))
      (cmpi .ne (Host.remsi t (broadcastInDim S128x1 ![] bcast_S_S128x1 n)) (broadcastInDim S128x1 ![] bcast_S_S128x1 (constantI S_ 32 0#32))))
    (subi q (broadcastInDim S128x1 ![] bcast_S_S128x1 (constantI S_ 32 1#32))) q

/-- The mask: a position sees the blocks up to its own. -/
def mask : FVec Ideal S128x128 .f32 :=
  uitofp (F := Ideal) .f32 (cmpi .sle (broadcastInDim S128x128 ![0, 1] bcast_S1x128_S128x128_0_1 rowBlocks)
    (broadcastInDim S128x128 ![0, 1] bcast_S128x1_S128x128_0_1 colBlocks))

/-- The mixed and gated rows, as one array. -/
def arr (v : Vec Ideal S16384x6144 .f32) (u : Vec Ideal S16384x6144 .bf16) (lg lb : Vec Ideal S6144 .f32) (w : Vec Ideal S8x128x128 .f32)
    (b : Vec Ideal S8x128 .f32) (y : S16384x6144.Idx) : EReal :=
  let i : Fin 16384 := y 0
  let j : Fin 6144 := y 1
  u (ix2 i j) * (∑ s : Fin 128, w (ix3 ⟨j.val / 768, by omega⟩ ⟨i.val % 128, by omega⟩ s) * mask (ix2 ⟨i.val % 128, by omega⟩ s)
      * Cert.Rows.layer 0x45C00000#32 (fun k : Fin 6144 => v (ix2 ⟨i.val / 128 * 128 + s.val, by omega⟩ k)) j (lg (ix1 j)) (lb (ix1 j))
    + b (ix2 ⟨j.val / 768, by omega⟩ ⟨i.val % 128, by omega⟩))

variable (m : (ℓ : Loc nD τ sig) → Buf (Elt Ideal) ℓ)

abbrev vOf (c : Dev nD) : Vec Ideal S16384x6144 .f32 := m ((c : Thread nD τ).loc main_arg0)
abbrev uOf (c : Dev nD) : Vec Ideal S16384x6144 .bf16 := m ((c : Thread nD τ).loc main_arg1)
abbrev lgOf (c : Dev nD) : Vec Ideal S6144 .f32 := m ((c : Thread nD τ).loc main_arg2)
abbrev lbOf (c : Dev nD) : Vec Ideal S6144 .f32 := m ((c : Thread nD τ).loc main_arg3)
abbrev wOf (c : Dev nD) : Vec Ideal S8x128x128 .f32 := m ((c : Thread nD τ).loc main_arg4)
abbrev bOf (c : Dev nD) : Vec Ideal S8x128 .f32 := m ((c : Thread nD τ).loc main_arg5)

theorem V_lg (c : Dev nD) : V m c main_v10 = (shapeCast _ (lgOf m c) shapeCasts_S6144_S1x6144 : Vec Ideal S1x6144 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results <;> rfl

theorem V_lb (c : Dev nD) : V m c main_v11 = (shapeCast _ (lbOf m c) shapeCasts_S6144_S1x6144 : Vec Ideal S1x6144 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results <;> rfl

theorem V_b (c : Dev nD) : V m c main_v9 = (transpose S128x8 [1, 0] (bOf m c) transposes_S8x128_S128x8_1_0 : Vec Ideal S128x8 .f32) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results <;> rfl

theorem V_mask (c : Dev nD) : V m c main_v8 = mask := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem N_eq : cfg0.N = 128 := by decide

theorem index : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = t.val ∧ win0_7.index t 1 = 0) := by decide +kernel

theorem xsize : ∀ t : Fin grid0.N, win0_7.xsize (grid0.coords t) 0 = 128 ∧ win0_7.xsize (grid0.coords t) 1 = 6144 := by decide +kernel

/-- The row of the arrays that row `a` of point `t`'s blocks is. -/
def row (t : Fin cfg0.N) (a : Fin 128) : Fin 16384 := ⟨t.val * 128 + a.val, by have := lt_of_lt_of_eq t.isLt N_eq; omega⟩

theorem v_apply (c : Dev nD) (t : Fin cfg0.N) (a : Fin 128) (k : Fin 6144) :
    (iblk m c 0 t : Vec Ideal S128x6144 .f32) (ix2 a k) = vOf m c (ix2 (row t a) k) := by
  show (V m c main_arg0) _ = _
  rw [V_main_arg0]
  refine congrArg (vOf m c) (funext fun x => Fin.ext ?_)
  match x with
  | ⟨0, _⟩ => show win0_0.index t 0 * 128 + 1 * a.val = t.val * 128 + a.val; rw [(index t).1.1]; omega
  | ⟨1, _⟩ => show win0_0.index t 1 * 6144 + 1 * k.val = k.val; rw [(index t).1.2]; omega

theorem u_apply (c : Dev nD) (t : Fin cfg0.N) (a : Fin 128) (k : Fin 6144) :
    (iblk m c 1 t : Vec Ideal S128x6144 .bf16) (ix2 a k) = uOf m c (ix2 (row t a) k) := by
  show (V m c main_arg1) _ = _
  rw [V_main_arg1]
  refine congrArg (uOf m c) (funext fun x => Fin.ext ?_)
  match x with
  | ⟨0, _⟩ => show win0_1.index t 0 * 128 + 1 * a.val = t.val * 128 + a.val; rw [(index t).2.1.1]; omega
  | ⟨1, _⟩ => show win0_1.index t 1 * 6144 + 1 * k.val = k.val; rw [(index t).2.1.2]; omega

theorem cast_apply (g : Vec Ideal S6144 .f32) (k : Fin 6144) :
    (shapeCast S1x6144 g shapeCasts_S6144_S1x6144 : Vec Ideal S1x6144 .f32) (ix2 0 k) = g (ix1 k) := by
  pointwise []

theorem lg_apply (c : Dev nD) (t : Fin cfg0.N) (k : Fin 6144) : (iblk m c 2 t : Vec Ideal S1x6144 .f32) (ix2 0 k) = lgOf m c (ix1 k) := by
  refine Eq.trans ?_ (cast_apply (lgOf m c) k)
  show (V m c main_v10) _ = _
  rw [V_lg]
  refine congrArg (shapeCast S1x6144 (lgOf m c) shapeCasts_S6144_S1x6144) (funext fun x => Fin.ext ?_)
  match x with
  | ⟨0, _⟩ => show win0_2.index t 0 * 1 + 1 * 0 = 0; rw [(index t).2.2.1.1]
  | ⟨1, _⟩ => show win0_2.index t 1 * 6144 + 1 * k.val = k.val; rw [(index t).2.2.1.2]; omega

theorem lb_apply (c : Dev nD) (t : Fin cfg0.N) (k : Fin 6144) : (iblk m c 3 t : Vec Ideal S1x6144 .f32) (ix2 0 k) = lbOf m c (ix1 k) := by
  refine Eq.trans ?_ (cast_apply (lbOf m c) k)
  show (V m c main_v11) _ = _
  rw [V_lb]
  refine congrArg (shapeCast S1x6144 (lbOf m c) shapeCasts_S6144_S1x6144) (funext fun x => Fin.ext ?_)
  match x with
  | ⟨0, _⟩ => show win0_3.index t 0 * 1 + 1 * 0 = 0; rw [(index t).2.2.2.1.1]
  | ⟨1, _⟩ => show win0_3.index t 1 * 6144 + 1 * k.val = k.val; rw [(index t).2.2.2.1.2]; omega

theorem w_apply (c : Dev nD) (t : Fin cfg0.N) (g : Fin 8) (a s : Fin 128) :
    (iblk m c 4 t : Vec Ideal S8x128x128 .f32) (ix3 g a s) = wOf m c (ix3 g a s) := by
  show (V m c main_arg4) _ = _
  rw [V_main_arg4]
  refine congrArg (wOf m c) (funext fun x => Fin.ext ?_)
  match x with
  | ⟨0, _⟩ => show win0_4.index t 0 * 8 + 1 * g.val = g.val; rw [(index t).2.2.2.2.1.1]; omega
  | ⟨1, _⟩ => show win0_4.index t 1 * 128 + 1 * a.val = a.val; rw [(index t).2.2.2.2.1.2.1]; omega
  | ⟨2, _⟩ => show win0_4.index t 2 * 128 + 1 * s.val = s.val; rw [(index t).2.2.2.2.1.2.2]; omega

theorem mask_apply (c : Dev nD) (t : Fin cfg0.N) (a s : Fin 128) : (iblk m c 5 t : Vec Ideal S128x128 .f32) (ix2 a s) = mask (ix2 a s) := by
  show (V m c main_v8) _ = _
  rw [V_mask]
  refine congrArg mask (funext fun x => Fin.ext ?_)
  match x with
  | ⟨0, _⟩ => show win0_5.index t 0 * 128 + 1 * a.val = a.val; rw [(index t).2.2.2.2.2.1.1]; omega
  | ⟨1, _⟩ => show win0_5.index t 1 * 128 + 1 * s.val = s.val; rw [(index t).2.2.2.2.2.1.2]; omega

theorem turned_apply (b : Vec Ideal S8x128 .f32) (a : Fin 128) (g : Fin 8) :
    (transpose S128x8 [1, 0] b transposes_S8x128_S128x8_1_0 : Vec Ideal S128x8 .f32) (ix2 a g) = b (ix2 g a) := by
  pointwise []

theorem b_apply (c : Dev nD) (t : Fin cfg0.N) (a : Fin 128) (g : Fin 8) : (iblk m c 6 t : Vec Ideal S128x8 .f32) (ix2 a g) = bOf m c (ix2 g a) := by
  refine Eq.trans ?_ (turned_apply (bOf m c) a g)
  show (V m c main_v9) _ = _
  rw [V_b]
  refine congrArg (transpose S128x8 [1, 0] (bOf m c) transposes_S8x128_S128x8_1_0) (funext fun x => Fin.ext ?_)
  match x with
  | ⟨0, _⟩ => show win0_6.index t 0 * 128 + 1 * a.val = a.val; rw [(index t).2.2.2.2.2.2.1.1]; omega
  | ⟨1, _⟩ => show win0_6.index t 1 * 8 + 1 * g.val = g.val; rw [(index t).2.2.2.2.2.2.1.2]; omega

/-- The array at a point's row, from that point's rows. -/
theorem arr_row (v : Vec Ideal S16384x6144 .f32) (u : Vec Ideal S16384x6144 .bf16) (lg lb : Vec Ideal S6144 .f32) (w : Vec Ideal S8x128x128 .f32)
    (b : Vec Ideal S8x128 .f32) (t : Fin cfg0.N) (a : Fin 128) (j : Fin 6144) :
    arr v u lg lb w b (ix2 (row t a) j)
      = u (ix2 (row t a) j) * (∑ s : Fin 128, w (ix3 ⟨j.val / 768, by omega⟩ a s) * mask (ix2 a s)
          * Cert.Rows.layer 0x45C00000#32 (fun k : Fin 6144 => v (ix2 (row t s) k)) j (lg (ix1 j)) (lb (ix1 j))
        + b (ix2 ⟨j.val / 768, by omega⟩ a)) := by
  have e1 : (⟨(row t a).val % 128, by omega⟩ : Fin 128) = a := Fin.ext (by show (t.val * 128 + a.val) % 128 = a.val; omega)
  have e2 : ∀ s : Fin 128, (⟨(row t a).val / 128 * 128 + s.val, by have := (row t a).isLt; omega⟩ : Fin 16384) = row t s := fun s =>
    Fin.ext (by show (t.val * 128 + a.val) / 128 * 128 + s.val = t.val * 128 + s.val; omega)
  show u (ix2 (row t a) j) * (∑ s : Fin 128, w (ix3 ⟨j.val / 768, by omega⟩ ⟨(row t a).val % 128, by omega⟩ s) * mask (ix2 ⟨(row t a).val % 128, by omega⟩ s)
      * Cert.Rows.layer 0x45C00000#32 (fun k : Fin 6144 => v (ix2 ⟨(row t a).val / 128 * 128 + s.val, by have := (row t a).isLt; omega⟩ k)) j (lg (ix1 j)) (lb (ix1 j))
    + b (ix2 ⟨j.val / 768, by omega⟩ ⟨(row t a).val % 128, by omega⟩)) = _
  rw [e1]
  simp only [e2]

/-- What point `t` writes back is its block of the result. -/
theorem flushed (c : Dev nD) (t : Fin cfg0.N) :
    (dats m 0 c).flushed 7 t = ((cfg0.win 7).blk t).view.read (Elt Ideal) (arr (vOf m c) (uOf m c) (lgOf m c) (lbOf m c) (wOf m c) (bOf m c)) := by
  rw [Value.flushed7]
  funext (y : S128x6144.Idx)
  show out0_7 (iblk m c 0 t) (iblk m c 1 t) (iblk m c 2 t) (iblk m c 3 t) (iblk m c 4 t) (iblk m c 5 t) (iblk m c 6 t) y = _
  obtain ⟨a, d, rfl⟩ : ∃ (a : Fin 128) (d : Fin 6144), y = ix2 a d := ⟨y 0, y 1, eq_ix2 y⟩
  rw [out_eq, mixedBlock_apply]
  unfold blockAt
  simp only [norm_apply, v_apply, u_apply, lg_apply, lb_apply, w_apply, mask_apply, b_apply]
  rw [← arr_row]
  refine congrArg (arr (vOf m c) (uOf m c) (lgOf m c) (lbOf m c) (wOf m c) (bOf m c)) (a₁ := ix2 (row t a) d) (funext fun x => Fin.ext ?_)
  match x with
  | ⟨0, _⟩ => show t.val * 128 + a.val = win0_7.index t 0 * 128 + 1 * a.val; rw [(index t).2.2.2.2.2.2.2.1]; omega
  | ⟨1, _⟩ => show d.val = win0_7.index t 1 * 6144 + 1 * d.val; rw [(index t).2.2.2.2.2.2.2.2]; omega

/-- Every index of the result lies in the block of some point. -/
theorem covered (y : S16384x6144.Idx) : ∃ t : Fin cfg0.N, (cfg0.win 7).flush t = true ∧ y ∈ ((cfg0.win 7).blk t).view.set := by
  have h0 : (y 0).val < 16384 := (y 0).isLt
  have h1 : (y 1).val < 6144 := (y 1).isLt
  have ht : (y 0).val / 128 < cfg0.N := by rw [N_eq]; omega
  refine ⟨⟨_, ht⟩, (by decide +kernel : ∀ t : Fin grid0.N, win0_7.flush t = true) _, ?_⟩
  show y ∈ ((View.whole main_v12).slice (win0_7.rect ⟨_, ht⟩)).set
  rw [View.set_slice_whole, Rect.mem_set_unit]
  have e := (index ⟨_, ht⟩).2.2.2.2.2.2.2
  have x := xsize ⟨_, ht⟩
  intro a
  match a with
  | ⟨0, _⟩ =>
    show win0_7.index ⟨_, ht⟩ 0 * 128 ≤ (y 0).val ∧ (y 0).val < win0_7.index ⟨_, ht⟩ 0 * 128 + win0_7.xsize (grid0.coords ⟨_, ht⟩) 0
    rw [e.1, x.1]; dsimp only; omega
  | ⟨1, _⟩ =>
    show win0_7.index ⟨_, ht⟩ 1 * 6144 ≤ (y 1).val ∧ (y 1).val < win0_7.index ⟨_, ht⟩ 1 * 6144 + win0_7.xsize (grid0.coords ⟨_, ht⟩) 1
    rw [e.2, x.2]; dsimp only; omega

theorem array_eq (c : Dev nD) : (dats m 0 c).arrAt 7 cfg0.N = arr (vOf m c) (uOf m c) (lgOf m c) (lbOf m c) (wOf m c) (bOf m c) :=
  (dats m 0 c).arrAt_eq_of_cover 7 _ (fun t _ => flushed m c t) covered

end Cert.KernelSguMixIdeal.Mix

/-! ## The reference -/

namespace Cert.ReferenceSguMixIdeal.Mix

open Cert.ReferenceSguMixIdeal Cert.ReferenceSguMixIdeal.Gen Idealize.ShloMosaic

theorem rows : Cert.HostLayer.Facts 16384 where
  column := bcast_S16384_S16384x1_0
  one := bcast_S_S16384x1
  along := bcast_S16384x1_S16384x6144_0_1
  gain := bcast_S6144_S1x6144_1
  down := bcast_S1x6144_S16384x6144_0_1
  rows := reducesTo_S16384x6144_S16384_d1
  unit := h_S_
  many := by decide

/-- Each chunk's rows against the masked weights, with the biases. -/
def mixed (n : FVec Ideal S16384x6144 .f32) (w : FVec Ideal S8x128x128 .f32) (mk : FVec Ideal S128x128 .f32) (b : FVec Ideal S8x128 .f32) :
    FVec Ideal S128x128x8x768 .f32 :=
  addf (transpose S128x128x8x768 [1, 3, 0, 2] (Host.dotGeneral dot_S128x128x8x768_S8x128x128_S8x128x768x128_1_2_03_1_2_0 none
      (shapeCast _ n shapeCasts_S16384x6144_S128x128x8x768)
      (mulf w (broadcastInDim S8x128x128 ![0, 1, 2] bcast_S1x128x128_S8x128x128_0_1_2 (broadcastInDim S1x128x128 ![1, 2] bcast_S128x128_S1x128x128_1_2 mk))))
      transposes_S8x128x768x128_S128x128x8x768_1_3_0_2)
    (broadcastInDim S128x128x8x768 ![0, 1, 2, 3] bcast_S1x128x8x1_S128x128x8x768_0_1_2_3 (broadcastInDim S1x128x8x1 ![1, 2] bcast_S128x8_S1x128x8x1_1_2
      (transpose S128x8 [1, 0] b transposes_S8x128_S128x8_1_0)))

/-- The mixed rows under their gates. -/
def gated (u : FVec Ideal S16384x6144 .bf16) (z : FVec Ideal S128x128x8x768 .f32) : FVec Ideal S16384x6144 .bf16 :=
  truncf .bf16 (mulf (extf .f32 u bitsLt_bf16_f32) (shapeCast _ z shapeCasts_S128x128x8x768_S16384x6144)) bitsLt_bf16_f32

/-- The reference's result. -/
def result (v : FVec Ideal S16384x6144 .f32) (u : FVec Ideal S16384x6144 .bf16) (lg lb : FVec Ideal S6144 .f32) (w : FVec Ideal S8x128x128 .f32)
    (b : FVec Ideal S8x128 .f32) : FVec Ideal S16384x6144 .bf16 :=
  gated u (mixed (Cert.HostLayer.normed rows v lg lb) w Cert.KernelSguMixIdeal.Mix.mask b)

theorem mixed_apply (n : FVec Ideal S16384x6144 .f32) (w : FVec Ideal S8x128x128 .f32) (mk : FVec Ideal S128x128 .f32) (b : FVec Ideal S8x128 .f32)
    (c a : Fin 128) (g : Fin 8) (d : Fin 768) :
    mixed n w mk b (ix4 c a g d)
      = ∑ s : Fin 128, n (ix2 ⟨c.val * 128 + s.val, by omega⟩ ⟨g.val * 768 + d.val, by omega⟩) * (w (ix3 g a s) * mk (ix2 a s)) + b (ix2 g a) := by
  pointwise [mixed]

theorem gated_apply (u : FVec Ideal S16384x6144 .bf16) (z : FVec Ideal S128x128x8x768 .f32) (i : Fin 16384) (j : Fin 6144) :
    gated u z (ix2 i j)
      = u (ix2 i j) * z (ix4 ⟨i.val / 128, by omega⟩ ⟨i.val % 128, by omega⟩ ⟨j.val / 768, by omega⟩ ⟨j.val % 768, by omega⟩) := by
  pointwise [gated]

theorem result_eq (v : FVec Ideal S16384x6144 .f32) (u : FVec Ideal S16384x6144 .bf16) (lg lb : FVec Ideal S6144 .f32) (w : FVec Ideal S8x128x128 .f32)
    (b : FVec Ideal S8x128 .f32) : result v u lg lb w b = Cert.KernelSguMixIdeal.Mix.arr v u lg lb w b := by
  funext y
  obtain ⟨i, j, rfl⟩ : ∃ (i : Fin 16384) (j : Fin 6144), y = ix2 i j := ⟨y 0, y 1, eq_ix2 y⟩
  unfold result
  rw [gated_apply, mixed_apply]
  have e : (⟨(⟨j.val / 768, by omega⟩ : Fin 8).val * 768 + (⟨j.val % 768, by omega⟩ : Fin 768).val, by dsimp only; omega⟩ : Fin 6144) = j :=
    Fin.ext (by dsimp only; omega)
  simp only [e, Cert.HostLayer.normed_apply rows]
  show _ = u (ix2 i j) * (_ + _)
  refine congrArg (fun z => u (ix2 i j) * (z + _)) (Finset.sum_congr rfl fun s _ => ?_)
  rw [mul_comm]
  rfl

end Cert.ReferenceSguMixIdeal.Mix

end
-- ==== Proof.SguMixSample.lean ====
/- The mixing of the gated spatial unit over the sampled rows: what the kernel's output arrays and the reference's results
   hold at an index, sequence by sequence. -/
module

public import proofs.«01_k».proof.Proof.Gen.KernelSguMixSampleIdeal.Value
public import proofs.«01_k».proof.Proof.Gen.ReferenceSguMixSampleIdeal.Run
public import proofs.«01_k».proof.Proof.HostLayer
public import proofs.«01_k».proof.Proof.SguMix

@[expose] public section

set_option maxRecDepth 16384

noncomputable section

namespace Cert.KernelSguMixSampleIdeal.Mix

open Cert.KernelSguMixSampleIdeal Cert.KernelSguMixSampleIdeal.Gen Idealize.ShloMosaic Idealize.ShloMosaic.TcCoe Idealize.SL.Sem
open Idealize.ShloMosaic.Pipeline (Dat)

/-- Integers divided by one number, rounding down. -/
def quotients {S : Shape} (h : S_.BroadcastsInDim S ![]) (x : Vec Ideal S .i32) (n : Vec Ideal S_ .i32) : Vec Ideal S .i32 :=
  select (andi (cmpi .ne (signi x) (broadcastInDim S ![] h (signi n)))
      (cmpi .ne (Host.remsi x (broadcastInDim S ![] h n)) (broadcastInDim S ![] h (constantI S_ 32 0#32))))
    (subi (Host.divsi x (broadcastInDim S ![] h n)) (broadcastInDim S ![] h (constantI S_ 32 1#32))) (Host.divsi x (broadcastInDim S ![] h n))

/-- A divisor, one in place of zero. -/
def divisor (n : Vec Ideal S_ .i32) : Vec Ideal S_ .i32 := select (cmpi .eq n (constantI S_ 32 0#32)) (constantI S_ 32 1#32) n

/-- The remainders of integers by one number, of the number's sign. -/
def remainders {S : Shape} (h : S_.BroadcastsInDim S ![]) (x : Vec Ideal S .i32) (n : Vec Ideal S_ .i32) : Vec Ideal S .i32 :=
  let r : Vec Ideal S .i32 := Host.remsi x (broadcastInDim S ![] h (divisor n))
  select (andi (cmpi .ne (cmpi .slt r (broadcastInDim S ![] h (constantI S_ 32 0#32)))
        (broadcastInDim S ![] h (cmpi .slt (divisor n) (constantI S_ 32 0#32))))
      (cmpi .ne r (broadcastInDim S ![] h (constantI S_ 32 0#32))))
    (addi r (broadcastInDim S ![] h (divisor n))) r

/-- The sequence of each row. -/
def seqs : Vec Ideal S128 .i32 := quotients bcast_S_S128 (iotaInDim S128 32 0) (constantI S_ 32 16#32)

/-- The blocks of the rows' places in their sequences, along a row. -/
def rowBlocks : Vec Ideal S1x128 .i32 :=
  quotients bcast_S_S1x128 (remainders bcast_S_S1x128 (broadcastInDim S1x128 ![1] bcast_S128_S1x128_1 (iotaInDim S128 32 0)) (constantI S_ 32 16#32))
    (constantI S_ 32 64#32)

/-- The blocks of the rows' places in their sequences, along a column. -/
def colBlocks : Vec Ideal S128x1 .i32 :=
  quotients bcast_S_S128x1 (remainders bcast_S_S128x1 (broadcastInDim S128x1 ![0] bcast_S128_S128x1_0 (iotaInDim S128 32 0)) (constantI S_ 32 16#32))
    (constantI S_ 32 64#32)

/-- Whether a row sees another: they are of one sequence, and the other's block is not after its own. -/
def sees : IVec S128x128 1 :=
  andi (cmpi .eq (broadcastInDim S128x128 ![0, 1] bcast_S1x128_S128x128_0_1 (broadcastInDim S1x128 ![1] bcast_S128_S1x128_1 seqs))
      (broadcastInDim S128x128 ![0, 1] bcast_S128x1_S128x128_0_1 (broadcastInDim S128x1 ![0] bcast_S128_S128x1_0 seqs)))
    (cmpi .sle (broadcastInDim S128x128 ![0, 1] bcast_S1x128_S128x128_0_1 rowBlocks)
      (broadcastInDim S128x128 ![0, 1] bcast_S128x1_S128x128_0_1 colBlocks))

/-- The mask of the rows that a row sees. -/
def mask : FVec Ideal S128x128 .f32 := uitofp (F := Ideal) .f32 sees

theorem seqs_apply : ∀ a : Fin 128, (seqs (ix1 a) : BitVec 32) = BitVec.ofNat 32 (a.val / 16) := by decide +kernel

theorem rowBlocks_apply : ∀ a : Fin 128, (rowBlocks (ix2 0 a) : BitVec 32) = 0#32 := by decide +kernel

theorem colBlocks_apply : ∀ a : Fin 128, (colBlocks (ix2 a 0) : BitVec 32) = 0#32 := by decide +kernel

theorem sees_cell : ∀ p q : Fin 8,
    IntOp.andi (IntOp.cmpi .eq (BitVec.ofNat 32 q.val) (BitVec.ofNat 32 p.val)) (IntOp.cmpi .sle 0#32 0#32) = if q = p then 1#1 else 0#1 := by decide +kernel

/-- The sequence that a row belongs to. -/
def seqOf (i : Fin 128) : Fin 8 := ⟨i.val / 16, by omega⟩

/-- A row's place in its sequence. -/
def posOf (i : Fin 128) : Fin 16 := ⟨i.val % 16, by omega⟩

/-- The row at a place of a row's sequence. -/
def rowOf (i : Fin 128) (s : Fin 16) : Fin 128 := ⟨i.val / 16 * 16 + s.val, by omega⟩

theorem sees_apply (a s : Fin 128) : sees (ix2 a s) = if seqOf s = seqOf a then 1#1 else 0#1 := by
  have e : sees (ix2 a s) = IntOp.andi (IntOp.cmpi .eq (seqs (ix1 s)) (seqs (ix1 a))) (IntOp.cmpi .sle (rowBlocks (ix2 0 s)) (colBlocks (ix2 a 0))) := by
    pointwise [sees]
  rw [e]
  exact (congr (congrArg IntOp.andi (congr (congrArg (IntOp.cmpi .eq) (seqs_apply s)) (seqs_apply a)))
    (congr (congrArg (IntOp.cmpi .sle) (rowBlocks_apply s)) (colBlocks_apply a))).trans (sees_cell (seqOf a) (seqOf s))

theorem mask_apply (a s : Fin 128) : mask (ix2 a s) = if seqOf s = seqOf a then 1 else 0 := by
  show (((sees (ix2 a s)).toNat : ℝ) : EReal) = _
  rw [sees_apply]
  split
  · simp
  · simp

/-- A masked sum over the rows is the sum over the row's sequence. -/
theorem sum_mask (a : Fin 128) (w : Fin 16 → EReal) (f : Fin 128 → EReal) :
    ∑ s : Fin 128, w (posOf s) * mask (ix2 a s) * f s = ∑ s : Fin 16, w s * f (rowOf a s) := by
  symm
  refine Finset.sum_of_injOn (rowOf a) (fun p _ q _ e => Fin.ext ?_) (fun _ _ => Finset.mem_coe.2 (Finset.mem_univ _)) ?_ ?_
  · have e' : a.val / 16 * 16 + p.val = a.val / 16 * 16 + q.val := congrArg Fin.val e
    omega
  · intro s _ hs
    have ne : ¬ seqOf s = seqOf a := fun e => hs ⟨posOf s, Finset.mem_coe.2 (Finset.mem_univ _), Fin.ext (by
      have e' : s.val / 16 = a.val / 16 := congrArg Fin.val e
      show a.val / 16 * 16 + s.val % 16 = s.val
      omega)⟩
    rw [mask_apply, if_neg ne, mul_zero, zero_mul]
  · intro s _
    have e1 : posOf (rowOf a s) = s := Fin.ext (by show (a.val / 16 * 16 + s.val) % 16 = s.val; omega)
    have e2 : seqOf (rowOf a s) = seqOf a := Fin.ext (by show (a.val / 16 * 16 + s.val) / 16 = a.val / 16; omega)
    rw [mask_apply, if_pos e2, mul_one, e1]

/-- The weights of the places in a sequence, repeated for every pair of sequences. -/
def weights (w : Vec Ideal S8x128x128 .f32) : Vec Ideal S8x128x128 .f32 :=
  shapeCast S8x128x128 (broadcastInDim S1x8x8x16x8x16 ![0, 1, 2, 3, 4, 5] bcast_S1x8x1x16x1x16_S1x8x8x16x8x16_0_1_2_3_4_5
    (shapeCast S1x8x1x16x1x16 (extractStridedSlice S8x16x16 ![0, 0, 0] w slices_S8x128x128_S8x16x16_0_0_0 : FVec Ideal S8x16x16 .f32)
      shapeCasts_S8x16x16_S1x8x1x16x1x16 : FVec Ideal S1x8x1x16x1x16 .f32)) shapeCasts_S1x8x8x16x8x16_S8x128x128

/-- The biases of the places in a sequence, repeated for every sequence. -/
def biases (b : Vec Ideal S8x128 .f32) : Vec Ideal S128x8 .f32 :=
  transpose S128x8 [1, 0] (shapeCast S8x128 (broadcastInDim S1x8x8x16 ![0, 1, 2, 3] bcast_S1x8x1x16_S1x8x8x16_0_1_2_3
    (shapeCast S1x8x1x16 (extractStridedSlice S8x16 ![0, 0] b slices_S8x128_S8x16_0_0 : FVec Ideal S8x16 .f32)
      shapeCasts_S8x16_S1x8x1x16 : FVec Ideal S1x8x1x16 .f32)) shapeCasts_S1x8x8x16_S8x128 : FVec Ideal S8x128 .f32) transposes_S8x128_S128x8_1_0

/-- A place in a sequence as a place in a chunk. -/
def up (s : Fin 16) : Fin 128 := ⟨s.val, by omega⟩

theorem weights_apply (w : Vec Ideal S8x128x128 .f32) (g : Fin 8) (a s : Fin 128) : weights w (ix3 g a s) = w (ix3 g (up (posOf a)) (up (posOf s))) := by
  pointwise [weights]
  rfl

theorem biases_apply (b : Vec Ideal S8x128 .f32) (a : Fin 128) (g : Fin 8) : biases b (ix2 a g) = b (ix2 g (up (posOf a))) := by
  pointwise [biases]
  rfl

/-- The layer norm of the rows, at a row and a column. -/
def normedAt (v : Vec Ideal S128x6144 .f32) (lg lb : Vec Ideal S6144 .f32) (i : Fin 128) (j : Fin 6144) : EReal :=
  Cert.Rows.layer 0x45C00000#32 (fun k : Fin 6144 => v (ix2 i k)) j (lg (ix1 j)) (lb (ix1 j))

/-- The layer norm of the rows, as one array. -/
def normedArr (v : Vec Ideal S128x6144 .f32) (lg lb : Vec Ideal S6144 .f32) (y : S128x6144.Idx) : EReal := normedAt v lg lb (y 0) (y 1)

/-- The group of columns that a column belongs to. -/
def groupOf (j : Fin 6144) : Fin 8 := ⟨j.val / 768, by omega⟩

/-- The mixed and gated rows, as one array. -/
def arr (v : Vec Ideal S128x6144 .f32) (u : Vec Ideal S128x6144 .bf16) (lg lb : Vec Ideal S6144 .f32) (w : Vec Ideal S8x128x128 .f32)
    (b : Vec Ideal S8x128 .f32) (y : S128x6144.Idx) : EReal :=
  let i : Fin 128 := y 0
  let j : Fin 6144 := y 1
  u (ix2 i j) * (∑ s : Fin 16, w (ix3 (groupOf j) (up (posOf i)) (up s)) * normedAt v lg lb (rowOf i s) j + b (ix2 (groupOf j) (up (posOf i))))

variable (m : (ℓ : Loc nD τ sig) → Buf (Elt Ideal) ℓ)

abbrev vOf (c : Dev nD) : Vec Ideal S128x6144 .f32 := m ((c : Thread nD τ).loc main_arg0)
abbrev uOf (c : Dev nD) : Vec Ideal S128x6144 .bf16 := m ((c : Thread nD τ).loc main_arg1)
abbrev lgOf (c : Dev nD) : Vec Ideal S6144 .f32 := m ((c : Thread nD τ).loc main_arg2)
abbrev lbOf (c : Dev nD) : Vec Ideal S6144 .f32 := m ((c : Thread nD τ).loc main_arg3)
abbrev wOf (c : Dev nD) : Vec Ideal S8x128x128 .f32 := m ((c : Thread nD τ).loc main_arg4)
abbrev bOf (c : Dev nD) : Vec Ideal S8x128 .f32 := m ((c : Thread nD τ).loc main_arg5)

theorem V_lg (c : Dev nD) : V m c main_v27 = (shapeCast _ (lgOf m c) shapeCasts_S6144_S1x6144 : Vec Ideal S1x6144 .f32) := by
  show StableHlo.after (List.flatten [hostOps0, hostOps0_1, hostOps0_2, hostOps0_3, hostOps0_4, hostOps0_5, hostOps0_6, hostOps0_7, hostOps0_8, hostOps0_9, hostOps0_10]) _ _ = _
  simp only [hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results <;> rfl

theorem V_lb (c : Dev nD) : V m c main_v28 = (shapeCast _ (lbOf m c) shapeCasts_S6144_S1x6144 : Vec Ideal S1x6144 .f32) := by
  show StableHlo.after (List.flatten [hostOps0, hostOps0_1, hostOps0_2, hostOps0_3, hostOps0_4, hostOps0_5, hostOps0_6, hostOps0_7, hostOps0_8, hostOps0_9, hostOps0_10]) _ _ = _
  simp only [hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results <;> rfl

theorem V_w (c : Dev nD) : V m c main_v21 = weights (wOf m c) := by
  show StableHlo.after (List.flatten [hostOps0, hostOps0_1, hostOps0_2, hostOps0_3, hostOps0_4, hostOps0_5, hostOps0_6, hostOps0_7, hostOps0_8, hostOps0_9, hostOps0_10]) _ _ = _
  simp only [hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results <;> rfl

theorem V_b (c : Dev nD) : V m c main_v26 = biases (bOf m c) := by
  show StableHlo.after (List.flatten [hostOps0, hostOps0_1, hostOps0_2, hostOps0_3, hostOps0_4, hostOps0_5, hostOps0_6, hostOps0_7, hostOps0_8, hostOps0_9, hostOps0_10]) _ _ = _
  simp only [hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append]
  after_results <;> rfl

theorem V_mask (c : Dev nD) : V m c main_v17 = mask := by
  show StableHlo.after (List.flatten [hostOps0, hostOps0_1, hostOps0_2, hostOps0_3, hostOps0_4, hostOps0_5, hostOps0_6, hostOps0_7, hostOps0_8, hostOps0_9, hostOps0_10]) _ _ = _
  simp only [hostOps0, hostOps0_1, hostOps0_2, hostOps0_3, hostOps0_4, hostOps0_5, hostOps0_6, hostOps0_7, hostOps0_8, hostOps0_9, hostOps0_10, List.flatten_cons,
    List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The only point's blocks are the whole arrays. -/
theorem index : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0) := by decide +kernel

theorem index_out : ∀ t : Fin grid0.N, (win0_7.index t 0 = 0 ∧ win0_7.index t 1 = 0) ∧ (win0_8.index t 0 = 0 ∧ win0_8.index t 1 = 0) := by decide +kernel

theorem xsize : ∀ t : Fin grid0.N, (win0_7.xsize (grid0.coords t) 0 = 128 ∧ win0_7.xsize (grid0.coords t) 1 = 6144)
    ∧ (win0_8.xsize (grid0.coords t) 0 = 128 ∧ win0_8.xsize (grid0.coords t) 1 = 6144) := by decide +kernel

theorem v_apply (c : Dev nD) (t : Fin cfg0.N) (a : Fin 128) (k : Fin 6144) :
    (iblk m c 0 t : Vec Ideal S128x6144 .f32) (ix2 a k) = vOf m c (ix2 a k) := by
  show (V m c main_arg0) _ = _
  rw [V_main_arg0]
  refine congrArg (vOf m c) (funext fun x => Fin.ext ?_)
  match x with
  | ⟨0, _⟩ => show win0_0.index t 0 * 128 + 1 * a.val = a.val; rw [(index t).1.1]; omega
  | ⟨1, _⟩ => show win0_0.index t 1 * 6144 + 1 * k.val = k.val; rw [(index t).1.2]; omega

theorem u_apply (c : Dev nD) (t : Fin cfg0.N) (a : Fin 128) (k : Fin 6144) :
    (iblk m c 1 t : Vec Ideal S128x6144 .bf16) (ix2 a k) = uOf m c (ix2 a k) := by
  show (V m c main_arg1) _ = _
  rw [V_main_arg1]
  refine congrArg (uOf m c) (funext fun x => Fin.ext ?_)
  match x with
  | ⟨0, _⟩ => show win0_1.index t 0 * 128 + 1 * a.val = a.val; rw [(index t).2.1.1]; omega
  | ⟨1, _⟩ => show win0_1.index t 1 * 6144 + 1 * k.val = k.val; rw [(index t).2.1.2]; omega

theorem cast_apply (g : Vec Ideal S6144 .f32) (k : Fin 6144) :
    (shapeCast S1x6144 g shapeCasts_S6144_S1x6144 : Vec Ideal S1x6144 .f32) (ix2 0 k) = g (ix1 k) := by
  pointwise []

theorem lg_apply (c : Dev nD) (t : Fin cfg0.N) (k : Fin 6144) :
    (iblk m c 2 t : Vec Ideal S1x6144 .f32) (ix2 0 k) = lgOf m c (ix1 k) := by
  refine Eq.trans ?_ (cast_apply (lgOf m c) k)
  show (V m c main_v27) _ = _
  rw [V_lg]
  refine congrArg (shapeCast S1x6144 (lgOf m c) shapeCasts_S6144_S1x6144) (funext fun x => Fin.ext ?_)
  match x with
  | ⟨0, _⟩ => show win0_2.index t 0 * 1 + 1 * 0 = 0; rw [(index t).2.2.1.1]
  | ⟨1, _⟩ => show win0_2.index t 1 * 6144 + 1 * k.val = k.val; rw [(index t).2.2.1.2]; omega

theorem lb_apply (c : Dev nD) (t : Fin cfg0.N) (k : Fin 6144) :
    (iblk m c 3 t : Vec Ideal S1x6144 .f32) (ix2 0 k) = lbOf m c (ix1 k) := by
  refine Eq.trans ?_ (cast_apply (lbOf m c) k)
  show (V m c main_v28) _ = _
  rw [V_lb]
  refine congrArg (shapeCast S1x6144 (lbOf m c) shapeCasts_S6144_S1x6144) (funext fun x => Fin.ext ?_)
  match x with
  | ⟨0, _⟩ => show win0_3.index t 0 * 1 + 1 * 0 = 0; rw [(index t).2.2.2.1.1]
  | ⟨1, _⟩ => show win0_3.index t 1 * 6144 + 1 * k.val = k.val; rw [(index t).2.2.2.1.2]; omega

theorem w_apply (c : Dev nD) (t : Fin cfg0.N) (g : Fin 8) (a s : Fin 128) :
    (iblk m c 4 t : Vec Ideal S8x128x128 .f32) (ix3 g a s) = wOf m c (ix3 g (up (posOf a)) (up (posOf s))) := by
  refine Eq.trans ?_ (weights_apply (wOf m c) g a s)
  show (V m c main_v21) _ = _
  rw [V_w]
  refine congrArg (weights (wOf m c)) (funext fun x => Fin.ext ?_)
  match x with
  | ⟨0, _⟩ => show win0_4.index t 0 * 8 + 1 * g.val = g.val; rw [(index t).2.2.2.2.1.1]; omega
  | ⟨1, _⟩ => show win0_4.index t 1 * 128 + 1 * a.val = a.val; rw [(index t).2.2.2.2.1.2.1]; omega
  | ⟨2, _⟩ => show win0_4.index t 2 * 128 + 1 * s.val = s.val; rw [(index t).2.2.2.2.1.2.2]; omega

theorem mk_apply (c : Dev nD) (t : Fin cfg0.N) (a s : Fin 128) :
    (iblk m c 5 t : Vec Ideal S128x128 .f32) (ix2 a s) = mask (ix2 a s) := by
  show (V m c main_v17) _ = _
  rw [V_mask]
  refine congrArg mask (funext fun x => Fin.ext ?_)
  match x with
  | ⟨0, _⟩ => show win0_5.index t 0 * 128 + 1 * a.val = a.val; rw [(index t).2.2.2.2.2.1.1]; omega
  | ⟨1, _⟩ => show win0_5.index t 1 * 128 + 1 * s.val = s.val; rw [(index t).2.2.2.2.2.1.2]; omega

theorem b_apply (c : Dev nD) (t : Fin cfg0.N) (a : Fin 128) (g : Fin 8) :
    (iblk m c 6 t : Vec Ideal S128x8 .f32) (ix2 a g) = bOf m c (ix2 g (up (posOf a))) := by
  refine Eq.trans ?_ (biases_apply (bOf m c) a g)
  show (V m c main_v26) _ = _
  rw [V_b]
  refine congrArg (biases (bOf m c)) (funext fun x => Fin.ext ?_)
  match x with
  | ⟨0, _⟩ => show win0_6.index t 0 * 128 + 1 * a.val = a.val; rw [(index t).2.2.2.2.2.2.1]; omega
  | ⟨1, _⟩ => show win0_6.index t 1 * 8 + 1 * g.val = g.val; rw [(index t).2.2.2.2.2.2.2]; omega

/-- The body leaves in its two output blocks what the prompt's body leaves in its one, and the layer norm. -/
theorem out_eq (x0 : Vec Ideal S128x6144 .f32) (x1 : Vec Ideal S128x6144 .bf16) (x2 x3 : Vec Ideal S1x6144 .f32) (x4 : Vec Ideal S8x128x128 .f32)
    (x5 : Vec Ideal S128x128 .f32) (x6 : Vec Ideal S128x8 .f32) :
    out0_7 x0 x1 x2 x3 x4 x5 x6 = Cert.KernelSguMixIdeal.Mix.mixedBlock (Cert.KernelSguMixIdeal.Gen.k0_pay3 x0 x2 x3) x1 x4 x5 x6 := by
  rw [← Cert.KernelSguMixIdeal.Mix.norm_whole]
  rfl

theorem out_normed (x0 : Vec Ideal S128x6144 .f32) (x1 : Vec Ideal S128x6144 .bf16) (x2 x3 : Vec Ideal S1x6144 .f32) (x4 : Vec Ideal S8x128x128 .f32)
    (x5 : Vec Ideal S128x128 .f32) (x6 : Vec Ideal S128x8 .f32) :
    out0_8 x0 x1 x2 x3 x4 x5 x6 = Cert.KernelSguMixIdeal.Gen.k0_pay3 x0 x2 x3 := by
  unfold out0_8
  rw [View.canon_unit_zero Cert.Lin.zero2, View.ld_unit_zero Cert.Lin.zero2, View.ld_unit_zero Cert.Lin.zero2, View.ld_unit_zero Cert.Lin.zero2]
  rfl

/-- What the point writes back is the result. -/
theorem flushed7 (c : Dev nD) (t : Fin cfg0.N) :
    (dats m 0 c).flushed 7 t = ((cfg0.win 7).blk t).view.read (Elt Ideal) (arr (vOf m c) (uOf m c) (lgOf m c) (lbOf m c) (wOf m c) (bOf m c)) := by
  rw [Value.flushed7]
  funext (y : S128x6144.Idx)
  show out0_7 (iblk m c 0 t) (iblk m c 1 t) (iblk m c 2 t) (iblk m c 3 t) (iblk m c 4 t) (iblk m c 5 t) (iblk m c 6 t) y = _
  obtain ⟨a, d, rfl⟩ : ∃ (a : Fin 128) (d : Fin 6144), y = ix2 a d := ⟨y 0, y 1, eq_ix2 y⟩
  rw [out_eq, Cert.KernelSguMixIdeal.Mix.mixedBlock_apply]
  unfold Cert.KernelSguMixIdeal.Mix.blockAt
  simp only [Cert.KernelSguMixIdeal.Mix.norm_apply, v_apply, u_apply, lg_apply, lb_apply, w_apply, mk_apply, b_apply]
  refine (congrArg (fun z => uOf m c (ix2 a d) * (z + _)) (sum_mask a (fun s => wOf m c (ix3 ⟨d.val / 768, by omega⟩ (up (posOf a)) (up s)))
    (fun s => normedAt (vOf m c) (lgOf m c) (lbOf m c) s d))).trans ?_
  refine congrArg (arr (vOf m c) (uOf m c) (lgOf m c) (lbOf m c) (wOf m c) (bOf m c)) (a₁ := ix2 a d) (funext fun x => Fin.ext ?_)
  match x with
  | ⟨0, _⟩ => show a.val = win0_7.index t 0 * 128 + 1 * a.val; rw [(index_out t).1.1]; omega
  | ⟨1, _⟩ => show d.val = win0_7.index t 1 * 6144 + 1 * d.val; rw [(index_out t).1.2]; omega

theorem flushed8 (c : Dev nD) (t : Fin cfg0.N) :
    (dats m 0 c).flushed 8 t = ((cfg0.win 8).blk t).view.read (Elt Ideal) (normedArr (vOf m c) (lgOf m c) (lbOf m c)) := by
  rw [Value.flushed8]
  funext (y : S128x6144.Idx)
  show out0_8 (iblk m c 0 t) (iblk m c 1 t) (iblk m c 2 t) (iblk m c 3 t) (iblk m c 4 t) (iblk m c 5 t) (iblk m c 6 t) y = _
  obtain ⟨a, d, rfl⟩ : ∃ (a : Fin 128) (d : Fin 6144), y = ix2 a d := ⟨y 0, y 1, eq_ix2 y⟩
  rw [out_normed, Cert.KernelSguMixIdeal.Mix.norm_apply]
  simp only [v_apply, lg_apply, lb_apply]
  refine congrArg (normedArr (vOf m c) (lgOf m c) (lbOf m c)) (a₁ := ix2 a d) (funext fun x => Fin.ext ?_)
  match x with
  | ⟨0, _⟩ => show a.val = win0_8.index t 0 * 128 + 1 * a.val; rw [(index_out t).2.1]; omega
  | ⟨1, _⟩ => show d.val = win0_8.index t 1 * 6144 + 1 * d.val; rw [(index_out t).2.2]; omega

/-- Every index of a result lies in the point's block. -/
theorem covered7 (y : S128x6144.Idx) : ∃ t : Fin cfg0.N, (cfg0.win 7).flush t = true ∧ y ∈ ((cfg0.win 7).blk t).view.set := by
  have h0 : (y 0).val < 128 := (y 0).isLt
  have h1 : (y 1).val < 6144 := (y 1).isLt
  have ht : 0 < cfg0.N := by decide
  refine ⟨⟨0, ht⟩, (by decide +kernel : ∀ t : Fin grid0.N, win0_7.flush t = true) _, ?_⟩
  show y ∈ ((View.whole main_v29_0).slice (win0_7.rect ⟨0, ht⟩)).set
  rw [View.set_slice_whole, Rect.mem_set_unit]
  have e := (index_out ⟨0, ht⟩).1
  have x := (xsize ⟨0, ht⟩).1
  intro a
  match a with
  | ⟨0, _⟩ =>
    show win0_7.index ⟨0, ht⟩ 0 * 128 ≤ (y 0).val ∧ (y 0).val < win0_7.index ⟨0, ht⟩ 0 * 128 + win0_7.xsize (grid0.coords ⟨0, ht⟩) 0
    rw [e.1, x.1]; omega
  | ⟨1, _⟩ =>
    show win0_7.index ⟨0, ht⟩ 1 * 6144 ≤ (y 1).val ∧ (y 1).val < win0_7.index ⟨0, ht⟩ 1 * 6144 + win0_7.xsize (grid0.coords ⟨0, ht⟩) 1
    rw [e.2, x.2]; omega

theorem covered8 (y : S128x6144.Idx) : ∃ t : Fin cfg0.N, (cfg0.win 8).flush t = true ∧ y ∈ ((cfg0.win 8).blk t).view.set := by
  have h0 : (y 0).val < 128 := (y 0).isLt
  have h1 : (y 1).val < 6144 := (y 1).isLt
  have ht : 0 < cfg0.N := by decide
  refine ⟨⟨0, ht⟩, (by decide +kernel : ∀ t : Fin grid0.N, win0_8.flush t = true) _, ?_⟩
  show y ∈ ((View.whole main_v29_1).slice (win0_8.rect ⟨0, ht⟩)).set
  rw [View.set_slice_whole, Rect.mem_set_unit]
  have e := (index_out ⟨0, ht⟩).2
  have x := (xsize ⟨0, ht⟩).2
  intro a
  match a with
  | ⟨0, _⟩ =>
    show win0_8.index ⟨0, ht⟩ 0 * 128 ≤ (y 0).val ∧ (y 0).val < win0_8.index ⟨0, ht⟩ 0 * 128 + win0_8.xsize (grid0.coords ⟨0, ht⟩) 0
    rw [e.1, x.1]; omega
  | ⟨1, _⟩ =>
    show win0_8.index ⟨0, ht⟩ 1 * 6144 ≤ (y 1).val ∧ (y 1).val < win0_8.index ⟨0, ht⟩ 1 * 6144 + win0_8.xsize (grid0.coords ⟨0, ht⟩) 1
    rw [e.2, x.2]; omega

theorem array_eq7 (c : Dev nD) : (dats m 0 c).arrAt 7 cfg0.N = arr (vOf m c) (uOf m c) (lgOf m c) (lbOf m c) (wOf m c) (bOf m c) :=
  (dats m 0 c).arrAt_eq_of_cover 7 _ (fun t _ => flushed7 m c t) covered7

theorem array_eq8 (c : Dev nD) : (dats m 0 c).arrAt 8 cfg0.N = normedArr (vOf m c) (lgOf m c) (lbOf m c) :=
  (dats m 0 c).arrAt_eq_of_cover 8 _ (fun t _ => flushed8 m c t) covered8

end Cert.KernelSguMixSampleIdeal.Mix

/-! ## The reference -/

namespace Cert.ReferenceSguMixSampleIdeal.Mix

open Cert.ReferenceSguMixSampleIdeal Cert.ReferenceSguMixSampleIdeal.Gen Idealize.ShloMosaic
open Cert.KernelSguMixSampleIdeal.Mix (seqOf posOf rowOf up groupOf normedArr normedAt)

theorem rows : Cert.HostLayer.Facts 128 where
  column := bcast_S128_S128x1_0
  one := bcast_S_S128x1
  along := bcast_S128x1_S128x6144_0_1
  gain := bcast_S6144_S1x6144_1
  down := bcast_S1x6144_S128x6144_0_1
  rows := reducesTo_S128x6144_S128_d1
  unit := h_S_
  many := by decide

/-- Each sequence's rows against the masked weights of its places, with the biases. -/
def mixed (n : FVec Ideal S128x6144 .f32) (w : FVec Ideal S8x128x128 .f32) (mk : FVec Ideal S128x128 .f32) (b : FVec Ideal S8x128 .f32) :
    FVec Ideal S8x16x8x768 .f32 :=
  addf (transpose S8x16x8x768 [1, 3, 0, 2] (Host.dotGeneral dot_S8x16x8x768_S8x16x16_S8x8x768x16_1_2_03_1_2_0 none
      (shapeCast _ n shapeCasts_S128x6144_S8x16x8x768)
      (extractStridedSlice S8x16x16 ![0, 0, 0] (mulf w (broadcastInDim S8x128x128 ![0, 1, 2] bcast_S1x128x128_S8x128x128_0_1_2
        (broadcastInDim S1x128x128 ![1, 2] bcast_S128x128_S1x128x128_1_2 mk))) slices_S8x128x128_S8x16x16_0_0_0))
      transposes_S8x8x768x16_S8x16x8x768_1_3_0_2)
    (broadcastInDim S8x16x8x768 ![0, 1, 2, 3] bcast_S1x16x8x1_S8x16x8x768_0_1_2_3 (broadcastInDim S1x16x8x1 ![1, 2] bcast_S16x8_S1x16x8x1_1_2
      (transpose S16x8 [1, 0] (extractStridedSlice S8x16 ![0, 0] b slices_S8x128_S8x16_0_0) transposes_S8x16_S16x8_1_0)))

/-- The mixed rows under their gates. -/
def gated (u : FVec Ideal S128x6144 .bf16) (z : FVec Ideal S8x16x8x768 .f32) : FVec Ideal S128x6144 .bf16 :=
  truncf .bf16 (mulf (extf .f32 u bitsLt_bf16_f32) (shapeCast _ z shapeCasts_S8x16x8x768_S128x6144)) bitsLt_bf16_f32

/-- The reference's first result. -/
def result (v : FVec Ideal S128x6144 .f32) (u : FVec Ideal S128x6144 .bf16) (lg lb : FVec Ideal S6144 .f32) (w : FVec Ideal S8x128x128 .f32)
    (b : FVec Ideal S8x128 .f32) : FVec Ideal S128x6144 .bf16 :=
  gated u (mixed (Cert.HostLayer.normed rows v lg lb) w Cert.KernelSguMixIdeal.Mix.mask b)

/-- The first places are of one block: each sees every other. -/
theorem first_blocks : ∀ s : Fin 16, (Cert.KernelSguMixIdeal.Mix.rowBlocks (ix2 0 (up s)) : BitVec 32) = 0#32
    ∧ (Cert.KernelSguMixIdeal.Mix.colBlocks (ix2 (up s) 0) : BitVec 32) = 0#32 := by decide +kernel

theorem mask_first (a s : Fin 16) : Cert.KernelSguMixIdeal.Mix.mask (ix2 (up a) (up s)) = 1 := by
  have e : Cert.KernelSguMixIdeal.Mix.mask (ix2 (up a) (up s))
      = (((IntOp.cmpi .sle (Cert.KernelSguMixIdeal.Mix.rowBlocks (ix2 0 (up s))) (Cert.KernelSguMixIdeal.Mix.colBlocks (ix2 (up a) 0))).toNat : ℝ) : EReal) := by
    pointwise [Cert.KernelSguMixIdeal.Mix.mask]
    rfl
  rw [e, congr (congrArg (IntOp.cmpi .sle) (first_blocks s).1) (first_blocks a).2]
  simp [show IntOp.cmpi .sle 0#32 0#32 = 1#1 by decide]

theorem mixed_apply (n : FVec Ideal S128x6144 .f32) (w : FVec Ideal S8x128x128 .f32) (mk : FVec Ideal S128x128 .f32) (b : FVec Ideal S8x128 .f32)
    (c : Fin 8) (a : Fin 16) (g : Fin 8) (d : Fin 768) :
    mixed n w mk b (ix4 c a g d)
      = ∑ s : Fin 16, n (ix2 ⟨c.val * 16 + s.val, by omega⟩ ⟨g.val * 768 + d.val, by omega⟩) * (w (ix3 g (up a) (up s)) * mk (ix2 (up a) (up s)))
        + b (ix2 g (up a)) := by
  pointwise [mixed]
  rfl

theorem gated_apply (u : FVec Ideal S128x6144 .bf16) (z : FVec Ideal S8x16x8x768 .f32) (i : Fin 128) (j : Fin 6144) :
    gated u z (ix2 i j) = u (ix2 i j) * z (ix4 (seqOf i) (posOf i) (groupOf j) ⟨j.val % 768, by omega⟩) := by
  pointwise [gated]
  rfl

theorem result_eq (v : FVec Ideal S128x6144 .f32) (u : FVec Ideal S128x6144 .bf16) (lg lb : FVec Ideal S6144 .f32) (w : FVec Ideal S8x128x128 .f32)
    (b : FVec Ideal S8x128 .f32) : result v u lg lb w b = Cert.KernelSguMixSampleIdeal.Mix.arr v u lg lb w b := by
  funext y
  obtain ⟨i, j, rfl⟩ : ∃ (i : Fin 128) (j : Fin 6144), y = ix2 i j := ⟨y 0, y 1, eq_ix2 y⟩
  unfold result
  rw [gated_apply, mixed_apply]
  have e : (⟨(groupOf j).val * 768 + (⟨j.val % 768, by omega⟩ : Fin 768).val, by have := (groupOf j).isLt; dsimp only; omega⟩ : Fin 6144) = j :=
    Fin.ext (by show j.val / 768 * 768 + j.val % 768 = j.val; omega)
  simp only [e, Cert.HostLayer.normed_apply rows, mask_first, mul_one]
  show _ = u (ix2 i j) * (_ + _)
  refine congrArg (fun z => u (ix2 i j) * (z + _)) (Finset.sum_congr rfl fun s _ => ?_)
  rw [mul_comm]
  rfl

theorem normed_eq (v : FVec Ideal S128x6144 .f32) (lg lb : FVec Ideal S6144 .f32) : Cert.HostLayer.normed rows v lg lb = normedArr v lg lb := by
  funext y
  obtain ⟨i, j, rfl⟩ : ∃ (i : Fin 128) (j : Fin 6144), y = ix2 i j := ⟨y 0, y 1, eq_ix2 y⟩
  rw [Cert.HostLayer.normed_apply rows]
  rfl

end Cert.ReferenceSguMixSampleIdeal.Mix

end
-- ==== Proof.NormSample.lean ====
/- The final norm of the sampled rows: what the kernel's output array and the reference's result hold at an index, the root
   mean square norm of the residual plus its gated update. -/
module

public import proofs.«01_k».proof.Proof.Gen.KernelNormSampleIdeal.Value
public import proofs.«01_k».proof.Proof.Gen.ReferenceNormSampleIdeal.Run
public import proofs.«01_k».proof.Proof.Lin
public import proofs.«01_k».proof.Proof.Rows

@[expose] public section

set_option maxRecDepth 16384

noncomputable section

namespace Cert.KernelNormSampleIdeal.Norm

open Cert.KernelNormSampleIdeal Cert.KernelNormSampleIdeal.Gen Idealize.ShloMosaic Idealize.ShloMosaic.TcCoe Idealize.SL.Sem
open Idealize.ShloMosaic.Pipeline (Dat)

/-- The sampled sequence that a row belongs to. -/
def seqOf (i : Fin 128) : Fin 8 := ⟨i.val / 16, by omega⟩

/-- A row of the residual plus its gated update. -/
def summed (x : Vec Ideal S128x2048 .f32) (u : Vec Ideal S2048x128 .f32) (g : Vec Ideal S8x1x2048 .f32) (i : Fin 128) (k : Fin 2048) : EReal :=
  x (ix2 i k) + g (ix3 (seqOf i) 0 k) * u (ix2 k i)

/-- The norm of those rows, as one array. -/
def arr (x : Vec Ideal S128x2048 .f32) (u : Vec Ideal S2048x128 .f32) (g : Vec Ideal S8x1x2048 .f32) (w : Vec Ideal S2048 .f32)
    (y : S128x2048.Idx) : EReal :=
  Cert.Rows.rms 0x45000000#32 (summed x u g (y 0)) (y 1) (w (ix1 (y 1)))

theorem pay_apply (x0 : Vec Ideal S128x2048 .f32) (x1 : Vec Ideal S1x128x2048 .f32) (x2 : Vec Ideal S2048x128 .f32) (x3 : Vec Ideal S1x2048 .f32)
    (a : Fin 128) (d : Fin 2048) :
    k0_pay1 x0 x1 x2 x3 (ix2 a d)
      = Cert.Rows.rms 0x45000000#32 (fun k : Fin 2048 => x0 (ix2 a k) + x1 (ix3 0 a k) * x2 (ix2 k a)) d (x3 (ix2 0 d)) := by
  pointwise [k0_pay1]
  rfl

theorem out_eq (x0 : Vec Ideal S128x2048 .f32) (x1 : Vec Ideal S2048x128 .f32) (x2 : Vec Ideal S1x128x2048 .f32) (x3 : Vec Ideal S1x2048 .f32) :
    out0_4 x0 x1 x2 x3 = k0_pay1 x0 x2 x1 x3 := by
  unfold out0_4
  rw [View.canon_unit_zero Cert.Lin.zero2, View.ld_unit_zero Cert.Lin.zero2, View.ld_unit_zero Cert.Lin.zero3, View.ld_unit_zero Cert.Lin.zero2,
    View.ld_unit_zero Cert.Lin.zero2]

variable (m : (ℓ : Loc nD τ sig) → Buf (Elt Ideal) ℓ)

abbrev xOf (c : Dev nD) : Vec Ideal S128x2048 .f32 := m ((c : Thread nD τ).loc main_arg0)
abbrev uOf (c : Dev nD) : Vec Ideal S2048x128 .f32 := m ((c : Thread nD τ).loc main_arg1)
abbrev gOf (c : Dev nD) : Vec Ideal S8x1x2048 .f32 := m ((c : Thread nD τ).loc main_arg2)
abbrev wOf (c : Dev nD) : Vec Ideal S2048 .f32 := m ((c : Thread nD τ).loc main_arg3)

/-- A row of gates of each sequence, repeated for the sequence's rows. -/
def repeated (g : Vec Ideal S8x1x2048 .f32) : Vec Ideal S1x128x2048 .f32 :=
  broadcastInDim S1x128x2048 ![1, 2] bcast_S128x2048_S1x128x2048_1_2 (shapeCast S128x2048 (broadcastInDim S8x16x2048 ![0, 2] bcast_S8x2048_S8x16x2048_0_2
    (shapeCast S8x2048 g shapeCasts_S8x1x2048_S8x2048 : FVec Ideal S8x2048 .f32)) shapeCasts_S8x16x2048_S128x2048)

theorem repeated_apply (g : Vec Ideal S8x1x2048 .f32) (a : Fin 128) (k : Fin 2048) : repeated g (ix3 0 a k) = g (ix3 (seqOf a) 0 k) := by
  pointwise [repeated]
  rfl

theorem V_g (c : Dev nD) : V m c main_v3 = repeated (gOf m c) := by
  show StableHlo.after hostOps0 _ _ = _
  after_results <;> rfl

theorem V_w (c : Dev nD) : V m c main_v4 = (shapeCast _ (wOf m c) shapeCasts_S2048_S1x2048 : Vec Ideal S1x2048 .f32) := by
  show StableHlo.after hostOps0 _ _ = _
  after_results <;> rfl

/-- The only point's blocks are the whole arrays. -/
theorem index : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = 0)
    ∧ (win0_4.index t 0 = 0 ∧ win0_4.index t 1 = 0) := by decide +kernel

theorem xsize : ∀ t : Fin grid0.N, win0_4.xsize (grid0.coords t) 0 = 128 ∧ win0_4.xsize (grid0.coords t) 1 = 2048 := by decide +kernel

theorem x_apply (c : Dev nD) (t : Fin cfg0.N) (a : Fin 128) (k : Fin 2048) :
    (iblk m c 0 t : Vec Ideal S128x2048 .f32) (ix2 a k) = xOf m c (ix2 a k) := by
  show (V m c main_arg0) _ = _
  rw [V_main_arg0]
  refine congrArg (xOf m c) (funext fun x => Fin.ext ?_)
  match x with
  | ⟨0, _⟩ => show win0_0.index t 0 * 128 + 1 * a.val = a.val; rw [(index t).1.1]; omega
  | ⟨1, _⟩ => show win0_0.index t 1 * 2048 + 1 * k.val = k.val; rw [(index t).1.2]; omega

theorem u_apply (c : Dev nD) (t : Fin cfg0.N) (a : Fin 128) (k : Fin 2048) :
    (iblk m c 1 t : Vec Ideal S2048x128 .f32) (ix2 k a) = uOf m c (ix2 k a) := by
  show (V m c main_arg1) _ = _
  rw [V_main_arg1]
  refine congrArg (uOf m c) (funext fun x => Fin.ext ?_)
  match x with
  | ⟨0, _⟩ => show win0_1.index t 0 * 2048 + 1 * k.val = k.val; rw [(index t).2.1.1]; omega
  | ⟨1, _⟩ => show win0_1.index t 1 * 128 + 1 * a.val = a.val; rw [(index t).2.1.2]; omega

theorem g_apply (c : Dev nD) (t : Fin cfg0.N) (a : Fin 128) (k : Fin 2048) :
    (iblk m c 2 t : Vec Ideal S1x128x2048 .f32) (ix3 0 a k) = gOf m c (ix3 (seqOf a) 0 k) := by
  refine Eq.trans ?_ (repeated_apply (gOf m c) a k)
  show (V m c main_v3) _ = _
  rw [V_g]
  refine congrArg (repeated (gOf m c)) (funext fun x => Fin.ext ?_)
  match x with
  | ⟨0, _⟩ => show win0_2.index t 0 * 1 + 1 * 0 = 0; rw [(index t).2.2.1.1]
  | ⟨1, _⟩ => show win0_2.index t 1 * 128 + 1 * a.val = a.val; rw [(index t).2.2.1.2.1]; omega
  | ⟨2, _⟩ => show win0_2.index t 2 * 2048 + 1 * k.val = k.val; rw [(index t).2.2.1.2.2]; omega

theorem cast_apply (w : Vec Ideal S2048 .f32) (k : Fin 2048) :
    (shapeCast S1x2048 w shapeCasts_S2048_S1x2048 : Vec Ideal S1x2048 .f32) (ix2 0 k) = w (ix1 k) := by
  pointwise []

theorem w_apply (c : Dev nD) (t : Fin cfg0.N) (k : Fin 2048) : (iblk m c 3 t : Vec Ideal S1x2048 .f32) (ix2 0 k) = wOf m c (ix1 k) := by
  refine Eq.trans ?_ (cast_apply (wOf m c) k)
  show (V m c main_v4) _ = _
  rw [V_w]
  refine congrArg (shapeCast S1x2048 (wOf m c) shapeCasts_S2048_S1x2048) (funext fun x => Fin.ext ?_)
  match x with
  | ⟨0, _⟩ => show win0_3.index t 0 * 1 + 1 * 0 = 0; rw [(index t).2.2.2.1.1]
  | ⟨1, _⟩ => show win0_3.index t 1 * 2048 + 1 * k.val = k.val; rw [(index t).2.2.2.1.2]; omega

/-- What the point writes back is the result. -/
theorem flushed (c : Dev nD) (t : Fin cfg0.N) :
    (dats m 0 c).flushed 4 t = ((cfg0.win 4).blk t).view.read (Elt Ideal) (arr (xOf m c) (uOf m c) (gOf m c) (wOf m c)) := by
  rw [Value.flushed4]
  funext (y : S128x2048.Idx)
  show out0_4 (iblk m c 0 t) (iblk m c 1 t) (iblk m c 2 t) (iblk m c 3 t) y = _
  obtain ⟨a, d, rfl⟩ : ∃ (a : Fin 128) (d : Fin 2048), y = ix2 a d := ⟨y 0, y 1, eq_ix2 y⟩
  rw [out_eq, pay_apply, w_apply]
  simp only [x_apply, u_apply, g_apply m c t a]
  refine congrArg (arr (xOf m c) (uOf m c) (gOf m c) (wOf m c)) (a₁ := ix2 a d) (funext fun x => Fin.ext ?_)
  match x with
  | ⟨0, _⟩ => show a.val = win0_4.index t 0 * 128 + 1 * a.val; rw [(index t).2.2.2.2.1]; omega
  | ⟨1, _⟩ => show d.val = win0_4.index t 1 * 2048 + 1 * d.val; rw [(index t).2.2.2.2.2]; omega

/-- Every index of the result lies in the point's block. -/
theorem covered (y : S128x2048.Idx) : ∃ t : Fin cfg0.N, (cfg0.win 4).flush t = true ∧ y ∈ ((cfg0.win 4).blk t).view.set := by
  have h0 : (y 0).val < 128 := (y 0).isLt
  have h1 : (y 1).val < 2048 := (y 1).isLt
  have ht : 0 < cfg0.N := by decide
  refine ⟨⟨0, ht⟩, (by decide +kernel : ∀ t : Fin grid0.N, win0_4.flush t = true) _, ?_⟩
  show y ∈ ((View.whole main_v5).slice (win0_4.rect ⟨0, ht⟩)).set
  rw [View.set_slice_whole, Rect.mem_set_unit]
  have e := (index ⟨0, ht⟩).2.2.2.2
  have x := xsize ⟨0, ht⟩
  intro a
  match a with
  | ⟨0, _⟩ =>
    show win0_4.index ⟨0, ht⟩ 0 * 128 ≤ (y 0).val ∧ (y 0).val < win0_4.index ⟨0, ht⟩ 0 * 128 + win0_4.xsize (grid0.coords ⟨0, ht⟩) 0
    rw [e.1, x.1]; omega
  | ⟨1, _⟩ =>
    show win0_4.index ⟨0, ht⟩ 1 * 2048 ≤ (y 1).val ∧ (y 1).val < win0_4.index ⟨0, ht⟩ 1 * 2048 + win0_4.xsize (grid0.coords ⟨0, ht⟩) 1
    rw [e.2, x.2]; omega

theorem array_eq (c : Dev nD) : (dats m 0 c).arrAt 4 cfg0.N = arr (xOf m c) (uOf m c) (gOf m c) (wOf m c) :=
  (dats m 0 c).arrAt_eq_of_cover 4 _ (fun t _ => flushed m c t) covered

end Cert.KernelNormSampleIdeal.Norm

/-! ## The reference -/

namespace Cert.ReferenceNormSampleIdeal.Norm

open Cert.ReferenceNormSampleIdeal Cert.ReferenceNormSampleIdeal.Gen Idealize.ShloMosaic
open Cert.KernelNormSampleIdeal.Norm (seqOf)

/-- The residual plus the gated update, by sequences. -/
def summed (x : FVec Ideal S128x2048 .f32) (u : FVec Ideal S2048x128 .f32) (g : FVec Ideal S8x1x2048 .f32) : FVec Ideal S8x16x2048 .f32 :=
  addf (shapeCast _ x shapeCasts_S128x2048_S8x16x2048) (mulf (broadcastInDim S8x16x2048 ![0, 1, 2] bcast_S8x1x2048_S8x16x2048_0_1_2 g)
    (shapeCast _ (transpose S128x2048 [1, 0] u transposes_S2048x128_S128x2048_1_0) shapeCasts_S128x2048_S8x16x2048))

/-- The rows' sums. -/
def sums (z : FVec Ideal S8x16x2048 .f32) : FVec Ideal S8x16 .f32 :=
  Host.reduceAdd z (constant S_ .f32 0x00000000#32) reducesTo_S8x16x2048_S8x16_d2 h_S_

/-- The reciprocal roots of the mean squares, from the squares' sums. -/
def scales (q : FVec Ideal S8x16 .f32) : FVec Ideal S8x16x1 .f32 :=
  Host.rsqrt (addf (Host.divf (broadcastInDim S8x16x1 ![0, 1] bcast_S8x16_S8x16x1_0_1 q)
    (broadcastInDim S8x16x1 ![] bcast_S_S8x16x1 (constant S_ .f32 0x45000000#32)))
    (broadcastInDim S8x16x1 ![] bcast_S_S8x16x1 (constant S_ .f32 0x358637BD#32)))

/-- The rows scaled, with their gain. -/
def scaled (z : FVec Ideal S8x16x2048 .f32) (s : FVec Ideal S8x16x1 .f32) (w : FVec Ideal S2048 .f32) : FVec Ideal S128x2048 .f32 :=
  shapeCast _ (mulf (mulf z (broadcastInDim S8x16x2048 ![0, 1, 2] bcast_S8x16x1_S8x16x2048_0_1_2 s))
    (broadcastInDim S8x16x2048 ![0, 1, 2] bcast_S1x1x2048_S8x16x2048_0_1_2 (broadcastInDim S1x1x2048 ![2] bcast_S2048_S1x1x2048_2 w)))
    shapeCasts_S8x16x2048_S128x2048

/-- The reference's result. -/
def result (x : FVec Ideal S128x2048 .f32) (u : FVec Ideal S2048x128 .f32) (g : FVec Ideal S8x1x2048 .f32) (w : FVec Ideal S2048 .f32) :
    FVec Ideal S128x2048 .f32 :=
  scaled (summed x u g) (scales (sums (mulf (summed x u g) (summed x u g)))) w

/-- A row's place in its sequence. -/
def posOf (i : Fin 128) : Fin 16 := ⟨i.val % 16, by omega⟩

theorem summed_apply (x : FVec Ideal S128x2048 .f32) (u : FVec Ideal S2048x128 .f32) (g : FVec Ideal S8x1x2048 .f32) (i : Fin 128) (k : Fin 2048) :
    summed x u g (ix3 (seqOf i) (posOf i) k) = Cert.KernelNormSampleIdeal.Norm.summed x u g i k := by
  pointwise [summed]
  have e : (⟨(seqOf i).val * 16 + (posOf i).val, by have := (seqOf i).isLt; have := (posOf i).isLt; omega⟩ : Fin 128) = i :=
    Fin.ext (by show i.val / 16 * 16 + i.val % 16 = i.val; omega)
  rw [e]
  rfl

theorem fiber (h : S8x16x2048.ReducesTo [2] S8x16) (b : Fin 8) (i : Fin 16) (y : S8x16x2048.Idx) :
    h.drop y = ix2 b i ↔ ∃ k : Fin 2048, ix3 b i k = y := by
  constructor
  · intro e
    refine ⟨y 2, funext fun a => Fin.ext ?_⟩
    match a with
    | ⟨0, _⟩ => exact (congrArg Fin.val (congrFun e 0)).symm
    | ⟨1, _⟩ => exact (congrArg Fin.val (congrFun e 1)).symm
    | ⟨2, _⟩ => rfl
  · rintro ⟨k, rfl⟩
    funext a
    match a with
    | ⟨0, _⟩ => rfl
    | ⟨1, _⟩ => rfl

theorem sums_apply (z : FVec Ideal S8x16x2048 .f32) (b : Fin 8) (i : Fin 16) : sums z (ix2 b i) = ∑ k, z (ix3 b i k) := by
  unfold sums
  rw [ValueIdx.hostReduceAdd_apply]
  unfold Ideal.hostReduceAdd
  rw [Finset.sum_filter_eq_sum_of_fiber _ (fun k : Fin 2048 => ix3 b i k) (fun _ _ e => congrFun e 2) (fiber _ b i)]
  rw [show constant (F := Ideal) S_ .f32 0x00000000#32 (Shape.Idx.first h_S_) = (0 : EReal) from Ideal.ofBits_zero_f32, zero_add]

theorem scales_apply (q : FVec Ideal S8x16 .f32) (b : Fin 8) (i : Fin 16) :
    scales q (ix3 b i 0) = Ideal.rsqrt (Ideal.div (q (ix2 b i)) (Ideal.ofBits .f32 0x45000000#32) + Ideal.ofBits .f32 0x358637BD#32) := by
  pointwise [scales]

theorem scaled_apply (z : FVec Ideal S8x16x2048 .f32) (s : FVec Ideal S8x16x1 .f32) (w : FVec Ideal S2048 .f32) (i : Fin 128) (k : Fin 2048) :
    scaled z s w (ix2 i k) = z (ix3 (seqOf i) (posOf i) k) * s (ix3 (seqOf i) (posOf i) 0) * w (ix1 k) := by
  pointwise [scaled]
  rfl

theorem square_apply (z : FVec Ideal S8x16x2048 .f32) (y : S8x16x2048.Idx) : mulf z z y = z y * z y := rfl

theorem result_eq (x : FVec Ideal S128x2048 .f32) (u : FVec Ideal S2048x128 .f32) (g : FVec Ideal S8x1x2048 .f32) (w : FVec Ideal S2048 .f32) :
    result x u g w = Cert.KernelNormSampleIdeal.Norm.arr x u g w := by
  funext y
  obtain ⟨i, j, rfl⟩ : ∃ (i : Fin 128) (j : Fin 2048), y = ix2 i j := ⟨y 0, y 1, eq_ix2 y⟩
  unfold result
  rw [scaled_apply, scales_apply, sums_apply, summed_apply]
  simp only [square_apply, summed_apply]
  rfl

end Cert.ReferenceNormSampleIdeal.Norm

end
-- ==== Proof.GluSample.lean ====
/- The convolution module's input projection of the sampled rows: what the kernel's output array and the reference's result
   hold at an index, the gated linear unit of the projection with its bias. -/
module

public import proofs.«01_k».proof.Proof.Gen.KernelGluSampleIdeal.Value
public import proofs.«01_k».proof.Proof.Gen.ReferenceGluSampleIdeal.Run
public import proofs.«01_k».proof.Proof.Lin

@[expose] public section

set_option maxRecDepth 16384

noncomputable section

namespace Cert.KernelGluSampleIdeal.Proj

open Cert.KernelGluSampleIdeal Cert.KernelGluSampleIdeal.Gen Idealize.ShloMosaic Idealize.ShloMosaic.TcCoe Idealize.SL.Sem
open Idealize.ShloMosaic.Pipeline (Dat)

/-- The column of the weights that gives column `j` of the values (`o = 0`) or of the gates (`o = 2048`). -/
def half (o : Fin 2049) (j : Fin 2048) : Fin 4096 := ⟨o.val + j.val, by omega⟩

/-- The gated linear unit of the projection with its bias, as one array. -/
def arr (h : Vec Ideal S128x2048 .bf16) (w : Vec Ideal S1x2048x4096 .f32) (b : Vec Ideal S1x4096 .f32) (y : S128x2048.Idx) : EReal :=
  Cert.Lin.glu (Cert.Lin.biased (B := 0) h w b (y 0) (half 0 (y 1))) (Cert.Lin.biased (B := 0) h w b (y 0) (half 2048 (y 1)))

/-- One entry of a block before the gating. -/
def blockEntry (x0 : Vec Ideal S128x2048 .bf16) (x1 : Vec Ideal S1x2048x512 .bf16) (x2 : Vec Ideal S1x512 .f32) (a : Fin 128) (d : Fin 512) : EReal :=
  (∑ k : Fin 2048, x0 (ix2 a k) * x1 (ix3 0 k d)) + x2 (ix2 0 d)

theorem pay_apply (x0 : Vec Ideal S128x2048 .bf16) (x1 x2 : Vec Ideal S1x2048x512 .bf16) (x3 x4 : Vec Ideal S1x512 .f32) (a : Fin 128) (d : Fin 512) :
    k0_pay1 x0 x1 x3 x2 x4 (ix2 a d) = Cert.Lin.glu (blockEntry x0 x1 x3 a d) (blockEntry x0 x2 x4 a d) := by
  pointwise [k0_pay1]
  rfl

theorem out_eq (x0 : Vec Ideal S128x2048 .bf16) (x1 x2 : Vec Ideal S1x2048x512 .bf16) (x3 x4 : Vec Ideal S1x512 .f32) :
    out0_5 x0 x1 x2 x3 x4 = k0_pay1 x0 x1 x3 x2 x4 := by
  unfold out0_5
  rw [View.canon_unit_zero Cert.Lin.zero2, View.ld_unit_zero Cert.Lin.zero2, View.ld_unit_zero Cert.Lin.zero3, View.ld_unit_zero Cert.Lin.zero2,
    View.ld_unit_zero Cert.Lin.zero3, View.ld_unit_zero Cert.Lin.zero2]

variable (m : (ℓ : Loc nD τ sig) → Buf (Elt Ideal) ℓ)

abbrev hOf (c : Dev nD) : Vec Ideal S128x2048 .bf16 := m ((c : Thread nD τ).loc main_arg0)
abbrev wOf (c : Dev nD) : Vec Ideal S1x2048x4096 .f32 := m ((c : Thread nD τ).loc main_arg1)
abbrev bOf (c : Dev nD) : Vec Ideal S1x4096 .f32 := m ((c : Thread nD τ).loc main_arg2)

theorem V_w (c : Dev nD) : V m c main_v0 = (wOf m c : Vec Ideal S1x2048x4096 .bf16) := by
  show StableHlo.after hostOps0 _ _ = _
  after_results <;> rfl

theorem V_b (c : Dev nD) (j : Fin 4096) : (V m c main_v2 : Vec Ideal S1x4096 .f32) (ix2 0 j) = bOf m c (ix2 0 j) := by
  have e : V m c main_v2 = (shapeCast S1x4096 (shapeCast S4096 (bOf m c) shapeCasts_S1x4096_S4096) shapeCasts_S4096_S1x4096 : Vec Ideal S1x4096 .f32) := by
    show StableHlo.after hostOps0 _ _ = _
    after_results <;> rfl
  rw [e]
  pointwise

theorem N_eq : cfg0.N = 4 := by decide

/-- A point's blocks: all rows, and the point's columns of each half. -/
theorem index : ∀ t : Fin grid0.N, (win0_0.index t 0 = 0 ∧ win0_0.index t 1 = 0)
    ∧ ((win0_1.index t 0 = 0 ∧ win0_1.index t 1 = 0 ∧ win0_1.index t 2 = t.val)
      ∧ (win0_2.index t 0 = 0 ∧ win0_2.index t 1 = 0 ∧ win0_2.index t 2 = t.val + 4))
    ∧ ((win0_3.index t 0 = 0 ∧ win0_3.index t 1 = t.val) ∧ (win0_4.index t 0 = 0 ∧ win0_4.index t 1 = t.val + 4)) := by decide +kernel

theorem index_out : ∀ t : Fin grid0.N, win0_5.index t 0 = 0 ∧ win0_5.index t 1 = t.val := by decide +kernel

theorem xsize : ∀ t : Fin grid0.N, win0_5.xsize (grid0.coords t) 0 = 128 ∧ win0_5.xsize (grid0.coords t) 1 = 512 := by decide +kernel

/-- The column of the results that column `d` of point `t`'s blocks is. -/
def col (t : Fin cfg0.N) (d : Fin 512) : Fin 2048 := ⟨t.val * 512 + d.val, by have := lt_of_lt_of_eq t.isLt N_eq; omega⟩

theorem h_apply (c : Dev nD) (t : Fin cfg0.N) (a : Fin 128) (k : Fin 2048) :
    (iblk m c 0 t : Vec Ideal S128x2048 .bf16) (ix2 a k) = hOf m c (ix2 a k) := by
  show (V m c main_arg0) _ = _
  rw [V_main_arg0]
  refine congrArg (hOf m c) (funext fun x => Fin.ext ?_)
  match x with
  | ⟨0, _⟩ => show win0_0.index t 0 * 128 + 1 * a.val = a.val; rw [(index t).1.1]; omega
  | ⟨1, _⟩ => show win0_0.index t 1 * 2048 + 1 * k.val = k.val; rw [(index t).1.2]; omega

theorem w1_apply (c : Dev nD) (t : Fin cfg0.N) (k : Fin 2048) (d : Fin 512) :
    (iblk m c 1 t : Vec Ideal S1x2048x512 .bf16) (ix3 0 k d) = wOf m c (ix3 0 k (half 0 (col t d))) := by
  show (V m c main_v0) _ = _
  rw [V_w]
  refine congrArg (wOf m c) (funext fun x => Fin.ext ?_)
  match x with
  | ⟨0, _⟩ => show win0_1.index t 0 * 1 + 1 * 0 = 0; rw [(index t).2.1.1.1]
  | ⟨1, _⟩ => show win0_1.index t 1 * 2048 + 1 * k.val = k.val; rw [(index t).2.1.1.2.1]; omega
  | ⟨2, _⟩ => show win0_1.index t 2 * 512 + 1 * d.val = 0 + (t.val * 512 + d.val); rw [(index t).2.1.1.2.2]; omega

theorem w2_apply (c : Dev nD) (t : Fin cfg0.N) (k : Fin 2048) (d : Fin 512) :
    (iblk m c 2 t : Vec Ideal S1x2048x512 .bf16) (ix3 0 k d) = wOf m c (ix3 0 k (half 2048 (col t d))) := by
  show (V m c main_v0) _ = _
  rw [V_w]
  refine congrArg (wOf m c) (funext fun x => Fin.ext ?_)
  match x with
  | ⟨0, _⟩ => show win0_2.index t 0 * 1 + 1 * 0 = 0; rw [(index t).2.1.2.1]
  | ⟨1, _⟩ => show win0_2.index t 1 * 2048 + 1 * k.val = k.val; rw [(index t).2.1.2.2.1]; omega
  | ⟨2, _⟩ => show win0_2.index t 2 * 512 + 1 * d.val = 2048 + (t.val * 512 + d.val); rw [(index t).2.1.2.2.2]; omega

theorem b3_apply (c : Dev nD) (t : Fin cfg0.N) (d : Fin 512) :
    (iblk m c 3 t : Vec Ideal S1x512 .f32) (ix2 0 d) = bOf m c (ix2 0 (half 0 (col t d))) := by
  refine Eq.trans ?_ (V_b m c _)
  refine congrArg (V m c main_v2) (funext fun x => Fin.ext ?_)
  match x with
  | ⟨0, _⟩ => show win0_3.index t 0 * 1 + 1 * 0 = 0; rw [(index t).2.2.1.1]
  | ⟨1, _⟩ => show win0_3.index t 1 * 512 + 1 * d.val = 0 + (t.val * 512 + d.val); rw [(index t).2.2.1.2]; omega

theorem b4_apply (c : Dev nD) (t : Fin cfg0.N) (d : Fin 512) :
    (iblk m c 4 t : Vec Ideal S1x512 .f32) (ix2 0 d) = bOf m c (ix2 0 (half 2048 (col t d))) := by
  refine Eq.trans ?_ (V_b m c _)
  refine congrArg (V m c main_v2) (funext fun x => Fin.ext ?_)
  match x with
  | ⟨0, _⟩ => show win0_4.index t 0 * 1 + 1 * 0 = 0; rw [(index t).2.2.2.1]
  | ⟨1, _⟩ => show win0_4.index t 1 * 512 + 1 * d.val = 2048 + (t.val * 512 + d.val); rw [(index t).2.2.2.2]; omega

/-- What point `t` writes back is its block of the result. -/
theorem flushed (c : Dev nD) (t : Fin cfg0.N) :
    (dats m 0 c).flushed 5 t = ((cfg0.win 5).blk t).view.read (Elt Ideal) (arr (hOf m c) (wOf m c) (bOf m c)) := by
  rw [Value.flushed5]
  funext (y : S128x512.Idx)
  show out0_5 (iblk m c 0 t) (iblk m c 1 t) (iblk m c 2 t) (iblk m c 3 t) (iblk m c 4 t) y = _
  obtain ⟨a, d, rfl⟩ : ∃ (a : Fin 128) (d : Fin 512), y = ix2 a d := ⟨y 0, y 1, eq_ix2 y⟩
  rw [out_eq, pay_apply]
  unfold blockEntry
  rw [b3_apply, b4_apply]
  simp only [h_apply, w1_apply, w2_apply]
  refine congrArg (arr (hOf m c) (wOf m c) (bOf m c)) (a₁ := ix2 a (col t d)) (funext fun x => Fin.ext ?_)
  match x with
  | ⟨0, _⟩ => show a.val = win0_5.index t 0 * 128 + 1 * a.val; rw [(index_out t).1]; omega
  | ⟨1, _⟩ => show t.val * 512 + d.val = win0_5.index t 1 * 512 + 1 * d.val; rw [(index_out t).2]; omega

/-- Every index of the result lies in the block of some point. -/
theorem covered (y : S128x2048.Idx) : ∃ t : Fin cfg0.N, (cfg0.win 5).flush t = true ∧ y ∈ ((cfg0.win 5).blk t).view.set := by
  have h0 : (y 0).val < 128 := (y 0).isLt
  have h1 : (y 1).val < 2048 := (y 1).isLt
  have ht : (y 1).val / 512 < cfg0.N := by rw [N_eq]; omega
  refine ⟨⟨_, ht⟩, (by decide +kernel : ∀ t : Fin grid0.N, win0_5.flush t = true) _, ?_⟩
  show y ∈ ((View.whole main_v3).slice (win0_5.rect ⟨_, ht⟩)).set
  rw [View.set_slice_whole, Rect.mem_set_unit]
  have e := index_out ⟨_, ht⟩
  have x := xsize ⟨_, ht⟩
  intro a
  match a with
  | ⟨0, _⟩ =>
    show win0_5.index ⟨_, ht⟩ 0 * 128 ≤ (y 0).val ∧ (y 0).val < win0_5.index ⟨_, ht⟩ 0 * 128 + win0_5.xsize (grid0.coords ⟨_, ht⟩) 0
    rw [e.1, x.1]; omega
  | ⟨1, _⟩ =>
    show win0_5.index ⟨_, ht⟩ 1 * 512 ≤ (y 1).val ∧ (y 1).val < win0_5.index ⟨_, ht⟩ 1 * 512 + win0_5.xsize (grid0.coords ⟨_, ht⟩) 1
    rw [e.2, x.2]; dsimp only; omega

theorem array_eq (c : Dev nD) : (dats m 0 c).arrAt 5 cfg0.N = arr (hOf m c) (wOf m c) (bOf m c) :=
  (dats m 0 c).arrAt_eq_of_cover 5 _ (fun t _ => flushed m c t) covered

end Cert.KernelGluSampleIdeal.Proj

/-! ## The reference -/

namespace Cert.ReferenceGluSampleIdeal.Proj

open Cert.ReferenceGluSampleIdeal Cert.ReferenceGluSampleIdeal.Gen Idealize.ShloMosaic
open Cert.KernelGluSampleIdeal.Proj (half)

/-- The projection with its bias. -/
def linear (h : FVec Ideal S128x2048 .bf16) (w : FVec Ideal S1x2048x4096 .f32) (b : FVec Ideal S1x4096 .f32) : FVec Ideal S128x4096 .f32 :=
  addf (Host.dotGeneral dot_S128x2048_S2048x4096_S128x4096_1_0_0_1_n_n none (extf .f32 h bitsLt_bf16_f32)
      (shapeCast _ w shapeCasts_S1x2048x4096_S2048x4096))
    (broadcastInDim S128x4096 ![0, 1] bcast_S1x4096_S128x4096_0_1 (broadcastInDim S1x4096 ![1] bcast_S4096_S1x4096_1
      (shapeCast _ b shapeCasts_S1x4096_S4096)))

/-- The gated linear unit of an array's two halves. -/
def glus (z : FVec Ideal S128x4096 .f32) : FVec Ideal S128x2048 .f32 :=
  mulf (extractStridedSlice S128x2048 ![0, 0] z slices_S128x4096_S128x2048_0_0)
    (Host.divf (broadcastInDim S128x2048 ![] bcast_S_S128x2048 (constant S_ .f32 0x3F800000#32))
      (addf (broadcastInDim S128x2048 ![] bcast_S_S128x2048 (constant S_ .f32 0x3F800000#32))
        (Host.exp (Host.negf (extractStridedSlice S128x2048 ![0, 2048] z slices_S128x4096_S128x2048_0_2048)))))

theorem linear_apply (h : FVec Ideal S128x2048 .bf16) (w : FVec Ideal S1x2048x4096 .f32) (b : FVec Ideal S1x4096 .f32) (i : Fin 128) (j : Fin 4096) :
    linear h w b (ix2 i j) = Cert.Lin.biased (B := 0) h w b i j := by
  pointwise [linear]
  rfl

theorem glus_apply (z : FVec Ideal S128x4096 .f32) (i : Fin 128) (j : Fin 2048) :
    glus z (ix2 i j) = Cert.Lin.glu (z (ix2 i ⟨j.val, by omega⟩)) (z (ix2 i (half 2048 j))) := by
  pointwise [glus]
  rfl

theorem result_eq (h : FVec Ideal S128x2048 .bf16) (w : FVec Ideal S1x2048x4096 .f32) (b : FVec Ideal S1x4096 .f32) :
    glus (linear h w b) = Cert.KernelGluSampleIdeal.Proj.arr h w b := by
  funext y
  obtain ⟨i, j, rfl⟩ : ∃ (i : Fin 128) (j : Fin 2048), y = ix2 i j := ⟨y 0, y 1, eq_ix2 y⟩
  rw [glus_apply, linear_apply, linear_apply]
  exact congrArg (fun x => Cert.Lin.glu (Cert.Lin.biased (B := 0) h w b i x) _) (Fin.ext (Nat.zero_add j.val).symm)

end Cert.ReferenceGluSampleIdeal.Proj

end
-- ==== Proof.QkvSample.lean ====
/- The attention's projection of the sampled rows: what the kernel's output array and the reference's result hold at an
   index. -/
module

public import proofs.«01_k».proof.Proof.Gen.KernelQkvSampleIdeal.Value
public import proofs.«01_k».proof.Proof.Gen.ReferenceQkvSampleIdeal.Run
public import proofs.«01_k».proof.Proof.Lin

@[expose] public section

set_option maxRecDepth 16384

noncomputable section

namespace Cert.KernelQkvSampleIdeal.Proj

open Cert.KernelQkvSampleIdeal Cert.KernelQkvSampleIdeal.Gen Idealize.ShloMosaic Idealize.ShloMosaic.TcCoe Idealize.SL.Sem
open Idealize.ShloMosaic.Pipeline (Dat)

/-- The projection with its bias, as one array. -/
def arr (h : Vec Ideal S128x2048 .bf16) (w : Vec Ideal S1x2048x2560 .f32) (b : Vec Ideal S1x2560 .f32) (y : S128x2560.Idx) : EReal :=
  Cert.Lin.biased (B := 0) h w b (y 0) (y 1)

theorem pay_apply (x0 : Vec Ideal S128x2048 .bf16) (x1 : Vec Ideal S1x2048x512 .bf16) (x2 : Vec Ideal S1x512 .f32) (a : Fin 128) (d : Fin 512) :
    k0_pay1 x0 x1 x2 (ix2 a d) = (∑ k : Fin 2048, x0 (ix2 a k) * x1 (ix3 0 k d)) + x2 (ix2 0 d) := by
  pointwise [k0_pay1]

theorem out_eq (x0 : Vec Ideal S128x2048 .bf16) (x1 : Vec Ideal S1x2048x512 .bf16) (x2 : Vec Ideal S1x512 .f32) :
    out0_3 x0 x1 x2 = k0_pay1 x0 x1 x2 := by
  unfold out0_3
  rw [View.canon_unit_zero Cert.Lin.zero2, View.ld_unit_zero Cert.Lin.zero2, View.ld_unit_zero Cert.Lin.zero3, View.ld_unit_zero Cert.Lin.zero2]

variable (m : (ℓ : Loc nD τ sig) → Buf (Elt Ideal) ℓ)

abbrev hOf (c : Dev nD) : Vec Ideal S128x2048 .bf16 := m ((c : Thread nD τ).loc main_arg0)
abbrev wOf (c : Dev nD) : Vec Ideal S1x2048x2560 .f32 := m ((c : Thread nD τ).loc main_arg1)
abbrev bOf (c : Dev nD) : Vec Ideal S1x2560 .f32 := m ((c : Thread nD τ).loc main_arg2)

theorem V_w (c : Dev nD) : V m c main_v0 = (wOf m c : Vec Ideal S1x2048x2560 .bf16) := by
  show StableHlo.after hostOps0 _ _ = _
  after_results <;> rfl

theorem V_b (c : Dev nD) (j : Fin 2560) : (V m c main_v2 : Vec Ideal S1x2560 .f32) (ix2 0 j) = bOf m c (ix2 0 j) := by
  have e : V m c main_v2 = (shapeCast S1x2560 (shapeCast S2560 (bOf m c) shapeCasts_S1x2560_S2560) shapeCasts_S2560_S1x2560 : Vec Ideal S1x2560 .f32) := by
    show StableHlo.after hostOps0 _ _ = _
    after_results <;> rfl
  rw [e]
  pointwise

theorem N_eq : cfg0.N = 5 := by decide

/-- A point's blocks: all rows, and the point's columns. -/
theorem index : ∀ t : Fin grid0.N, (win0_0.index t 0 = 0 ∧ win0_0.index t 1 = 0)
    ∧ (win0_1.index t 0 = 0 ∧ win0_1.index t 1 = 0 ∧ win0_1.index t 2 = t.val)
    ∧ (win0_2.index t 0 = 0 ∧ win0_2.index t 1 = t.val)
    ∧ (win0_3.index t 0 = 0 ∧ win0_3.index t 1 = t.val) := by decide +kernel

theorem xsize : ∀ t : Fin grid0.N, win0_3.xsize (grid0.coords t) 0 = 128 ∧ win0_3.xsize (grid0.coords t) 1 = 512 := by decide +kernel

/-- The column of the arrays that column `d` of point `t`'s blocks is. -/
def col (t : Fin cfg0.N) (d : Fin 512) : Fin 2560 := ⟨t.val * 512 + d.val, by have := lt_of_lt_of_eq t.isLt N_eq; omega⟩

theorem h_apply (c : Dev nD) (t : Fin cfg0.N) (a : Fin 128) (k : Fin 2048) :
    (iblk m c 0 t : Vec Ideal S128x2048 .bf16) (ix2 a k) = hOf m c (ix2 a k) := by
  show (V m c main_arg0) _ = _
  rw [V_main_arg0]
  refine congrArg (hOf m c) (funext fun x => Fin.ext ?_)
  match x with
  | ⟨0, _⟩ => show win0_0.index t 0 * 128 + 1 * a.val = a.val; rw [(index t).1.1]; omega
  | ⟨1, _⟩ => show win0_0.index t 1 * 2048 + 1 * k.val = k.val; rw [(index t).1.2]; omega

theorem w_apply (c : Dev nD) (t : Fin cfg0.N) (k : Fin 2048) (d : Fin 512) :
    (iblk m c 1 t : Vec Ideal S1x2048x512 .bf16) (ix3 0 k d) = wOf m c (ix3 0 k (col t d)) := by
  show (V m c main_v0) _ = _
  rw [V_w]
  refine congrArg (wOf m c) (funext fun x => Fin.ext ?_)
  match x with
  | ⟨0, _⟩ => show win0_1.index t 0 * 1 + 1 * 0 = 0; rw [(index t).2.1.1]
  | ⟨1, _⟩ => show win0_1.index t 1 * 2048 + 1 * k.val = k.val; rw [(index t).2.1.2.1]; omega
  | ⟨2, _⟩ => show win0_1.index t 2 * 512 + 1 * d.val = t.val * 512 + d.val; rw [(index t).2.1.2.2]; omega

theorem b_apply (c : Dev nD) (t : Fin cfg0.N) (d : Fin 512) :
    (iblk m c 2 t : Vec Ideal S1x512 .f32) (ix2 0 d) = bOf m c (ix2 0 (col t d)) := by
  refine Eq.trans ?_ (V_b m c (col t d))
  refine congrArg (V m c main_v2) (funext fun x => Fin.ext ?_)
  match x with
  | ⟨0, _⟩ => show win0_2.index t 0 * 1 + 1 * 0 = 0; rw [(index t).2.2.1.1]
  | ⟨1, _⟩ => show win0_2.index t 1 * 512 + 1 * d.val = t.val * 512 + d.val; rw [(index t).2.2.1.2]; omega

/-- What point `t` writes back is its block of the projection. -/
theorem flushed (c : Dev nD) (t : Fin cfg0.N) :
    (dats m 0 c).flushed 3 t = ((cfg0.win 3).blk t).view.read (Elt Ideal) (arr (hOf m c) (wOf m c) (bOf m c)) := by
  rw [Value.flushed3]
  funext (y : S128x512.Idx)
  show out0_3 (iblk m c 0 t) (iblk m c 1 t) (iblk m c 2 t) y = _
  obtain ⟨a, d, rfl⟩ : ∃ (a : Fin 128) (d : Fin 512), y = ix2 a d := ⟨y 0, y 1, eq_ix2 y⟩
  rw [out_eq, pay_apply, b_apply]
  simp only [h_apply, w_apply]
  refine congrArg (arr (hOf m c) (wOf m c) (bOf m c)) (a₁ := ix2 a (col t d)) (funext fun x => Fin.ext ?_)
  match x with
  | ⟨0, _⟩ => show a.val = win0_3.index t 0 * 128 + 1 * a.val; rw [(index t).2.2.2.1]; omega
  | ⟨1, _⟩ => show t.val * 512 + d.val = win0_3.index t 1 * 512 + 1 * d.val; rw [(index t).2.2.2.2]; omega

/-- Every index of the result lies in the block of some point. -/
theorem covered (y : S128x2560.Idx) : ∃ t : Fin cfg0.N, (cfg0.win 3).flush t = true ∧ y ∈ ((cfg0.win 3).blk t).view.set := by
  have h0 : (y 0).val < 128 := (y 0).isLt
  have h1 : (y 1).val < 2560 := (y 1).isLt
  have ht : (y 1).val / 512 < cfg0.N := by rw [N_eq]; omega
  refine ⟨⟨_, ht⟩, (by decide +kernel : ∀ t : Fin grid0.N, win0_3.flush t = true) _, ?_⟩
  show y ∈ ((View.whole main_v3).slice (win0_3.rect ⟨_, ht⟩)).set
  rw [View.set_slice_whole, Rect.mem_set_unit]
  have e := (index ⟨_, ht⟩).2.2.2
  have x := xsize ⟨_, ht⟩
  intro a
  match a with
  | ⟨0, _⟩ =>
    show win0_3.index ⟨_, ht⟩ 0 * 128 ≤ (y 0).val ∧ (y 0).val < win0_3.index ⟨_, ht⟩ 0 * 128 + win0_3.xsize (grid0.coords ⟨_, ht⟩) 0
    rw [e.1, x.1]; omega
  | ⟨1, _⟩ =>
    show win0_3.index ⟨_, ht⟩ 1 * 512 ≤ (y 1).val ∧ (y 1).val < win0_3.index ⟨_, ht⟩ 1 * 512 + win0_3.xsize (grid0.coords ⟨_, ht⟩) 1
    rw [e.2, x.2]; dsimp only; omega

theorem array_eq (c : Dev nD) : (dats m 0 c).arrAt 3 cfg0.N = arr (hOf m c) (wOf m c) (bOf m c) :=
  (dats m 0 c).arrAt_eq_of_cover 3 _ (fun t _ => flushed m c t) covered

end Cert.KernelQkvSampleIdeal.Proj

/-! ## The reference -/

namespace Cert.ReferenceQkvSampleIdeal.Proj

open Cert.ReferenceQkvSampleIdeal Cert.ReferenceQkvSampleIdeal.Gen Idealize.ShloMosaic

/-- The reference's result, as its run leaves it. -/
def result (h : FVec Ideal S128x2048 .bf16) (w : FVec Ideal S1x2048x2560 .f32) (b : FVec Ideal S1x2560 .f32) : FVec Ideal S128x2560 .f32 :=
  addf (Host.dotGeneral dot_S128x2048_S2048x2560_S128x2560_1_0_0_1_n_n none (extf .f32 h bitsLt_bf16_f32)
      (shapeCast _ w shapeCasts_S1x2048x2560_S2048x2560))
    (broadcastInDim S128x2560 ![0, 1] bcast_S1x2560_S128x2560_0_1
      (broadcastInDim S1x2560 ![1] bcast_S2560_S1x2560_1 (shapeCast _ b shapeCasts_S1x2560_S2560)))

theorem result_eq (h : FVec Ideal S128x2048 .bf16) (w : FVec Ideal S1x2048x2560 .f32) (b : FVec Ideal S1x2560 .f32) :
    result h w b = Cert.KernelQkvSampleIdeal.Proj.arr h w b := by
  funext y
  obtain ⟨i, j, rfl⟩ : ∃ (i : Fin 128) (j : Fin 2560), y = ix2 i j := ⟨y 0, y 1, eq_ix2 y⟩
  pointwise [result]
  rfl

end Cert.ReferenceQkvSampleIdeal.Proj

end
-- ==== Proof.Chain.lean ====
/- One head group of the attention of one 64-row chunk, as the kernel's body computes it (eight query heads stacked
   along the rows, one key and one value band), and what it holds at an index. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen Idealize.ShloMosaic Idealize.SL.Sem

variable {F : FTy → Type} [FloatOps F]

/-- Eight blocks of 64 rows each, one below the other. -/
def stack {α : Type} {n : Nat} (f : Fin 8 → (⟨2, ![64, n]⟩ : Shape).Idx → α)
    (h : Shape.Concatenates [⟨2, ![64, n]⟩, ⟨2, ![64, n]⟩, ⟨2, ![64, n]⟩, ⟨2, ![64, n]⟩, ⟨2, ![64, n]⟩, ⟨2, ![64, n]⟩, ⟨2, ![64, n]⟩, ⟨2, ![64, n]⟩] ⟨2, ![512, n]⟩ 0) :
    (⟨2, ![512, n]⟩ : Shape).Idx → α :=
  concatenate ⟨2, ![512, n]⟩ 0 [⟨⟨2, ![64, n]⟩, f 0⟩, ⟨⟨2, ![64, n]⟩, f 1⟩, ⟨⟨2, ![64, n]⟩, f 2⟩, ⟨⟨2, ![64, n]⟩, f 3⟩, ⟨⟨2, ![64, n]⟩, f 4⟩, ⟨⟨2, ![64, n]⟩, f 5⟩, ⟨⟨2, ![64, n]⟩, f 6⟩, ⟨⟨2, ![64, n]⟩, f 7⟩] h

/-- Row `64 r + i` of the stack is row `i` of block `r`. -/
theorem stack_apply {α : Type} {n : Nat} (f : Fin 8 → (⟨2, ![64, n]⟩ : Shape).Idx → α) (h) (r : Fin 8) (i : Fin 64) (j : Fin n) :
    stack f h (ix2 ⟨64 * r.val + i.val, by omega⟩ j) = f r (ix2 i j) := by
  refine concatenate_ofFn_apply (t := ⟨2, ![512, n]⟩) (s₁ := ⟨2, ![64, n]⟩) 0 f h rfl 64 rfl _ r ?_ (ix2 i j) ?_ ?_
  · show (64 * r.val + i.val) / 64 = r.val; omega
  · show i.val = (64 * r.val + i.val) % 64; omega
  · intro b hb
    match b with
    | 0 => exact absurd rfl hb
    | 1 => rfl

/-- The scores of the eight stacked heads: queries against keys, scaled, less the biases. -/
def scores (q : Fin 8 → FVec F S64x64 .f32) (k : FVec F S192x64 .bf16) (b : Fin 8 → FVec F S64x192 .f32) :
    FVec F S512x192 .f32 :=
  subf (mulf (matmul dot_S512x64_S192x64_S512x192_1_1_0_0_n_n none
      (truncf .bf16 (stack q concatenates_S64x64_S64x64_S64x64_S64x64_S64x64_S64x64_S64x64_S64x64_S512x64_d0) bitsLt_bf16_f32) k
      (constant S512x192 .f32 0x00000000#32)) (broadcast S512x192 (Scalar.ofBits .f32 0x3E000000#32)))
    (stack b concatenates_S64x192_S64x192_S64x192_S64x192_S64x192_S64x192_S64x192_S64x192_S512x192_d0)

/-- The eight heads' sinks, stacked as a column. -/
def sinkCol (sk : Fin 8 → F .f32) : FVec F S512x1 .f32 :=
  stack (fun r => broadcast S64x1 (sk r)) concatenates_S64x1_S64x1_S64x1_S64x1_S64x1_S64x1_S64x1_S64x1_S512x1_d0

/-- The running maximum of a row of scores and its sink. -/
def rowMax (sc : FVec F S512x192 .f32) (sk : FVec F S512x1 .f32) : FVec F S512x1 .f32 :=
  maximumf (shapeCast S512x1 (multiReduction .maximumf [1] S512 sc 0xFF800000#32 reduces_S512x192_S512 (.inl rfl) rfl)
    shapeCasts_S512_S512x1) sk

/-- The exponentials of the scores less the row's maximum. -/
def expo (sc : FVec F S512x192 .f32) (sk : FVec F S512x1 .f32) : FVec F S512x192 .f32 :=
  exp (subf sc (broadcastTo S512x192 (rowMax sc sk) broadcasts_S512x1_S512x192))

/-- The denominators: the row's sum of exponentials and the sink's. -/
def denom (sc : FVec F S512x192 .f32) (sk : FVec F S512x1 .f32) : FVec F S512x1 .f32 :=
  addf (shapeCast S512x1 (multiReduction .add [1] S512 (expo sc sk) 0x00000000#32 reduces_S512x192_S512 (.inl rfl) rfl)
    shapeCasts_S512_S512x1) (exp (subf sk (rowMax sc sk)))

/-- The head group's output: the probabilities against the values. -/
def chain (sc : FVec F S512x192 .f32) (sk : FVec F S512x1 .f32) (v : FVec F S192x64 .bf16) : FVec F S512x64 .bf16 :=
  truncf .bf16 (matmul dot_S512x192_S192x64_S512x64_1_0_0_1_n_n none
    (truncf .bf16 (divf (expo sc sk) (broadcastTo S512x192 (denom sc sk) broadcasts_S512x1_S512x192)) bitsLt_bf16_f32) v
    (constant S512x64 .f32 0x00000000#32)) bitsLt_bf16_f32

section Slope
variable [Named F]

/-- The slope of head `h` (counted from zero): two to the power `-(h + 1) / 4`. -/
def slope : Fin 32 → F .f32 :=
  ![Named.named κ "slope1" 0x3F5744FD#32,
    Named.named κ "slope2" 0x3F3504F3#32,
    Named.named κ "slope3" 0x3F1837F0#32,
    Scalar.ofBits .f32 0x3F000000#32,
    Named.named κ "slope5" 0x3ED744FD#32,
    Named.named κ "slope6" 0x3EB504F3#32,
    Named.named κ "slope7" 0x3E9837F0#32,
    Scalar.ofBits .f32 0x3E800000#32,
    Named.named κ "slope9" 0x3E5744FD#32,
    Named.named κ "slope10" 0x3E3504F3#32,
    Named.named κ "slope11" 0x3E1837F0#32,
    Scalar.ofBits .f32 0x3E000000#32,
    Named.named κ "slope13" 0x3DD744FD#32,
    Named.named κ "slope14" 0x3DB504F3#32,
    Named.named κ "slope15" 0x3D9837F0#32,
    Scalar.ofBits .f32 0x3D800000#32,
    Named.named κ "slope17" 0x3D5744FD#32,
    Named.named κ "slope18" 0x3D3504F3#32,
    Named.named κ "slope19" 0x3D1837F0#32,
    Scalar.ofBits .f32 0x3D000000#32,
    Named.named κ "slope21" 0x3CD744FD#32,
    Named.named κ "slope22" 0x3CB504F3#32,
    Named.named κ "slope23" 0x3C9837F0#32,
    Scalar.ofBits .f32 0x3C800000#32,
    Named.named κ "slope25" 0x3C5744FD#32,
    Named.named κ "slope26" 0x3C3504F3#32,
    Named.named κ "slope27" 0x3C1837F0#32,
    Scalar.ofBits .f32 0x3C000000#32,
    Named.named κ "slope29" 0x3BD744FD#32,
    Named.named κ "slope30" 0x3BB504F3#32,
    Named.named κ "slope31" 0x3B9837F0#32,
    Scalar.ofBits .f32 0x3B800000#32]
end Slope

/-- The distance of a query row from a band key, as a float. -/
def dist : FVec F S64x192 .f32 :=
  sitofp .f32 (absi (subi (addi (broadcast S64x192 128#32) (iota .tc S64x192 32 [0] iota_S64x192_d0_w32)) (iota .tc S64x192 32 [1] iota_S64x192_d1_w32)))

/-- Which band keys lie at or after the sequence's first row, for the `s`-th chunk of grid column `n`. -/
def live (n s : BitVec 32) : IVec S64x192 1 :=
  cmpi .sge (iota .tc S64x192 32 [1] iota_S64x192_d1_w32)
    (broadcast S64x192 (Scalar.subi 128#32 (Scalar.muli (Scalar.addi (Scalar.muli n 2#32) s) 64#32)))

/-- The bias of one head: the slope times the distance at a live key, the mask's value elsewhere. -/
def bias [Named F] (n s : BitVec 32) (σ : F .f32) : FVec F S64x192 .f32 :=
  select (live n s) (mulf (broadcast S64x192 σ) dist) (broadcast S64x192 (Named.named κ "mask" 0x7149F2CA#32))

end Cert.KernelIdeal.Attn

end
-- ==== Proof.Block.lean ====
/- The output block of one grid point of the attention kernel: which of the block's 64 pieces holds which head of which
   chunk, each as one head group's chain over the staged queries, keys and values. -/
module

public import proofs.«01_k».proof.Proof.Chain

@[expose] public section

set_option maxRecDepth 16384

noncomputable section

namespace Cert.KernelIdeal.Attn

open Cert.KernelIdeal Cert.KernelIdeal.Gen Idealize.ShloMosaic Idealize.SL.Sem

variable {F : FTy → Type} [FloatOps F] [Named F]

section Words

variable (c : Dev nD) (i : grid0.Coords) (arg2 : Memref sig .tc .smem S32 .f32) (harg2 : arg2.IsWhole) (arg3 : Memref sig .tc .vmem S128x2048 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S64x256 .f32) (harg11 : arg11.IsWhole) (arg12 : Memref sig .tc .vmem S128x2048 .bf16) (harg12 : arg12.IsWhole) (arg13 : Memref sig .tc .vmem S256x256 .bf16) (harg13 : arg13.IsWhole) (arg14 : Memref sig .tc .vmem S256x256 .bf16) (harg14 : arg14.IsWhole)
    (x0 : Vec F S32 .f32) (x1 : Vec F S128x2048 .f32) (x2 : Vec F S64x256 .f32) (x3 : Vec F S64x256 .f32) (x4 : Vec F S64x256 .f32) (x5 : Vec F S64x256 .f32) (x6 : Vec F S64x256 .f32) (x7 : Vec F S64x256 .f32) (x8 : Vec F S64x256 .f32) (x9 : Vec F S64x256 .f32)

theorem inb_q (s : Fin 2) (h : Fin 32) : ∀ a, (![64 * s.val, 64 * h.val] : Fin 2 → Nat) a + S64x64.size a ≤ S128x2048.size a := by
  refine Fin.forall_fin_two.mpr ⟨?_, ?_⟩
  · show 64 * s.val + 64 ≤ 128; omega
  · show 64 * h.val + 64 ≤ 2048; omega

theorem inb_kv (s : Fin 2) (g : Fin 4) : ∀ a, (![64 * s.val, 64 * g.val] : Fin 2 → Nat) a + S192x64.size a ≤ S256x256.size a := by
  refine Fin.forall_fin_two.mpr ⟨?_, ?_⟩
  · show 64 * s.val + 192 ≤ 256; omega
  · show 64 * g.val + 64 ≤ 256; omega

theorem inb_sink (h : Fin 32) : ∀ a, (![h.val] : Fin 1 → Nat) a + S1.size a ≤ S32.size a := by
  intro a; obtain rfl : a = 0 := Subsingleton.elim _ _
  show h.val + 1 ≤ 32; omega

theorem inb_o (r : Fin 8) : ∀ a, (![64 * r.val, 0] : Fin 2 → Nat) a + S64x64.size a ≤ S512x64.size a := by
  refine Fin.forall_fin_two.mpr ⟨?_, ?_⟩
  · show 64 * r.val + 64 ≤ 512; omega
  · show 0 + 64 ≤ 64; omega

/-- Head `r` of group `g`. -/
def hd (g : Fin 4) (r : Fin 8) : Fin 32 := ⟨8 * g.val + r.val, by omega⟩

/-- The queries of chunk `s`, head `h`, as the body loads them. -/
def qW (s : Fin 2) (h : Fin 32) : FVec F S64x64 .f32 :=
  View.readAt (Elt F) arg3.view (Rect.unit (s := S128x2048) ![64 * s.val, 64 * h.val] S64x64.size (inb_q s h)).toLoadRect (harg3.unread x1)

/-- The sink of head `h`, as the body loads it. -/
def sinkW (h : Fin 32) : F .f32 :=
  View.readAt (Elt F) arg2.view (Rect.unit (s := S32) ![h.val] S1.size (inb_sink h)).toLoadRect (harg2.unread x0) (Shape.Idx.first (by show 0 < S1.numel; decide))

/-- The key band of chunk `s`, key head `g`, as the body loads it from the keys it gathered. -/
def kW (s : Fin 2) (g : Fin 4) : FVec F S192x64 .bf16 :=
  arg13.view.readCov (kernelRun0_A.sl.HS0_4 c arg4 harg4 arg5 harg5 arg6 harg6 arg7 harg7 x2 x3 x4 x5)
    (Rect.unit (s := S256x256) ![64 * s.val, 64 * g.val] S192x64.size (inb_kv s g)).toLoadRect

/-- The value band of chunk `s`, key head `g`, as the body loads it from the values it gathered. -/
def vW (s : Fin 2) (g : Fin 4) : FVec F S192x64 .bf16 :=
  arg14.view.readCov (kernelRun0_A.sl.HS1_4 c arg8 harg8 arg9 harg9 arg10 harg10 arg11 harg11 x6 x7 x8 x9)
    (Rect.unit (s := S256x256) ![64 * s.val, 64 * g.val] S192x64.size (inb_kv s g)).toLoadRect

/-- The scores of chunk `s`, head group `g`. -/
def scW (s : Fin 2) (g : Fin 4) : FVec F S512x192 .f32 :=
  scores (fun r => qW arg3 harg3 x1 s (hd g r)) (kW c arg4 harg4 arg5 harg5 arg6 harg6 arg7 harg7 arg13 x2 x3 x4 x5 s g)
    (fun r => bias (BitVec.ofNat 32 (i 1).val) (BitVec.ofNat 32 s.val) (slope (hd g r)))

/-- The output of chunk `s`, head group `g`. -/
def outW (s : Fin 2) (g : Fin 4) : FVec F S512x64 .bf16 :=
  chain (scW c i arg3 harg3 arg4 harg4 arg5 harg5 arg6 harg6 arg7 harg7 arg13 x1 x2 x3 x4 x5 s g)
    (sinkCol fun r => sinkW arg2 harg2 x0 (hd g r))
    (vW c arg8 harg8 arg9 harg9 arg10 harg10 arg11 harg11 arg14 x6 x7 x8 x9 s g)

theorem slices_o (r : Fin 8) : S512x64.Slices ![64 * r.val, 0] S64x64 := ⟨rfl, inb_o r⟩

/-- Head `r` of a head group's stacked output. -/
def headOf (r : Fin 8) (o : FVec F S512x64 .bf16) : FVec F S64x64 .bf16 :=
  extractStridedSlice S64x64 ![64 * r.val, 0] o (slices_o r)

/-- The piece of the block that holds chunk `s`, head group `g`, head `r` of it. -/
def piece (s : Fin 2) (g : Fin 4) (r : Fin 8) : View.Piece (Elt F) S128x2048 .bf16 :=
  ⟨Rect.unit (s := S128x2048) ![64 * s.val, 64 * (hd g r).val] S64x64.size (inb_q s (hd g r)), headOf r (outW c i arg2 harg2 arg3 harg3 arg4 harg4 arg5 harg5 arg6 harg6 arg7 harg7 arg8 harg8 arg9 harg9 arg10 harg10 arg11 harg11 arg13 arg14 x0 x1 x2 x3 x4 x5 x6 x7 x8 x9 s g)⟩

/-- A head group's pieces, the last stored first. -/
def group (s : Fin 2) (g : Fin 4) : List (View.Piece (Elt F) S128x2048 .bf16) :=
  List.ofFn fun n : Fin 8 => piece c i arg2 harg2 arg3 harg3 arg4 harg4 arg5 harg5 arg6 harg6 arg7 harg7 arg8 harg8 arg9 harg9 arg10 harg10 arg11 harg11 arg13 arg14 x0 x1 x2 x3 x4 x5 x6 x7 x8 x9 s g n.rev

theorem pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 = group c i arg2 harg2 arg3 harg3 arg4 harg4 arg5 harg5 arg6 harg6 arg7 harg7 arg8 harg8 arg9 harg9 arg10 harg10 arg11 harg11 arg13 arg14 x0 x1 x2 x3 x4 x5 x6 x7 x8 x9 1 3 ++ group c i arg2 harg2 arg3 harg3 arg4 harg4 arg5 harg5 arg6 harg6 arg7 harg7 arg8 harg8 arg9 harg9 arg10 harg10 arg11 harg11 arg13 arg14 x0 x1 x2 x3 x4 x5 x6 x7 x8 x9 1 2 ++ group c i arg2 harg2 arg3 harg3 arg4 harg4 arg5 harg5 arg6 harg6 arg7 harg7 arg8 harg8 arg9 harg9 arg10 harg10 arg11 harg11 arg13 arg14 x0 x1 x2 x3 x4 x5 x6 x7 x8 x9 1 1 ++ group c i arg2 harg2 arg3 harg3 arg4 harg4 arg5 harg5 arg6 harg6 arg7 harg7 arg8 harg8 arg9 harg9 arg10 harg10 arg11 harg11 arg13 arg14 x0 x1 x2 x3 x4 x5 x6 x7 x8 x9 1 0
    ++ group c i arg2 harg2 arg3 harg3 arg4 harg4 arg5 harg5 arg6 harg6 arg7 harg7 arg8 harg8 arg9 harg9 arg10 harg10 arg11 harg11 arg13 arg14 x0 x1 x2 x3 x4 x5 x6 x7 x8 x9 0 3 ++ group c i arg2 harg2 arg3 harg3 arg4 harg4 arg5 harg5 arg6 harg6 arg7 harg7 arg8 harg8 arg9 harg9 arg10 harg10 arg11 harg11 arg13 arg14 x0 x1 x2 x3 x4 x5 x6 x7 x8 x9 0 2 ++ group c i arg2 harg2 arg3 harg3 arg4 harg4 arg5 harg5 arg6 harg6 arg7 harg7 arg8 harg8 arg9 harg9 arg10 harg10 arg11 harg11 arg13 arg14 x0 x1 x2 x3 x4 x5 x6 x7 x8 x9 0 1 ++ group c i arg2 harg2 arg3 harg3 arg4 harg4 arg5 harg5 arg6 harg6 arg7 harg7 arg8 harg8 arg9 harg9 arg10 harg10 arg11 harg11 arg13 arg14 x0 x1 x2 x3 x4 x5 x6 x7 x8 x9 0 0 := rfl

end Words
end Cert.KernelIdeal.Attn

end
-- ==== Proof.Load.lean ====
/- What the body's loads hold at an index: the queries and the sinks from their staged blocks, and the key and value
   bands from the four chunks gathered in scratch. -/
module

public import proofs.«01_k».proof.Proof.Block

@[expose] public section

set_option maxRecDepth 16384

noncomputable section

namespace Cert.KernelIdeal.Attn

open Cert.KernelIdeal Cert.KernelIdeal.Gen Idealize.ShloMosaic Idealize.SL.Sem

/-- The rows gathered in scratch: row `64 p + l` is row `l` of piece `p`. -/
def gathered (y : Fin 4 → Vec Ideal S64x256 .f32) (k : S256x256.Idx) : EReal :=
  y ⟨(k 0).val / 64, by have := (k 0).isLt; change (k 0).val < 256 at this; omega⟩
    (ix2 ⟨(k 0).val % 64, by omega⟩ ⟨(k 1).val, (k 1).isLt⟩)

theorem gathered_at (y : Fin 4 → Vec Ideal S64x256 .f32) (k : S256x256.Idx) (p : Fin 4) (x : S64x256.Idx)
    (h0 : (k 0).val = 64 * p.val + (x 0).val) (h1 : (k 1).val = (x 1).val) : gathered y k = y p x := by
  have hx : (x 0).val < 64 := (x 0).isLt
  have hk : (k 0).val < 256 := (k 0).isLt
  have hp : (⟨(k 0).val / 64, by omega⟩ : Fin 4) = p := Fin.ext (by show (k 0).val / 64 = p.val; omega)
  unfold gathered
  rw [hp]
  refine congrArg (y p) (funext fun a => Fin.ext ?_)
  match a with
  | ⟨0, _⟩ => show (k 0).val % 64 = (x 0).val; omega
  | ⟨1, _⟩ => exact h1

theorem qW_apply (arg3 : Memref sig .tc .vmem S128x2048 .f32) (harg3 : arg3.IsWhole) (x1 : Vec Ideal S128x2048 .f32) (s : Fin 2) (h : Fin 32) (i e : Fin 64) :
    qW (F := Ideal) arg3 harg3 x1 s h (ix2 i e) = x1 (ix2 ⟨64 * s.val + i.val, by omega⟩ ⟨64 * h.val + e.val, by omega⟩) := by
  unfold qW
  rw [View.readAt_eq_ld, harg3.read_unread]
  refine congrArg x1 (funext fun a => Fin.ext ?_)
  match a with
  | ⟨0, _⟩ => show 64 * s.val + 1 * i.val = 64 * s.val + i.val; omega
  | ⟨1, _⟩ => show 64 * h.val + 1 * e.val = 64 * h.val + e.val; omega

theorem sinkW_apply (arg2 : Memref sig .tc .smem S32 .f32) (harg2 : arg2.IsWhole) (x0 : Vec Ideal S32 .f32) (h : Fin 32) :
    sinkW (F := Ideal) arg2 harg2 x0 h = x0 (ix1 h) := by
  unfold sinkW
  rw [View.readAt_eq_ld, harg2.read_unread]
  refine congrArg x0 (funext fun a => Fin.ext ?_)
  match a with
  | ⟨0, _⟩ => rfl

/-- A chunk of keys or values as the body stores it in scratch. -/
def staged (M : Memref sig .tc .vmem S64x256 .f32) (hM : M.IsWhole) (x : Vec Ideal S64x256 .f32) : FVec Ideal S64x256 .bf16 :=
  shapeCast S64x256 (truncf .bf16 (View.readAt (Elt Ideal) M.view (Rect.unit (s := S64x256) ![0, 0] S64x256.size (by decide)).toLoadRect (hM.unread x)) bitsLt_bf16_f32)
    shapeCasts_S64x256_S64x256

theorem staged_apply (M : Memref sig .tc .vmem S64x256 .f32) (hM : M.IsWhole) (x : Vec Ideal S64x256 .f32) (j : S64x256.Idx) :
    staged M hM x j = x j := by
  unfold staged
  rw [View.readAt_eq_ld, hM.read_unread]
  refine (shapeCast_apply _ _ j j rfl).trans ?_
  refine congrArg x (funext fun a => Fin.ext ?_)
  match a with
  | ⟨0, _⟩ => show 0 + 1 * (j 0).val = (j 0).val; omega
  | ⟨1, _⟩ => show 0 + 1 * (j 1).val = (j 1).val; omega

/-- Four chunks stored one below the other, the last first. -/
def four (y : Fin 4 → FVec Ideal S64x256 .bf16) : List (View.Piece (Elt Ideal) S256x256 .bf16) :=
  [⟨Rect.unit (s := S256x256) ![192, 0] S64x256.size (by decide), y 3⟩, ⟨Rect.unit (s := S256x256) ![128, 0] S64x256.size (by decide), y 2⟩,
    ⟨Rect.unit (s := S256x256) ![64, 0] S64x256.size (by decide), y 1⟩, ⟨Rect.unit (s := S256x256) ![0, 0] S64x256.size (by decide), y 0⟩]

theorem inb_four (p : Fin 4) : ∀ a, (![64 * p.val, 0] : Fin 2 → Nat) a + S64x256.size a ≤ S256x256.size a := by
  refine Fin.forall_fin_two.mpr ⟨?_, ?_⟩
  · show 64 * p.val + 64 ≤ 256; omega
  · show 0 + 256 ≤ 256; omega

theorem mem_four (y : Fin 4 → FVec Ideal S64x256 .bf16) (q : View.Piece (Elt Ideal) S256x256 .bf16) :
    q ∈ four y ↔ ∃ p : Fin 4, q = ⟨Rect.unit (s := S256x256) ![64 * p.val, 0] S64x256.size (inb_four p), y p⟩ := by
  unfold four
  simp only [List.mem_cons, List.not_mem_nil, or_false]
  constructor
  · rintro (h | h | h | h)
    · exact ⟨3, h⟩
    · exact ⟨2, h⟩
    · exact ⟨1, h⟩
    · exact ⟨0, h⟩
  · rintro ⟨p, h⟩
    fin_cases p
    · exact Or.inr (Or.inr (Or.inr h))
    · exact Or.inr (Or.inr (Or.inl h))
    · exact Or.inr (Or.inl h)
    · exact Or.inl h

/-- The four stores, read back at an index. -/
theorem canon_four (y : Fin 4 → FVec Ideal S64x256 .bf16) (k : S256x256.Idx) : View.canon (four y) k = gathered y k := by
  refine View.canon_apply_of_pieces (gathered y) (four y) ?_ k ?_
  · intro q hq
    obtain ⟨p, rfl⟩ := (mem_four y q).mp hq
    intro x
    have h0 : (x 0).val < 64 := (x 0).isLt
    refine (gathered_at y _ p x ?_ ?_).symm
    · show 64 * p.val + 1 * (x 0).val = _; omega
    · show 0 + 1 * (x 1).val = _; omega
  · have h0 : (k 0).val < 256 := (k 0).isLt
    have h1 : (k 1).val < 256 := (k 1).isLt
    refine ⟨_, (mem_four y _).mpr ⟨⟨(k 0).val / 64, by omega⟩, rfl⟩, ?_⟩
    rw [Rect.mem_set_unit]
    refine Fin.forall_fin_two.mpr ⟨⟨?_, ?_⟩, ⟨?_, ?_⟩⟩
    · show 64 * ((k 0).val / 64) ≤ (k 0).val; omega
    · show (k 0).val < 64 * ((k 0).val / 64) + 64; omega
    · show 0 ≤ (k 1).val; omega
    · show (k 1).val < 0 + 256; omega

theorem gathered_congr (y y' : Fin 4 → Vec Ideal S64x256 .f32) (h : ∀ p k, y p k = y' p k) (k : S256x256.Idx) : gathered y k = gathered y' k :=
  h _ _

theorem kW_apply (c : Dev nD) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole)
    (arg13 : Memref sig .tc .vmem S256x256 .bf16) (x2 x3 x4 x5 : Vec Ideal S64x256 .f32) (s : Fin 2) (g : Fin 4) (j : Fin 192) (e : Fin 64) :
    kW (F := Ideal) c arg4 harg4 arg5 harg5 arg6 harg6 arg7 harg7 arg13 x2 x3 x4 x5 s g (ix2 j e)
      = gathered ![x2, x3, x4, x5] (ix2 ⟨64 * s.val + j.val, by omega⟩ ⟨64 * g.val + e.val, by omega⟩) := by
  unfold kW
  rw [View.readCov_eq_canon', show kernelRun0_A.sl.HS0_4 (F := Ideal) c arg4 harg4 arg5 harg5 arg6 harg6 arg7 harg7 x2 x3 x4 x5
    = four ![staged arg4 harg4 x2, staged arg5 harg5 x3, staged arg6 harg6 x4, staged arg7 harg7 x5] from rfl]
  refine (canon_four ![staged arg4 harg4 x2, staged arg5 harg5 x3, staged arg6 harg6 x4, staged arg7 harg7 x5] _).trans ?_
  refine (gathered_congr ![staged arg4 harg4 x2, staged arg5 harg5 x3, staged arg6 harg6 x4, staged arg7 harg7 x5] ![x2, x3, x4, x5] ?_ _).trans (congrArg (gathered ![x2, x3, x4, x5]) (funext fun a => Fin.ext ?_))
  · intro p k
    fin_cases p
    · exact staged_apply arg4 harg4 x2 k
    · exact staged_apply arg5 harg5 x3 k
    · exact staged_apply arg6 harg6 x4 k
    · exact staged_apply arg7 harg7 x5 k
  · match a with
    | ⟨0, _⟩ => show 64 * s.val + 1 * j.val = 64 * s.val + j.val; omega
    | ⟨1, _⟩ => show 64 * g.val + 1 * e.val = 64 * g.val + e.val; omega

theorem vW_apply (c : Dev nD) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S64x256 .f32) (harg11 : arg11.IsWhole)
    (arg14 : Memref sig .tc .vmem S256x256 .bf16) (x6 x7 x8 x9 : Vec Ideal S64x256 .f32) (s : Fin 2) (g : Fin 4) (j : Fin 192) (e : Fin 64) :
    vW (F := Ideal) c arg8 harg8 arg9 harg9 arg10 harg10 arg11 harg11 arg14 x6 x7 x8 x9 s g (ix2 j e)
      = gathered ![x6, x7, x8, x9] (ix2 ⟨64 * s.val + j.val, by omega⟩ ⟨64 * g.val + e.val, by omega⟩) := by
  unfold vW
  rw [View.readCov_eq_canon', show kernelRun0_A.sl.HS1_4 (F := Ideal) c arg8 harg8 arg9 harg9 arg10 harg10 arg11 harg11 x6 x7 x8 x9
    = four ![staged arg8 harg8 x6, staged arg9 harg9 x7, staged arg10 harg10 x8, staged arg11 harg11 x9] from rfl]
  refine (canon_four ![staged arg8 harg8 x6, staged arg9 harg9 x7, staged arg10 harg10 x8, staged arg11 harg11 x9] _).trans ?_
  refine (gathered_congr ![staged arg8 harg8 x6, staged arg9 harg9 x7, staged arg10 harg10 x8, staged arg11 harg11 x9] ![x6, x7, x8, x9] ?_ _).trans (congrArg (gathered ![x6, x7, x8, x9]) (funext fun a => Fin.ext ?_))
  · intro p k
    fin_cases p
    · exact staged_apply arg8 harg8 x6 k
    · exact staged_apply arg9 harg9 x7 k
    · exact staged_apply arg10 harg10 x8 k
    · exact staged_apply arg11 harg11 x9 k
  · match a with
    | ⟨0, _⟩ => show 64 * s.val + 1 * j.val = 64 * s.val + j.val; omega
    | ⟨1, _⟩ => show 64 * g.val + 1 * e.val = 64 * g.val + e.val; omega

end Cert.KernelIdeal.Attn

end
-- ==== Proof.Core.lean ====
/- One entry of a softmax with a sink against a column of values, over the extended reals: a key whose score is minus
   infinity drops out, whatever value stands beside it, as long as that value also stands beside a live key. -/
module

public import Idealize.ShloMosaic.PureOps.Ideal
public import Idealize.ShloMosaic.Lib.Pointwise

@[expose] public section

noncomputable section

namespace Cert.Attn

open Idealize.ShloMosaic

/-- The maximum of the scores and the sink. -/
def top (sc : Fin 192 → EReal) (sk : EReal) : EReal :=
  max (Finset.fold max (Ideal.ofBits .f32 0xFF800000#32) sc Finset.univ) sk

/-- The softmax's denominator: the scores' exponentials and the sink's, all less the maximum. -/
def den (sc : Fin 192 → EReal) (sk : EReal) : EReal :=
  ∑ y, Ideal.exp (sc y - top sc sk) + Ideal.exp (sk - top sc sk)

/-- One entry of the attention: the probabilities of 192 keys against the keys' values. -/
def entry (sc : Fin 192 → EReal) (sk : EReal) (v : Fin 192 → EReal) : EReal :=
  ∑ x, Ideal.div (Ideal.exp (sc x - top sc sk)) (den sc sk) * v x

theorem exp_nonneg (x : EReal) : 0 ≤ Ideal.exp x := by
  induction x using EReal.rec with
  | bot => exact le_refl _
  | coe r => exact EReal.coe_nonneg.mpr (Real.exp_nonneg r)
  | top => exact le_top

theorem bot_sub (x : EReal) : ⊥ - x = ⊥ := by rw [sub_eq_add_neg, EReal.bot_add]

/-- Where the denominator is zero, every exponential in it is. -/
theorem exp_eq_zero (sc : Fin 192 → EReal) (sk : EReal) (h : den sc sk = 0) (x : Fin 192) : Ideal.exp (sc x - top sc sk) = 0 := by
  have hs : (0 : EReal) ≤ ∑ y, Ideal.exp (sc y - top sc sk) := Finset.sum_nonneg fun y _ => exp_nonneg _
  have hx : Ideal.exp (sc x - top sc sk) ≤ ∑ y, Ideal.exp (sc y - top sc sk) :=
    Finset.single_le_sum (f := fun y => Ideal.exp (sc y - top sc sk)) (fun y _ => exp_nonneg _) (Finset.mem_univ x)
  have ht : ∑ y, Ideal.exp (sc y - top sc sk) ≤ den sc sk := le_add_of_nonneg_right (exp_nonneg _)
  exact le_antisymm (hx.trans (ht.trans h.le)) (exp_nonneg _)

/-- Adding again what is already absorbed changes nothing. -/
theorem absorb {ι : Type} [DecidableEq ι] (S : EReal) (f : ι → EReal) (D : Finset ι) (h : ∀ x ∈ D, S + f x = S) : S + ∑ x ∈ D, f x = S := by
  induction D using Finset.induction_on with
  | empty => simp
  | insert a D ha ih =>
    rw [Finset.sum_insert ha, ← add_assoc, h a (Finset.mem_insert_self a D), ih fun x hx => h x (Finset.mem_insert_of_mem hx)]

theorem bot_mul_add_self (x : EReal) : ⊥ * x + ⊥ * x = ⊥ * x := by
  rcases lt_trichotomy x 0 with h | h | h
  · rw [EReal.bot_mul_of_neg h]; rfl
  · rw [h, mul_zero, add_zero]
  · rw [EReal.bot_mul_of_pos h]; rfl

/-- A dead key (score minus infinity) may keep any value that a live key has too: the entry is as if it were zero. -/
theorem entry_dead (live : Fin 192 → Prop) [DecidablePred live] (sc : Fin 192 → EReal) (sk : EReal) (v : Fin 192 → EReal)
    (φ : Fin 192 → Fin 192) (hsc : ∀ x, ¬ live x → sc x = ⊥) (hφ : ∀ x, ¬ live x → live (φ x) ∧ v x = v (φ x)) :
    entry sc sk v = entry sc sk (fun x => if live x then v x else 0) := by
  unfold entry
  by_cases hd : den sc sk = 0
  · have hp : ∀ x, Ideal.div (Ideal.exp (sc x - top sc sk)) (den sc sk) = ⊥ := fun x => by
      rw [exp_eq_zero sc sk hd x, hd]; simp [Ideal.div]
    simp only [hp, mul_ite, mul_zero]
    rw [← Finset.sum_filter, ← Finset.sum_filter_add_sum_filter_not Finset.univ live]
    refine absorb _ _ _ fun x hx => ?_
    obtain ⟨hl, hv⟩ := hφ x (Finset.mem_filter.mp hx).2
    rw [← Finset.add_sum_erase (Finset.univ.filter live) (fun y => ⊥ * v y) (Finset.mem_filter.mpr ⟨Finset.mem_univ _, hl⟩), hv,
      add_right_comm, bot_mul_add_self]
  · refine Finset.sum_congr rfl fun x _ => ?_
    beta_reduce
    by_cases hl : live x
    · rw [if_pos hl]
    · rw [if_neg hl, hsc x hl, bot_sub]
      have : Ideal.div (Ideal.exp ⊥) (den sc sk) = 0 := by
        show (if den sc sk = 0 then _ else (0 : EReal) * (den sc sk)⁻¹) = 0
        rw [if_neg hd, zero_mul]
      rw [this, zero_mul, zero_mul]

theorem ofBits_neg_inf : Ideal.ofBits .f32 0xFF800000#32 = ⊥ := by simp [Ideal.ofBits, Ideal.ieee]

/-- The slope of head `h`, counted from zero: two to the power `-(h + 1) / 4`. -/
def slopeOf (h : Nat) : EReal := ((Real.rpow 2 (-((h : ℝ) + 1) / 4) : ℝ) : EReal)

/-- The reference's slope, from its words. -/
theorem slope_word (h : Nat) (hh : h < 32) : Ideal.pow (Ideal.ofBits .f32 0x40000000#32)
      (Ideal.div (Ideal.ofBits .f32 0xC1000000#32 * (1 + FloatOps.sitofp (F := Ideal) .f32 (BitVec.ofNat 32 h)))
        (Ideal.ofBits .f32 0x42000000#32)) = slopeOf h := by
  have e2 : Ideal.ofBits .f32 0x40000000#32 = ((2 : ℝ) : EReal) := by simp [Ideal.ofBits, Ideal.ieee, -EReal.coe_mul]; norm_num
  have e8 : Ideal.ofBits .f32 0xC1000000#32 = ((-8 : ℝ) : EReal) := by simp [Ideal.ofBits, Ideal.ieee, -EReal.coe_mul]; norm_num
  have e32 : Ideal.ofBits .f32 0x42000000#32 = ((32 : ℝ) : EReal) := by simp [Ideal.ofBits, Ideal.ieee, -EReal.coe_mul]; norm_num
  have eh : FloatOps.sitofp (F := Ideal) .f32 (BitVec.ofNat 32 h) = (((h : ℕ) : ℝ) : EReal) := by
    show (((BitVec.ofNat 32 h).toInt : ℝ) : EReal) = _
    have : (BitVec.ofNat 32 h).toInt = (h : Int) := by
      rw [BitVec.toInt_eq_toNat_of_lt (by rw [BitVec.toNat_ofNat]; omega), BitVec.toNat_ofNat]; omega
    rw [this, Int.cast_natCast]
  rw [e2, e8, e32, eh, Ideal.div_coe (by norm_num : (32 : ℝ) ≠ 0)]
  have : ((-8 : ℝ) : EReal) * (1 + ((h : ℝ) : EReal)) * ((1 / 32 : ℝ) : EReal) = ((-((h : ℝ) + 1) / 4 : ℝ) : EReal) := by
    rw [← EReal.coe_one, ← EReal.coe_add, ← EReal.coe_mul, ← EReal.coe_mul]
    congr 1; ring
  rw [this]; rfl

/-- The row of the array that band key `j` of chunk `n` of sequence `b` reads: before the sequence's start, a row of its first chunk. -/
def krow (b : Fin 4) (n : Fin 64) (j : Fin 192) : Fin 16384 :=
  ⟨b.val * 4096 + (n.val + j.val / 64 - 2) * 64 + j.val % 64, by omega⟩

/-- The score of row `i` of chunk `n` of sequence `b` against band key `j`, in head `r` of group `g`: minus infinity at a
    key before the sequence's start. -/
def score (x0 : (⟨2, ![16384, 2560]⟩ : Shape).Idx → EReal) (b : Fin 4) (n : Fin 64) (g : Fin 4) (r : Fin 8) (i : Fin 64) (j : Fin 192) : EReal :=
  if 128 ≤ n.val * 64 + j.val then
    (∑ e : Fin 64, x0 (ix2 ⟨b.val * 4096 + n.val * 64 + i.val, by omega⟩ ⟨g.val * 512 + r.val * 64 + e.val, by omega⟩)
        * x0 (ix2 (krow b n j) ⟨2048 + g.val * 64 + e.val, by omega⟩)) * Ideal.ofBits .f32 0x3E000000#32
      - slopeOf (g.val * 8 + r.val) * FloatOps.sitofp (F := Ideal) .f32
          (IntOp.absi (IntOp.subi (IntOp.addi 128#32 (BitVec.ofNat 32 i.val)) (BitVec.ofNat 32 j.val)))
  else ⊥

/-- The attention's result at row `i` of chunk `n` of sequence `b`, column `d` of head `r` of group `g`. -/
def attn (x0 : (⟨2, ![16384, 2560]⟩ : Shape).Idx → EReal) (x1 : (⟨1, ![32]⟩ : Shape).Idx → EReal)
    (b : Fin 4) (n : Fin 64) (g : Fin 4) (r : Fin 8) (i : Fin 64) (d : Fin 64) : EReal :=
  entry (score x0 b n g r i) (x1 (ix1 ⟨g.val * 8 + r.val, by omega⟩))
    (fun j => if 128 ≤ n.val * 64 + j.val then x0 (ix2 (krow b n j) ⟨2304 + g.val * 64 + d.val, by omega⟩) else 0)

/-- The same with the values of the keys before the sequence's start left standing. -/
theorem attn_eq (x0 : (⟨2, ![16384, 2560]⟩ : Shape).Idx → EReal) (x1 : (⟨1, ![32]⟩ : Shape).Idx → EReal)
    (b : Fin 4) (n : Fin 64) (g : Fin 4) (r : Fin 8) (i : Fin 64) (d : Fin 64) :
    attn x0 x1 b n g r i d = entry (score x0 b n g r i) (x1 (ix1 ⟨g.val * 8 + r.val, by omega⟩))
      (fun j => x0 (ix2 (krow b n j) ⟨2304 + g.val * 64 + d.val, by omega⟩)) := by
  refine (entry_dead (fun j => 128 ≤ n.val * 64 + j.val) (score x0 b n g r i) _ _
    (fun j => ⟨(2 - n.val) * 64 + j.val % 64, by omega⟩) (fun j h => if_neg h) fun j h => ⟨?_, ?_⟩).symm
  · dsimp only; omega
  · have : krow b n j = krow b n ⟨(2 - n.val) * 64 + j.val % 64, by omega⟩ := by
      apply Fin.ext; unfold krow; dsimp only; omega
    rw [this]

end Cert.Attn

end
-- ==== Proof.ChainValue.lean ====
/- What one head group's chain holds at an index: one entry of the attention per row and column. -/
module

public import proofs.«01_k».proof.Proof.Chain
public import proofs.«01_k».proof.Proof.Core

@[expose] public section

set_option maxRecDepth 16384

noncomputable section

namespace Cert.KernelIdeal.Attn

open Cert.KernelIdeal Cert.KernelIdeal.Gen Idealize.ShloMosaic Idealize.SL.Sem

theorem chain_apply (sc : FVec Ideal S512x192 .f32) (sk : FVec Ideal S512x1 .f32) (v : FVec Ideal S192x64 .bf16) (a : Fin 512) (d : Fin 64) :
    chain sc sk v (ix2 a d) = Cert.Attn.entry (fun x => sc (ix2 a x)) (sk (ix2 a 0)) (fun x => v (ix2 x d)) := by
  pointwise [chain, expo, rowMax, denom]
  rfl

theorem scores_apply (q : Fin 8 → FVec Ideal S64x64 .f32) (k : FVec Ideal S192x64 .bf16) (b : Fin 8 → FVec Ideal S64x192 .f32)
    (r : Fin 8) (i : Fin 64) (j : Fin 192) :
    scores q k b (ix2 ⟨64 * r.val + i.val, by omega⟩ j)
      = (∑ e : Fin 64, q r (ix2 i e) * k (ix2 j e)) * Ideal.ofBits .f32 0x3E000000#32 - b r (ix2 i j) := by
  pointwise [scores]
  simp only [stack_apply]

theorem sinkCol_apply (sk : Fin 8 → Ideal .f32) (r : Fin 8) (i : Fin 64) :
    sinkCol sk (ix2 ⟨64 * r.val + i.val, by omega⟩ (0 : Fin 1)) = sk r := by
  unfold sinkCol
  rw [stack_apply]
  rfl

/-- The mask's value, minus infinity's negation. -/
theorem mask_value : Named.named (F := Ideal) κ "mask" (φ := .f32) 0x7149F2CA#32 = (⊤ : EReal) :=
  IdealRules.named_const.ideal_named_scalar _ _ _ _ rfl

/-- The test for a key inside the sequence, for sub-chunk `s` of grid column `n`. -/
theorem live_word (n : Fin 32) (s : Fin 2) (j : Fin 192) :
    IntOp.cmpi .sge (BitVec.ofNat 32 j.val) (Scalar.subi 128#32 (Scalar.muli (Scalar.addi (Scalar.muli (BitVec.ofNat 32 n.val) 2#32) (BitVec.ofNat 32 s.val)) 64#32))
      = if 128 ≤ (n.val * 2 + s.val) * 64 + j.val then 1#1 else 0#1 := by
  revert n s j
  decide +kernel

theorem bias_apply (n : Fin 32) (s : Fin 2) (σ : Ideal .f32) (i : Fin 64) (j : Fin 192) :
    bias (BitVec.ofNat 32 n.val) (BitVec.ofNat 32 s.val) σ (ix2 i j)
      = if 128 ≤ (n.val * 2 + s.val) * 64 + j.val then
          σ * FloatOps.sitofp (F := Ideal) .f32 (IntOp.absi (IntOp.subi (IntOp.addi 128#32 (BitVec.ofNat 32 i.val)) (BitVec.ofNat 32 j.val)))
        else ⊤ := by
  pointwise [bias, dist, live]
  rw [live_word, mask_value]
  split_ifs <;> rfl

/-- A power of two with a quarter exponent, from the roots that name it. -/
theorem slope_root (h : Nat) (k : ℝ) (root : ℝ) (hk : 0 < k) (hr : 0 < root) (e : k ^ 4 * root ^ 4 = 2 ^ (h + 1)) :
    (((k * root)⁻¹ : ℝ) : EReal) = Cert.Attn.slopeOf h := by
  unfold Cert.Attn.slopeOf
  congr 1
  rw [Real.rpow_eq_pow]
  have h2 : (k * root) = (2 : ℝ) ^ (((h : ℝ) + 1) / 4) := by
    have : (k * root) ^ 4 = ((2 : ℝ) ^ (((h : ℝ) + 1) / 4)) ^ 4 := by
      rw [mul_pow, e, ← Real.rpow_natCast ((2 : ℝ) ^ (((h : ℝ) + 1) / 4)), ← Real.rpow_mul (by norm_num)]
      rw [show ((h : ℝ) + 1) / 4 * ((4 : ℕ) : ℝ) = ((h + 1 : ℕ) : ℝ) by push_cast; ring, Real.rpow_natCast]
    exact (pow_left_inj₀ (by positivity) (by positivity) (by norm_num)).mp this
  rw [h2, ← Real.rpow_neg (by norm_num)]
  congr 1; ring

theorem sqrt2_pow : Real.sqrt 2 ^ 4 = 4 := by
  rw [show 4 = 2 * 2 from rfl, pow_mul, Real.sq_sqrt (by norm_num)]; norm_num

theorem root2_pow : Real.sqrt (Real.sqrt 2) ^ 4 = 2 := by
  rw [show 4 = 2 * 2 from rfl, pow_mul, Real.sq_sqrt (Real.sqrt_nonneg _), Real.sq_sqrt (by norm_num)]

theorem slope_one (h : Nat) (k : ℝ) (hk : 0 < k) (e : k ^ 4 * 2 = 2 ^ (h + 1)) :
    (((k * Real.sqrt (Real.sqrt 2))⁻¹ : ℝ) : EReal) = Cert.Attn.slopeOf h :=
  slope_root h k _ hk (by positivity) (by rw [root2_pow, e])

theorem slope_two (h : Nat) (k : ℝ) (hk : 0 < k) (e : k ^ 4 * 4 = 2 ^ (h + 1)) :
    (((k * Real.sqrt 2)⁻¹ : ℝ) : EReal) = Cert.Attn.slopeOf h :=
  slope_root h k _ hk (by positivity) (by rw [sqrt2_pow, e])

theorem slope_three (h : Nat) (k : ℝ) (hk : 0 < k) (e : k ^ 4 * 8 = 2 ^ (h + 1)) :
    (((k * (Real.sqrt 2 * Real.sqrt (Real.sqrt 2)))⁻¹ : ℝ) : EReal) = Cert.Attn.slopeOf h :=
  slope_root h k _ hk (by positivity) (by rw [mul_pow, sqrt2_pow, root2_pow, ← e]; norm_num)

theorem slope_four (h : Nat) (x : ℝ) (w : BitVec 32) (hw : Ideal.ofBits .f32 w = (x : EReal)) (hx : 0 < x) (e : x⁻¹ ^ 4 = 2 ^ (h + 1)) :
    Scalar.ofBits (F := Ideal) .f32 w = Cert.Attn.slopeOf h := by
  refine (show Scalar.ofBits (F := Ideal) .f32 w = Ideal.ofBits .f32 w from rfl).trans (hw.trans ?_)
  rw [← slope_root h x⁻¹ 1 (inv_pos.mpr hx) one_pos (by rw [one_pow, mul_one, e]), mul_one, inv_inv]

/-- The table's entries are the slopes. -/
theorem slope_value (h : Fin 32) : slope (F := Ideal) h = Cert.Attn.slopeOf h.val := by
  fin_cases h
  case «3» => exact slope_four 3 (1 / 2) _ (by simp [Ideal.ofBits, Ideal.ieee, -EReal.coe_mul]; norm_num) (by norm_num) (by norm_num)
  case «7» => exact slope_four 7 (1 / 4) _ (by simp [Ideal.ofBits, Ideal.ieee, -EReal.coe_mul]; norm_num) (by norm_num) (by norm_num)
  case «11» => exact slope_four 11 (1 / 8) _ (by simp [Ideal.ofBits, Ideal.ieee, -EReal.coe_mul]; norm_num) (by norm_num) (by norm_num)
  case «15» => exact slope_four 15 (1 / 16) _ (by simp [Ideal.ofBits, Ideal.ieee, -EReal.coe_mul]; norm_num) (by norm_num) (by norm_num)
  case «19» => exact slope_four 19 (1 / 32) _ (by simp [Ideal.ofBits, Ideal.ieee, -EReal.coe_mul]; norm_num) (by norm_num) (by norm_num)
  case «23» => exact slope_four 23 (1 / 64) _ (by simp [Ideal.ofBits, Ideal.ieee, -EReal.coe_mul]; norm_num) (by norm_num) (by norm_num)
  case «27» => exact slope_four 27 (1 / 128) _ (by simp [Ideal.ofBits, Ideal.ieee, -EReal.coe_mul]; norm_num) (by norm_num) (by norm_num)
  case «31» => exact slope_four 31 (1 / 256) _ (by simp [Ideal.ofBits, Ideal.ieee, -EReal.coe_mul]; norm_num) (by norm_num) (by norm_num)
  all_goals first
    | exact (IdealRules.named_const.ideal_named_scalar _ _ _ _ rfl).trans (slope_one _ _ (by norm_num) (by norm_num))
    | exact (IdealRules.named_const.ideal_named_scalar _ _ _ _ rfl).trans (slope_two _ _ (by norm_num) (by norm_num))
    | exact (IdealRules.named_const.ideal_named_scalar _ _ _ _ rfl).trans (slope_three _ _ (by norm_num) (by norm_num))

end Cert.KernelIdeal.Attn

end
-- ==== Proof.BlockValue.lean ====
/- What the attention's body leaves in its output block at one grid point: at each index the entry of the softmax
   with a sink that the staged queries, keys, values and sinks give. -/
module

public import proofs.«01_k».proof.Proof.Load
public import proofs.«01_k».proof.Proof.ChainValue

@[expose] public section

set_option maxRecDepth 16384

noncomputable section

namespace Cert.KernelIdeal.Attn

open Cert.KernelIdeal Cert.KernelIdeal.Gen Idealize.ShloMosaic Idealize.SL.Sem

section Words

variable (c : Dev nD) (i : grid0.Coords) (arg2 : Memref sig .tc .smem S32 .f32) (harg2 : arg2.IsWhole) (arg3 : Memref sig .tc .vmem S128x2048 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S64x256 .f32) (harg11 : arg11.IsWhole) (arg12 : Memref sig .tc .vmem S128x2048 .bf16) (harg12 : arg12.IsWhole) (arg13 : Memref sig .tc .vmem S256x256 .bf16) (harg13 : arg13.IsWhole) (arg14 : Memref sig .tc .vmem S256x256 .bf16) (harg14 : arg14.IsWhole)
    (x0 : Vec Ideal S32 .f32) (x1 : Vec Ideal S128x2048 .f32) (x2 : Vec Ideal S64x256 .f32) (x3 : Vec Ideal S64x256 .f32) (x4 : Vec Ideal S64x256 .f32) (x5 : Vec Ideal S64x256 .f32) (x6 : Vec Ideal S64x256 .f32) (x7 : Vec Ideal S64x256 .f32) (x8 : Vec Ideal S64x256 .f32) (x9 : Vec Ideal S64x256 .f32)

/-- The masked, biased score of row `i` of chunk `s` against band key `j` in head `r` of group `g`, in grid column `n`,
    from the staged queries and keys. -/
def blockScore (n : Nat) (q : Vec Ideal S128x2048 .f32) (k : Fin 4 → Vec Ideal S64x256 .f32) (s : Fin 2) (g : Fin 4) (r : Fin 8) (a : Fin 64) (j : Fin 192) : EReal :=
  if 128 ≤ (n * 2 + s.val) * 64 + j.val then
    (∑ e : Fin 64, q (ix2 ⟨64 * s.val + a.val, by omega⟩ ⟨64 * (hd g r).val + e.val, by have := (hd g r).isLt; omega⟩)
        * gathered k (ix2 ⟨64 * s.val + j.val, by omega⟩ ⟨64 * g.val + e.val, by omega⟩)) * Ideal.ofBits .f32 0x3E000000#32
      - Cert.Attn.slopeOf (hd g r).val * FloatOps.sitofp (F := Ideal) .f32
          (IntOp.absi (IntOp.subi (IntOp.addi 128#32 (BitVec.ofNat 32 a.val)) (BitVec.ofNat 32 j.val)))
  else ⊥

/-- The entry at row `i` of chunk `s`, column `d` of head `r` of group `g`, from the staged blocks. -/
def blockEntry (n : Nat) (sk : Vec Ideal S32 .f32) (q : Vec Ideal S128x2048 .f32) (k v : Fin 4 → Vec Ideal S64x256 .f32) (s : Fin 2) (g : Fin 4) (r : Fin 8) (a d : Fin 64) : EReal :=
  Cert.Attn.entry (blockScore n q k s g r a) (sk (ix1 (hd g r)))
    (fun j => gathered v (ix2 ⟨64 * s.val + j.val, by omega⟩ ⟨64 * g.val + d.val, by omega⟩))

theorem scW_apply (s : Fin 2) (g : Fin 4) (r : Fin 8) (a : Fin 64) (j : Fin 192) :
    scW c i arg3 harg3 arg4 harg4 arg5 harg5 arg6 harg6 arg7 harg7 arg13 x1 x2 x3 x4 x5 s g (ix2 ⟨64 * r.val + a.val, by omega⟩ j)
      = blockScore (i 1).val x1 ![x2, x3, x4, x5] s g r a j := by
  unfold scW
  rw [scores_apply]
  have hn : (i 1).val < 32 := (i 1).isLt
  refine (congrArg (_ - ·) (bias_apply ⟨(i 1).val, hn⟩ s (slope (hd g r)) a j)).trans ?_
  rw [slope_value]
  simp only [qW_apply, kW_apply]
  unfold blockScore
  split_ifs
  · rfl
  · rw [sub_eq_add_neg, EReal.neg_top, EReal.add_bot]

theorem outW_apply (s : Fin 2) (g : Fin 4) (r : Fin 8) (a d : Fin 64) :
    outW c i arg2 harg2 arg3 harg3 arg4 harg4 arg5 harg5 arg6 harg6 arg7 harg7 arg8 harg8 arg9 harg9 arg10 harg10 arg11 harg11 arg13 arg14 x0 x1 x2 x3 x4 x5 x6 x7 x8 x9 s g (ix2 ⟨64 * r.val + a.val, by omega⟩ d)
      = blockEntry (i 1).val x0 x1 ![x2, x3, x4, x5] ![x6, x7, x8, x9] s g r a d := by
  unfold outW
  rw [chain_apply, sinkCol_apply, sinkW_apply]
  simp only [scW_apply, vW_apply]
  rfl

/-- The entry at an index of the block. -/
def blockAt (n : Nat) (sk : Vec Ideal S32 .f32) (q : Vec Ideal S128x2048 .f32) (k v : Fin 4 → Vec Ideal S64x256 .f32) (y : S128x2048.Idx) : EReal :=
  blockEntry n sk q k v ⟨(y 0).val / 64, by have : (y 0).val < 128 := (y 0).isLt; omega⟩
    ⟨(y 1).val / 512, by have : (y 1).val < 2048 := (y 1).isLt; omega⟩ ⟨(y 1).val / 64 % 8, by omega⟩
    ⟨(y 0).val % 64, by omega⟩ ⟨(y 1).val % 64, by omega⟩

theorem blockAt_eq (n : Nat) (sk : Vec Ideal S32 .f32) (q : Vec Ideal S128x2048 .f32) (k v : Fin 4 → Vec Ideal S64x256 .f32) (y : S128x2048.Idx)
    (s : Fin 2) (g : Fin 4) (r : Fin 8) (a d : Fin 64) (h0 : (y 0).val = 64 * s.val + a.val) (h1 : (y 1).val = 64 * (hd g r).val + d.val) :
    blockAt n sk q k v y = blockEntry n sk q k v s g r a d := by
  have h1' : (y 1).val = 64 * (8 * g.val + r.val) + d.val := h1
  unfold blockAt
  congr 1 <;> apply Fin.ext <;> dsimp only <;> omega

theorem piece_apply (s : Fin 2) (g : Fin 4) (r : Fin 8) (x : S64x64.Idx) :
    (piece c i arg2 harg2 arg3 harg3 arg4 harg4 arg5 harg5 arg6 harg6 arg7 harg7 arg8 harg8 arg9 harg9 arg10 harg10 arg11 harg11 arg13 arg14 x0 x1 x2 x3 x4 x5 x6 x7 x8 x9 s g r).2 x = blockAt (i 1).val x0 x1 ![x2, x3, x4, x5] ![x6, x7, x8, x9]
      ((piece c i arg2 harg2 arg3 harg3 arg4 harg4 arg5 harg5 arg6 harg6 arg7 harg7 arg8 harg8 arg9 harg9 arg10 harg10 arg11 harg11 arg13 arg14 x0 x1 x2 x3 x4 x5 x6 x7 x8 x9 s g r).1.emb x) := by
  refine Eq.trans ?_ (blockAt_eq (i 1).val x0 x1 ![x2, x3, x4, x5] ![x6, x7, x8, x9] _ s g r (x 0) (x 1) ?_ ?_).symm
  · refine Eq.trans ?_ (outW_apply c i arg2 harg2 arg3 harg3 arg4 harg4 arg5 harg5 arg6 harg6 arg7 harg7 arg8 harg8 arg9 harg9 arg10 harg10 arg11 harg11 arg13 arg14 x0 x1 x2 x3 x4 x5 x6 x7 x8 x9 s g r (x 0) (x 1))
    refine congrArg (outW c i arg2 harg2 arg3 harg3 arg4 harg4 arg5 harg5 arg6 harg6 arg7 harg7 arg8 harg8 arg9 harg9 arg10 harg10 arg11 harg11 arg13 arg14 x0 x1 x2 x3 x4 x5 x6 x7 x8 x9 s g) (funext fun b => Fin.ext ?_)
    match b with
    | ⟨0, _⟩ => rfl
    | ⟨1, _⟩ => show 0 + (x 1).val = (x 1).val; omega
  · show 64 * s.val + 1 * (x 0).val = _; omega
  · show 64 * (hd g r).val + 1 * (x 1).val = _; omega

/-- Every piece of the block is one head of one chunk. -/
theorem mem_pieces (p : View.Piece (Elt Ideal) S128x2048 .bf16)
    (hp : p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1) :
    ∃ s g r, p = piece c i arg2 harg2 arg3 harg3 arg4 harg4 arg5 harg5 arg6 harg6 arg7 harg7 arg8 harg8 arg9 harg9 arg10 harg10 arg11 harg11 arg13 arg14 x0 x1 x2 x3 x4 x5 x6 x7 x8 x9 s g r := by
  rw [pieces] at hp
  have hg : ∀ s g, p ∈ group c i arg2 harg2 arg3 harg3 arg4 harg4 arg5 harg5 arg6 harg6 arg7 harg7 arg8 harg8 arg9 harg9 arg10 harg10 arg11 harg11 arg13 arg14 x0 x1 x2 x3 x4 x5 x6 x7 x8 x9 s g → ∃ s g r, p = piece c i arg2 harg2 arg3 harg3 arg4 harg4 arg5 harg5 arg6 harg6 arg7 harg7 arg8 harg8 arg9 harg9 arg10 harg10 arg11 harg11 arg13 arg14 x0 x1 x2 x3 x4 x5 x6 x7 x8 x9 s g r := fun s g h => by
    obtain ⟨n, rfl⟩ := (List.mem_ofFn' _ _).mp h
    exact ⟨s, g, n.rev, rfl⟩
  simp only [List.mem_append] at hp
  rcases hp with ((((((h | h) | h) | h) | h) | h) | h) | h <;> exact hg _ _ h

theorem out_apply (y : S128x2048.Idx) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y = blockAt (i 1).val x0 x1 ![x2, x3, x4, x5] ![x6, x7, x8, x9] y := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces (blockAt (i 1).val x0 x1 ![x2, x3, x4, x5] ![x6, x7, x8, x9]) _ ?_ y (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  intro p hp
  obtain ⟨s, g, r, rfl⟩ := mem_pieces c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 p hp
  exact piece_apply c i arg2 harg2 arg3 harg3 arg4 harg4 arg5 harg5 arg6 harg6 arg7 harg7 arg8 harg8 arg9 harg9 arg10 harg10 arg11 harg11 arg13 arg14 x0 x1 x2 x3 x4 x5 x6 x7 x8 x9 s g r

end Words
end Cert.KernelIdeal.Attn

end
-- ==== Proof.Array.lean ====
/- What the attention kernel's output array holds after the run: at every index the attention's entry of the kernel's
   two arguments. -/
module

public import proofs.«01_k».proof.Proof.BlockValue

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The projections, as the kernel is given them. -/
abbrev qkvOf (c : Dev nD) : Vec Ideal S16384x2560 .f32 := m ((c : Thread nD τ).loc main_arg0)
/-- The sinks, as the kernel is given them. -/
abbrev sinksOf (c : Dev nD) : Vec Ideal S32 .f32 := m ((c : Thread nD τ).loc main_arg1)

/-! ## The windows' blocks -/

theorem kv_index : ∀ t : Fin grid0.N,
    (win0_2.index t 0 = t.val / 32 * 64 + (t.val % 32 * 2 + 0 - 2) ∧ win0_2.index t 1 = 8)
    ∧ (win0_3.index t 0 = t.val / 32 * 64 + (t.val % 32 * 2 + 1 - 2) ∧ win0_3.index t 1 = 8)
    ∧ (win0_4.index t 0 = t.val / 32 * 64 + (t.val % 32 * 2 + 2 - 2) ∧ win0_4.index t 1 = 8)
    ∧ (win0_5.index t 0 = t.val / 32 * 64 + (t.val % 32 * 2 + 3 - 2) ∧ win0_5.index t 1 = 8)
    ∧ (win0_6.index t 0 = t.val / 32 * 64 + (t.val % 32 * 2 + 0 - 2) ∧ win0_6.index t 1 = 9)
    ∧ (win0_7.index t 0 = t.val / 32 * 64 + (t.val % 32 * 2 + 1 - 2) ∧ win0_7.index t 1 = 9)
    ∧ (win0_8.index t 0 = t.val / 32 * 64 + (t.val % 32 * 2 + 2 - 2) ∧ win0_8.index t 1 = 9)
    ∧ (win0_9.index t 0 = t.val / 32 * 64 + (t.val % 32 * 2 + 3 - 2) ∧ win0_9.index t 1 = 9) := by decide +kernel

theorem row_index : ∀ t : Fin grid0.N, win0_0.index t 0 = 0 ∧ (win0_1.index t 0 = t.val ∧ win0_1.index t 1 = 0)
    ∧ (win0_10.index t 0 = t.val ∧ win0_10.index t 1 = 0) ∧ (grid0.coords t 1).val = t.val % 32 := by decide +kernel

theorem size10 : ∀ t : Fin grid0.N, win0_10.xsize (grid0.coords t) 0 = 128 ∧ win0_10.xsize (grid0.coords t) 1 = 2048 := by decide +kernel

theorem N_eq : cfg0.N = 128 := by decide

/-- The row of the array that row `l` of the `p`-th staged chunk at point `t` comes from. -/
def kvRow (t : Fin cfg0.N) (p : Fin 4) (l : Fin 64) : Fin 16384 :=
  ⟨(t.val / 32 * 64 + (t.val % 32 * 2 + p.val - 2)) * 64 + l.val, by have := lt_of_lt_of_eq t.isLt N_eq; omega⟩

/-- The staged key chunks at point `t`. -/
theorem keys_apply (c : Dev nD) (t : Fin cfg0.N) (p : Fin 4) (l : Fin 64) (e : Fin 256) :
    (![iblk m c 2 t, iblk m c 3 t, iblk m c 4 t, iblk m c 5 t] : Fin 4 → Vec Ideal S64x256 .f32) p (ix2 l e)
      = qkvOf m c (ix2 (kvRow t p l) ⟨2048 + e.val, by omega⟩) := by
  obtain ⟨h2, h3, h4, h5, -⟩ := kv_index t
  fin_cases p
  · refine congrArg (qkvOf m c) (funext fun a => Fin.ext ?_)
    match a with
    | ⟨0, _⟩ => show win0_2.index t 0 * 64 + 1 * l.val = _; rw [h2.1]; show _ = (t.val / 32 * 64 + (t.val % 32 * 2 + 0 - 2)) * 64 + l.val; omega
    | ⟨1, _⟩ => show win0_2.index t 1 * 256 + 1 * e.val = 2048 + e.val; rw [h2.2]; omega
  · refine congrArg (qkvOf m c) (funext fun a => Fin.ext ?_)
    match a with
    | ⟨0, _⟩ => show win0_3.index t 0 * 64 + 1 * l.val = _; rw [h3.1]; show _ = (t.val / 32 * 64 + (t.val % 32 * 2 + 1 - 2)) * 64 + l.val; omega
    | ⟨1, _⟩ => show win0_3.index t 1 * 256 + 1 * e.val = 2048 + e.val; rw [h3.2]; omega
  · refine congrArg (qkvOf m c) (funext fun a => Fin.ext ?_)
    match a with
    | ⟨0, _⟩ => show win0_4.index t 0 * 64 + 1 * l.val = _; rw [h4.1]; show _ = (t.val / 32 * 64 + (t.val % 32 * 2 + 2 - 2)) * 64 + l.val; omega
    | ⟨1, _⟩ => show win0_4.index t 1 * 256 + 1 * e.val = 2048 + e.val; rw [h4.2]; omega
  · refine congrArg (qkvOf m c) (funext fun a => Fin.ext ?_)
    match a with
    | ⟨0, _⟩ => show win0_5.index t 0 * 64 + 1 * l.val = _; rw [h5.1]; show _ = (t.val / 32 * 64 + (t.val % 32 * 2 + 3 - 2)) * 64 + l.val; omega
    | ⟨1, _⟩ => show win0_5.index t 1 * 256 + 1 * e.val = 2048 + e.val; rw [h5.2]; omega

/-- The staged value chunks at point `t`. -/
theorem values_apply (c : Dev nD) (t : Fin cfg0.N) (p : Fin 4) (l : Fin 64) (e : Fin 256) :
    (![iblk m c 6 t, iblk m c 7 t, iblk m c 8 t, iblk m c 9 t] : Fin 4 → Vec Ideal S64x256 .f32) p (ix2 l e)
      = qkvOf m c (ix2 (kvRow t p l) ⟨2304 + e.val, by omega⟩) := by
  obtain ⟨-, -, -, -, h6, h7, h8, h9⟩ := kv_index t
  fin_cases p
  · refine congrArg (qkvOf m c) (funext fun a => Fin.ext ?_)
    match a with
    | ⟨0, _⟩ => show win0_6.index t 0 * 64 + 1 * l.val = _; rw [h6.1]; show _ = (t.val / 32 * 64 + (t.val % 32 * 2 + 0 - 2)) * 64 + l.val; omega
    | ⟨1, _⟩ => show win0_6.index t 1 * 256 + 1 * e.val = 2304 + e.val; rw [h6.2]; omega
  · refine congrArg (qkvOf m c) (funext fun a => Fin.ext ?_)
    match a with
    | ⟨0, _⟩ => show win0_7.index t 0 * 64 + 1 * l.val = _; rw [h7.1]; show _ = (t.val / 32 * 64 + (t.val % 32 * 2 + 1 - 2)) * 64 + l.val; omega
    | ⟨1, _⟩ => show win0_7.index t 1 * 256 + 1 * e.val = 2304 + e.val; rw [h7.2]; omega
  · refine congrArg (qkvOf m c) (funext fun a => Fin.ext ?_)
    match a with
    | ⟨0, _⟩ => show win0_8.index t 0 * 64 + 1 * l.val = _; rw [h8.1]; show _ = (t.val / 32 * 64 + (t.val % 32 * 2 + 2 - 2)) * 64 + l.val; omega
    | ⟨1, _⟩ => show win0_8.index t 1 * 256 + 1 * e.val = 2304 + e.val; rw [h8.2]; omega
  · refine congrArg (qkvOf m c) (funext fun a => Fin.ext ?_)
    match a with
    | ⟨0, _⟩ => show win0_9.index t 0 * 64 + 1 * l.val = _; rw [h9.1]; show _ = (t.val / 32 * 64 + (t.val % 32 * 2 + 3 - 2)) * 64 + l.val; omega
    | ⟨1, _⟩ => show win0_9.index t 1 * 256 + 1 * e.val = 2304 + e.val; rw [h9.2]; omega

/-- The staged sinks are the sinks. -/
theorem sinks_apply (c : Dev nD) (t : Fin cfg0.N) (h : Fin 32) :
    (iblk m c 0 t : Vec Ideal S32 .f32) (ix1 h) = sinksOf m c (ix1 h) := by
  refine congrArg (sinksOf m c) (funext fun a => Fin.ext ?_)
  match a with
  | ⟨0, _⟩ => show win0_0.index t 0 * 32 + 1 * h.val = h.val; rw [(row_index t).1]; omega

/-- The staged queries at point `t` are its 128 rows of the projections. -/
theorem queries_apply (c : Dev nD) (t : Fin cfg0.N) (a : Fin 128) (e : Fin 2048) :
    (X0_1 m c t : Vec Ideal S128x2048 .f32) (ix2 a e)
      = qkvOf m c (ix2 ⟨t.val * 128 + a.val, by have := lt_of_lt_of_eq t.isLt N_eq; omega⟩ ⟨e.val, by omega⟩) := by
  unfold X0_1 Pipeline.Window.fill
  rw [dif_pos (moved0_1 t _)]
  refine congrArg (qkvOf m c) (funext fun b => Fin.ext ?_)
  match b with
  | ⟨0, _⟩ => show win0_1.index t 0 * 128 + 1 * a.val = t.val * 128 + a.val; rw [(row_index t).2.1.1]; omega
  | ⟨1, _⟩ => show win0_1.index t 1 * 2048 + 1 * e.val = e.val; rw [(row_index t).2.1.2]; omega

/-! ## One block of the result -/

/-- The band keys of chunk `s` at point `t` are the array's rows `krow`. -/
theorem band_row (t : Fin cfg0.N) (b : Fin 4) (n : Fin 64) (s : Fin 2) (j : Fin 192) (hb : b.val = t.val / 32) (hn : n.val = t.val % 32 * 2 + s.val)
    (p : Fin 4) (l : Fin 64) (hp : p.val = (64 * s.val + j.val) / 64) (hl : l.val = (64 * s.val + j.val) % 64) :
    kvRow t p l = Cert.Attn.krow b n j := by
  apply Fin.ext
  unfold kvRow Cert.Attn.krow
  dsimp only
  rw [hb, hn, hp, hl]
  omega

theorem blockScore_eq (c : Dev nD) (t : Fin cfg0.N) (b : Fin 4) (n : Fin 64) (s : Fin 2) (g : Fin 4) (r : Fin 8) (a : Fin 64)
    (hb : b.val = t.val / 32) (hn : n.val = t.val % 32 * 2 + s.val) :
    blockScore (grid0.coords t 1).val (X0_1 m c t) ![iblk m c 2 t, iblk m c 3 t, iblk m c 4 t, iblk m c 5 t] s g r a
      = Cert.Attn.score (qkvOf m c) b n g r a := by
  funext j
  have hh : (hd g r).val = g.val * 8 + r.val := by show 8 * g.val + r.val = _; omega
  unfold blockScore Cert.Attn.score
  rw [(row_index t).2.2.2, ← hn, show Cert.Attn.slopeOf (hd g r).val = Cert.Attn.slopeOf (g.val * 8 + r.val) from congrArg _ hh]
  refine congrArg (fun z => if 128 ≤ n.val * 64 + j.val then z else (⊥ : EReal)) ?_
  refine congrArg (fun z => z * _ - _) (Finset.sum_congr rfl fun e _ => ?_)
  rw [queries_apply]
  refine congrArg₂ (· * ·) (congrArg (qkvOf m c) (funext fun x => Fin.ext ?_)) ?_
  · match x with
    | ⟨0, _⟩ => show t.val * 128 + (64 * s.val + a.val) = b.val * 4096 + n.val * 64 + a.val; omega
    | ⟨1, _⟩ => show 64 * (hd g r).val + e.val = g.val * 512 + r.val * 64 + e.val; omega
  · unfold gathered
    rw [keys_apply, band_row t b n s j hb hn _ _ rfl rfl]
    refine congrArg (fun z => qkvOf m c (ix2 _ z)) (Fin.ext ?_)
    show 2048 + (64 * g.val + e.val) = 2048 + g.val * 64 + e.val; omega

theorem blockEntry_eq (c : Dev nD) (t : Fin cfg0.N) (b : Fin 4) (n : Fin 64) (s : Fin 2) (g : Fin 4) (r : Fin 8) (a d : Fin 64)
    (hb : b.val = t.val / 32) (hn : n.val = t.val % 32 * 2 + s.val) :
    blockEntry (grid0.coords t 1).val (iblk m c 0 t) (X0_1 m c t) ![iblk m c 2 t, iblk m c 3 t, iblk m c 4 t, iblk m c 5 t]
        ![iblk m c 6 t, iblk m c 7 t, iblk m c 8 t, iblk m c 9 t] s g r a d
      = Cert.Attn.attn (qkvOf m c) (sinksOf m c) b n g r a d := by
  have hh : (hd g r).val = g.val * 8 + r.val := by show 8 * g.val + r.val = _; omega
  rw [Cert.Attn.attn_eq]
  unfold blockEntry
  rw [blockScore_eq m c t b n s g r a hb hn, sinks_apply]
  refine congrArg₂ (Cert.Attn.entry _) (congrArg (fun z => sinksOf m c (ix1 z)) (Fin.ext hh)) (funext fun j => ?_)
  unfold gathered
  rw [values_apply, band_row t b n s j hb hn _ _ rfl rfl]
  refine congrArg (fun z => qkvOf m c (ix2 _ z)) (Fin.ext ?_)
  show 2304 + (64 * g.val + d.val) = 2304 + g.val * 64 + d.val; omega

/-! ## The whole array -/

/-- The attention of an array of projections and the sinks, as one array. -/
def attnOf (x0 : Vec Ideal S16384x2560 .f32) (x1 : Vec Ideal S32 .f32) (y : S16384x2048.Idx) : EReal :=
  Cert.Attn.attn x0 x1 ⟨(y 0).val / 4096, by have : (y 0).val < 16384 := (y 0).isLt; omega⟩ ⟨(y 0).val / 64 % 64, by omega⟩
    ⟨(y 1).val / 512, by have : (y 1).val < 2048 := (y 1).isLt; omega⟩ ⟨(y 1).val / 64 % 8, by omega⟩
    ⟨(y 0).val % 64, by omega⟩ ⟨(y 1).val % 64, by omega⟩

theorem attnOf_apply (x0 : Vec Ideal S16384x2560 .f32) (x1 : Vec Ideal S32 .f32) (y : S16384x2048.Idx) (b : Fin 4) (n : Fin 64) (g : Fin 4) (r : Fin 8) (a d : Fin 64)
    (h0 : (y 0).val = b.val * 4096 + n.val * 64 + a.val) (h1 : (y 1).val = g.val * 512 + r.val * 64 + d.val) :
    attnOf x0 x1 y = Cert.Attn.attn x0 x1 b n g r a d := by
  unfold attnOf
  congr 1 <;> apply Fin.ext <;> dsimp only <;> omega

/-- What point `t` writes back is its block of the attention. -/
theorem flushed_attn (c : Dev nD) (t : Fin cfg0.N) :
    (dats m 0 c).flushed 10 t = ((cfg0.win 10).blk t).view.read (Elt Ideal) (attnOf (qkvOf m c) (sinksOf m c)) := by
  rw [Value.flushed10_A]
  funext (y : S128x2048.Idx)
  have hy0 : (y 0).val < 128 := (y 0).isLt
  have hy1 : (y 1).val < 2048 := (y 1).isLt
  have ht : t.val < 128 := lt_of_lt_of_eq t.isLt N_eq
  refine (out_apply c (grid0.coords t) _ _ _ _ _ _ _ _ _ _ _ _ _ _ _ _ _ _ _ _ _ _ _ _ _ _ _ _ _ _ _ _ _ _ _ _ y).trans ?_
  unfold blockAt
  rw [blockEntry_eq m c t ⟨t.val / 32, by omega⟩ ⟨t.val % 32 * 2 + (y 0).val / 64, by omega⟩ _ _ _ _ _ rfl rfl]
  refine (attnOf_apply _ _ _ _ _ _ _ _ _ ?_ ?_).symm
  · show win0_10.index t 0 * 128 + 1 * (y 0).val = t.val / 32 * 4096 + (t.val % 32 * 2 + (y 0).val / 64) * 64 + (y 0).val % 64
    rw [(row_index t).2.2.1.1]; omega
  · show win0_10.index t 1 * 2048 + 1 * (y 1).val = (y 1).val / 512 * 512 + (y 1).val / 64 % 8 * 64 + (y 1).val % 64
    rw [(row_index t).2.2.1.2]; omega

/-- Every index of the result lies in the block of some point. -/
theorem covered (y : S16384x2048.Idx) : ∃ t : Fin cfg0.N, (cfg0.win 10).flush t = true ∧ y ∈ ((cfg0.win 10).blk t).view.set := by
  have h0 : (y 0).val < 16384 := (y 0).isLt
  have h1 : (y 1).val < 2048 := (y 1).isLt
  have ht : (y 0).val / 128 < cfg0.N := by rw [N_eq]; omega
  refine ⟨⟨(y 0).val / 128, ht⟩, (by decide +kernel : ∀ t : Fin grid0.N, win0_10.flush t = true) _, ?_⟩
  show y ∈ ((View.whole main_v0).slice (win0_10.rect ⟨(y 0).val / 128, ht⟩)).set
  rw [View.set_slice_whole, Rect.mem_set_unit]
  have e := (row_index ⟨(y 0).val / 128, ht⟩).2.2.1
  have x := size10 ⟨(y 0).val / 128, ht⟩
  intro a
  match a with
  | ⟨0, _⟩ =>
    show win0_10.index ⟨(y 0).val / 128, ht⟩ 0 * 128 ≤ (y 0).val ∧ (y 0).val < win0_10.index ⟨(y 0).val / 128, ht⟩ 0 * 128 + win0_10.xsize (grid0.coords ⟨(y 0).val / 128, ht⟩) 0
    rw [e.1, x.1]; dsimp only; omega
  | ⟨1, _⟩ =>
    show win0_10.index ⟨(y 0).val / 128, ht⟩ 1 * 2048 ≤ (y 1).val ∧ (y 1).val < win0_10.index ⟨(y 0).val / 128, ht⟩ 1 * 2048 + win0_10.xsize (grid0.coords ⟨(y 0).val / 128, ht⟩) 1
    rw [e.2, x.2]; omega

/-- After the run the output array is the attention of the arguments. -/
theorem array_eq (c : Dev nD) : (dats m 0 c).arrAt 10 cfg0.N = attnOf (qkvOf m c) (sinksOf m c) :=
  (dats m 0 c).arrAt_eq_of_cover 10 _ (fun t _ => flushed_attn m c t) covered

end Cert.KernelIdeal.Attn

end
-- ==== Proof.RValue.lean ====
/- The reference's attention, cut into stages, and what each holds at an index: the queries, the key and value bands
   padded in front of the sequence, the scores, and the softmax with a sink against the values. -/
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

section Stages

variable {F : FTy → Type} [FloatOps F]

/-- The projection's output with its batch axis. -/
def flat (x0 : FVec F S16384x2560 .f32) : FVec F S4x4096x2560 .f32 :=
  shapeCast _ x0 shapeCasts_S16384x2560_S4x4096x2560

/-- The queries, per chunk and head. -/
def queries (x : FVec F S4x4096x2560 .f32) : FVec F S4x64x64x4x8x64 .f32 :=
  shapeCast _ (shapeCast S4x4096x4x8x64 (extractStridedSlice S4x4096x2048 ![0, 0, 0] x slices_S4x4096x2560_S4x4096x2048_0_0_0)
    shapeCasts_S4x4096x2048_S4x4096x4x8x64) shapeCasts_S4x4096x4x8x64_S4x64x64x4x8x64

/-- The keys, per row and key head. -/
def keys (x : FVec F S4x4096x2560 .f32) : FVec F S4x4096x4x64 .f32 :=
  shapeCast _ (extractStridedSlice S4x4096x256 ![0, 0, 2048] x slices_S4x4096x2560_S4x4096x256_0_0_2048) shapeCasts_S4x4096x256_S4x4096x4x64

/-- The values, per row and key head. -/
def values (x : FVec F S4x4096x2560 .f32) : FVec F S4x4096x4x64 .f32 :=
  shapeCast _ (extractStridedSlice S4x4096x256 ![0, 0, 2304] x slices_S4x4096x2560_S4x4096x256_0_0_2304) shapeCasts_S4x4096x256_S4x4096x4x64

/-- Rows padded in front by the window, in chunks. -/
def padded (y : FVec F S4x4096x4x64 .f32) : FVec F S4x66x64x4x64 .f32 :=
  shapeCast _ (pad S4x4224x4x64 ![0, 128, 0, 0] ![0, 0, 0, 0] ![0, 0, 0, 0] y (sitofp .f32 (constantI S_ 32 0#32))
    pads_S4x4096x4x64_S4x4224x4x64_000_12800_000_000 h_S_) shapeCasts_S4x4224x4x64_S4x66x64x4x64

/-- Each chunk's band: the window before it and the chunk. -/
def band (z : FVec F S4x66x64x4x64 .f32) : FVec F S4x64x192x4x64 .f32 :=
  concatenate S4x64x192x4x64 2
    [⟨S4x64x64x4x64, extractStridedSlice S4x64x64x4x64 ![0, 0, 0, 0, 0] z slices_S4x66x64x4x64_S4x64x64x4x64_0_0_0_0_0⟩,
     ⟨S4x64x64x4x64, extractStridedSlice S4x64x64x4x64 ![0, 1, 0, 0, 0] z slices_S4x66x64x4x64_S4x64x64x4x64_0_1_0_0_0⟩,
     ⟨S4x64x64x4x64, extractStridedSlice S4x64x64x4x64 ![0, 2, 0, 0, 0] z slices_S4x66x64x4x64_S4x64x64x4x64_0_2_0_0_0⟩]
    concatenates_S4x64x64x4x64_S4x64x64x4x64_S4x64x64x4x64_S4x64x192x4x64_d2

/-- Which band keys lie inside the sequence, per chunk. -/
def valid : IVec S1x64x192 1 :=
  broadcastInDim S1x64x192 ![1, 2] bcast_S64x192_S1x64x192_1_2
    (cmpi .sge
      (addi
        (broadcastInDim S64x192 ![0, 1] bcast_S64x1_S64x192_0_1
          (subi (muli (broadcastInDim S64x1 ![0] bcast_S64_S64x1_0 (iotaInDim S64 32 0)) (broadcastInDim S64x1 ![] bcast_S_S64x1 (constantI S_ 32 64#32)))
            (broadcastInDim S64x1 ![] bcast_S_S64x1 (constantI S_ 32 128#32))))
        (broadcastInDim S64x192 ![0, 1] bcast_S1x192_S64x192_0_1 (broadcastInDim S1x192 ![1] bcast_S192_S1x192_1 (iotaInDim S192 32 0))))
      (broadcastInDim S64x192 ![] bcast_S_S64x192 (constantI S_ 32 0#32)))

/-- The heads' slopes: two to the power of minus eight times the head's number (from one) over the number of heads. -/
def slopes : FVec F S4x8 .f32 :=
  Host.powf (broadcastInDim S4x8 ![] bcast_S_S4x8 (constant S_ .f32 0x40000000#32))
    (shapeCast _ (Host.divf (mulf (broadcastInDim S32 ![] bcast_S_S32 (constant S_ .f32 0xC1000000#32))
        (addf (broadcastInDim S32 ![] bcast_S_S32 (constant S_ .f32 0x3F800000#32)) (sitofp .f32 (iotaInDim S32 32 0))))
      (broadcastInDim S32 ![] bcast_S_S32 (constant S_ .f32 0x42000000#32))) shapeCasts_S32_S4x8)

/-- The distances of a chunk's rows from its band's keys. -/
def dists : FVec F S64x192 .f32 :=
  sitofp .f32 (absi (subi
    (broadcastInDim S64x192 ![0, 1] bcast_S64x1_S64x192_0_1
      (addi (broadcastInDim S64x1 ![] bcast_S_S64x1 (constantI S_ 32 128#32)) (broadcastInDim S64x1 ![0] bcast_S64_S64x1_0 (iotaInDim S64 32 0))))
    (broadcastInDim S64x192 ![0, 1] bcast_S1x192_S64x192_0_1 (broadcastInDim S1x192 ![1] bcast_S192_S1x192_1 (iotaInDim S192 32 0)))))

/-- The slopes times the distances. -/
def alibi (sl : FVec F S4x8 .f32) (di : FVec F S64x192 .f32) : FVec F S4x64x4x8x64x192 .f32 :=
  broadcastInDim S4x64x4x8x64x192 ![0, 1, 2, 3, 4, 5] bcast_S1x1x4x8x64x192_S4x64x4x8x64x192_0_1_2_3_4_5
    (broadcastInDim S1x1x4x8x64x192 ![2, 3, 4, 5] bcast_S4x8x64x192_S1x1x4x8x64x192_2_3_4_5
      (mulf
        (broadcastInDim S4x8x64x192 ![0, 1, 2, 3] bcast_S4x8x1x1_S4x8x64x192_0_1_2_3 (broadcastInDim S4x8x1x1 ![0, 1] bcast_S4x8_S4x8x1x1_0_1 sl))
        (broadcastInDim S4x8x64x192 ![0, 1, 2, 3] bcast_S1x1x64x192_S4x8x64x192_0_1_2_3 (broadcastInDim S1x1x64x192 ![2, 3] bcast_S64x192_S1x1x64x192_2_3 di))))

/-- The masked scores. -/
def masked (q : FVec F S4x64x64x4x8x64 .f32) (k : FVec F S4x64x192x4x64 .f32) (al : FVec F S4x64x4x8x64x192 .f32)
    (va : IVec S1x64x192 1) : FVec F S4x64x4x8x64x192 .f32 :=
  select
    (broadcastInDim S4x64x4x8x64x192 ![0, 1, 2, 3, 4, 5] bcast_S1x64x1x1x1x192_S4x64x4x8x64x192_0_1_2_3_4_5
      (broadcastInDim S1x64x1x1x1x192 ![0, 1, 5] bcast_S1x64x192_S1x64x1x1x1x192_0_1_5 va))
    (subf (mulf (transpose S4x64x4x8x64x192 [0, 1, 2, 5, 4, 3]
        (Host.dotGeneral dot_S4x64x192x4x64_S4x64x64x4x8x64_S4x64x4x192x64x8_4_5_2_24_013_013 none k q)
        transposes_S4x64x4x192x64x8_S4x64x4x8x64x192_0_1_2_5_4_3)
      (broadcastInDim S4x64x4x8x64x192 ![] bcast_S_S4x64x4x8x64x192 (constant S_ .f32 0x3E000000#32))) al)
    (broadcastInDim S4x64x4x8x64x192 ![] bcast_S_S4x64x4x8x64x192 (constant S_ .f32 0xFF800000#32))

/-- The sinks, one per head. -/
def sinks (x1 : FVec F S32 .f32) : FVec F S4x64x4x8x64x1 .f32 :=
  broadcastInDim S4x64x4x8x64x1 ![0, 1, 2, 3, 4, 5] bcast_S1x1x4x8x1x1_S4x64x4x8x64x1_0_1_2_3_4_5
    (broadcastInDim S1x1x4x8x1x1 ![2, 3, 4, 5] bcast_S4x8x1x1_S1x1x4x8x1x1_2_3_4_5
      (broadcastInDim S4x8x1x1 ![0, 1] bcast_S4x8_S4x8x1x1_0_1 (shapeCast _ x1 shapeCasts_S32_S4x8)))

/-- The rows' maxima before the sink. -/
def rowMaxes (s : FVec F S4x64x4x8x64x192 .f32) : FVec F S4x64x4x8x64 .f32 :=
  Host.reduce FloatOps.maximumf s (constant S_ .f32 0xFF800000#32) reducesTo_S4x64x4x8x64x192_S4x64x4x8x64_d5 h_S_

/-- Row maxima and sinks compared. -/
def withSink (y : FVec F S4x64x4x8x64 .f32) (sk : FVec F S4x64x4x8x64x1 .f32) : FVec F S4x64x4x8x64x1 .f32 :=
  maximumf (broadcastInDim S4x64x4x8x64x1 ![0, 1, 2, 3, 4] bcast_S4x64x4x8x64_S4x64x4x8x64x1_0_1_2_3_4 y) sk

/-- The rows' maxima. -/
def maxima (s : FVec F S4x64x4x8x64x192 .f32) (sk : FVec F S4x64x4x8x64x1 .f32) : FVec F S4x64x4x8x64x1 .f32 :=
  withSink (rowMaxes s) sk

/-- The exponentials. -/
def expos (s : FVec F S4x64x4x8x64x192 .f32) (mx : FVec F S4x64x4x8x64x1 .f32) : FVec F S4x64x4x8x64x192 .f32 :=
  Host.exp (subf s (broadcastInDim S4x64x4x8x64x192 ![0, 1, 2, 3, 4, 5] bcast_S4x64x4x8x64x1_S4x64x4x8x64x192_0_1_2_3_4_5 mx))

/-- The rows' sums. -/
def rowSums (p : FVec F S4x64x4x8x64x192 .f32) : FVec F S4x64x4x8x64 .f32 :=
  Host.reduceAdd p (constant S_ .f32 0x00000000#32) reducesTo_S4x64x4x8x64x192_S4x64x4x8x64_d5 h_S_

/-- The rows' sums and the sinks' exponentials. -/
def plusSink (y : FVec F S4x64x4x8x64 .f32) (sk mx : FVec F S4x64x4x8x64x1 .f32) : FVec F S4x64x4x8x64x1 .f32 :=
  addf (broadcastInDim S4x64x4x8x64x1 ![0, 1, 2, 3, 4] bcast_S4x64x4x8x64_S4x64x4x8x64x1_0_1_2_3_4 y) (Host.exp (subf sk mx))

/-- The denominators. -/
def denoms (p : FVec F S4x64x4x8x64x192 .f32) (sk mx : FVec F S4x64x4x8x64x1 .f32) : FVec F S4x64x4x8x64x1 .f32 :=
  plusSink (rowSums p) sk mx

/-- The probabilities. -/
def probs (p : FVec F S4x64x4x8x64x192 .f32) (dn : FVec F S4x64x4x8x64x1 .f32) : FVec F S4x64x4x8x64x192 .f32 :=
  Host.divf p (broadcastInDim S4x64x4x8x64x192 ![0, 1, 2, 3, 4, 5] bcast_S4x64x4x8x64x1_S4x64x4x8x64x192_0_1_2_3_4_5 dn)

/-- The probabilities against the values, head beside head. -/
def merged (w : FVec F S4x64x4x8x64x192 .f32) (v : FVec F S4x64x192x4x64 .f32) : FVec F S16384x2048 .bf16 :=
  truncf .bf16 (shapeCast S16384x2048 (transpose S4x64x64x4x8x64 [0, 1, 5, 2, 4, 3]
    (Host.dotGeneral dot_S4x64x192x4x64_S4x64x4x8x64x192_S4x64x4x64x8x64_2_5_4_34_013_012 none v w)
    transposes_S4x64x4x64x8x64_S4x64x64x4x8x64_0_1_5_2_4_3) shapeCasts_S4x64x64x4x8x64_S16384x2048) bitsLt_bf16_f32

/-- The softmax with a sink, against the values. -/
def softmaxed (s : FVec F S4x64x4x8x64x192 .f32) (sk : FVec F S4x64x4x8x64x1 .f32) (v : FVec F S4x64x192x4x64 .f32) :
    FVec F S16384x2048 .bf16 :=
  merged (probs (expos s (maxima s sk)) (denoms (expos s (maxima s sk)) sk (maxima s sk))) v

/-- The reference's result. -/
def result (x0 : FVec F S16384x2560 .f32) (x1 : FVec F S32 .f32) : FVec F S16384x2048 .bf16 :=
  softmaxed (masked (queries (flat x0)) (band (padded (keys (flat x0)))) (alibi slopes dists) valid) (sinks x1) (band (padded (values (flat x0))))

theorem res_eq (m : (ℓ : Loc nD τ sig) → Buf (Elt F) ℓ) (c : Dev nD) :
    Cert.ReferenceIdeal.Value.res_main_v91 m c = result (m ((c.tc : Thread nD τ).loc main_arg0)) (m ((c.tc : Thread nD τ).loc main_arg1)) := by
  unfold Cert.ReferenceIdeal.Value.res_main_v91; rfl

end Stages

end Cert.ReferenceIdeal.Attn

end
-- ==== Proof.RRead.lean ====
/- The reference's stages read at an index. -/
module

public import proofs.«01_k».proof.Proof.RValue
public import proofs.«01_k».proof.Proof.Core
public import Idealize.ShloMosaic.Lib.IdealHost
public import Idealize.ShloMosaic.PureOps.Ideal.Laws

@[expose] public section

set_option maxRecDepth 16384

noncomputable section

namespace Cert.ReferenceIdeal.Attn

open Cert.ReferenceIdeal Cert.ReferenceIdeal.Gen Idealize.ShloMosaic Idealize.ShloMosaic.TcCoe Idealize.SL.Sem

theorem queries_apply (x0 : FVec Ideal S16384x2560 .f32) (b : Fin 4) (n i : Fin 64) (g : Fin 4) (r : Fin 8) (e : Fin 64) :
    queries (flat x0) (ix6 b n i g r e) = x0 (ix2 ⟨b.val * 4096 + n.val * 64 + i.val, by omega⟩ ⟨g.val * 512 + r.val * 64 + e.val, by omega⟩) := by
  pointwise [queries, flat]
  congr 2 <;> apply Fin.ext <;> dsimp only <;> omega

theorem band_apply (y : FVec Ideal S4x4096x4x64 .f32) (b : Fin 4) (n : Fin 64) (j : Fin 192) (g : Fin 4) (e : Fin 64) :
    band (padded y) (ix5 b n j g e)
      = if h : 128 ≤ n.val * 64 + j.val then y (ix4 b ⟨n.val * 64 + j.val - 128, by omega⟩ g e) else 0 := by
  pointwise [band, padded]
  have hz : FloatOps.sitofp (F := Ideal) .f32 0#32 = (0 : EReal) := by
    show (((0#32 : BitVec 32).toInt : ℝ) : EReal) = 0
    simp
  simp only [hz]
  by_cases hl : 128 ≤ n.val * 64 + j.val
  · have key : ∀ (a : Nat) (ha : a < 4096), a = n.val * 64 + j.val - 128 →
        y (ix4 b ⟨a, ha⟩ g e) = y (ix4 b ⟨n.val * 64 + j.val - 128, by omega⟩ g e) := by
      rintro a ha rfl; rfl
    refine Eq.trans ?_ (dif_pos hl).symm
    by_cases h0 : j.val < 64
    · refine (dif_pos h0).trans ((dif_pos ⟨?_, ?_⟩).trans (key _ ?_ ?_)) <;> omega
    · refine (dif_neg h0).trans ?_
      by_cases h1 : j.val - 64 < 64
      · refine (dif_pos h1).trans ((dif_pos ⟨?_, ?_⟩).trans (key _ ?_ ?_)) <;> omega
      · refine (dif_neg h1).trans ((dif_pos ⟨?_, ?_⟩).trans (key _ ?_ ?_)) <;> omega
  · refine Eq.trans ?_ (dif_neg hl).symm
    by_cases h0 : j.val < 64
    · refine (dif_pos h0).trans (dif_neg ?_); omega
    · refine (dif_neg h0).trans ?_
      by_cases h1 : j.val - 64 < 64
      · refine (dif_pos h1).trans (dif_neg ?_); omega
      · refine (dif_neg h1).trans (dif_neg ?_); omega

theorem keys_apply (x0 : FVec Ideal S16384x2560 .f32) (b : Fin 4) (t : Fin 4096) (g : Fin 4) (e : Fin 64) :
    keys (flat x0) (ix4 b t g e) = x0 (ix2 ⟨b.val * 4096 + t.val, by omega⟩ ⟨2048 + g.val * 64 + e.val, by omega⟩) := by
  pointwise [keys, flat]
  congr 2 <;> apply Fin.ext <;> dsimp only <;> omega

theorem values_apply (x0 : FVec Ideal S16384x2560 .f32) (b : Fin 4) (t : Fin 4096) (g : Fin 4) (e : Fin 64) :
    values (flat x0) (ix4 b t g e) = x0 (ix2 ⟨b.val * 4096 + t.val, by omega⟩ ⟨2304 + g.val * 64 + e.val, by omega⟩) := by
  pointwise [values, flat]
  congr 2 <;> apply Fin.ext <;> dsimp only <;> omega

theorem masked_apply (q : FVec Ideal S4x64x64x4x8x64 .f32) (k : FVec Ideal S4x64x192x4x64 .f32) (al : FVec Ideal S4x64x4x8x64x192 .f32)
    (va : IVec S1x64x192 1) (b : Fin 4) (n : Fin 64) (g : Fin 4) (r : Fin 8) (i : Fin 64) (j : Fin 192) :
    masked q k al va (ix6 b n g r i j) = Scalar.select (va (ix3 0 n j))
      ((∑ x, k (ix5 b n j g x) * q (ix6 b n i g r x)) * Ideal.ofBits .f32 0x3E000000#32 - al (ix6 b n g r i j)) (Ideal.ofBits .f32 0xFF800000#32) := by
  pointwise [masked]

theorem slopes_apply (g : Fin 4) (r : Fin 8) :
    slopes (F := Ideal) (ix2 g r) = Ideal.pow (Ideal.ofBits .f32 0x40000000#32)
      (Ideal.div (Ideal.ofBits .f32 0xC1000000#32 * (1 + FloatOps.sitofp (F := Ideal) .f32 (BitVec.ofNat 32 (g.val * 8 + r.val))))
        (Ideal.ofBits .f32 0x42000000#32)) := by
  pointwise [slopes]

theorem alibi_apply (sl : FVec Ideal S4x8 .f32) (b : Fin 4) (n : Fin 64) (g : Fin 4) (r : Fin 8) (i : Fin 64) (j : Fin 192) :
    alibi sl dists (ix6 b n g r i j) = sl (ix2 g r) * FloatOps.sitofp (F := Ideal) .f32
      (IntOp.absi (IntOp.subi (IntOp.addi 128#32 (BitVec.ofNat 32 i.val)) (BitVec.ofNat 32 j.val))) := by
  pointwise [alibi, dists]

theorem sinks_apply (x1 : FVec Ideal S32 .f32) (b : Fin 4) (n : Fin 64) (g : Fin 4) (r : Fin 8) (i : Fin 64) (z : Fin 1) :
    sinks x1 (ix6 b n g r i z) = x1 (ix1 ⟨g.val * 8 + r.val, by omega⟩) := by
  pointwise [sinks]

/-- The test for a key inside the sequence, at the words of a chunk and a band key. -/
theorem live_word (n : Fin 64) (j : Fin 192) : IntOp.cmpi CmpIPredicate.sge
      (IntOp.addi (IntOp.subi (IntOp.muli (BitVec.ofNat 32 n.val) 64#32) 128#32) (BitVec.ofNat 32 j.val)) 0#32 =
    if 128 ≤ n.val * 64 + j.val then 1#1 else 0#1 := by
  revert n j
  decide +kernel

theorem valid_apply (n : Fin 64) (j : Fin 192) :
    valid (ix3 0 n j) = if 128 ≤ n.val * 64 + j.val then 1#1 else 0#1 := by
  pointwise [valid]
  exact live_word n j

theorem merged_apply (w : FVec Ideal S4x64x4x8x64x192 .f32) (v : FVec Ideal S4x64x192x4x64 .f32) (b : Fin 4) (n : Fin 64) (g : Fin 4) (r : Fin 8) (i : Fin 64) (d : Fin 64) :
    merged w v (ix2 ⟨b.val * 4096 + n.val * 64 + i.val, by omega⟩ ⟨g.val * 512 + r.val * 64 + d.val, by omega⟩)
      = ∑ x, v (ix5 b n x g d) * w (ix6 b n g r i x) := by
  pointwise [merged]

/-- The scores that a row's reductions run over. -/
theorem fiber (h : S4x64x4x8x64x192.ReducesTo [5] S4x64x4x8x64) (b : Fin 4) (n : Fin 64) (g : Fin 4) (r : Fin 8) (i : Fin 64) (y : S4x64x4x8x64x192.Idx) :
    h.drop y = ix5 b n g r i ↔ ∃ k : Fin 192, ix6 b n g r i k = y := by
  constructor
  · intro e
    refine ⟨y 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    match a with
    | ⟨0, _⟩ => rfl
    | ⟨1, _⟩ => rfl
    | ⟨2, _⟩ => rfl
    | ⟨3, _⟩ => rfl
    | ⟨4, _⟩ => rfl

theorem rowMaxes_apply (s : FVec Ideal S4x64x4x8x64x192 .f32) (b : Fin 4) (n : Fin 64) (g : Fin 4) (r : Fin 8) (i : Fin 64) :
    rowMaxes s (ix5 b n g r i) = Finset.fold max (Ideal.ofBits .f32 0xFF800000#32) (fun j => s (ix6 b n g r i j)) Finset.univ :=
  (Host.reduce_eq_fold (FloatOps.maximumf (F := Ideal) (φ := .f32)) s (constant (F := Ideal) S_ .f32 0xFF800000#32)
    reducesTo_S4x64x4x8x64x192_S4x64x4x8x64_d5 h_S_ (ix5 b n g r i)).trans
    (Finset.fold_filter_eq_fold_of_fiber max _ (fun k : Fin 192 => ix6 b n g r i k) (fun _ _ e => congrFun e 5) (fiber _ b n g r i) _ _)

theorem withSink_apply (y : FVec Ideal S4x64x4x8x64 .f32) (sk : FVec Ideal S4x64x4x8x64x1 .f32) (b : Fin 4) (n : Fin 64) (g : Fin 4) (r : Fin 8) (i : Fin 64) :
    withSink y sk (ix6 b n g r i 0) = max (y (ix5 b n g r i)) (sk (ix6 b n g r i 0)) := by
  pointwise [withSink]

theorem maxima_apply (s : FVec Ideal S4x64x4x8x64x192 .f32) (sk : FVec Ideal S4x64x4x8x64x1 .f32) (b : Fin 4) (n : Fin 64) (g : Fin 4) (r : Fin 8) (i : Fin 64) :
    maxima s sk (ix6 b n g r i 0) = Cert.Attn.top (fun j => s (ix6 b n g r i j)) (sk (ix6 b n g r i 0)) := by
  unfold maxima Cert.Attn.top
  rw [withSink_apply, rowMaxes_apply]

theorem expos_apply (s : FVec Ideal S4x64x4x8x64x192 .f32) (mx : FVec Ideal S4x64x4x8x64x1 .f32) (b : Fin 4) (n : Fin 64) (g : Fin 4) (r : Fin 8) (i : Fin 64) (j : Fin 192) :
    expos s mx (ix6 b n g r i j) = Ideal.exp (s (ix6 b n g r i j) - mx (ix6 b n g r i 0)) := by
  pointwise [expos]

theorem rowSums_apply (p : FVec Ideal S4x64x4x8x64x192 .f32) (b : Fin 4) (n : Fin 64) (g : Fin 4) (r : Fin 8) (i : Fin 64) :
    rowSums p (ix5 b n g r i) = ∑ j, p (ix6 b n g r i j) := by
  unfold rowSums
  rw [ValueIdx.hostReduceAdd_apply]
  unfold Ideal.hostReduceAdd
  rw [Finset.sum_filter_eq_sum_of_fiber _ (fun k : Fin 192 => ix6 b n g r i k) (fun _ _ e => congrFun e 5) (fiber _ b n g r i)]
  rw [show constant (F := Ideal) S_ .f32 0x00000000#32 (Shape.Idx.first h_S_) = (0 : EReal) from Ideal.ofBits_zero_f32, zero_add]

theorem plusSink_apply (y : FVec Ideal S4x64x4x8x64 .f32) (sk mx : FVec Ideal S4x64x4x8x64x1 .f32) (b : Fin 4) (n : Fin 64) (g : Fin 4) (r : Fin 8) (i : Fin 64) :
    plusSink y sk mx (ix6 b n g r i 0) = y (ix5 b n g r i) + Ideal.exp (sk (ix6 b n g r i 0) - mx (ix6 b n g r i 0)) := by
  pointwise [plusSink]

theorem denoms_apply (p : FVec Ideal S4x64x4x8x64x192 .f32) (sk mx : FVec Ideal S4x64x4x8x64x1 .f32) (b : Fin 4) (n : Fin 64) (g : Fin 4) (r : Fin 8) (i : Fin 64) :
    denoms p sk mx (ix6 b n g r i 0) = ∑ j, p (ix6 b n g r i j) + Ideal.exp (sk (ix6 b n g r i 0) - mx (ix6 b n g r i 0)) := by
  unfold denoms
  rw [plusSink_apply, rowSums_apply]

theorem probs_apply (p : FVec Ideal S4x64x4x8x64x192 .f32) (dn : FVec Ideal S4x64x4x8x64x1 .f32) (b : Fin 4) (n : Fin 64) (g : Fin 4) (r : Fin 8) (i : Fin 64) (j : Fin 192) :
    probs p dn (ix6 b n g r i j) = Ideal.div (p (ix6 b n g r i j)) (dn (ix6 b n g r i 0)) := by
  pointwise [probs]

/-- The softmax with a sink against the values, at an index: one entry of the attention. -/
theorem softmaxed_apply (s : FVec Ideal S4x64x4x8x64x192 .f32) (sk : FVec Ideal S4x64x4x8x64x1 .f32) (v : FVec Ideal S4x64x192x4x64 .f32)
    (b : Fin 4) (n : Fin 64) (g : Fin 4) (r : Fin 8) (i : Fin 64) (d : Fin 64) :
    softmaxed s sk v (ix2 ⟨b.val * 4096 + n.val * 64 + i.val, by omega⟩ ⟨g.val * 512 + r.val * 64 + d.val, by omega⟩)
      = Cert.Attn.entry (fun j => s (ix6 b n g r i j)) (sk (ix6 b n g r i 0)) (fun j => v (ix5 b n j g d)) := by
  unfold softmaxed
  rw [merged_apply]
  unfold Cert.Attn.entry Cert.Attn.den
  refine Finset.sum_congr rfl fun x _ => ?_
  rw [mul_comm, probs_apply, denoms_apply, maxima_apply, expos_apply, maxima_apply]
  simp only [expos_apply, maxima_apply]

theorem result_apply (x0 : FVec Ideal S16384x2560 .f32) (x1 : FVec Ideal S32 .f32) (b : Fin 4) (n : Fin 64) (g : Fin 4) (r : Fin 8) (i : Fin 64) (d : Fin 64) :
    result x0 x1 (ix2 ⟨b.val * 4096 + n.val * 64 + i.val, by omega⟩ ⟨g.val * 512 + r.val * 64 + d.val, by omega⟩)
      = Cert.Attn.attn x0 x1 b n g r i d := by
  unfold result
  rw [softmaxed_apply]
  unfold Cert.Attn.attn
  congr 1
  · funext j
    rw [masked_apply, valid_apply, alibi_apply, slopes_apply]
    unfold Cert.Attn.score
    by_cases h : 128 ≤ n.val * 64 + j.val
    · rw [if_pos h, if_pos h]
      show _ - _ = _
      simp only [band_apply, dif_pos h, keys_apply, queries_apply]
      rw [Cert.Attn.slope_word _ (by omega)]
      congr 2
      refine Finset.sum_congr rfl fun e _ => ?_
      rw [mul_comm]
      congr 3
      apply Fin.ext; unfold Cert.Attn.krow; dsimp only; omega
    · rw [if_neg h, if_neg h]
      exact Cert.Attn.ofBits_neg_inf
  · rw [sinks_apply]
  · funext j
    rw [band_apply]
    by_cases h : 128 ≤ n.val * 64 + j.val
    · rw [dif_pos h, if_pos h, values_apply]
      congr 2
      apply Fin.ext; unfold Cert.Attn.krow; dsimp only; omega
    · rw [dif_neg h, if_neg h]

end Cert.ReferenceIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelSguIn
public import proofs.«01_k».proof.Proof.Gen.KernelSguIn.Skeleton
public import proofs.«01_k».proof.Proof.Gen.KernelSguIn.Launch
public import proofs.«01_k».proof.Proof.Gen.KernelSguIn.Points
public import proofs.«01_k».proof.Proof.Gen.KernelSguIn.Frame
public import proofs.«01_k».proof.Proof.Gen.KernelSguInIdeal
public import proofs.«01_k».proof.Proof.Gen.KernelSguInIdeal.Skeleton
public import proofs.«01_k».proof.Proof.Gen.KernelSguInIdeal.Launch
public import proofs.«01_k».proof.Proof.Gen.KernelSguInIdeal.Points
public import proofs.«01_k».proof.Proof.Gen.KernelSguInIdeal.Frame
public import proofs.«01_k».proof.Proof.Gen.KernelSguInIdeal.Value
public import proofs.«01_k».proof.Proof.Gen.ReferenceSguInIdeal
public import proofs.«01_k».proof.Proof.Gen.ReferenceSguInIdeal.Run
public import proofs.«01_k».proof.Proof.Gen.KernelSguOut
public import proofs.«01_k».proof.Proof.Gen.KernelSguOut.Skeleton
public import proofs.«01_k».proof.Proof.Gen.KernelSguOut.Launch
public import proofs.«01_k».proof.Proof.Gen.KernelSguOut.Points
public import proofs.«01_k».proof.Proof.Gen.KernelSguOut.Frame
public import proofs.«01_k».proof.Proof.Gen.KernelSguOutIdeal
public import proofs.«01_k».proof.Proof.Gen.KernelSguOutIdeal.Skeleton
public import proofs.«01_k».proof.Proof.Gen.KernelSguOutIdeal.Launch
public import proofs.«01_k».proof.Proof.Gen.KernelSguOutIdeal.Points
public import proofs.«01_k».proof.Proof.Gen.KernelSguOutIdeal.Frame
public import proofs.«01_k».proof.Proof.Gen.KernelSguOutIdeal.Value
public import proofs.«01_k».proof.Proof.Gen.ReferenceSguOutIdeal
public import proofs.«01_k».proof.Proof.Gen.ReferenceSguOutIdeal.Run
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelConvOut
public import proofs.«01_k».proof.Proof.Gen.KernelConvOut.Skeleton
public import proofs.«01_k».proof.Proof.Gen.KernelConvOut.Launch
public import proofs.«01_k».proof.Proof.Gen.KernelConvOut.Points
public import proofs.«01_k».proof.Proof.Gen.KernelConvOut.Frame
public import proofs.«01_k».proof.Proof.Gen.KernelConvOutIdeal
public import proofs.«01_k».proof.Proof.Gen.KernelConvOutIdeal.Skeleton
public import proofs.«01_k».proof.Proof.Gen.KernelConvOutIdeal.Launch
public import proofs.«01_k».proof.Proof.Gen.KernelConvOutIdeal.Points
public import proofs.«01_k».proof.Proof.Gen.KernelConvOutIdeal.Frame
public import proofs.«01_k».proof.Proof.Gen.KernelConvOutIdeal.Value
public import proofs.«01_k».proof.Proof.Gen.ReferenceConvOutIdeal
public import proofs.«01_k».proof.Proof.Gen.ReferenceConvOutIdeal.Run
public import proofs.«01_k».proof.Proof.Gen.KernelAttnOut
public import proofs.«01_k».proof.Proof.Gen.KernelAttnOut.Skeleton
public import proofs.«01_k».proof.Proof.Gen.KernelAttnOut.Launch
public import proofs.«01_k».proof.Proof.Gen.KernelAttnOut.Points
public import proofs.«01_k».proof.Proof.Gen.KernelAttnOut.Frame
public import proofs.«01_k».proof.Proof.Gen.KernelAttnOutIdeal
public import proofs.«01_k».proof.Proof.Gen.KernelAttnOutIdeal.Skeleton
public import proofs.«01_k».proof.Proof.Gen.KernelAttnOutIdeal.Launch
public import proofs.«01_k».proof.Proof.Gen.KernelAttnOutIdeal.Points
public import proofs.«01_k».proof.Proof.Gen.KernelAttnOutIdeal.Frame
public import proofs.«01_k».proof.Proof.Gen.KernelAttnOutIdeal.Value
public import proofs.«01_k».proof.Proof.Gen.ReferenceAttnOutIdeal
public import proofs.«01_k».proof.Proof.Gen.ReferenceAttnOutIdeal.Run
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelSguMix
public import proofs.«01_k».proof.Proof.Gen.KernelSguMix.Skeleton
public import proofs.«01_k».proof.Proof.Gen.KernelSguMix.Launch
public import proofs.«01_k».proof.Proof.Gen.KernelSguMix.Points
public import proofs.«01_k».proof.Proof.Gen.KernelSguMix.Frame
public import proofs.«01_k».proof.Proof.Gen.KernelSguMixIdeal
public import proofs.«01_k».proof.Proof.Gen.KernelSguMixIdeal.Skeleton
public import proofs.«01_k».proof.Proof.Gen.KernelSguMixIdeal.Launch
public import proofs.«01_k».proof.Proof.Gen.KernelSguMixIdeal.Points
public import proofs.«01_k».proof.Proof.Gen.KernelSguMixIdeal.Frame
public import proofs.«01_k».proof.Proof.Gen.KernelSguMixIdeal.Value
public import proofs.«01_k».proof.Proof.Gen.ReferenceSguMixIdeal
public import proofs.«01_k».proof.Proof.Gen.ReferenceSguMixIdeal.Run
public import proofs.«01_k».proof.Proof.Gen.KernelSguMixSample
public import proofs.«01_k».proof.Proof.Gen.KernelSguMixSample.Skeleton
public import proofs.«01_k».proof.Proof.Gen.KernelSguMixSample.Launch
public import proofs.«01_k».proof.Proof.Gen.KernelSguMixSample.Points
public import proofs.«01_k».proof.Proof.Gen.KernelSguMixSample.Frame
public import proofs.«01_k».proof.Proof.Gen.KernelSguMixSampleIdeal
public import proofs.«01_k».proof.Proof.Gen.KernelSguMixSampleIdeal.Skeleton
public import proofs.«01_k».proof.Proof.Gen.KernelSguMixSampleIdeal.Launch
public import proofs.«01_k».proof.Proof.Gen.KernelSguMixSampleIdeal.Points
public import proofs.«01_k».proof.Proof.Gen.KernelSguMixSampleIdeal.Frame
public import proofs.«01_k».proof.Proof.Gen.KernelSguMixSampleIdeal.Value
public import proofs.«01_k».proof.Proof.Gen.ReferenceSguMixSampleIdeal
public import proofs.«01_k».proof.Proof.Gen.ReferenceSguMixSampleIdeal.Run
public import proofs.«01_k».proof.Proof.Gen.KernelNormSample
public import proofs.«01_k».proof.Proof.Gen.KernelNormSample.Skeleton
public import proofs.«01_k».proof.Proof.Gen.KernelNormSample.Launch
public import proofs.«01_k».proof.Proof.Gen.KernelNormSample.Points
public import proofs.«01_k».proof.Proof.Gen.KernelNormSample.Frame
public import proofs.«01_k».proof.Proof.Gen.KernelNormSampleIdeal
public import proofs.«01_k».proof.Proof.Gen.KernelNormSampleIdeal.Skeleton
public import proofs.«01_k».proof.Proof.Gen.KernelNormSampleIdeal.Launch
public import proofs.«01_k».proof.Proof.Gen.KernelNormSampleIdeal.Points
public import proofs.«01_k».proof.Proof.Gen.KernelNormSampleIdeal.Frame
public import proofs.«01_k».proof.Proof.Gen.KernelNormSampleIdeal.Value
public import proofs.«01_k».proof.Proof.Gen.ReferenceNormSampleIdeal
public import proofs.«01_k».proof.Proof.Gen.ReferenceNormSampleIdeal.Run
public import proofs.«01_k».proof.Proof.Gen.KernelGluSample
public import proofs.«01_k».proof.Proof.Gen.KernelGluSample.Skeleton
public import proofs.«01_k».proof.Proof.Gen.KernelGluSample.Launch
public import proofs.«01_k».proof.Proof.Gen.KernelGluSample.Points
public import proofs.«01_k».proof.Proof.Gen.KernelGluSample.Frame
public import proofs.«01_k».proof.Proof.Gen.KernelGluSampleIdeal
public import proofs.«01_k».proof.Proof.Gen.KernelGluSampleIdeal.Skeleton
public import proofs.«01_k».proof.Proof.Gen.KernelGluSampleIdeal.Launch
public import proofs.«01_k».proof.Proof.Gen.KernelGluSampleIdeal.Points
public import proofs.«01_k».proof.Proof.Gen.KernelGluSampleIdeal.Frame
public import proofs.«01_k».proof.Proof.Gen.KernelGluSampleIdeal.Value
public import proofs.«01_k».proof.Proof.Gen.ReferenceGluSampleIdeal
public import proofs.«01_k».proof.Proof.Gen.ReferenceGluSampleIdeal.Run
public import proofs.«01_k».proof.Proof.Gen.KernelQkvSample
public import proofs.«01_k».proof.Proof.Gen.KernelQkvSample.Skeleton
public import proofs.«01_k».proof.Proof.Gen.KernelQkvSample.Launch
public import proofs.«01_k».proof.Proof.Gen.KernelQkvSample.Points
public import proofs.«01_k».proof.Proof.Gen.KernelQkvSample.Frame
public import proofs.«01_k».proof.Proof.Gen.KernelQkvSampleIdeal
public import proofs.«01_k».proof.Proof.Gen.KernelQkvSampleIdeal.Skeleton
public import proofs.«01_k».proof.Proof.Gen.KernelQkvSampleIdeal.Launch
public import proofs.«01_k».proof.Proof.Gen.KernelQkvSampleIdeal.Points
public import proofs.«01_k».proof.Proof.Gen.KernelQkvSampleIdeal.Frame
public import proofs.«01_k».proof.Proof.Gen.KernelQkvSampleIdeal.Value
public import proofs.«01_k».proof.Proof.Gen.ReferenceQkvSampleIdeal
public import proofs.«01_k».proof.Proof.Gen.ReferenceQkvSampleIdeal.Run
public import proofs.«01_k».proof.Proof.SguIn
public import proofs.«01_k».proof.Proof.SguOut
public import proofs.«01_k».proof.Proof.Glu
public import proofs.«01_k».proof.Proof.Qkv
public import proofs.«01_k».proof.Proof.ConvOut
public import proofs.«01_k».proof.Proof.AttnOut
public import proofs.«01_k».proof.Proof.Norm
public import proofs.«01_k».proof.Proof.SguMix
public import proofs.«01_k».proof.Proof.SguMixSample
public import proofs.«01_k».proof.Proof.NormSample
public import proofs.«01_k».proof.Proof.GluSample
public import proofs.«01_k».proof.Proof.QkvSample
public import proofs.«01_k».proof.Proof.Array
public import proofs.«01_k».proof.Proof.RRead
public import Idealize.ShloMosaic.Adequacy
public import Idealize.ShloMosaic.Init

@[expose] public section

noncomputable section

namespace Cert.Proof

open Idealize.ShloMosaic Idealize.SL.Sem Cert.Kernel

/-- The attention's reference terminates and leaves its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Each named constant of the attention kernel is the value that its word rounds. -/
theorem preserves : Cert.preserves_Kernel_KernelIdeal :=
  ⟨IdealRules.named_const.statement Cert.KernelIdeal.κ "slope1" .f32 0x3F5744FD#32 (((1 * (Real.sqrt (Real.sqrt 2)))⁻¹ : ℝ) : EReal) rfl,
    IdealRules.named_const.statement Cert.KernelIdeal.κ "mask" .f32 0x7149F2CA#32 ⊤ rfl,
    IdealRules.named_const.statement Cert.KernelIdeal.κ "slope2" .f32 0x3F3504F3#32 (((1 * (Real.sqrt 2))⁻¹ : ℝ) : EReal) rfl,
    IdealRules.named_const.statement Cert.KernelIdeal.κ "slope3" .f32 0x3F1837F0#32 (((1 * ((Real.sqrt 2) * (Real.sqrt (Real.sqrt 2))))⁻¹ : ℝ) : EReal) rfl,
    IdealRules.named_const.statement Cert.KernelIdeal.κ "slope5" .f32 0x3ED744FD#32 (((2 * (Real.sqrt (Real.sqrt 2)))⁻¹ : ℝ) : EReal) rfl,
    IdealRules.named_const.statement Cert.KernelIdeal.κ "slope6" .f32 0x3EB504F3#32 (((2 * (Real.sqrt 2))⁻¹ : ℝ) : EReal) rfl,
    IdealRules.named_const.statement Cert.KernelIdeal.κ "slope7" .f32 0x3E9837F0#32 (((2 * ((Real.sqrt 2) * (Real.sqrt (Real.sqrt 2))))⁻¹ : ℝ) : EReal) rfl,
    IdealRules.named_const.statement Cert.KernelIdeal.κ "slope9" .f32 0x3E5744FD#32 (((4 * (Real.sqrt (Real.sqrt 2)))⁻¹ : ℝ) : EReal) rfl,
    IdealRules.named_const.statement Cert.KernelIdeal.κ "slope10" .f32 0x3E3504F3#32 (((4 * (Real.sqrt 2))⁻¹ : ℝ) : EReal) rfl,
    IdealRules.named_const.statement Cert.KernelIdeal.κ "slope11" .f32 0x3E1837F0#32 (((4 * ((Real.sqrt 2) * (Real.sqrt (Real.sqrt 2))))⁻¹ : ℝ) : EReal) rfl,
    IdealRules.named_const.statement Cert.KernelIdeal.κ "slope13" .f32 0x3DD744FD#32 (((8 * (Real.sqrt (Real.sqrt 2)))⁻¹ : ℝ) : EReal) rfl,
    IdealRules.named_const.statement Cert.KernelIdeal.κ "slope14" .f32 0x3DB504F3#32 (((8 * (Real.sqrt 2))⁻¹ : ℝ) : EReal) rfl,
    IdealRules.named_const.statement Cert.KernelIdeal.κ "slope15" .f32 0x3D9837F0#32 (((8 * ((Real.sqrt 2) * (Real.sqrt (Real.sqrt 2))))⁻¹ : ℝ) : EReal) rfl,
    IdealRules.named_const.statement Cert.KernelIdeal.κ "slope17" .f32 0x3D5744FD#32 (((16 * (Real.sqrt (Real.sqrt 2)))⁻¹ : ℝ) : EReal) rfl,
    IdealRules.named_const.statement Cert.KernelIdeal.κ "slope18" .f32 0x3D3504F3#32 (((16 * (Real.sqrt 2))⁻¹ : ℝ) : EReal) rfl,
    IdealRules.named_const.statement Cert.KernelIdeal.κ "slope19" .f32 0x3D1837F0#32 (((16 * ((Real.sqrt 2) * (Real.sqrt (Real.sqrt 2))))⁻¹ : ℝ) : EReal) rfl,
    IdealRules.named_const.statement Cert.KernelIdeal.κ "slope21" .f32 0x3CD744FD#32 (((32 * (Real.sqrt (Real.sqrt 2)))⁻¹ : ℝ) : EReal) rfl,
    IdealRules.named_const.statement Cert.KernelIdeal.κ "slope22" .f32 0x3CB504F3#32 (((32 * (Real.sqrt 2))⁻¹ : ℝ) : EReal) rfl,
    IdealRules.named_const.statement Cert.KernelIdeal.κ "slope23" .f32 0x3C9837F0#32 (((32 * ((Real.sqrt 2) * (Real.sqrt (Real.sqrt 2))))⁻¹ : ℝ) : EReal) rfl,
    IdealRules.named_const.statement Cert.KernelIdeal.κ "slope25" .f32 0x3C5744FD#32 (((64 * (Real.sqrt (Real.sqrt 2)))⁻¹ : ℝ) : EReal) rfl,
    IdealRules.named_const.statement Cert.KernelIdeal.κ "slope26" .f32 0x3C3504F3#32 (((64 * (Real.sqrt 2))⁻¹ : ℝ) : EReal) rfl,
    IdealRules.named_const.statement Cert.KernelIdeal.κ "slope27" .f32 0x3C1837F0#32 (((64 * ((Real.sqrt 2) * (Real.sqrt (Real.sqrt 2))))⁻¹ : ℝ) : EReal) rfl,
    IdealRules.named_const.statement Cert.KernelIdeal.κ "slope29" .f32 0x3BD744FD#32 (((128 * (Real.sqrt (Real.sqrt 2)))⁻¹ : ℝ) : EReal) rfl,
    IdealRules.named_const.statement Cert.KernelIdeal.κ "slope30" .f32 0x3BB504F3#32 (((128 * (Real.sqrt 2))⁻¹ : ℝ) : EReal) rfl,
    IdealRules.named_const.statement Cert.KernelIdeal.κ "slope31" .f32 0x3B9837F0#32 (((128 * ((Real.sqrt 2) * (Real.sqrt (Real.sqrt 2))))⁻¹ : ℝ) : EReal) rfl⟩

/-- The reference's result is the attention of its arguments, at every index. -/
theorem reference_attn (x0 : FVec Ideal Cert.KernelIdeal.S16384x2560 .f32) (x1 : FVec Ideal Cert.KernelIdeal.S32 .f32) :
    Cert.KernelIdeal.Attn.attnOf x0 x1 = Cert.ReferenceIdeal.Attn.result x0 x1 := by
  funext y
  have h0 : (y 0).val < 16384 := (y 0).isLt
  have h1 : (y 1).val < 2048 := (y 1).isLt
  refine Eq.trans ?_ ((Cert.ReferenceIdeal.Attn.result_apply x0 x1 ⟨(y 0).val / 4096, by omega⟩ ⟨(y 0).val / 64 % 64, by omega⟩
    ⟨(y 1).val / 512, by omega⟩ ⟨(y 1).val / 64 % 8, by omega⟩ ⟨(y 0).val % 64, by omega⟩ ⟨(y 1).val % 64, by omega⟩).symm.trans ?_)
  · rfl
  · refine congrArg (Cert.ReferenceIdeal.Attn.result x0 x1) (funext fun a => Fin.ext ?_)
    match a with
    | ⟨0, _⟩ => show (y 0).val / 4096 * 4096 + (y 0).val / 64 % 64 * 64 + (y 0).val % 64 = (y 0).val; omega
    | ⟨1, _⟩ => show (y 1).val / 512 * 512 + (y 1).val / 64 % 8 * 64 + (y 1).val % 64 = (y 1).val; omega

/-- The attention kernel and its reference compute the same array. -/
theorem algebraic : Cert.algebraic_KernelIdeal_ReferenceIdeal := fun m g m' g' _ hm =>
  ⟨fun c => Cert.KernelIdeal.Attn.attnOf (Cert.KernelIdeal.Attn.qkvOf m c) (Cert.KernelIdeal.Attn.sinksOf m c),
    (θ_run Cert.KernelIdeal.defs _ _).mono (fun _ h c => ⟨(h c).1.trans (Cert.KernelIdeal.Attn.array_eq m c), (h c).2⟩)
      (Cert.KernelIdeal.Value.run_blocks m g),
    (θ_run Cert.ReferenceIdeal.defs _ _).mono (fun _ h c => ⟨(h c).1.trans ((Cert.ReferenceIdeal.Attn.res_eq m' c).trans (by
        rw [(hm c).1, (hm c).2]; exact (reference_attn _ _).symm)), (h c).2⟩)
      (Cert.ReferenceIdeal.Value.run m' g')⟩

/-- The reference's frame: the gated spatial unit's input projection. -/
theorem frame_sguIn : Cert.quiescent_ReferenceSguInIdeal := fun m ρ _ =>
  (θ_run Cert.ReferenceSguInIdeal.defs _ _).mono (fun r h => ⟨fun c => (h c).2.2, sem_eq_zero_of_no_sems (by decide) r.2⟩) (Cert.ReferenceSguInIdeal.Value.run m ρ)

/-- The gated spatial unit's input projection: the kernel and the reference compute the same arrays. -/
theorem algebraic_sguIn : Cert.algebraic_KernelSguInIdeal_ReferenceSguInIdeal := fun m g m' g' _ hm =>
  ⟨fun c => Cert.KernelSguInIdeal.Proj.arr 0 (by omega) (Cert.KernelSguInIdeal.Proj.hOf m c) (Cert.KernelSguInIdeal.Proj.wOf m c) (Cert.KernelSguInIdeal.Proj.bOf m c),
    fun c => Cert.KernelSguInIdeal.Proj.arr 6144 (by omega) (Cert.KernelSguInIdeal.Proj.hOf m c) (Cert.KernelSguInIdeal.Proj.wOf m c) (Cert.KernelSguInIdeal.Proj.bOf m c),
    (θ_run Cert.KernelSguInIdeal.defs _ _).mono (fun _ h c => ⟨(h c).1.trans (Cert.KernelSguInIdeal.Proj.array5_eq m c),
        (h c).2.1.trans (Cert.KernelSguInIdeal.Proj.array6_eq m c), (h c).2.2⟩)
      (Cert.KernelSguInIdeal.Value.run_blocks m g),
    (θ_run Cert.ReferenceSguInIdeal.defs _ _).mono (fun _ h c => ⟨(h c).1.trans (by
        rw [(hm c).1, (hm c).2.1, (hm c).2.2]; exact Cert.ReferenceSguInIdeal.Proj.first_eq _ _ _), (h c).2.1.trans (by
        rw [(hm c).1, (hm c).2.1, (hm c).2.2]; exact Cert.ReferenceSguInIdeal.Proj.second_eq _ _ _), (h c).2.2⟩)
      (Cert.ReferenceSguInIdeal.Value.run m' g')⟩

/-- The reference's frame: the gated spatial unit's output projection. -/
theorem frame_sguOut : Cert.quiescent_ReferenceSguOutIdeal := fun m ρ _ =>
  (θ_run Cert.ReferenceSguOutIdeal.defs _ _).mono (fun r h => ⟨fun c => (h c).2, sem_eq_zero_of_no_sems (by decide) r.2⟩) (Cert.ReferenceSguOutIdeal.Value.run m ρ)

/-- The gated spatial unit's output projection: the kernel and the reference compute the same arrays. -/
theorem algebraic_sguOut : Cert.algebraic_KernelSguOutIdeal_ReferenceSguOutIdeal := fun m g m' g' _ hm =>
  ⟨fun c => Cert.KernelSguOutIdeal.Proj.arr (Cert.KernelSguOutIdeal.Proj.hOf m c) (Cert.KernelSguOutIdeal.Proj.wOf m c) (Cert.KernelSguOutIdeal.Proj.xOf m c) (Cert.KernelSguOutIdeal.Proj.gOf m c),
    (θ_run Cert.KernelSguOutIdeal.defs _ _).mono (fun _ h c => ⟨(h c).1.trans (Cert.KernelSguOutIdeal.Proj.array_eq m c), (h c).2⟩)
      (Cert.KernelSguOutIdeal.Value.run_blocks m g),
    (θ_run Cert.ReferenceSguOutIdeal.defs _ _).mono (fun _ h c => ⟨(h c).1.trans (by
        rw [(hm c).1, (hm c).2.1, (hm c).2.2.1, (hm c).2.2.2]; exact Cert.ReferenceSguOutIdeal.Proj.result_eq _ _ _ _), (h c).2⟩)
      (Cert.ReferenceSguOutIdeal.Value.run m' g')⟩

/-- The reference's frame: the convolution's gated input projection. -/
theorem frame_glu : Cert.quiescent_ReferenceGluIdeal := fun m ρ _ =>
  (θ_run Cert.ReferenceGluIdeal.defs _ _).mono (fun r h => ⟨fun c => (h c).2, sem_eq_zero_of_no_sems (by decide) r.2⟩) (Cert.ReferenceGluIdeal.Value.run m ρ)

/-- The convolution's gated input projection: the kernel and the reference compute the same arrays. -/
theorem algebraic_glu : Cert.algebraic_KernelGluIdeal_ReferenceGluIdeal := fun m g m' g' _ hm =>
  ⟨fun c => Cert.KernelGluIdeal.Proj.arr (Cert.KernelGluIdeal.Proj.hOf m c) (Cert.KernelGluIdeal.Proj.wOf m c) (Cert.KernelGluIdeal.Proj.bOf m c),
    (θ_run Cert.KernelGluIdeal.defs _ _).mono (fun _ h c => ⟨(h c).1.trans (Cert.KernelGluIdeal.Proj.array_eq m c), (h c).2⟩)
      (Cert.KernelGluIdeal.Value.run_blocks m g),
    (θ_run Cert.ReferenceGluIdeal.defs _ _).mono (fun _ h c => ⟨(h c).1.trans (by
        rw [(hm c).1, (hm c).2.1, (hm c).2.2]; exact Cert.ReferenceGluIdeal.Proj.result_eq _ _ _), (h c).2⟩)
      (Cert.ReferenceGluIdeal.Value.run m' g')⟩

/-- The reference's frame: the attention's fused projections. -/
theorem frame_qkv : Cert.quiescent_ReferenceQkvIdeal := fun m ρ _ =>
  (θ_run Cert.ReferenceQkvIdeal.defs _ _).mono (fun r h => ⟨fun c => (h c).2, sem_eq_zero_of_no_sems (by decide) r.2⟩) (Cert.ReferenceQkvIdeal.Value.run m ρ)

/-- The attention's fused projections: the kernel and the reference compute the same arrays. -/
theorem algebraic_qkv : Cert.algebraic_KernelQkvIdeal_ReferenceQkvIdeal := fun m g m' g' _ hm =>
  ⟨fun c => Cert.KernelQkvIdeal.Proj.arr (Cert.KernelQkvIdeal.Proj.hOf m c) (Cert.KernelQkvIdeal.Proj.wOf m c) (Cert.KernelQkvIdeal.Proj.bOf m c),
    (θ_run Cert.KernelQkvIdeal.defs _ _).mono (fun _ h c => ⟨(h c).1.trans (Cert.KernelQkvIdeal.Proj.array_eq m c), (h c).2⟩)
      (Cert.KernelQkvIdeal.Value.run_blocks m g),
    (θ_run Cert.ReferenceQkvIdeal.defs _ _).mono (fun _ h c => ⟨(h c).1.trans (by
        rw [(hm c).1, (hm c).2.1, (hm c).2.2]; exact Cert.KernelQkvIdeal.Proj.result_eq _ _ _), (h c).2⟩)
      (Cert.ReferenceQkvIdeal.Value.run m' g')⟩

/-- The reference's frame: the convolution's output projection. -/
theorem frame_convOut : Cert.quiescent_ReferenceConvOutIdeal := fun m ρ _ =>
  (θ_run Cert.ReferenceConvOutIdeal.defs _ _).mono (fun r h => ⟨fun c => (h c).2, sem_eq_zero_of_no_sems (by decide) r.2⟩) (Cert.ReferenceConvOutIdeal.Value.run m ρ)

/-- The convolution's output projection: the kernel and the reference compute the same arrays. -/
theorem algebraic_convOut : Cert.algebraic_KernelConvOutIdeal_ReferenceConvOutIdeal := fun m g m' g' _ hm =>
  ⟨fun c => Cert.KernelConvOutIdeal.Proj.arr (Cert.KernelConvOutIdeal.Proj.hOf m c) (Cert.KernelConvOutIdeal.Proj.wOf m c) (Cert.KernelConvOutIdeal.Proj.bOf m c) (Cert.KernelConvOutIdeal.Proj.xOf m c) (Cert.KernelConvOutIdeal.Proj.gOf m c),
    (θ_run Cert.KernelConvOutIdeal.defs _ _).mono (fun _ h c => ⟨(h c).1.trans (Cert.KernelConvOutIdeal.Proj.array_eq m c), (h c).2⟩)
      (Cert.KernelConvOutIdeal.Value.run_blocks m g),
    (θ_run Cert.ReferenceConvOutIdeal.defs _ _).mono (fun _ h c => ⟨(h c).1.trans (by
        rw [(hm c).1, (hm c).2.1, (hm c).2.2.1, (hm c).2.2.2.1, (hm c).2.2.2.2]; exact Cert.ReferenceConvOutIdeal.Proj.result_eq _ _ _ _ _), (h c).2⟩)
      (Cert.ReferenceConvOutIdeal.Value.run m' g')⟩

/-- The reference's frame: the attention's output projection. -/
theorem frame_attnOut : Cert.quiescent_ReferenceAttnOutIdeal := fun m ρ _ =>
  (θ_run Cert.ReferenceAttnOutIdeal.defs _ _).mono (fun r h => ⟨fun c => (h c).2, sem_eq_zero_of_no_sems (by decide) r.2⟩) (Cert.ReferenceAttnOutIdeal.Value.run m ρ)

/-- The attention's output projection: the kernel and the reference compute the same arrays. -/
theorem algebraic_attnOut : Cert.algebraic_KernelAttnOutIdeal_ReferenceAttnOutIdeal := fun m g m' g' _ hm =>
  ⟨fun c => Cert.KernelAttnOutIdeal.Proj.arr (Cert.KernelAttnOutIdeal.Proj.hOf m c) (Cert.KernelAttnOutIdeal.Proj.wOf m c) (Cert.KernelAttnOutIdeal.Proj.xOf m c) (Cert.KernelAttnOutIdeal.Proj.gOf m c),
    (θ_run Cert.KernelAttnOutIdeal.defs _ _).mono (fun _ h c => ⟨(h c).1.trans (Cert.KernelAttnOutIdeal.Proj.array_eq m c), (h c).2⟩)
      (Cert.KernelAttnOutIdeal.Value.run_blocks m g),
    (θ_run Cert.ReferenceAttnOutIdeal.defs _ _).mono (fun _ h c => ⟨(h c).1.trans (by
        rw [(hm c).1, (hm c).2.1, (hm c).2.2.1, (hm c).2.2.2]; exact Cert.ReferenceAttnOutIdeal.Proj.result_eq _ _ _ _), (h c).2⟩)
      (Cert.ReferenceAttnOutIdeal.Value.run m' g')⟩

/-- The reference's frame: the final norm. -/
theorem frame_norm : Cert.quiescent_ReferenceNormIdeal := fun m ρ _ =>
  (θ_run Cert.ReferenceNormIdeal.defs _ _).mono (fun r h => ⟨fun c => (h c).2, sem_eq_zero_of_no_sems (by decide) r.2⟩) (Cert.ReferenceNormIdeal.Value.run m ρ)

/-- The final norm: the kernel and the reference compute the same arrays. -/
theorem algebraic_norm : Cert.algebraic_KernelNormIdeal_ReferenceNormIdeal := fun m g m' g' _ hm =>
  ⟨fun c => Cert.KernelNormIdeal.Norm.arr (Cert.KernelNormIdeal.Norm.xOf m c) (Cert.KernelNormIdeal.Norm.uOf m c) (Cert.KernelNormIdeal.Norm.gOf m c) (Cert.KernelNormIdeal.Norm.wOf m c),
    (θ_run Cert.KernelNormIdeal.defs _ _).mono (fun _ h c => ⟨(h c).1.trans (Cert.KernelNormIdeal.Norm.array_eq m c), (h c).2⟩)
      (Cert.KernelNormIdeal.Value.run_blocks m g),
    (θ_run Cert.ReferenceNormIdeal.defs _ _).mono (fun _ h c => ⟨(h c).1.trans (by
        rw [(hm c).1, (hm c).2.1, (hm c).2.2.1, (hm c).2.2.2]; exact Cert.ReferenceNormIdeal.Norm.result_eq _ _ _ _), (h c).2⟩)
      (Cert.ReferenceNormIdeal.Value.run m' g')⟩

/-- The reference's frame: the mixing of the gated spatial unit. -/
theorem frame_sguMix : Cert.quiescent_ReferenceSguMixIdeal := fun m ρ _ =>
  (θ_run Cert.ReferenceSguMixIdeal.defs _ _).mono (fun r h => ⟨fun c => (h c).2, sem_eq_zero_of_no_sems (by decide) r.2⟩) (Cert.ReferenceSguMixIdeal.Value.run m ρ)

/-- The mixing of the gated spatial unit: the kernel and the reference compute the same arrays. -/
theorem algebraic_sguMix : Cert.algebraic_KernelSguMixIdeal_ReferenceSguMixIdeal := fun m g m' g' _ hm =>
  ⟨fun c => Cert.KernelSguMixIdeal.Mix.arr (Cert.KernelSguMixIdeal.Mix.vOf m c) (Cert.KernelSguMixIdeal.Mix.uOf m c) (Cert.KernelSguMixIdeal.Mix.lgOf m c) (Cert.KernelSguMixIdeal.Mix.lbOf m c) (Cert.KernelSguMixIdeal.Mix.wOf m c) (Cert.KernelSguMixIdeal.Mix.bOf m c),
    (θ_run Cert.KernelSguMixIdeal.defs _ _).mono (fun _ h c => ⟨(h c).1.trans (Cert.KernelSguMixIdeal.Mix.array_eq m c), (h c).2⟩)
      (Cert.KernelSguMixIdeal.Value.run_blocks m g),
    (θ_run Cert.ReferenceSguMixIdeal.defs _ _).mono (fun _ h c => ⟨(h c).1.trans (by
        unfold Cert.ReferenceSguMixIdeal.Value.res_main_v46
        rw [(hm c).1, (hm c).2.1, (hm c).2.2.1, (hm c).2.2.2.1, (hm c).2.2.2.2.1, (hm c).2.2.2.2.2]; exact Cert.ReferenceSguMixIdeal.Mix.result_eq _ _ _ _ _ _), (h c).2⟩)
      (Cert.ReferenceSguMixIdeal.Value.run m' g')⟩

/-- The reference's frame: the mixing of the gated spatial unit over the sampled rows. -/
theorem frame_sguMixSample : Cert.quiescent_ReferenceSguMixSampleIdeal := fun m ρ _ =>
  (θ_run Cert.ReferenceSguMixSampleIdeal.defs _ _).mono (fun r h => ⟨fun c => (h c).2.2, sem_eq_zero_of_no_sems (by decide) r.2⟩) (Cert.ReferenceSguMixSampleIdeal.Value.run m ρ)

/-- The mixing of the gated spatial unit over the sampled rows: the kernel and the reference compute the same arrays. -/
theorem algebraic_sguMixSample : Cert.algebraic_KernelSguMixSampleIdeal_ReferenceSguMixSampleIdeal := fun m g m' g' _ hm =>
  ⟨fun c => Cert.KernelSguMixSampleIdeal.Mix.arr (Cert.KernelSguMixSampleIdeal.Mix.vOf m c) (Cert.KernelSguMixSampleIdeal.Mix.uOf m c) (Cert.KernelSguMixSampleIdeal.Mix.lgOf m c) (Cert.KernelSguMixSampleIdeal.Mix.lbOf m c) (Cert.KernelSguMixSampleIdeal.Mix.wOf m c) (Cert.KernelSguMixSampleIdeal.Mix.bOf m c),
    fun c => Cert.KernelSguMixSampleIdeal.Mix.normedArr (Cert.KernelSguMixSampleIdeal.Mix.vOf m c) (Cert.KernelSguMixSampleIdeal.Mix.lgOf m c) (Cert.KernelSguMixSampleIdeal.Mix.lbOf m c),
    (θ_run Cert.KernelSguMixSampleIdeal.defs _ _).mono (fun _ h c => ⟨(h c).1.trans (Cert.KernelSguMixSampleIdeal.Mix.array_eq7 m c), (h c).2.1.trans (Cert.KernelSguMixSampleIdeal.Mix.array_eq8 m c), (h c).2.2⟩)
      (Cert.KernelSguMixSampleIdeal.Value.run_blocks m g),
    (θ_run Cert.ReferenceSguMixSampleIdeal.defs _ _).mono (fun _ h c => ⟨(h c).1.trans (by
        unfold Cert.ReferenceSguMixSampleIdeal.Value.res_main_v48
        rw [(hm c).1, (hm c).2.1, (hm c).2.2.1, (hm c).2.2.2.1, (hm c).2.2.2.2.1, (hm c).2.2.2.2.2]; exact Cert.ReferenceSguMixSampleIdeal.Mix.result_eq _ _ _ _ _ _), (h c).2.1.trans (by
        rw [(hm c).1, (hm c).2.2.1, (hm c).2.2.2.1]; exact Cert.ReferenceSguMixSampleIdeal.Mix.normed_eq _ _ _), (h c).2.2⟩)
      (Cert.ReferenceSguMixSampleIdeal.Value.run m' g')⟩

/-- The reference's frame: the final norm of the sampled rows. -/
theorem frame_normSample : Cert.quiescent_ReferenceNormSampleIdeal := fun m ρ _ =>
  (θ_run Cert.ReferenceNormSampleIdeal.defs _ _).mono (fun r h => ⟨fun c => (h c).2, sem_eq_zero_of_no_sems (by decide) r.2⟩) (Cert.ReferenceNormSampleIdeal.Value.run m ρ)

/-- The final norm of the sampled rows: the kernel and the reference compute the same arrays. -/
theorem algebraic_normSample : Cert.algebraic_KernelNormSampleIdeal_ReferenceNormSampleIdeal := fun m g m' g' _ hm =>
  ⟨fun c => Cert.KernelNormSampleIdeal.Norm.arr (Cert.KernelNormSampleIdeal.Norm.xOf m c) (Cert.KernelNormSampleIdeal.Norm.uOf m c) (Cert.KernelNormSampleIdeal.Norm.gOf m c) (Cert.KernelNormSampleIdeal.Norm.wOf m c),
    (θ_run Cert.KernelNormSampleIdeal.defs _ _).mono (fun _ h c => ⟨(h c).1.trans (Cert.KernelNormSampleIdeal.Norm.array_eq m c), (h c).2⟩)
      (Cert.KernelNormSampleIdeal.Value.run_blocks m g),
    (θ_run Cert.ReferenceNormSampleIdeal.defs _ _).mono (fun _ h c => ⟨(h c).1.trans (by
        rw [(hm c).1, (hm c).2.1, (hm c).2.2.1, (hm c).2.2.2]; exact Cert.ReferenceNormSampleIdeal.Norm.result_eq _ _ _ _), (h c).2⟩)
      (Cert.ReferenceNormSampleIdeal.Value.run m' g')⟩

/-- The reference's frame: the convolution module's input projection of the sampled rows. -/
theorem frame_gluSample : Cert.quiescent_ReferenceGluSampleIdeal := fun m ρ _ =>
  (θ_run Cert.ReferenceGluSampleIdeal.defs _ _).mono (fun r h => ⟨fun c => (h c).2, sem_eq_zero_of_no_sems (by decide) r.2⟩) (Cert.ReferenceGluSampleIdeal.Value.run m ρ)

/-- The convolution module's input projection of the sampled rows: the kernel and the reference compute the same arrays. -/
theorem algebraic_gluSample : Cert.algebraic_KernelGluSampleIdeal_ReferenceGluSampleIdeal := fun m g m' g' _ hm =>
  ⟨fun c => Cert.KernelGluSampleIdeal.Proj.arr (Cert.KernelGluSampleIdeal.Proj.hOf m c) (Cert.KernelGluSampleIdeal.Proj.wOf m c) (Cert.KernelGluSampleIdeal.Proj.bOf m c),
    (θ_run Cert.KernelGluSampleIdeal.defs _ _).mono (fun _ h c => ⟨(h c).1.trans (Cert.KernelGluSampleIdeal.Proj.array_eq m c), (h c).2⟩)
      (Cert.KernelGluSampleIdeal.Value.run_blocks m g),
    (θ_run Cert.ReferenceGluSampleIdeal.defs _ _).mono (fun _ h c => ⟨(h c).1.trans (by
        rw [(hm c).1, (hm c).2.1, (hm c).2.2]; exact Cert.ReferenceGluSampleIdeal.Proj.result_eq _ _ _), (h c).2⟩)
      (Cert.ReferenceGluSampleIdeal.Value.run m' g')⟩

/-- The reference's frame: the attention's projections of the sampled rows. -/
theorem frame_qkvSample : Cert.quiescent_ReferenceQkvSampleIdeal := fun m ρ _ =>
  (θ_run Cert.ReferenceQkvSampleIdeal.defs _ _).mono (fun r h => ⟨fun c => (h c).2, sem_eq_zero_of_no_sems (by decide) r.2⟩) (Cert.ReferenceQkvSampleIdeal.Value.run m ρ)

/-- The attention's projections of the sampled rows: the kernel and the reference compute the same arrays. -/
theorem algebraic_qkvSample : Cert.algebraic_KernelQkvSampleIdeal_ReferenceQkvSampleIdeal := fun m g m' g' _ hm =>
  ⟨fun c => Cert.KernelQkvSampleIdeal.Proj.arr (Cert.KernelQkvSampleIdeal.Proj.hOf m c) (Cert.KernelQkvSampleIdeal.Proj.wOf m c) (Cert.KernelQkvSampleIdeal.Proj.bOf m c),
    (θ_run Cert.KernelQkvSampleIdeal.defs _ _).mono (fun _ h c => ⟨(h c).1.trans (Cert.KernelQkvSampleIdeal.Proj.array_eq m c), (h c).2⟩)
      (Cert.KernelQkvSampleIdeal.Value.run_blocks m g),
    (θ_run Cert.ReferenceQkvSampleIdeal.defs _ _).mono (fun _ h c => ⟨(h c).1.trans (by
        rw [(hm c).1, (hm c).2.1, (hm c).2.2]; exact Cert.ReferenceQkvSampleIdeal.Proj.result_eq _ _ _), (h c).2⟩)
      (Cert.ReferenceQkvSampleIdeal.Value.run m' g')⟩

theorem claim : Cert.Claim := ⟨Cert.Kernel.Gen.facts, Cert.KernelIdeal.Gen.facts, Cert.ReferenceIdeal.Gen.facts,
  Cert.KernelSguIn.Gen.facts, Cert.KernelSguInIdeal.Gen.facts, Cert.ReferenceSguInIdeal.Gen.facts,
  Cert.KernelSguOut.Gen.facts, Cert.KernelSguOutIdeal.Gen.facts, Cert.ReferenceSguOutIdeal.Gen.facts,
  Cert.KernelGlu.Gen.facts, Cert.KernelGluIdeal.Gen.facts, Cert.ReferenceGluIdeal.Gen.facts,
  Cert.KernelQkv.Gen.facts, Cert.KernelQkvIdeal.Gen.facts, Cert.ReferenceQkvIdeal.Gen.facts,
  Cert.KernelConvOut.Gen.facts, Cert.KernelConvOutIdeal.Gen.facts, Cert.ReferenceConvOutIdeal.Gen.facts,
  Cert.KernelAttnOut.Gen.facts, Cert.KernelAttnOutIdeal.Gen.facts, Cert.ReferenceAttnOutIdeal.Gen.facts,
  Cert.KernelNorm.Gen.facts, Cert.KernelNormIdeal.Gen.facts, Cert.ReferenceNormIdeal.Gen.facts,
  Cert.KernelSguMix.Gen.facts, Cert.KernelSguMixIdeal.Gen.facts, Cert.ReferenceSguMixIdeal.Gen.facts,
  Cert.KernelSguMixSample.Gen.facts, Cert.KernelSguMixSampleIdeal.Gen.facts, Cert.ReferenceSguMixSampleIdeal.Gen.facts,
  Cert.KernelNormSample.Gen.facts, Cert.KernelNormSampleIdeal.Gen.facts, Cert.ReferenceNormSampleIdeal.Gen.facts,
  Cert.KernelGluSample.Gen.facts, Cert.KernelGluSampleIdeal.Gen.facts, Cert.ReferenceGluSampleIdeal.Gen.facts,
  Cert.KernelQkvSample.Gen.facts, Cert.KernelQkvSampleIdeal.Gen.facts, Cert.ReferenceQkvSampleIdeal.Gen.facts,
  fun m ρ _ => Cert.Kernel.Gen.frame m ρ, fun m ρ _ => Cert.KernelIdeal.Gen.frame m ρ, frame_reference,
  fun m ρ _ => Cert.KernelSguIn.Gen.frame m ρ, fun m ρ _ => Cert.KernelSguInIdeal.Gen.frame m ρ, frame_sguIn,
  fun m ρ _ => Cert.KernelSguOut.Gen.frame m ρ, fun m ρ _ => Cert.KernelSguOutIdeal.Gen.frame m ρ, frame_sguOut,
  fun m ρ _ => Cert.KernelGlu.Gen.frame m ρ, fun m ρ _ => Cert.KernelGluIdeal.Gen.frame m ρ, frame_glu,
  fun m ρ _ => Cert.KernelQkv.Gen.frame m ρ, fun m ρ _ => Cert.KernelQkvIdeal.Gen.frame m ρ, frame_qkv,
  fun m ρ _ => Cert.KernelConvOut.Gen.frame m ρ, fun m ρ _ => Cert.KernelConvOutIdeal.Gen.frame m ρ, frame_convOut,
  fun m ρ _ => Cert.KernelAttnOut.Gen.frame m ρ, fun m ρ _ => Cert.KernelAttnOutIdeal.Gen.frame m ρ, frame_attnOut,
  fun m ρ _ => Cert.KernelNorm.Gen.frame m ρ, fun m ρ _ => Cert.KernelNormIdeal.Gen.frame m ρ, frame_norm,
  fun m ρ _ => Cert.KernelSguMix.Gen.frame m ρ, fun m ρ _ => Cert.KernelSguMixIdeal.Gen.frame m ρ, frame_sguMix,
  fun m ρ _ => Cert.KernelSguMixSample.Gen.frame m ρ, fun m ρ _ => Cert.KernelSguMixSampleIdeal.Gen.frame m ρ, frame_sguMixSample,
  fun m ρ _ => Cert.KernelNormSample.Gen.frame m ρ, fun m ρ _ => Cert.KernelNormSampleIdeal.Gen.frame m ρ, frame_normSample,
  fun m ρ _ => Cert.KernelGluSample.Gen.frame m ρ, fun m ρ _ => Cert.KernelGluSampleIdeal.Gen.frame m ρ, frame_gluSample,
  fun m ρ _ => Cert.KernelQkvSample.Gen.frame m ρ, fun m ρ _ => Cert.KernelQkvSampleIdeal.Gen.frame m ρ, frame_qkvSample,
  preserves, algebraic,
  trivial, algebraic_sguIn,
  trivial, algebraic_sguOut,
  trivial, algebraic_glu,
  trivial, algebraic_qkv,
  trivial, algebraic_convOut,
  trivial, algebraic_attnOut,
  trivial, algebraic_norm,
  trivial, algebraic_sguMix,
  trivial, algebraic_sguMixSample,
  trivial, algebraic_normSample,
  trivial, algebraic_gluSample,
  trivial, algebraic_qkvSample⟩

end Cert.Proof

end
